-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_u [hPre_finite_u : Cert.Pre_finite_u.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_u.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_u [hPre_finite_u : Cert.Pre_finite_u.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_u.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_u [hKernel7Ideal : Cert.Kernel7Ideal.Facts] [hPre_finite_u : Cert.Pre_finite_u.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_u m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_u [hReference7Ideal : Cert.Reference7Ideal.Facts] [hPre_finite_u : Cert.Pre_finite_u.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_u m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)) (v4 : (c : Dev Cert.KernelIdeal.nD) → Buf (Elt Ideal) ((c.tc : Thread Cert.KernelIdeal.nD Cert.KernelIdeal.τ).loc Cert.KernelIdeal.main_v25_4)) (v5 : (c : Dev Cert.KernelIdeal.nD) → Buf (Elt Ideal) ((c.tc : Thread Cert.KernelIdeal.nD Cert.KernelIdeal.τ).loc Cert.KernelIdeal.main_v25_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_v25_4) = v4 c
          ∧ r.2.mem ((c.tc : Thread Cert.KernelIdeal.nD Cert.KernelIdeal.τ).loc Cert.KernelIdeal.main_v25_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v40) = v4 c
          ∧ r.2.mem ((c.tc : Thread Cert.ReferenceIdeal.nD Cert.ReferenceIdeal.τ).loc Cert.ReferenceIdeal.main_v42) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "inv_alpha" .f32 0x3F5744FD#32 ((524288 / 623487 : ℝ) : EReal)
  ∧ IdealRules.named_const.Statement Cert.Kernel2Ideal.κ "eps_z" .f32 0x36ED4403#32 ((2748779 / 388736039169 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "inv_alpha" .f32 0x3F5744FD#32 ((524288 / 623487 : ℝ) : EReal)
  ∧ IdealRules.named_const.Statement Cert.Kernel5Ideal.κ "eps_z" .f32 0x36ED4403#32 ((2748779 / 388736039169 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_u [hKernel7Ideal : Cert.Kernel7Ideal.Facts] [hReference7Ideal : Cert.Reference7Ideal.Facts] [hPre_finite_u : Cert.Pre_finite_u.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_u m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)) (v3 : (c : Dev Cert.Kernel7Ideal.nD) → Buf (Elt Ideal) ((c.tc : Thread Cert.Kernel7Ideal.nD Cert.Kernel7Ideal.τ).loc Cert.Kernel7Ideal.main_v8_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_v8_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v42) = v0 c
          ∧ r.2.mem ((c.tc : Thread Cert.Reference7Ideal.nD Cert.Reference7Ideal.τ).loc Cert.Reference7Ideal.main_v58) = v1 c
          ∧ r.2.mem ((c.tc : Thread Cert.Reference7Ideal.nD Cert.Reference7Ideal.τ).loc Cert.Reference7Ideal.main_v61) = v2 c
          ∧ r.2.mem ((c.tc : Thread Cert.Reference7Ideal.nD Cert.Reference7Ideal.τ).loc Cert.Reference7Ideal.main_v63) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_finite_u : Cert.Pre_finite_u.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_u (hKernel7Ideal := hKernel7Ideal) (hPre_finite_u := hPre_finite_u)
    ∧ quiescent_Reference7Ideal (hReference7Ideal := hReference7Ideal)
    ∧ quiescent_Reference7Ideal_pre_finite_u (hReference7Ideal := hReference7Ideal) (hPre_finite_u := hPre_finite_u)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_u (hKernel7Ideal := hKernel7Ideal) (hReference7Ideal := hReference7Ideal) (hPre_finite_u := hPre_finite_u)
    ∧ preserves_Kernel8_Kernel8Ideal
    ∧ algebraic_Kernel8Ideal_Reference8Ideal (hKernel8Ideal := hKernel8Ideal) (hReference8Ideal := hReference8Ideal)
-- ==== Pre_finite_qk.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S1x2048x11328 : Shape := ⟨3, ![1, 2048, 11328]⟩
abbrev S1x2048x2048 : Shape := ⟨3, ![1, 2048, 2048]⟩
abbrev S1x2048x11264 : Shape := ⟨3, ![1, 2048, 11264]⟩
abbrev S_ : Shape := ⟨0, ![]⟩

class Facts : Prop where
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  h_S_ : 0 < S_.numel
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  bcast_S_S4x2048x64 : S_.BroadcastsInDim S4x2048x64 (![] : Fin 0 → Fin S4x2048x64.rank)
  reducesTo_S4x2048x64_S_d0_1_2 : S4x2048x64.ReducesTo [0, 1, 2] S_

variable [Facts]

def fn_part1 {F : FTy → Type} [FloatOps F] (main_v13 : IVec S_ 1) (main_v16 : IVec S4x2048x64 1) : IVec S_ 1 :=
  let main_c_5 : IVec S_ 1 := constantI S_ 1 1#1
  let main_v17 : IVec S_ 1 := (fun x v => Host.reduce IntOp.andi x v reducesTo_S4x2048x64_S_d0_1_2 h_S_) main_v16 main_c_5
  let main_v18 : IVec S_ 1 := andi main_v13 main_v17
  main_v18

def fn {F : FTy → Type} [FloatOps F] (main_arg0 : FVec F S4x2048x16x128 .f32) (main_arg1 : FVec F S4x2048x16x64 .f32) (main_arg2 : FVec F S4x2048x16x128 .f32) (main_arg3 : FVec F S4x2048x64 .f32) (main_arg4 : FVec F S4x2048x16x128 .f32) (main_arg5 : FVec F S1x2048x11328 .f32) (main_arg6 : FVec F S1x2048x2048 .f32) (main_arg7 : FVec F S1x2048x2048 .f32) (main_arg8 : FVec F S1x2048x2048 .f32) (main_arg9 : FVec F S1x2048x11264 .f32) : IVec S_ 1 :=
  let main_v0 : FVec F S4x2048x16x128 .f32 := Host.absf main_arg0
  let main_cst : FVec F S_ .f32 := constant S_ .f32 0x7F800000#32
  let main_v1 : FVec F S4x2048x16x128 .f32 := broadcastInDim S4x2048x16x128 ![] bcast_S_S4x2048x16x128 main_cst
  let main_v2 : IVec S4x2048x16x128 1 := cmpf .olt main_v0 main_v1
  let main_c : IVec S_ 1 := constantI S_ 1 1#1
  let main_v3 : IVec S_ 1 := (fun x v => Host.reduce IntOp.andi x v reducesTo_S4x2048x16x128_S_d0_1_2_3 h_S_) main_v2 main_c
  let main_v4 : FVec F S4x2048x16x64 .f32 := Host.absf main_arg1
  let main_cst_0 : FVec F S_ .f32 := constant S_ .f32 0x7F800000#32
  let main_v5 : FVec F S4x2048x16x64 .f32 := broadcastInDim S4x2048x16x64 ![] bcast_S_S4x2048x16x64 main_cst_0
  let main_v6 : IVec S4x2048x16x64 1 := cmpf .olt main_v4 main_v5
  let main_c_1 : IVec S_ 1 := constantI S_ 1 1#1
  let main_v7 : IVec S_ 1 := (fun x v => Host.reduce IntOp.andi x v reducesTo_S4x2048x16x64_S_d0_1_2_3 h_S_) main_v6 main_c_1
  let main_v8 : IVec S_ 1 := andi main_v3 main_v7
  let main_v9 : FVec F S4x2048x16x128 .f32 := Host.absf main_arg2
  let main_cst_2 : FVec F S_ .f32 := constant S_ .f32 0x7F800000#32
  let main_v10 : FVec F S4x2048x16x128 .f32 := broadcastInDim S4x2048x16x128 ![] bcast_S_S4x2048x16x128 main_cst_2
  let main_v11 : IVec S4x2048x16x128 1 := cmpf .olt main_v9 main_v10
  let main_c_3 : IVec S_ 1 := constantI S_ 1 1#1
  let main_v12 : IVec S_ 1 := (fun x v => Host.reduce IntOp.andi x v reducesTo_S4x2048x16x128_S_d0_1_2_3 h_S_) main_v11 main_c_3
  let main_v13 : IVec S_ 1 := andi main_v8 main_v12
  let main_v14 : FVec F S4x2048x64 .f32 := Host.absf main_arg3
  let main_cst_4 : FVec F S_ .f32 := constant S_ .f32 0x7F800000#32
  let main_v15 : FVec F S4x2048x64 .f32 := broadcastInDim S4x2048x64 ![] bcast_S_S4x2048x64 main_cst_4
  let main_v16 : IVec S4x2048x64 1 := cmpf .olt main_v14 main_v15
  fn_part1 (F := F) main_v13 main_v16
-- ==== Pre_finite_u.lean ====
abbrev S4x2048x2048 : Shape := ⟨3, ![4, 2048, 2048]⟩
abbrev S4x12288 : Shape := ⟨2, ![4, 12288]⟩
abbrev S1x2048x11328 : Shape := ⟨3, ![1, 2048, 11328]⟩
abbrev S1x512 : Shape := ⟨2, ![1, 512]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x12288 : S_.BroadcastsInDim S4x12288 (![] : Fin 0 → Fin S4x12288.rank)
  reducesTo_S4x12288_S_d0_1 : S4x12288.ReducesTo [0, 1] S_
  bcast_S_S1x2048x11328 : S_.BroadcastsInDim S1x2048x11328 (![] : Fin 0 → Fin S1x2048x11328.rank)
  reducesTo_S1x2048x11328_S_d0_1_2 : S1x2048x11328.ReducesTo [0, 1, 2] S_

variable [Facts]

def fn {F : FTy → Type} [FloatOps F] (main_arg0 : FVec F S4x2048x2048 .f32) (main_arg1 : FVec F S4x12288 .f32) (main_arg2 : FVec F S1x2048x11328 .f32) (main_arg3 : FVec F S1x512 .f32) (main_arg4 : FVec F S1x512 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x12288 .f32 := Host.absf main_arg1
  let main_cst_0 : FVec F S_ .f32 := constant S_ .f32 0x7F800000#32
  let main_v5 : FVec F S4x12288 .f32 := broadcastInDim S4x12288 ![] bcast_S_S4x12288 main_cst_0
  let main_v6 : IVec S4x12288 1 := cmpf .olt main_v4 main_v5
  let main_c_1 : IVec S_ 1 := constantI S_ 1 1#1
  let main_v7 : IVec S_ 1 := (fun x v => Host.reduce IntOp.andi x v reducesTo_S4x12288_S_d0_1 h_S_) main_v6 main_c_1
  let main_v8 : IVec S_ 1 := andi main_v3 main_v7
  let main_v9 : FVec F S1x2048x11328 .f32 := Host.absf main_arg2
  let main_cst_2 : FVec F S_ .f32 := constant S_ .f32 0x7F800000#32
  let main_v10 : FVec F S1x2048x11328 .f32 := broadcastInDim S1x2048x11328 ![] bcast_S_S1x2048x11328 main_cst_2
  let main_v11 : IVec S1x2048x11328 1 := cmpf .olt main_v9 main_v10
  let main_c_3 : IVec S_ 1 := constantI S_ 1 1#1
  let main_v12 : IVec S_ 1 := (fun x v => Host.reduce IntOp.andi x v reducesTo_S1x2048x11328_S_d0_1_2 h_S_) main_v11 main_c_3
  let main_v13 : IVec S_ 1 := andi main_v8 main_v12
  main_v13
-- ==== Kernel.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S1x2048x11328 : Shape := ⟨3, ![1, 2048, 11328]⟩
abbrev S1x2048x2048 : Shape := ⟨3, ![1, 2048, 2048]⟩
abbrev S1x2048x11264 : Shape := ⟨3, ![1, 2048, 11264]⟩
abbrev S_ : Shape := ⟨0, ![]⟩
abbrev S8192x2048 : Shape := ⟨2, ![8192, 2048]⟩
abbrev S8192x64 : Shape := ⟨2, ![8192, 64]⟩
abbrev S8192x128 : Shape := ⟨2, ![8192, 128]⟩
abbrev S2048x8192 : Shape := ⟨2, ![2048, 8192]⟩
abbrev S2048x11328 : Shape := ⟨2, ![2048, 11328]⟩
abbrev S11328x2048 : Shape := ⟨2, ![11328, 2048]⟩
abbrev S2048x2048 : Shape := ⟨2, ![2048, 2048]⟩
abbrev S2048x11264 : Shape := ⟨2, ![2048, 11264]⟩
abbrev S10240x2048 : Shape := ⟨2, ![10240, 2048]⟩
abbrev S2048x256 : Shape := ⟨2, ![2048, 256]⟩
abbrev S2048x128 : Shape := ⟨2, ![2048, 128]⟩
abbrev S256x2048 : Shape := ⟨2, ![256, 2048]⟩
abbrev S320x2048 : Shape := ⟨2, ![320, 2048]⟩
abbrev S64x2048 : Shape := ⟨2, ![64, 2048]⟩
abbrev S64x11264 : Shape := ⟨2, ![64, 11264]⟩
abbrev S256x256 : Shape := ⟨2, ![256, 256]⟩
abbrev S256x128 : Shape := ⟨2, ![256, 128]⟩
abbrev S1792x256 : Shape := ⟨2, ![1792, 256]⟩
abbrev S1536x256 : Shape := ⟨2, ![1536, 256]⟩
abbrev S256 : Shape := ⟨1, ![256]⟩
abbrev S1x256 : Shape := ⟨2, ![1, 256]⟩
abbrev S128x256 : Shape := ⟨2, ![128, 256]⟩
abbrev S128x1792 : Shape := ⟨2, ![128, 1792]⟩
abbrev S32x2048 : Shape := ⟨2, ![32, 2048]⟩
abbrev S32x11264 : Shape := ⟨2, ![32, 11264]⟩
abbrev S1280x256 : Shape := ⟨2, ![1280, 256]⟩
abbrev S128x1536 : Shape := ⟨2, ![128, 1536]⟩
abbrev S1024x256 : Shape := ⟨2, ![1024, 256]⟩
abbrev S128x1280 : Shape := ⟨2, ![128, 1280]⟩
abbrev S768x256 : Shape := ⟨2, ![768, 256]⟩
abbrev S128x1024 : Shape := ⟨2, ![128, 1024]⟩
abbrev S512x256 : Shape := ⟨2, ![512, 256]⟩
abbrev S128x768 : Shape := ⟨2, ![128, 768]⟩
abbrev S128x512 : Shape := ⟨2, ![128, 512]⟩

abbrev nBuf : Space → Nat
  | .hbm => 45
  | .vmem => 32
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x64, .f32⟩
  | .hbm, ⟨2, _⟩ => ⟨S4x2048x16x128, .f32⟩
  | .hbm, ⟨3, _⟩ => ⟨S4x2048x64, .f32⟩
  | .hbm, ⟨4, _⟩ => ⟨S4x2048x16x128, .f32⟩
  | .hbm, ⟨5, _⟩ => ⟨S1x2048x11328, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S1x2048x11264, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x2048x16x128, .f32⟩
  | .hbm, ⟨15, _⟩ => ⟨S4x2048x16x128, .f32⟩
  | .hbm, ⟨16, _⟩ => ⟨S4x2048x16x128, .bf16⟩
  | .hbm, ⟨17, _⟩ => ⟨S8192x2048, .bf16⟩
  | .hbm, ⟨18, _⟩ => ⟨S4x2048x16x128, .f32⟩
  | .hbm, ⟨19, _⟩ => ⟨S4x2048x16x128, .f32⟩
  | .hbm, ⟨20, _⟩ => ⟨S4x2048x16x128, .f32⟩
  | .hbm, ⟨21, _⟩ => ⟨S4x2048x16x128, .bf16⟩
  | .hbm, ⟨22, _⟩ => ⟨S8192x2048, .bf16⟩
  | .hbm, ⟨23, _⟩ => ⟨S4x2048x16x128, .bf16⟩
  | .hbm, ⟨24, _⟩ => ⟨S8192x2048, .bf16⟩
  | .hbm, ⟨25, _⟩ => ⟨S4x2048x64, .bf16⟩
  | .hbm, ⟨26, _⟩ => ⟨S8192x64, .bf16⟩
  | .hbm, ⟨27, _⟩ => ⟨S_, .i32⟩
  | .hbm, ⟨28, _⟩ => ⟨S_, .bf16⟩
  | .hbm, ⟨29, _⟩ => ⟨S8192x128, .bf16⟩
  | .hbm, ⟨30, _⟩ => ⟨S4x2048x16x128, .bf16⟩
  | .hbm, ⟨31, _⟩ => ⟨S8192x2048, .bf16⟩
  | .hbm, ⟨32, _⟩ => ⟨S2048x8192, .bf16⟩
  | .hbm, ⟨33, _⟩ => ⟨S2048x11328, .f32⟩
  | .hbm, ⟨34, _⟩ => ⟨S11328x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x11264, .f32⟩
  | .hbm, ⟨39, _⟩ => ⟨S8192x2048, .bf16⟩
  | .hbm, ⟨40, _⟩ => ⟨S10240x2048, .bf16⟩
  | .hbm, ⟨41, _⟩ => ⟨S2048x2048, .bf16⟩
  | .hbm, ⟨42, _⟩ => ⟨S2048x2048, .bf16⟩
  | .hbm, ⟨43, _⟩ => ⟨S2048x2048, .bf16⟩
  | .hbm, ⟨44, _⟩ => ⟨S2048x11264, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .bf16⟩
  | .local _ .vmem, ⟨7, _⟩ => ⟨S2048x128, .bf16⟩
  | .local _ .vmem, ⟨8, _⟩ => ⟨S256x2048, .bf16⟩
  | .local _ .vmem, ⟨9, _⟩ => ⟨S256x2048, .bf16⟩
  | .local _ .vmem, ⟨10, _⟩ => ⟨S320x2048, .f32⟩
  | .local _ .vmem, ⟨11, _⟩ => ⟨S320x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x11264, .f32⟩
  | .local _ .vmem, ⟨19, _⟩ => ⟨S64x11264, .f32⟩
  | .local _ .vmem, ⟨20, _⟩ => ⟨S2048x256, .bf16⟩
  | .local _ .vmem, ⟨21, _⟩ => ⟨S2048x256, .bf16⟩
  | .local _ .vmem, ⟨22, _⟩ => ⟨S320x2048, .bf16⟩
  | .local _ .vmem, ⟨23, _⟩ => ⟨S320x2048, .bf16⟩
  | .local _ .vmem, ⟨24, _⟩ => ⟨S64x2048, .bf16⟩
  | .local _ .vmem, ⟨25, _⟩ => ⟨S64x2048, .bf16⟩
  | .local _ .vmem, ⟨26, _⟩ => ⟨S64x2048, .bf16⟩
  | .local _ .vmem, ⟨27, _⟩ => ⟨S64x2048, .bf16⟩
  | .local _ .vmem, ⟨28, _⟩ => ⟨S64x2048, .bf16⟩
  | .local _ .vmem, ⟨29, _⟩ => ⟨S64x2048, .bf16⟩
  | .local _ .vmem, ⟨30, _⟩ => ⟨S64x11264, .bf16⟩
  | .local _ .vmem, ⟨31, _⟩ => ⟨S64x11264, .bf16⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v25_3 : Ref sig .tc := ⟨.hbm, 42, rfl⟩
abbrev main_v25_4 : Ref sig .tc := ⟨.hbm, 43, rfl⟩
abbrev main_v25_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c1088_i32 : BitVec 32 := 1088#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c320_i32 : BitVec 32 := 320#32
  let v2 : BitVec 32 := Scalar.muli v1 c320_i32
  let v3 : BitVec 32 := Scalar.addi c1088_i32 v2
  v3
def k0_mult2 (i : grid0.Coords) : BitVec 32 :=
  let c0_i32 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c64_i32 : BitVec 32 := 64#32
  let v2 : BitVec 32 := Scalar.muli v1 c64_i32
  let v3 : BitVec 32 := Scalar.addi c0_i32 v2
  v3
def k0_mult3 (i : grid0.Coords) : BitVec 32 :=
  let c0_i32 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c64_i32 : BitVec 32 := 64#32
  let v2 : BitVec 32 := Scalar.muli v1 c64_i32
  let v3 : BitVec 32 := Scalar.addi c0_i32 v2
  v3
def k0_mult4 (i : grid0.Coords) : BitVec 32 :=
  let c0_i32 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c64_i32 : BitVec 32 := 64#32
  let v2 : BitVec 32 := Scalar.muli v1 c64_i32
  let v3 : BitVec 32 := Scalar.addi c0_i32 v2
  v3
def k0_mult5 (i : grid0.Coords) : BitVec 32 :=
  let c0_i32 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c64_i32 : BitVec 32 := 64#32
  let v2 : BitVec 32 := Scalar.muli v1 c64_i32
  let v3 : BitVec 32 := Scalar.addi c0_i32 v2
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c320_i32 : BitVec 32 := 320#32
  let v2 : BitVec 32 := Scalar.muli v1 c320_i32
  let c1088_i32 : BitVec 32 := 1088#32
  let v3 : BitVec 32 := Scalar.addi c1088_i32 v2
  let v4 : BitVec 32 := v3
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c0_i32 : BitVec 32 := 0#32
  let v3 : BitVec 32 := Scalar.addi c0_i32 v2
  let v4 : BitVec 32 := v3
  let c0_i32_0 : BitVec 32 := 0#32
  let c0_i32_1 : BitVec 32 := 0#32
  ![v4.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c0_i32 : BitVec 32 := 0#32
  let v3 : BitVec 32 := Scalar.addi c0_i32 v2
  let v4 : BitVec 32 := v3
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c0_i32 : BitVec 32 := 0#32
  let v3 : BitVec 32 := Scalar.addi c0_i32 v2
  let v4 : BitVec 32 := v3
  let c0_i32_0 : BitVec 32 := 0#32
  let c0_i32_1 : BitVec 32 := 0#32
  ![v4.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c0_i32 : BitVec 32 := 0#32
  let v3 : BitVec 32 := Scalar.addi c0_i32 v2
  let v4 : BitVec 32 := v3
  let c0_i32_0 : BitVec 32 := 0#32
  let c0_i32_1 : BitVec 32 := 0#32
  ![v4.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S320x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x11264 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S320x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x11264 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S1x2048x11328 : Shape := ⟨3, ![1, 2048, 11328]⟩
abbrev S1x2048x2048 : Shape := ⟨3, ![1, 2048, 2048]⟩
abbrev S1x2048x11264 : Shape := ⟨3, ![1, 2048, 11264]⟩
abbrev S4x16x2048x2048 : Shape := ⟨4, ![4, 16, 2048, 2048]⟩
abbrev S4x2048x2048x16 : Shape := ⟨4, ![4, 2048, 2048, 16]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S8192x2048 : Shape := ⟨2, ![8192, 2048]⟩
abbrev S2048x11328 : Shape := ⟨2, ![2048, 11328]⟩
abbrev S11328x2048 : Shape := ⟨2, ![11328, 2048]⟩
abbrev S10240x2048 : Shape := ⟨2, ![10240, 2048]⟩
abbrev S2048x11264 : Shape := ⟨2, ![2048, 11264]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x64, .f32⟩
  | .hbm, ⟨2, _⟩ => ⟨S4x2048x16x128, .f32⟩
  | .hbm, ⟨3, _⟩ => ⟨S4x2048x64, .f32⟩
  | .hbm, ⟨4, _⟩ => ⟨S4x2048x16x128, .f32⟩
  | .hbm, ⟨5, _⟩ => ⟨S1x2048x11328, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S1x2048x11264, .f32⟩
  | .hbm, ⟨10, _⟩ => ⟨S4x16x2048x2048, .f32⟩
  | .hbm, ⟨11, _⟩ => ⟨S4x2048x2048x16, .f32⟩
  | .hbm, ⟨12, _⟩ => ⟨S4x16x2048x2048, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S1x1x2048x2048, .i1⟩
  | .hbm, ⟨27, _⟩ => ⟨S_, .f32⟩
  | .hbm, ⟨28, _⟩ => ⟨S_, .f32⟩
  | .hbm, ⟨29, _⟩ => ⟨S4x16x2048x2048, .i1⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x128x2048, .f32⟩
  | .hbm, ⟨47, _⟩ => ⟨S4x2048x16x128, .f32⟩
  | .hbm, ⟨48, _⟩ => ⟨S8192x2048, .f32⟩
  | .hbm, ⟨49, _⟩ => ⟨S8192x2048, .bf16⟩
  | .hbm, ⟨50, _⟩ => ⟨S2048x11328, .f32⟩
  | .hbm, ⟨51, _⟩ => ⟨S11328x2048, .f32⟩
  | .hbm, ⟨52, _⟩ => ⟨S10240x2048, .f32⟩
  | .hbm, ⟨53, _⟩ => ⟨S10240x2048, .bf16⟩
  | .hbm, ⟨54, _⟩ => ⟨S2048x2048, .f32⟩
  | .hbm, ⟨55, _⟩ => ⟨S2048x2048, .bf16⟩
  | .hbm, ⟨56, _⟩ => ⟨S2048x2048, .f32⟩
  | .hbm, ⟨57, _⟩ => ⟨S2048x2048, .bf16⟩
  | .hbm, ⟨58, _⟩ => ⟨S2048x2048, .f32⟩
  | .hbm, ⟨59, _⟩ => ⟨S2048x2048, .bf16⟩
  | .hbm, ⟨60, _⟩ => ⟨S2048x11264, .f32⟩
  | .hbm, ⟨61, _⟩ => ⟨S2048x11264, .bf16⟩
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x12288 : Shape := ⟨2, ![4, 12288]⟩
abbrev S1x2048x11264 : Shape := ⟨3, ![1, 2048, 11264]⟩
abbrev S1x5632x2048 : Shape := ⟨3, ![1, 5632, 2048]⟩
abbrev S1x2048 : Shape := ⟨2, ![1, 2048]⟩
abbrev S_ : Shape := ⟨0, ![]⟩
abbrev S8x12288 : Shape := ⟨2, ![8, 12288]⟩
abbrev S8192x2048 : Shape := ⟨2, ![8192, 2048]⟩
abbrev S2048x11264 : Shape := ⟨2, ![2048, 11264]⟩
abbrev S5632x2048 : Shape := ⟨2, ![5632, 2048]⟩
abbrev S2048 : Shape := ⟨1, ![2048]⟩
abbrev S1024x2048 : Shape := ⟨2, ![1024, 2048]⟩
abbrev S8x2048 : Shape := ⟨2, ![8, 2048]⟩
abbrev S2048x512 : Shape := ⟨2, ![2048, 512]⟩
abbrev S512x2048 : Shape := ⟨2, ![512, 2048]⟩
abbrev S2048x256 : Shape := ⟨2, ![2048, 256]⟩
abbrev S1024x256 : Shape := ⟨2, ![1024, 256]⟩
abbrev S1024x512 : Shape := ⟨2, ![1024, 512]⟩
abbrev S256x512 : Shape := ⟨2, ![256, 512]⟩
abbrev S1024 : Shape := ⟨1, ![1024]⟩
abbrev S1024x1 : Shape := ⟨2, ![1024, 1]⟩

abbrev nBuf : Space → Nat
  | .hbm => 19
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S_, .i32⟩
  | .hbm, ⟨7, _⟩ => ⟨S_, .f32⟩
  | .hbm, ⟨8, _⟩ => ⟨S8x12288, .f32⟩
  | .hbm, ⟨9, _⟩ => ⟨S8192x2048, .f32⟩
  | .hbm, ⟨10, _⟩ => ⟨S2048x11264, .f32⟩
  | .hbm, ⟨11, _⟩ => ⟨S2048x11264, .bf16⟩
  | .hbm, ⟨12, _⟩ => ⟨S5632x2048, .f32⟩
  | .hbm, ⟨13, _⟩ => ⟨S5632x2048, .bf16⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c0_i32_52 : BitVec 32 := 0#32
  let v74 : BitVec 1 := Scalar.cmpi .sgt arg0 c0_i32_52
  let v75 : BitVec 32 := Scalar.extui v74
  let c0_i32_53 : BitVec 32 := 0#32
  let v76 : BitVec 1 := Scalar.cmpi .slt arg0 c0_i32_53
  let v77 : BitVec 32 := Scalar.extui v76
  let v78 : BitVec 32 := Scalar.subi v75 v77
  let c2_i32 : BitVec 32 := 2#32
  let c0_i32_54 : BitVec 32 := 0#32
  let v79 : BitVec 1 := Scalar.cmpi .sgt c2_i32 c0_i32_54
  let v80 : BitVec 32 := Scalar.extui v79
  let c0_i32_55 : BitVec 32 := 0#32
  let v81 : BitVec 1 := Scalar.cmpi .slt c2_i32 c0_i32_55
  let v82 : BitVec 32 := Scalar.extui v81
  let v83 : BitVec 32 := Scalar.subi v80 v82
  let v84 : BitVec 1 := Scalar.cmpi .ne v78 v83
  let v85 : BitVec 32 := Scalar.remsi arg0 c2_i32
  let c0_i32_56 : BitVec 32 := 0#32
  let v86 : BitVec 1 := Scalar.cmpi .ne v85 c0_i32_56
  let v87 : BitVec 1 := Scalar.andi v84 v86
  let v73 : BitVec 32 := Scalar.divsi arg0 c2_i32
  let c1_i32 : BitVec 32 := 1#32
  let v88 : BitVec 32 := Scalar.subi v73 c1_i32
  let v89 : BitVec 32 := Scalar.select v87 v88 v73
  let v90 : Index := Scalar.indexCast v89
  let c0_57 : Index := 0#32
  ![v90.toNat, 0]
def k0_cond2 (i : grid0.Coords) : BitVec 1 :=
  let arg1 : BitVec 32 := BitVec.ofNat 32 (i 1).val
  let c10_i32 : BitVec 32 := 10#32
  let v68 : BitVec 1 := Scalar.cmpi .eq arg1 c10_i32
  let v69 : BitVec 32 := Scalar.extui v68
  let c0_i32_49 : BitVec 32 := 0#32
  let v70 : BitVec 1 := Scalar.cmpi .ne v69 c0_i32_49
  v70

def k0_off2 (i : grid0.Coords) : Fin 2 → Nat :=
  let arg0 : BitVec 32 := BitVec.ofNat 32 (i 0).val
  let c0_i32_52 : BitVec 32 := 0#32
  let v74 : BitVec 1 := Scalar.cmpi .sgt arg0 c0_i32_52
  let v75 : BitVec 32 := Scalar.extui v74
  let c0_i32_53 : BitVec 32 := 0#32
  let v76 : BitVec 1 := Scalar.cmpi .slt arg0 c0_i32_53
  let v77 : BitVec 32 := Scalar.extui v76
  let v78 : BitVec 32 := Scalar.subi v75 v77
  let c2_i32 : BitVec 32 := 2#32
  let c0_i32_54 : BitVec 32 := 0#32
  let v79 : BitVec 1 := Scalar.cmpi .sgt c2_i32 c0_i32_54
  let v80 : BitVec 32 := Scalar.extui v79
  let c0_i32_55 : BitVec 32 := 0#32
  let v81 : BitVec 1 := Scalar.cmpi .slt c2_i32 c0_i32_55
  let v82 : BitVec 32 := Scalar.extui v81
  let v83 : BitVec 32 := Scalar.subi v80 v82
  let v84 : BitVec 1 := Scalar.cmpi .ne v78 v83
  let v85 : BitVec 32 := Scalar.remsi arg0 c2_i32
  let c0_i32_56 : BitVec 32 := 0#32
  let v86 : BitVec 1 := Scalar.cmpi .ne v85 c0_i32_56
  let v87 : BitVec 1 := Scalar.andi v84 v86
  let v73 : BitVec 32 := Scalar.divsi arg0 c2_i32
  let c1_i32 : BitVec 32 := 1#32
  let v88 : BitVec 32 := Scalar.subi v73 c1_i32
  let v89 : BitVec 32 := Scalar.select v87 v88 v73
  let v90 : Index := Scalar.indexCast v89
  let c0_57 : Index := 0#32
  ![v90.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel2Ideal.lean ====
variable {F : FTy → Type} [FloatOps F] [Named F]
def κ : String → Option EReal := fun
  | "eps_z" => some ((2748779 / 388736039169 : ℝ) : EReal)
  | "inv_alpha" => some ((524288 / 623487 : ℝ) : EReal)
  | _ => none
-- ==== Reference2Ideal.lean ====
abbrev S4x2048x2048 : Shape := ⟨3, ![4, 2048, 2048]⟩
abbrev S4x12288 : Shape := ⟨2, ![4, 12288]⟩
abbrev S1x2048x11264 : Shape := ⟨3, ![1, 2048, 11264]⟩
abbrev S1x5632x2048 : Shape := ⟨3, ![1, 5632, 2048]⟩
abbrev S1x2048 : Shape := ⟨2, ![1, 2048]⟩
abbrev S4x2048 : Shape := ⟨2, ![4, 2048]⟩
abbrev S4x1x2048 : Shape := ⟨3, ![4, 1, 2048]⟩
abbrev S_ : Shape := ⟨0, ![]⟩
abbrev S2048x11264 : Shape := ⟨2, ![2048, 11264]⟩
abbrev S4x2048x11264 : Shape := ⟨3, ![4, 2048, 11264]⟩
abbrev S4x2048x5632 : Shape := ⟨3, ![4, 2048, 5632]⟩
abbrev S5632x2048 : Shape := ⟨2, ![5632, 2048]⟩
abbrev S2048 : Shape := ⟨1, ![2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 79
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S_, .f32⟩
  | .hbm, ⟨19, _⟩ => ⟨S4x1x2048, .f32⟩
  | .hbm, ⟨20, _⟩ => ⟨S4x1x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S2048x11264, .f32⟩
  | .hbm, ⟨26, _⟩ => ⟨S4x2048x11264, .f32⟩
  | .hbm, ⟨27, _⟩ => ⟨S4x2048x5632, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S_, .f32⟩
  | .hbm, ⟨32, _⟩ => ⟨S4x2048x5632, .f32⟩
  | .hbm, ⟨33, _⟩ => ⟨S4x2048x5632, .f32⟩
  | .hbm, ⟨34, _⟩ => ⟨S_, .f32⟩
  | .hbm, ⟨35, _⟩ => ⟨S4x2048x5632, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S5632x2048, .f32⟩
  | .hbm, ⟨40, _⟩ => ⟨S4x2048x2048, .f32⟩
  | .hbm, ⟨41, _⟩ => ⟨S_, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S4x2048x2048, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S4x2048, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S_, .f32⟩
  | .hbm, ⟨59, _⟩ => ⟨S4x2048, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S4x2048x2048, .f32⟩
  | .hbm, ⟨65, _⟩ => ⟨S4x2048x2048, .f32⟩
  | .hbm, ⟨66, _⟩ => ⟨S_, .f32⟩
  | .hbm, ⟨67, _⟩ => ⟨S4x2048x1, .f32⟩
  | .hbm, ⟨68, _⟩ => ⟨S4x2048x1, .f32⟩
  | .hbm, ⟨69, _⟩ => ⟨S4x2048x1, .f32⟩
  | .hbm, ⟨70, _⟩ => ⟨S4x2048x2048, .f32⟩
  | .hbm, ⟨71, _⟩ => ⟨S4x2048x2048, .f32⟩
  | .hbm, ⟨72, _⟩ => ⟨S1x1x2048, .f32⟩
  | .hbm, ⟨73, _⟩ => ⟨S4x2048x2048, .f32⟩
  | .hbm, ⟨74, _⟩ => ⟨S4x2048x2048, .f32⟩
  | .hbm, ⟨75, _⟩ => ⟨S1x1x2048, .f32⟩
  | .hbm, ⟨76, _⟩ => ⟨S4x2048x2048, .f32⟩
  | .hbm, ⟨77, _⟩ => ⟨S4x2048x2048, .f32⟩
  | .hbm, ⟨78, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_1 : Ref sig .tc := ⟨.hbm, 49, rfl⟩
abbrev main_v33 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel3.lean ====
abbrev S4x2048x16x128 : Shape := ⟨4, ![4, 2048, 16, 128]⟩
abbrev S4x2048x2048 : Shape := ⟨3, ![4, 2048, 2048]⟩
abbrev S1x2048x2048 : Shape := ⟨3, ![1, 2048, 2048]⟩
abbrev S1x5632x2048 : Shape := ⟨3, ![1, 5632, 2048]⟩
abbrev S4x2048x4096 : Shape := ⟨3, ![4, 2048, 4096]⟩
abbrev S_ : Shape := ⟨0, ![]⟩
abbrev S8192x4096 : Shape := ⟨2, ![8192, 4096]⟩
abbrev S8192x2048 : Shape := ⟨2, ![8192, 2048]⟩
abbrev S2048x2048 : Shape := ⟨2, ![2048, 2048]⟩
abbrev S5632x2048 : Shape := ⟨2, ![5632, 2048]⟩
abbrev S512x2048 : Shape := ⟨2, ![512, 2048]⟩
abbrev S512x4096 : Shape := ⟨2, ![512, 4096]⟩
abbrev S352x2048 : Shape := ⟨2, ![352, 2048]⟩
abbrev S2048x256 : Shape := ⟨2, ![2048, 256]⟩
abbrev S512x256 : Shape := ⟨2, ![512, 256]⟩
abbrev S32x2048 : Shape := ⟨2, ![32, 2048]⟩

abbrev nBuf : Space → Nat
  | .hbm => 29
  | .vmem => 14
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S1x2048x2048, .f32⟩
  | .hbm, ⟨5, _⟩ => ⟨S1x2048x2048, .f32⟩
  | .hbm, ⟨6, _⟩ => ⟨S1x5632x2048, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S_, .f32⟩
  | .hbm, ⟨11, _⟩ => ⟨S4x2048x4096, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x4096, .bf16⟩
  | .hbm, ⟨17, _⟩ => ⟨S8192x4096, .bf16⟩
  | .hbm, ⟨18, _⟩ => ⟨S4x2048x16x128, .bf16⟩
  | .hbm, ⟨19, _⟩ => ⟨S8192x2048, .bf16⟩
  | .hbm, ⟨20, _⟩ => ⟨S4x2048x2048, .bf16⟩
  | .hbm, ⟨21, _⟩ => ⟨S8192x2048, .bf16⟩
  | .hbm, ⟨22, _⟩ => ⟨S2048x2048, .f32⟩
  | .hbm, ⟨23, _⟩ => ⟨S2048x2048, .bf16⟩
  | .hbm, ⟨24, _⟩ => ⟨S2048x2048, .f32⟩
  | .hbm, ⟨25, _⟩ => ⟨S2048x2048, .bf16⟩
  | .hbm, ⟨26, _⟩ => ⟨S5632x2048, .f32⟩
  | .hbm, ⟨27, _⟩ => ⟨S8192x2048, .bf16⟩
  | .hbm, ⟨28, _⟩ => ⟨S5632x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S512x4096, .bf16⟩
  | .local _ .vmem, ⟨7, _⟩ => ⟨S512x4096, .bf16⟩
  | .local _ .vmem, ⟨8, _⟩ => ⟨S352x2048, .f32⟩
  | .local _ .vmem, ⟨9, _⟩ => ⟨S352x2048, .f32⟩
  | .local _ .vmem, ⟨10, _⟩ => ⟨S512x2048, .bf16⟩
  | .local _ .vmem, ⟨11, _⟩ => ⟨S512x2048, .bf16⟩
  | .local _ .vmem, ⟨12, _⟩ => ⟨S352x2048, .bf16⟩
  | .local _ .vmem, ⟨13, _⟩ => ⟨S352x2048, .bf16⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def k0_mult1 (i : grid0.Coords) : BitVec 32 :=
  let c0_i32 : BitVec 32 := 0#32
  let arg0 : BitVec 32 := BitVec.ofNat 32 (i 0).val
  let c352_i32 : BitVec 32 := 352#32
  let v0 : BitVec 32 := Scalar.muli arg0 c352_i32
  let v1 : BitVec 32 := Scalar.addi c0_i32 v0
  v1
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c352_i32 : BitVec 32 := 352#32
  let v0 : BitVec 32 := Scalar.muli arg0 c352_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x2048x16x128 : Shape := ⟨4, ![4, 2048, 16, 128]⟩
abbrev S4x2048x2048 : Shape := ⟨3, ![4, 2048, 2048]⟩
abbrev S1x2048x2048 : Shape := ⟨3, ![1, 2048, 2048]⟩
abbrev S1x5632x2048 : Shape := ⟨3, ![1, 5632, 2048]⟩
abbrev S2048x2048 : Shape := ⟨2, ![2048, 2048]⟩
abbrev S_ : Shape := ⟨0, ![]⟩
abbrev S8192x2048 : Shape := ⟨2, ![8192, 2048]⟩
abbrev S5632x2048 : Shape := ⟨2, ![5632, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S1x2048x2048, .f32⟩
  | .hbm, ⟨5, _⟩ => ⟨S1x2048x2048, .f32⟩
  | .hbm, ⟨6, _⟩ => ⟨S1x5632x2048, .f32⟩
  | .hbm, ⟨7, _⟩ => ⟨S4x2048x2048, .f32⟩
  | .hbm, ⟨8, _⟩ => ⟨S2048x2048, .f32⟩
  | .hbm, ⟨9, _⟩ => ⟨S4x2048x2048, .f32⟩
  | .hbm, ⟨10, _⟩ => ⟨S2048x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S8192x2048, .f32⟩
  | .hbm, ⟨32, _⟩ => ⟨S8192x2048, .bf16⟩
  | .hbm, ⟨33, _⟩ => ⟨S5632x2048, .f32⟩
  | .hbm, ⟨34, _⟩ => ⟨S5632x2048, .bf16⟩
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel4.lean ====
abbrev S4x2048x2048 : Shape := ⟨3, ![4, 2048, 2048]⟩
abbrev S1x2048x11328 : Shape := ⟨3, ![1, 2048, 11328]⟩
abbrev S8192x2048 : Shape := ⟨2, ![8192, 2048]⟩
abbrev S2048x11328 : Shape := ⟨2, ![2048, 11328]⟩
abbrev S11328x2048 : Shape := ⟨2, ![11328, 2048]⟩
abbrev S10240x2048 : Shape := ⟨2, ![10240, 2048]⟩
abbrev S8192x4096 : Shape := ⟨2, ![8192, 4096]⟩
abbrev S1024x2048 : Shape := ⟨2, ![1024, 2048]⟩
abbrev S2048x2048 : Shape := ⟨2, ![2048, 2048]⟩
abbrev S1024x4096 : Shape := ⟨2, ![1024, 4096]⟩
abbrev S1024x1024 : Shape := ⟨2, ![1024, 1024]⟩
abbrev S512x2048 : Shape := ⟨2, ![512, 2048]⟩
abbrev S1024x512 : Shape := ⟨2, ![1024, 512]⟩
abbrev S256x2048 : Shape := ⟨2, ![256, 2048]⟩
abbrev S1024x256 : Shape := ⟨2, ![1024, 256]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S1x2048x11328, .f32⟩
  | .hbm, ⟨2, _⟩ => ⟨S4x2048x2048, .bf16⟩
  | .hbm, ⟨3, _⟩ => ⟨S8192x2048, .bf16⟩
  | .hbm, ⟨4, _⟩ => ⟨S2048x11328, .f32⟩
  | .hbm, ⟨5, _⟩ => ⟨S11328x2048, .f32⟩
  | .hbm, ⟨6, _⟩ => ⟨S10240x2048, .f32⟩
  | .hbm, ⟨7, _⟩ => ⟨S10240x2048, .bf16⟩
  | .hbm, ⟨8, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x4096, .bf16⟩
  | .local _ .vmem, ⟨5, _⟩ => ⟨S1024x4096, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x2048x2048 : Shape := ⟨3, ![4, 2048, 2048]⟩
abbrev S1x2048x11328 : Shape := ⟨3, ![1, 2048, 11328]⟩
abbrev S2048x11328 : Shape := ⟨2, ![2048, 11328]⟩
abbrev S4x2048x11328 : Shape := ⟨3, ![4, 2048, 11328]⟩
abbrev S4x2048x1088 : Shape := ⟨3, ![4, 2048, 1088]⟩
abbrev S_ : Shape := ⟨0, ![]⟩
abbrev S4x2048x4096 : Shape := ⟨3, ![4, 2048, 4096]⟩
abbrev S8192x4096 : Shape := ⟨2, ![8192, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x11328, .f32⟩
  | .hbm, ⟨2, _⟩ => ⟨S2048x11328, .f32⟩
  | .hbm, ⟨3, _⟩ => ⟨S4x2048x11328, .f32⟩
  | .hbm, ⟨4, _⟩ => ⟨S4x2048x1088, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x4096, .f32⟩
  | .hbm, ⟨27, _⟩ => ⟨S8192x4096, .f32⟩
  | .hbm, ⟨28, _⟩ => ⟨S8192x4096, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel5.lean ====
abbrev S4x2048x2048 : Shape := ⟨3, ![4, 2048, 2048]⟩
abbrev S4x12288 : Shape := ⟨2, ![4, 12288]⟩
abbrev S1x2048x2048 : Shape := ⟨3, ![1, 2048, 2048]⟩
abbrev S1x2048 : Shape := ⟨2, ![1, 2048]⟩
abbrev S_ : Shape := ⟨0, ![]⟩
abbrev S8x12288 : Shape := ⟨2, ![8, 12288]⟩
abbrev S8192x2048 : Shape := ⟨2, ![8192, 2048]⟩
abbrev S2048x2048 : Shape := ⟨2, ![2048, 2048]⟩
abbrev S2048 : Shape := ⟨1, ![2048]⟩
abbrev S512x2048 : Shape := ⟨2, ![512, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x12288, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S_, .i32⟩
  | .hbm, ⟨7, _⟩ => ⟨S_, .f32⟩
  | .hbm, ⟨8, _⟩ => ⟨S8x12288, .f32⟩
  | .hbm, ⟨9, _⟩ => ⟨S4x2048x2048, .bf16⟩
  | .hbm, ⟨10, _⟩ => ⟨S8192x2048, .bf16⟩
  | .hbm, ⟨11, _⟩ => ⟨S2048x2048, .f32⟩
  | .hbm, ⟨12, _⟩ => ⟨S2048x2048, .bf16⟩
  | .hbm, ⟨13, _⟩ => ⟨S8192x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S8x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : Index := Scalar.indexCast v16
  let c0 : Index := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel5Ideal.lean ====
variable {F : FTy → Type} [FloatOps F] [Named F]
def κ : String → Option EReal := fun
  | "eps_z" => some ((2748779 / 388736039169 : ℝ) : EReal)
  | "inv_alpha" => some ((524288 / 623487 : ℝ) : EReal)
  | _ => none
-- ==== Reference5Ideal.lean ====
abbrev S4x2048x2048 : Shape := ⟨3, ![4, 2048, 2048]⟩
abbrev S4x12288 : Shape := ⟨2, ![4, 12288]⟩
abbrev S1x2048x2048 : Shape := ⟨3, ![1, 2048, 2048]⟩
abbrev S1x2048 : Shape := ⟨2, ![1, 2048]⟩
abbrev S4x2048 : Shape := ⟨2, ![4, 2048]⟩
abbrev S4x1x2048 : Shape := ⟨3, ![4, 1, 2048]⟩
abbrev S2048x2048 : Shape := ⟨2, ![2048, 2048]⟩
abbrev S_ : Shape := ⟨0, ![]⟩
abbrev S2048 : Shape := ⟨1, ![2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x12288, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S2048x2048, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x1, .f32⟩
  | .hbm, ⟨49, _⟩ => ⟨S4x2048x2048, .f32⟩
  | .hbm, ⟨50, _⟩ => ⟨S4x2048x2048, .f32⟩
  | .hbm, ⟨51, _⟩ => ⟨S1x1x2048, .f32⟩
  | .hbm, ⟨52, _⟩ => ⟨S4x2048x2048, .f32⟩
  | .hbm, ⟨53, _⟩ => ⟨S4x2048x2048, .f32⟩
  | .hbm, ⟨54, _⟩ => ⟨S1x1x2048, .f32⟩
  | .hbm, ⟨55, _⟩ => ⟨S4x2048x2048, .f32⟩
  | .hbm, ⟨56, _⟩ => ⟨S4x2048x2048, .f32⟩
  | .hbm, ⟨57, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel6.lean ====
abbrev S4x2048x2048 : Shape := ⟨3, ![4, 2048, 2048]⟩
abbrev S1x2048x11328 : Shape := ⟨3, ![1, 2048, 11328]⟩
abbrev S1x3x2048 : Shape := ⟨3, ![1, 3, 2048]⟩
abbrev S8192x2048 : Shape := ⟨2, ![8192, 2048]⟩
abbrev S2048x11328 : Shape := ⟨2, ![2048, 11328]⟩
abbrev S11328x2048 : Shape := ⟨2, ![11328, 2048]⟩
abbrev S10240x2048 : Shape := ⟨2, ![10240, 2048]⟩
abbrev S3x2048 : Shape := ⟨2, ![3, 2048]⟩
abbrev S1024x2048 : Shape := ⟨2, ![1024, 2048]⟩
abbrev S3x1024 : Shape := ⟨2, ![3, 1024]⟩
abbrev S1024x1024 : Shape := ⟨2, ![1024, 1024]⟩
abbrev S2x8x1024 : Shape := ⟨3, ![2, 8, 1024]⟩
abbrev S8x1024 : Shape := ⟨2, ![8, 1024]⟩
abbrev S1x8x1024 : Shape := ⟨3, ![1, 8, 1024]⟩
abbrev S1024x256 : Shape := ⟨2, ![1024, 256]⟩
abbrev S256x2048 : Shape := ⟨2, ![256, 2048]⟩
abbrev S1x8x256 : Shape := ⟨3, ![1, 8, 256]⟩
abbrev S8x256 : Shape := ⟨2, ![8, 256]⟩
abbrev S1x256 : Shape := ⟨2, ![1, 256]⟩
abbrev S3x256 : Shape := ⟨2, ![3, 256]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S1x2048x11328, .f32⟩
  | .hbm, ⟨2, _⟩ => ⟨S1x3x2048, .f32⟩
  | .hbm, ⟨3, _⟩ => ⟨S4x2048x2048, .bf16⟩
  | .hbm, ⟨4, _⟩ => ⟨S8192x2048, .bf16⟩
  | .hbm, ⟨5, _⟩ => ⟨S2048x11328, .f32⟩
  | .hbm, ⟨6, _⟩ => ⟨S11328x2048, .f32⟩
  | .hbm, ⟨7, _⟩ => ⟨S10240x2048, .f32⟩
  | .hbm, ⟨8, _⟩ => ⟨S10240x2048, .bf16⟩
  | .hbm, ⟨9, _⟩ => ⟨S3x2048, .f32⟩
  | .hbm, ⟨10, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S3x1024, .f32⟩
  | .local _ .vmem, ⟨9, _⟩ => ⟨S3x1024, .f32⟩
  | .local _ .vmem, ⟨10, _⟩ => ⟨S1024x1024, .bf16⟩
  | .local _ .vmem, ⟨11, _⟩ => ⟨S1024x1024, .bf16⟩
  | .local _ .vmem, ⟨12, _⟩ => ⟨S2x8x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let v13 : BitVec 32 := Scalar.extui v12
  let c0_i32_5 : BitVec 32 := 0#32
  let v14 : BitVec 1 := Scalar.cmpi .ne v13 c0_i32_5
  v14

def k0_off1 (i : grid0.Coords) : Fin 3 → Nat :=
  let arg1 : BitVec 32 := BitVec.ofNat 32 (i 1).val
  let v236 : Index := Scalar.indexCast arg1
  let c0_91 : Index := 0#32
  let c0_92 : Index := 0#32
  ![v236.toNat, 0, 0]
def k0_off2 (i : grid0.Coords) : Fin 3 → Nat :=
  let arg1 : BitVec 32 := BitVec.ofNat 32 (i 1).val
  let v26 : Index := Scalar.indexCast arg1
  let c0_14 : Index := 0#32
  let c0_15 : Index := 0#32
  ![v26.toNat, 0, 0]
def k0_off3 (i : grid0.Coords) : Fin 3 → Nat :=
  let arg1 : BitVec 32 := BitVec.ofNat 32 (i 1).val
  let v81 : Index := Scalar.indexCast arg1
  let c0_35 : Index := 0#32
  let c256_36 : Index := 256#32
  ![v81.toNat, 0, 256]
def k0_off4 (i : grid0.Coords) : Fin 3 → Nat :=
  let arg1 : BitVec 32 := BitVec.ofNat 32 (i 1).val
  let v136 : Index := Scalar.indexCast arg1
  let c0_56 : Index := 0#32
  let c512_57 : Index := 512#32
  ![v136.toNat, 0, 512]
def k0_off5 (i : grid0.Coords) : Fin 3 → Nat :=
  let arg1 : BitVec 32 := BitVec.ofNat 32 (i 1).val
  let v191 : Index := Scalar.indexCast arg1
  let c0_77 : Index := 0#32
  let c768_78 : Index := 768#32
  ![v191.toNat, 0, 768]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4x2048x2048 : Shape := ⟨3, ![4, 2048, 2048]⟩
abbrev S1x2048x11328 : Shape := ⟨3, ![1, 2048, 11328]⟩
abbrev S1x3x2048 : Shape := ⟨3, ![1, 3, 2048]⟩
abbrev S2048x11328 : Shape := ⟨2, ![2048, 11328]⟩
abbrev S4x2048x11328 : Shape := ⟨3, ![4, 2048, 11328]⟩
abbrev S4x2048x1088 : Shape := ⟨3, ![4, 2048, 1088]⟩
abbrev S3x2048 : Shape := ⟨2, ![3, 2048]⟩
abbrev S_ : Shape := ⟨0, ![]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x11328, .f32⟩
  | .hbm, ⟨2, _⟩ => ⟨S1x3x2048, .f32⟩
  | .hbm, ⟨3, _⟩ => ⟨S2048x11328, .f32⟩
  | .hbm, ⟨4, _⟩ => ⟨S4x2048x11328, .f32⟩
  | .hbm, ⟨5, _⟩ => ⟨S4x2048x1088, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S3x2048, .f32⟩
  | .hbm, ⟨13, _⟩ => ⟨S_, .i32⟩
  | .hbm, ⟨14, _⟩ => ⟨S_, .f32⟩
  | .hbm, ⟨15, _⟩ => ⟨S4x2050x2048, .f32⟩
  | .hbm, ⟨16, _⟩ => ⟨S4x2048x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S8192x2048, .f32⟩
  | .hbm, ⟨38, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Kernel7.lean ====
abbrev S4x2048x2048 : Shape := ⟨3, ![4, 2048, 2048]⟩
abbrev S4x12288 : Shape := ⟨2, ![4, 12288]⟩
abbrev S1x2048x11328 : Shape := ⟨3, ![1, 2048, 11328]⟩
abbrev S1x512 : Shape := ⟨2, ![1, 512]⟩
abbrev S_ : Shape := ⟨0, ![]⟩
abbrev S8x12288 : Shape := ⟨2, ![8, 12288]⟩
abbrev S8192x2048 : Shape := ⟨2, ![8192, 2048]⟩
abbrev S2048x11328 : Shape := ⟨2, ![2048, 11328]⟩
abbrev S11328x2048 : Shape := ⟨2, ![11328, 2048]⟩
abbrev S512 : Shape := ⟨1, ![512]⟩
abbrev S8192x512 : Shape := ⟨2, ![8192, 512]⟩
abbrev S8192x256 : Shape := ⟨2, ![8192, 256]⟩
abbrev S1024x2048 : Shape := ⟨2, ![1024, 2048]⟩
abbrev S8x2048 : Shape := ⟨2, ![8, 2048]⟩
abbrev S1088x2048 : Shape := ⟨2, ![1088, 2048]⟩
abbrev S1024x512 : Shape := ⟨2, ![1024, 512]⟩
abbrev S1024x256 : Shape := ⟨2, ![1024, 256]⟩
abbrev S256x2048 : Shape := ⟨2, ![256, 2048]⟩
abbrev S64x2048 : Shape := ⟨2, ![64, 2048]⟩
abbrev S32x2048 : Shape := ⟨2, ![32, 2048]⟩
abbrev S1x2048 : Shape := ⟨2, ![1, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 19
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048x11328, .f32⟩
  | .hbm, ⟨3, _⟩ => ⟨S1x512, .f32⟩
  | .hbm, ⟨4, _⟩ => ⟨S1x512, .f32⟩
  | .hbm, ⟨5, _⟩ => ⟨S_, .i32⟩
  | .hbm, ⟨6, _⟩ => ⟨S_, .f32⟩
  | .hbm, ⟨7, _⟩ => ⟨S8x12288, .f32⟩
  | .hbm, ⟨8, _⟩ => ⟨S8192x2048, .f32⟩
  | .hbm, ⟨9, _⟩ => ⟨S2048x11328, .f32⟩
  | .hbm, ⟨10, _⟩ => ⟨S11328x2048, .f32⟩
  | .hbm, ⟨11, _⟩ => ⟨S512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S8192x512, .bf16⟩
  | .hbm, ⟨16, _⟩ => ⟨S8192x512, .bf16⟩
  | .hbm, ⟨17, _⟩ => ⟨S8192x256, .f32⟩
  | .hbm, ⟨18, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S1088x2048, .f32⟩
  | .local _ .vmem, ⟨5, _⟩ => ⟨S1x512, .f32⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x256, .f32⟩
  | .local _ .vmem, ⟨12, _⟩ => ⟨S1024x256, .f32⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | .local _ .vmem, ⟨16, _⟩ => ⟨S256x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .slt arg0 c0_i32_3
  let v9 : BitVec 32 := Scalar.extui v8
  let v10 : BitVec 32 := Scalar.subi v7 v9
  let c2_i32 : BitVec 32 := 2#32
  let c0_i32_4 : BitVec 32 := 0#32
  let v11 : BitVec 1 := Scalar.cmpi .sgt c2_i32 c0_i32_4
  let v12 : BitVec 32 := Scalar.extui v11
  let c0_i32_5 : BitVec 32 := 0#32
  let v13 : BitVec 1 := Scalar.cmpi .slt c2_i32 c0_i32_5
  let v14 : BitVec 32 := Scalar.extui v13
  let v15 : BitVec 32 := Scalar.subi v12 v14
  let v16 : BitVec 1 := Scalar.cmpi .ne v10 v15
  let v17 : BitVec 32 := Scalar.remsi arg0 c2_i32
  let c0_i32_6 : BitVec 32 := 0#32
  let v18 : BitVec 1 := Scalar.cmpi .ne v17 c0_i32_6
  let v19 : BitVec 1 := Scalar.andi v16 v18
  let v5 : BitVec 32 := Scalar.divsi arg0 c2_i32
  let c1_i32 : BitVec 32 := 1#32
  let v20 : BitVec 32 := Scalar.subi v5 c1_i32
  let v21 : BitVec 32 := Scalar.select v19 v20 v5
  let v22 : Index := Scalar.indexCast v21
  let c0_7 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1088x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S4x2048x2048 : Shape := ⟨3, ![4, 2048, 2048]⟩
abbrev S4x12288 : Shape := ⟨2, ![4, 12288]⟩
abbrev S1x2048x11328 : Shape := ⟨3, ![1, 2048, 11328]⟩
abbrev S1x512 : Shape := ⟨2, ![1, 512]⟩
abbrev S4x2048 : Shape := ⟨2, ![4, 2048]⟩
abbrev S4x1x2048 : Shape := ⟨3, ![4, 1, 2048]⟩
abbrev S_ : Shape := ⟨0, ![]⟩
abbrev S2048x11328 : Shape := ⟨2, ![2048, 11328]⟩
abbrev S4x2048x11328 : Shape := ⟨3, ![4, 2048, 11328]⟩
abbrev S4x2048x512 : Shape := ⟨3, ![4, 2048, 512]⟩
abbrev S4x2048x64 : Shape := ⟨3, ![4, 2048, 64]⟩
abbrev S4x2048x10240 : Shape := ⟨3, ![4, 2048, 10240]⟩
abbrev S4x2048x32 : Shape := ⟨3, ![4, 2048, 32]⟩
abbrev S512 : Shape := ⟨1, ![512]⟩
abbrev S4x2048x1 : Shape := ⟨3, ![4, 2048, 1]⟩
abbrev S1x1x512 : Shape := ⟨3, ![1, 1, 512]⟩
abbrev S8192x512 : Shape := ⟨2, ![8192, 512]⟩
abbrev S4x2048x256 : Shape := ⟨3, ![4, 2048, 256]⟩
abbrev S8192x256 : Shape := ⟨2, ![8192, 256]⟩
abbrev S8192x2048 : Shape := ⟨2, ![8192, 2048]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048x11328, .f32⟩
  | .hbm, ⟨3, _⟩ => ⟨S1x512, .f32⟩
  | .hbm, ⟨4, _⟩ => ⟨S1x512, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S_, .f32⟩
  | .hbm, ⟨18, _⟩ => ⟨S4x1x2048, .f32⟩
  | .hbm, ⟨19, _⟩ => ⟨S4x1x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S2048x11328, .f32⟩
  | .hbm, ⟨25, _⟩ => ⟨S4x2048x11328, .f32⟩
  | .hbm, ⟨26, _⟩ => ⟨S4x2048x512, .f32⟩
  | .hbm, ⟨27, _⟩ => ⟨S4x2048x512, .f32⟩
  | .hbm, ⟨28, _⟩ => ⟨S4x2048x64, .f32⟩
  | .hbm, ⟨29, _⟩ => ⟨S4x2048x10240, .f32⟩
  | .hbm, ⟨30, _⟩ => ⟨S4x2048x32, .f32⟩
  | .hbm, ⟨31, _⟩ => ⟨S4x2048x32, .f32⟩
  | .hbm, ⟨32, _⟩ => ⟨S_, .f32⟩
  | .hbm, ⟨33, _⟩ => ⟨S4x2048x64, .f32⟩
  | .hbm, ⟨34, _⟩ => ⟨S512, .f32⟩
  | .hbm, ⟨35, _⟩ => ⟨S4x2048x512, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S4x2048x1, .f32⟩
  | .hbm, ⟨46, _⟩ => ⟨S4x2048x512, .f32⟩
  | .hbm, ⟨47, _⟩ => ⟨S4x2048x512, .f32⟩
  | .hbm, ⟨48, _⟩ => ⟨S1x1x512, .f32⟩
  | .hbm, ⟨49, _⟩ => ⟨S4x2048x512, .f32⟩
  | .hbm, ⟨50, _⟩ => ⟨S4x2048x512, .f32⟩
  | .hbm, ⟨51, _⟩ => ⟨S8192x512, .f32⟩
  | .hbm, ⟨52, _⟩ => ⟨S8192x512, .bf16⟩
  | .hbm, ⟨53, _⟩ => ⟨S512, .f32⟩
  | .hbm, ⟨54, _⟩ => ⟨S4x2048x512, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S4x2048x1, .f32⟩
  | .hbm, ⟨65, _⟩ => ⟨S4x2048x512, .f32⟩
  | .hbm, ⟨66, _⟩ => ⟨S4x2048x512, .f32⟩
  | .hbm, ⟨67, _⟩ => ⟨S1x1x512, .f32⟩
  | .hbm, ⟨68, _⟩ => ⟨S4x2048x512, .f32⟩
  | .hbm, ⟨69, _⟩ => ⟨S4x2048x512, .f32⟩
  | .hbm, ⟨70, _⟩ => ⟨S8192x512, .f32⟩
  | .hbm, ⟨71, _⟩ => ⟨S8192x512, .bf16⟩
  | .hbm, ⟨72, _⟩ => ⟨S4x2048x32, .f32⟩
  | .hbm, ⟨73, _⟩ => ⟨S4x2048x256, .f32⟩
  | .hbm, ⟨74, _⟩ => ⟨S8192x256, .f32⟩
  | .hbm, ⟨75, _⟩ => ⟨S8192x2048, .f32⟩
  | .hbm, ⟨76, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩

abbrev nD : Nat := 1
abbrev τ : Topo := Topo.v7x

variable {F : FTy → Type} [FloatOps F]
-- ==== Kernel8.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Softmax.lean ====
/- A softmax over the extended reals, two ways: base 2 with the division last, and base e with the weights divided first. -/
module

public import Idealize.ShloMosaic.PureOps.Ideal.Laws
public import Mathlib.Analysis.SpecialFunctions.Pow.Real

@[expose] public section

noncomputable section

namespace Cert.Attn

open Idealize.ShloMosaic

/-- Minus infinity less anything is minus infinity. -/
theorem bot_sub (x : EReal) : (⊥ : EReal) - x = ⊥ := by
  rw [sub_eq_add_neg, EReal.bot_add]

/-- A finite nonnegative factor moves into a finite sum of extended reals. -/
theorem sum_mul_coe {ι : Type} (s : Finset ι) (f : ι → EReal) (d : ℝ) (hd : 0 ≤ d) :
    (∑ k ∈ s, f k) * (d : EReal) = ∑ k ∈ s, f k * (d : EReal) := by
  classical
  induction s using Finset.induction_on with
  | empty => simp
  | insert a s ha ih =>
    rw [Finset.sum_insert ha, Finset.sum_insert ha, ← ih, mul_comm, EReal.left_distrib_of_nonneg_of_ne_top
      (EReal.coe_nonneg.2 hd) (EReal.coe_ne_top d), mul_comm, mul_comm (d : EReal) (∑ k ∈ s, f k)]

/-- The sum of real numbers is the same sum among the extended reals. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The row of scores `c * x k` with the keys not allowed at minus infinity. -/
def masked (a : ℕ → Prop) [DecidablePred a] (x : ℕ → ℝ) (c : ℝ) (k : ℕ) : EReal :=
  if a k then ((c * x k : ℝ) : EReal) else ⊥

/-- The greatest masked score is a real one: some allowed key attains it, the same one for every positive factor. -/
theorem masked_sup (N : ℕ) (a : ℕ → Prop) [DecidablePred a] (x : ℕ → ℝ) (hne : ∃ k < N, a k) :
    ∃ k₀ < N, a k₀ ∧ ∀ c : ℝ, 0 < c → (Finset.range N).sup (masked a x c) = ((c * x k₀ : ℝ) : EReal) := by
  obtain ⟨k₁, hk₁, ha₁⟩ := hne
  have hs : ((Finset.range N).filter a).Nonempty := ⟨k₁, by simp [hk₁, ha₁]⟩
  obtain ⟨k₀, hk₀, hmax⟩ := Finset.exists_max_image _ x hs
  rw [Finset.mem_filter, Finset.mem_range] at hk₀
  refine ⟨k₀, hk₀.1, hk₀.2, fun c hc => le_antisymm (Finset.sup_le fun k hk => ?_) ?_⟩
  · unfold masked
    split
    · rename_i h
      exact EReal.coe_le_coe_iff.2 (mul_le_mul_of_nonneg_left (hmax k (Finset.mem_filter.2 ⟨hk, h⟩)) hc.le)
    · exact bot_le
  · refine le_trans (le_of_eq ?_) (Finset.le_sup (Finset.mem_range.2 hk₀.1))
    unfold masked
    rw [if_pos hk₀.2]

/-- The weight of a key: the exponential of its score less the greatest, and 0 for a key not allowed. -/
def weight (a : ℕ → Prop) [DecidablePred a] (x : ℕ → ℝ) (c : ℝ) (k₀ k : ℕ) : ℝ :=
  if a k then Real.exp (c * x k - c * x k₀) else 0

/-- The weight read off the masked score in base e. -/
theorem exp_masked (a : ℕ → Prop) [DecidablePred a] (x : ℕ → ℝ) (c : ℝ) (k₀ k : ℕ) :
    Ideal.exp (masked a x c k - ((c * x k₀ : ℝ) : EReal)) = (weight a x c k₀ k : EReal) := by
  unfold masked weight
  split
  · rw [← EReal.coe_sub]; rfl
  · rw [bot_sub]; rfl

/-- The same weight read off the masked score in base 2, when the factor of the scores is divided by the logarithm of 2. -/
theorem exp2_masked (a : ℕ → Prop) [DecidablePred a] (x : ℕ → ℝ) (c : ℝ) (k₀ k : ℕ) :
    Ideal.exp2 (masked a x (c / Real.log 2) k - ((c / Real.log 2 * x k₀ : ℝ) : EReal)) = (weight a x c k₀ k : EReal) := by
  have hl : Real.log 2 ≠ 0 := (Real.log_pos one_lt_two).ne'
  unfold masked weight
  split
  · rw [← EReal.coe_sub]
    show ((Real.rpow 2 _ : ℝ) : EReal) = _
    congr 1
    show (2 : ℝ) ^ (_ : ℝ) = _
    rw [Real.rpow_def_of_pos two_pos]
    congr 1
    field_simp
  · rw [bot_sub]; rfl

/-- Division of an extended real by a positive real is multiplication by its inverse. -/
theorem div_coe_pos (y : EReal) (d : ℝ) (hd : 0 < d) : Ideal.div y (d : EReal) = y * ((d⁻¹ : ℝ) : EReal) := by
  unfold Ideal.div
  rw [if_neg (EReal.coe_ne_zero.2 hd.ne'), EReal.coe_inv]

/-- The two softmax averages agree: values weighted in base 2 and divided at the end, and values weighted by the base e
    weights already divided by their sum. The values may be any extended reals. -/
theorem softmax_average (N : ℕ) (a : ℕ → Prop) [DecidablePred a] (x : ℕ → ℝ) (c : ℝ) (hc : 0 < c) (v : ℕ → EReal)
    (hne : ∃ k < N, a k) :
    Ideal.div (∑ k ∈ Finset.range N, v k * Ideal.exp2 (masked a x (c / Real.log 2) k - (Finset.range N).sup (masked a x (c / Real.log 2))))
        (∑ k ∈ Finset.range N, Ideal.exp2 (masked a x (c / Real.log 2) k - (Finset.range N).sup (masked a x (c / Real.log 2))))
      = ∑ k ∈ Finset.range N, v k * Ideal.div (Ideal.exp (masked a x c k - (Finset.range N).sup (masked a x c)))
          (∑ k ∈ Finset.range N, Ideal.exp (masked a x c k - (Finset.range N).sup (masked a x c))) := by
  obtain ⟨k₀, hk₀, ha₀, hsup⟩ := masked_sup N a x hne
  rw [hsup _ (div_pos hc (Real.log_pos one_lt_two)), hsup c hc]
  simp only [exp_masked, exp2_masked]
  rw [← coe_sum]
  have hw : ∀ k, 0 ≤ weight a x c k₀ k := fun k => by
    unfold weight; split
    · exact (Real.exp_pos _).le
    · exact le_rfl
  have hD : 0 < ∑ k ∈ Finset.range N, weight a x c k₀ k := by
    refine Finset.sum_pos' (fun k _ => hw k) ⟨k₀, Finset.mem_range.2 hk₀, ?_⟩
    unfold weight; rw [if_pos ha₀]; exact Real.exp_pos _
  simp only [div_coe_pos _ _ hD]
  rw [sum_mul_coe _ _ _ (inv_nonneg.2 hD.le)]
  exact Finset.sum_congr rfl fun k _ => mul_assoc _ _ _

/-- The greatest of the first `n + m` terms is the greater of the greatest of the first `n` and of the `m` after them. -/
theorem sup_range_add (n m : ℕ) (f : ℕ → EReal) :
    (Finset.range (n + m)).sup f = max ((Finset.range m).sup fun j => f (n + j)) ((Finset.range n).sup f) := by
  refine le_antisymm (Finset.sup_le fun k hk => ?_) (max_le (Finset.sup_le fun k hk => ?_) (Finset.sup_le fun k hk => ?_))
  · rw [Finset.mem_range] at hk
    by_cases h : k < n
    · exact le_max_of_le_right (Finset.le_sup (Finset.mem_range.2 h))
    · refine le_max_of_le_left ?_
      have h' : k - n ∈ Finset.range m := Finset.mem_range.2 (by omega)
      have e : f k = (fun j => f (n + j)) (k - n) := by show f k = f (n + (k - n)); congr 1; omega
      rw [e]; exact Finset.le_sup (f := fun j => f (n + j)) h'
  · rw [Finset.mem_range] at hk
    exact Finset.le_sup (f := f) (Finset.mem_range.2 (by omega))
  · rw [Finset.mem_range] at hk
    exact Finset.le_sup (Finset.mem_range.2 (by omega))

/-- Terms at minus infinity do not count in the greatest. -/
theorem sup_range_of_bot (L N : ℕ) (hLN : L ≤ N) (f : ℕ → EReal) (h : ∀ k, L ≤ k → f k = ⊥) :
    (Finset.range N).sup f = (Finset.range L).sup f := by
  obtain ⟨m, rfl⟩ := Nat.exists_eq_add_of_le hLN
  rw [sup_range_add]
  rw [show ((Finset.range m).sup fun j => f (L + j)) = ⊥ from (Finset.sup_eq_bot_iff _ _).2 fun k _ => h _ (by omega)]
  exact max_eq_right bot_le

/-- The base 2 softmax average of a row of scores `s` over the first `N` keys, the division last. -/
def average2 (N : ℕ) (s v : ℕ → EReal) : EReal :=
  Ideal.div (∑ k ∈ Finset.range N, v k * Ideal.exp2 (s k - (Finset.range N).sup s))
    (∑ k ∈ Finset.range N, Ideal.exp2 (s k - (Finset.range N).sup s))

/-- Keys whose score is minus infinity can be left out of the average. -/
theorem average2_of_bot (L N : ℕ) (hLN : L ≤ N) (s v : ℕ → EReal) (h : ∀ k, L ≤ k → s k = ⊥) :
    average2 N s v = average2 L s v := by
  unfold average2
  rw [sup_range_of_bot L N hLN s h]
  have e : ∀ g : ℕ → EReal, (∀ k, L ≤ k → g k = 0) → ∑ k ∈ Finset.range N, g k = ∑ k ∈ Finset.range L, g k := by
    intro g hg
    obtain ⟨m, rfl⟩ := Nat.exists_eq_add_of_le hLN
    rw [Finset.sum_range_add, Finset.sum_eq_zero (s := Finset.range m) fun k _ => hg _ (by omega), add_zero]
  have h0 : ∀ k, L ≤ k → Ideal.exp2 (s k - (Finset.range L).sup s) = 0 := fun k hk => by rw [h k hk, bot_sub]; rfl
  rw [e _ h0, e _ fun k hk => by rw [h0 k hk, mul_zero]]

end Cert.Attn

end
-- ==== Proof.Task.lean ====
/- One attention task of the kernel: 256 queries of one head against a key prefix, the scores given as keys by queries.
   The masked diagonal block and the full part below it are two partial sums over one maximum. Read at an index. -/
module

public import Idealize.ShloMosaic.PureOps.Ideal.Laws
public import Idealize.ShloMosaic.Lib.MatmulPlain
public import Idealize.ShloMosaic.Lib.ValueLayout
public import proofs.«01_k».proof.Proof.Softmax

@[expose] public section

noncomputable section

namespace Cert.Attn

open Idealize.ShloMosaic Idealize.ShloMosaic.ValueIdx

/-- The matrix shape `a` by `b`. -/
abbrev Sh (a b : ℕ) : Shape := ⟨2, ![a, b]⟩

/-- An entry of a matrix at natural coordinates, 0 outside. -/
def nat2 {a b : ℕ} (x : (Sh a b).Idx → EReal) (i j : ℕ) : EReal :=
  if h : i < a ∧ j < b then x (ix2 ⟨i, h.1⟩ ⟨j, h.2⟩) else 0

theorem nat2_ix2 {a b : ℕ} (x : (Sh a b).Idx → EReal) (i : Fin a) (j : Fin b) : nat2 x i.val j.val = x (ix2 i j) := by
  unfold nat2; rw [dif_pos ⟨i.isLt, j.isLt⟩]

theorem nat2_of {a b : ℕ} (x : (Sh a b).Idx → EReal) (i j : ℕ) (hi : i < a) (hj : j < b) : nat2 x i j = x (ix2 ⟨i, hi⟩ ⟨j, hj⟩) := by
  unfold nat2; rw [dif_pos ⟨hi, hj⟩]

/-- The pattern of minus infinity. -/
theorem ofBits_negInf : Ideal.ofBits .f32 0xFF800000#32 = ⊥ := by
  simp [Ideal.ofBits, Ideal.ieee]

/-- The pattern of zero. -/
theorem ofBits_zero : Ideal.ofBits .f32 0x00000000#32 = 0 := by
  simp [Ideal.ofBits, Ideal.ieee]

/-- A fold of the maximum from minus infinity is the supremum. -/
theorem fold_max_bot {n : ℕ} (f : ℕ → EReal) :
    (Finset.univ : Finset (Fin n)).fold max (⊥ : EReal) (fun k => f k.val) = (Finset.range n).sup f := by
  have h1 : (Finset.univ : Finset (Fin n)).fold max (⊥ : EReal) (fun k => f k.val)
      = (Finset.univ : Finset (Fin n)).sup fun k => f k.val := rfl
  rw [h1]
  refine le_antisymm (Finset.sup_le fun k _ => Finset.le_sup (f := f) (Finset.mem_range.2 k.isLt)) (Finset.sup_le fun k hk => ?_)
  exact Finset.le_sup (f := fun k : Fin n => f k.val) (Finset.mem_univ (⟨k, Finset.mem_range.1 hk⟩ : Fin n))

/-- Column maxima of a matrix, kept as one row, read at a column. -/
theorem colMax_apply {n : ℕ} (x : FVec Ideal (Sh n 256) .f32) (hr : (Sh n 256).Reduces [0] ⟨1, ![256]⟩)
    (hc : (⟨1, ![256]⟩ : Shape).ShapeCasts (Sh 1 256)) (hφ : FKind.Formats .f32) (hacc) (u : Fin 1) (r : Fin 256) :
    shapeCast (Sh 1 256) (multiReduction .maximumf [0] ⟨1, ![256]⟩ x 0xFF800000#32 hr hφ hacc) hc (ix2 u r)
      = (Finset.range n).sup fun k => nat2 x k r.val := by
  rw [shapeCast_a_1a_apply, Ideal.multiReduction_maximumf_single, Ideal.ofBits_def, ofBits_negInf, ← fold_max_bot]
  congr 1
  funext k
  show x (hr.lift (ix1 r) k) = nat2 x k.val r.val
  rw [nat2_of x k.val r.val k.isLt r.isLt]
  refine congrArg x (funext fun a => ?_)
  match a with
  | ⟨0, _⟩ => rfl
  | ⟨1, _⟩ => rfl

/-- Column sums of a matrix, kept as one row, read at a column. -/
theorem colSum_apply {n : ℕ} (x : FVec Ideal (Sh n 256) .f32) (hr : (Sh n 256).Reduces [0] ⟨1, ![256]⟩)
    (hc : (⟨1, ![256]⟩ : Shape).ShapeCasts (Sh 1 256)) (hφ : FKind.Formats .f32) (hacc) (u : Fin 1) (r : Fin 256) :
    shapeCast (Sh 1 256) (multiReduction .add [0] ⟨1, ![256]⟩ x 0x00000000#32 hr hφ hacc) hc (ix2 u r)
      = ∑ k ∈ Finset.range n, nat2 x k r.val := by
  rw [shapeCast_a_1a_apply, Ideal.multiReduction_add_single, ← Fin.sum_univ_eq_sum_range]
  refine Finset.sum_congr rfl fun k _ => ?_
  show x (hr.lift (ix1 r) k) = nat2 x k.val r.val
  rw [nat2_of x k.val r.val k.isLt r.isLt]
  refine congrArg x (funext fun a => ?_)
  match a with
  | ⟨0, _⟩ => rfl
  | ⟨1, _⟩ => rfl

/-- The facts of shapes a task uses, none of which carries data. -/
structure TaskFacts (n L : ℕ) : Prop where
  sliceD : (Sh L 256).Slices ![n, 0] (Sh 256 256)
  sliceF : (Sh L 256).Slices ![0, 0] (Sh n 256)
  redF : (Sh n 256).Reduces [0] ⟨1, ![256]⟩
  bcF : (Sh 1 256).Broadcasts (Sh n 256)

/-- The same for the shapes every task shares. -/
structure CommonFacts : Prop where
  redD : (Sh 256 256).Reduces [0] ⟨1, ![256]⟩
  castRow : (⟨1, ![256]⟩ : Shape).ShapeCasts (Sh 1 256)
  bcD : (Sh 1 256).Broadcasts (Sh 256 256)
  bcO : (Sh 1 256).Broadcasts (Sh 128 256)
  tr : (Sh 128 256).Transposes [1, 0] (Sh 256 128)
  lt : FTy.bits .bf16 < FTy.bits .f32

/-- The scores of the diagonal block where the mask allows, minus infinity elsewhere. -/
def diagScores {L : ℕ} (n : ℕ) (h : (Sh L 256).Slices ![n, 0] (Sh 256 256)) (cst : EReal)
    (mask : IVec (Sh 256 256) 1) (s : FVec Ideal (Sh L 256) .f32) : FVec Ideal (Sh 256 256) .f32 :=
  select mask (extractStridedSlice (Sh 256 256) ![n, 0] s h) (broadcast (Sh 256 256) cst)

/-- A row of column maxima or sums. -/
def colMax {n : ℕ} (hr : (Sh n 256).Reduces [0] ⟨1, ![256]⟩) (hc : (⟨1, ![256]⟩ : Shape).ShapeCasts (Sh 1 256))
    (x : FVec Ideal (Sh n 256) .f32) : FVec Ideal (Sh 1 256) .f32 :=
  shapeCast (Sh 1 256) (multiReduction .maximumf [0] ⟨1, ![256]⟩ x 0xFF800000#32 hr (.inl rfl) rfl) hc
def colSum {n : ℕ} (hr : (Sh n 256).Reduces [0] ⟨1, ![256]⟩) (hc : (⟨1, ![256]⟩ : Shape).ShapeCasts (Sh 1 256))
    (x : FVec Ideal (Sh n 256) .f32) : FVec Ideal (Sh 1 256) .f32 :=
  shapeCast (Sh 1 256) (multiReduction .add [0] ⟨1, ![256]⟩ x 0x00000000#32 hr (.inl rfl) rfl) hc

theorem colMax_at {n : ℕ} (hr : (Sh n 256).Reduces [0] ⟨1, ![256]⟩) (hc : (⟨1, ![256]⟩ : Shape).ShapeCasts (Sh 1 256))
    (x : FVec Ideal (Sh n 256) .f32) (u : Fin 1) (r : Fin 256) :
    colMax hr hc x (ix2 u r) = (Finset.range n).sup fun k => nat2 x k r.val := colMax_apply x hr hc _ _ u r
theorem colSum_at {n : ℕ} (hr : (Sh n 256).Reduces [0] ⟨1, ![256]⟩) (hc : (⟨1, ![256]⟩ : Shape).ShapeCasts (Sh 1 256))
    (x : FVec Ideal (Sh n 256) .f32) (u : Fin 1) (r : Fin 256) :
    colSum hr hc x (ix2 u r) = ∑ k ∈ Finset.range n, nat2 x k r.val := colSum_apply x hr hc _ _ u r

/-- The weights of a part: base 2 exponentials of the scores less the row of maxima. -/
def expPart {n : ℕ} (hb : (Sh 1 256).Broadcasts (Sh n 256)) (x : FVec Ideal (Sh n 256) .f32) (mx : FVec Ideal (Sh 1 256) .f32) :
    FVec Ideal (Sh n 256) .f32 :=
  exp2 (subf x (broadcastTo (Sh n 256) mx hb))

/-- The values times the weights of a part. -/
def valPart {n : ℕ} (hn : FTy.bits .bf16 < FTy.bits .f32) (v : FVec Ideal (Sh 128 n) .bf16) (e : FVec Ideal (Sh n 256) .f32) :
    FVec Ideal (Sh 128 256) .f32 :=
  matmul (DotDims.plain 128 n 256) none v (truncf .bf16 e hn) (constant (Sh 128 256) .f32 0x00000000#32)

/-- The quotient, queries as rows. -/
def finish (C : CommonFacts) (o : FVec Ideal (Sh 128 256) .f32) (d : FVec Ideal (Sh 1 256) .f32) : FVec Ideal (Sh 256 128) .bf16 :=
  truncf .bf16 (transpose (Sh 256 128) [1, 0] (divf o (broadcastTo (Sh 128 256) d C.bcO)) C.tr) C.lt

/-- A whole task with a full part of `n` keys below the diagonal block. -/
def task {n L : ℕ} (C : CommonFacts) (T : TaskFacts n L) (cst : EReal) (mask : IVec (Sh 256 256) 1) (s : FVec Ideal (Sh L 256) .f32)
    (vd : FVec Ideal (Sh 128 256) .bf16) (vf : FVec Ideal (Sh 128 n) .bf16) : FVec Ideal (Sh 256 128) .bf16 :=
  let sd := diagScores n T.sliceD cst mask s
  let sf := extractStridedSlice (Sh n 256) ![0, 0] s T.sliceF
  let mx := maximumf (colMax C.redD C.castRow sd) (colMax T.redF C.castRow sf)
  let ed := expPart C.bcD sd mx
  let ef := expPart T.bcF sf mx
  finish C (addf (valPart C.lt vd ed) (valPart C.lt vf ef)) (addf (colSum C.redD C.castRow ed) (colSum T.redF C.castRow ef))

/-- The first task, whose diagonal block is all there is. -/
def task0 (C : CommonFacts) (cst : EReal) (mask : IVec (Sh 256 256) 1) (s : FVec Ideal (Sh 256 256) .f32)
    (vd : FVec Ideal (Sh 128 256) .bf16) : FVec Ideal (Sh 256 128) .bf16 :=
  let sd := select mask s (broadcast (Sh 256 256) cst)
  let ed := expPart C.bcD sd (colMax C.redD C.castRow sd)
  finish C (valPart C.lt vd ed) (colSum C.redD C.castRow ed)

theorem expPart_nat2 {n : ℕ} (hb : (Sh 1 256).Broadcasts (Sh n 256)) (x : FVec Ideal (Sh n 256) .f32) (mx : FVec Ideal (Sh 1 256) .f32)
    (k : ℕ) (hk : k < n) (r : Fin 256) :
    nat2 (expPart hb x mx) k r.val = Ideal.exp2 (nat2 x k r.val - mx (ix2 (0 : Fin 1) r)) := by
  rw [nat2_of _ _ _ hk r.isLt, nat2_of _ _ _ hk r.isLt]
  show Ideal.exp2 (x (ix2 _ r) - broadcastTo (Sh n 256) mx hb (ix2 _ r)) = _
  rw [broadcastTo_1b_ab_apply]

theorem valPart_apply {n : ℕ} (hn : FTy.bits .bf16 < FTy.bits .f32) (v : FVec Ideal (Sh 128 n) .bf16) (e : FVec Ideal (Sh n 256) .f32)
    (d : Fin 128) (r : Fin 256) :
    valPart hn v e (ix2 d r) = ∑ k ∈ Finset.range n, nat2 v d.val k * nat2 e k r.val := by
  unfold valPart
  show FloatOps.matmul (DotDims.plain 128 n 256) none v (truncf .bf16 e hn) (constant (Sh 128 256) .f32 0x00000000#32) (ix2 d r) = _
  rw [Ideal.matmul_plain_apply]
  show Ideal.ofBits .f32 0x00000000#32 + _ = _
  rw [ofBits_zero, zero_add, ← Fin.sum_univ_eq_sum_range]
  refine Finset.sum_congr rfl fun k _ => ?_
  rw [nat2_ix2, nat2_ix2]
  rfl

theorem finish_apply (C : CommonFacts) (o : FVec Ideal (Sh 128 256) .f32) (d : FVec Ideal (Sh 1 256) .f32) (r : Fin 256) (c : Fin 128) :
    finish C o d (ix2 r c) = Ideal.div (o (ix2 c r)) (d (ix2 (0 : Fin 1) r)) := by
  unfold finish
  show transpose (Sh 256 128) [1, 0] (divf o (broadcastTo (Sh 128 256) d C.bcO)) C.tr (ix2 r c) = _
  rw [transpose_ix2_apply]
  show Ideal.div (o (ix2 c r)) (broadcastTo (Sh 128 256) d C.bcO (ix2 c r)) = _
  rw [broadcastTo_1b_ab_apply]

/-- The masked diagonal scores at natural coordinates. -/
theorem diagScores_nat2 {n : ℕ} (h : (Sh (n + 256) 256).Slices ![n, 0] (Sh 256 256)) (mask : IVec (Sh 256 256) 1)
    (s : FVec Ideal (Sh (n + 256) 256) .f32) (k r : Fin 256) :
    diagScores n h ⊥ mask s (ix2 k r) = if mask (ix2 k r) = 1#1 then nat2 s (n + k.val) r.val else ⊥ := by
  unfold diagScores
  rw [select_apply, slice2_axis0_apply n s h k r (⟨n + k.val, by omega⟩ : Fin (n + 256)) rfl]
  rw [nat2_of s (n + k.val) r.val (by omega) r.isLt]
  rfl

/-- A task at a query and a value lane is the base 2 softmax average of its row of scores `σ`, where `σ` is the given scores
    below the diagonal block and the masked ones in it. -/
theorem task_apply {n : ℕ} (C : CommonFacts) (T : TaskFacts n (n + 256)) (mask : IVec (Sh 256 256) 1)
    (s : FVec Ideal (Sh (n + 256) 256) .f32) (vd : FVec Ideal (Sh 128 256) .bf16) (vf : FVec Ideal (Sh 128 n) .bf16)
    (r : Fin 256) (c : Fin 128) (σ v : ℕ → EReal)
    (hf : ∀ k : Fin n, σ k.val = nat2 s k.val r.val)
    (hd : ∀ k : Fin 256, σ (n + k.val) = if mask (ix2 k r) = 1#1 then nat2 s (n + k.val) r.val else ⊥)
    (hvf : ∀ k : Fin n, v k.val = vf (ix2 c k)) (hvd : ∀ k : Fin 256, v (n + k.val) = vd (ix2 c k)) :
    task C T ⊥ mask s vd vf (ix2 r c) = average2 (n + 256) σ v := by
  have ef : ∀ k < n, nat2 (extractStridedSlice (Sh n 256) ![0, 0] s T.sliceF) k r.val = σ k := fun k hk => by
    rw [hf ⟨k, hk⟩, nat2_of _ _ _ hk r.isLt,
      slice2_axis0_apply 0 s T.sliceF ⟨k, hk⟩ r (⟨k, by omega⟩ : Fin (n + 256)) (by simp),
      ← nat2_ix2 s]
  have ed : ∀ k < 256, nat2 (diagScores n T.sliceD ⊥ mask s) k r.val = σ (n + k) := fun k hk => by
    rw [hd ⟨k, hk⟩, nat2_of _ _ _ hk r.isLt, diagScores_nat2]
  unfold task average2
  rw [finish_apply]
  set mx := maximumf (colMax C.redD C.castRow (diagScores n T.sliceD ⊥ mask s))
    (colMax T.redF C.castRow (extractStridedSlice (Sh n 256) ![0, 0] s T.sliceF)) with hmx
  have hM : mx (ix2 (0 : Fin 1) r) = (Finset.range (n + 256)).sup σ := by
    rw [hmx, sup_range_add]
    show max (colMax C.redD C.castRow _ (ix2 (0 : Fin 1) r)) (colMax T.redF C.castRow _ (ix2 (0 : Fin 1) r)) = _
    rw [colMax_at, colMax_at]
    refine congrArg₂ max ?_ ?_
    · exact Finset.sup_congr rfl fun k hk => ed k (Finset.mem_range.1 hk)
    · exact Finset.sup_congr rfl fun k hk => ef k (Finset.mem_range.1 hk)
  refine congrArg₂ Ideal.div ?_ ?_
  · show valPart C.lt vd _ (ix2 c r) + valPart C.lt vf _ (ix2 c r) = _
    rw [valPart_apply, valPart_apply, Finset.sum_range_add, add_comm]
    refine congrArg₂ (· + ·) ?_ ?_
    · refine Finset.sum_congr rfl fun k hk => ?_
      have hk := Finset.mem_range.1 hk
      rw [expPart_nat2 _ _ _ k hk, hM, ef k hk, hvf ⟨k, hk⟩, ← nat2_ix2 vf]
    · refine Finset.sum_congr rfl fun k hk => ?_
      have hk := Finset.mem_range.1 hk
      rw [expPart_nat2 _ _ _ k hk, hM, ed k hk, hvd ⟨k, hk⟩, ← nat2_ix2 vd]
  · show colSum C.redD C.castRow _ (ix2 (0 : Fin 1) r) + colSum T.redF C.castRow _ (ix2 (0 : Fin 1) r) = _
    rw [colSum_at, colSum_at, Finset.sum_range_add, add_comm]
    refine congrArg₂ (· + ·) ?_ ?_
    · refine Finset.sum_congr rfl fun k hk => ?_
      have hk := Finset.mem_range.1 hk
      rw [expPart_nat2 _ _ _ k hk, hM, ef k hk]
    · refine Finset.sum_congr rfl fun k hk => ?_
      have hk := Finset.mem_range.1 hk
      rw [expPart_nat2 _ _ _ k hk, hM, ed k hk]

/-- The first task likewise: its row of scores is the masked diagonal block alone. -/
theorem task0_apply (C : CommonFacts) (mask : IVec (Sh 256 256) 1) (s : FVec Ideal (Sh 256 256) .f32) (vd : FVec Ideal (Sh 128 256) .bf16)
    (r : Fin 256) (c : Fin 128) (σ v : ℕ → EReal)
    (hd : ∀ k : Fin 256, σ k.val = if mask (ix2 k r) = 1#1 then nat2 s k.val r.val else ⊥)
    (hvd : ∀ k : Fin 256, v k.val = vd (ix2 c k)) :
    task0 C ⊥ mask s vd (ix2 r c) = average2 256 σ v := by
  have ed : ∀ k < 256, nat2 (select mask s (broadcast (Sh 256 256) (⊥ : EReal))) k r.val = σ k := fun k hk => by
    rw [hd ⟨k, hk⟩, nat2_of _ _ _ hk r.isLt, nat2_of _ _ _ hk r.isLt, select_apply]
    rfl
  unfold task0 average2
  rw [finish_apply]
  set mx := colMax C.redD C.castRow (select mask s (broadcast (Sh 256 256) (⊥ : EReal))) with hmx
  have hM : mx (ix2 (0 : Fin 1) r) = (Finset.range 256).sup σ := by
    rw [hmx]
    rw [colMax_at]
    exact Finset.sup_congr rfl fun k hk => ed k (Finset.mem_range.1 hk)
  refine congrArg₂ Ideal.div ?_ ?_
  · rw [valPart_apply]
    refine Finset.sum_congr rfl fun k hk => ?_
    have hk := Finset.mem_range.1 hk
    rw [expPart_nat2 _ _ _ k hk, hM, ed k hk, hvd ⟨k, hk⟩, ← nat2_ix2 vd]
  · rw [colSum_at]
    refine Finset.sum_congr rfl fun k hk => ?_
    have hk := Finset.mem_range.1 hk
    rw [expPart_nat2 _ _ _ k hk, hM, ed k hk]

end Cert.Attn

end
-- ==== Proof.Mask.lean ====
/- The mask of the diagonal block: a key is allowed where its chunk of 64 is at most the query's. -/
module

public import proofs.«01_k».proof.Proof.Gen.KernelIdeal.Skeleton
public import proofs.«01_k».proof.Proof.Gen.KernelIdeal.Frame
public import proofs.«01_k».proof.Proof.Task

@[expose] public section

noncomputable section

namespace Cert.Attn

open Idealize.ShloMosaic Idealize.ShloMosaic.ValueIdx
open Cert.KernelIdeal Cert.KernelIdeal.Gen

/-- The mask as the kernel computes it. -/
def chunkMask : IVec S256x256 1 :=
  k0_pay10 (iota .tc S256x256 32 [1] iota_S256x256_d1_w32) k0_pay6 64#32 k0_pay7 k0_pay8 k0_pay9

/-- The floor division by 64 spelt with its sign corrections, on one word. -/
def floor64 (b : BitVec 32) : BitVec 32 :=
  Scalar.select
    (Scalar.andi
      (Scalar.cmpi .ne (Scalar.subi (Scalar.extui (Scalar.cmpi .sgt b 0#32)) (Scalar.extui (Scalar.cmpi .slt b 0#32)))
        (Scalar.subi (Scalar.extui (Scalar.cmpi .sgt 64#32 0#32)) (Scalar.extui (Scalar.cmpi .slt 64#32 0#32))))
      (Scalar.cmpi .ne (Scalar.remsi b 64#32) 0#32))
    (Scalar.subi (Scalar.divsi b 64#32) 1#32) (Scalar.divsi b 64#32)

theorem floor64_ofNat : ∀ k : Fin 256, floor64 (BitVec.ofNat 32 k.val) = BitVec.ofNat 32 (k.val / 64) := by
  decide +kernel

theorem sle_chunks : ∀ a b : Fin 4, Scalar.cmpi .sle (BitVec.ofNat 32 a.val) (BitVec.ofNat 32 b.val) = if a.val ≤ b.val then 1#1 else 0#1 := by
  decide +kernel

theorem chunkMask_apply (k r : Fin 256) : chunkMask (ix2 k r) = if k.val / 64 ≤ r.val / 64 then 1#1 else 0#1 := by
  have h : chunkMask (ix2 k r) = Scalar.cmpi .sle (floor64 (iota .tc S256x256 32 [0] iota_S256x256_d0_w32 (ix2 k r)))
      (floor64 (iota .tc S256x256 32 [1] iota_S256x256_d1_w32 (ix2 k r))) := rfl
  rw [h, iota_single_apply, iota_single_apply]
  show Scalar.cmpi .sle (floor64 (BitVec.ofNat 32 k.val)) (floor64 (BitVec.ofNat 32 r.val)) = _
  rw [floor64_ofNat, floor64_ofNat]
  exact sle_chunks ⟨k.val / 64, by omega⟩ ⟨r.val / 64, by omega⟩

/-- The mask read as a condition on natural numbers, for a block at offset `n`, a multiple of 64. -/
theorem chunkMask_iff (n : ℕ) (hn : n % 64 = 0) (k r : Fin 256) : chunkMask (ix2 k r) = 1#1 ↔ (n + k.val) / 64 ≤ (n + r.val) / 64 := by
  rw [chunkMask_apply]
  constructor
  · intro h; split at h
    · omega
    · exact absurd h (by decide)
  · intro h; rw [if_pos (by omega)]

end Cert.Attn

end
-- ==== Proof.Score.lean ====
/- The scores of one task: keys by queries, each the sum of the part without rotary and the part with, over joined lanes. -/
module

public import proofs.«01_k».proof.Proof.Task
public import Idealize.ShloMosaic.Lib.Pipeline.Value
public import Idealize.ShloMosaic.Lib.Pipeline.ValueKit.Geometry

@[expose] public section

noncomputable section

namespace Cert.Attn

open Idealize.ShloMosaic Idealize.ShloMosaic.ValueIdx

/-- A load at a unit rectangle of a matrix, read at an index. -/
theorem ld_unit_nat2 {a b a' b' : ℕ} (x : Vec Ideal (Sh a b) .bf16) (o₀ o₁ : ℕ) (inb) (i : Fin a') (j : Fin b') :
    View.ld x (Rect.unit (s := Sh a b) ![o₀, o₁] (Sh a' b').size inb) (ix2 i j) = nat2 x (o₀ + i.val) (o₁ + j.val) := by
  have h0 : o₀ + a' ≤ a := inb 0
  have h1 : o₁ + b' ≤ b := inb 1
  rw [nat2_of x (o₀ + i.val) (o₁ + j.val) (by omega) (by omega)]
  show x _ = x _
  refine congrArg x (funext fun ax => Fin.ext ?_)
  match ax with
  | ⟨0, _⟩ => exact ValueKit.rect_emb_unit_val _ _ _ _ _
  | ⟨1, _⟩ => exact ValueKit.rect_emb_unit_val _ _ _ _ _

/-- Two 128-lane matrices side by side. -/
def joinLanes {a : ℕ} (h : Shape.Concatenates [Sh a 128, Sh a 128] (Sh a 256) 1) (x y : FVec Ideal (Sh a 128) .bf16) :
    FVec Ideal (Sh a 256) .bf16 :=
  concatenate (Sh a 256) 1 [⟨Sh a 128, x⟩, ⟨Sh a 128, y⟩] h

theorem joinLanes_left {a : ℕ} (h) (x y : FVec Ideal (Sh a 128) .bf16) (i : Fin a) (l : Fin 128) :
    joinLanes h x y (ix2 i (⟨l.val, by omega⟩ : Fin 256)) = x (ix2 i l) := by
  unfold joinLanes
  exact concatenate_pair_apply_left 1 x y h _ rfl (ix2 i l) fun b => match b with | ⟨0, _⟩ => rfl | ⟨1, _⟩ => rfl

theorem joinLanes_right {a : ℕ} (h) (x y : FVec Ideal (Sh a 128) .bf16) (i : Fin a) (l : Fin 128) :
    joinLanes h x y (ix2 i (⟨128 + l.val, by omega⟩ : Fin 256)) = y (ix2 i l) := by
  unfold joinLanes
  refine concatenate_pair_apply_right 1 x y h _ rfl rfl (ix2 i l) (fun b hb => ?_) ?_
  · match b, hb with
    | ⟨0, _⟩, _ => rfl
    | ⟨1, _⟩, hb => exact absurd rfl hb
  · exact Nat.add_comm _ _

/-- The scores of the first `L` keys of `k` against the queries `q`. -/
def scores {M L : ℕ} (h : (Sh M 256).Slices ![0, 0] (Sh L 256)) (k : FVec Ideal (Sh M 256) .bf16) (q : FVec Ideal (Sh 256 256) .bf16) :
    FVec Ideal (Sh L 256) .f32 :=
  matmul (DotDims.transposedRhs L 256 256) none (extractStridedSlice (Sh L 256) ![0, 0] k h) q (constant (Sh L 256) .f32 0x00000000#32)

/-- The same where `k` is taken whole. -/
def scoresAll {M : ℕ} (k : FVec Ideal (Sh M 256) .bf16) (q : FVec Ideal (Sh 256 256) .bf16) : FVec Ideal (Sh M 256) .f32 :=
  matmul (DotDims.transposedRhs M 256 256) none k q (constant (Sh M 256) .f32 0x00000000#32)

theorem scoresAll_apply {M : ℕ} (k : FVec Ideal (Sh M 256) .bf16) (q : FVec Ideal (Sh 256 256) .bf16) (i : Fin M) (r : Fin 256) :
    scoresAll k q (ix2 i r) = ∑ l : Fin 256, k (ix2 i l) * q (ix2 r l) := by
  unfold scoresAll
  show FloatOps.matmul (DotDims.transposedRhs M 256 256) none k q (constant (Sh M 256) .f32 0x00000000#32) (ix2 i r) = _
  rw [Ideal.matmul_transposedRhs_apply]
  show Ideal.ofBits .f32 0x00000000#32 + _ = _
  rw [ofBits_zero, zero_add]

theorem scores_eq_all {M L : ℕ} (h : (Sh M 256).Slices ![0, 0] (Sh L 256)) (k : FVec Ideal (Sh M 256) .bf16)
    (q : FVec Ideal (Sh 256 256) .bf16) (i : Fin L) (hi : i.val < M) (r : Fin 256) :
    scores h k q (ix2 i r) = scoresAll k q (ix2 (⟨i.val, hi⟩ : Fin M) r) := by
  rw [scoresAll_apply]
  unfold scores
  show FloatOps.matmul (DotDims.transposedRhs L 256 256) none _ q (constant (Sh L 256) .f32 0x00000000#32) (ix2 i r) = _
  rw [Ideal.matmul_transposedRhs_apply]
  show Ideal.ofBits .f32 0x00000000#32 + _ = _
  rw [ofBits_zero, zero_add]
  refine Finset.sum_congr rfl fun l _ => ?_
  rw [slice2_axis0_apply 0 k h i l (⟨i.val, hi⟩ : Fin M) (by simp)]

/-- A sum over 256 lanes is the sum over the first 128 and over the other 128. -/
theorem sum_256 (f : Fin 256 → EReal) :
    ∑ l : Fin 256, f l = (∑ l : Fin 128, f ⟨l.val, by omega⟩) + ∑ l : Fin 128, f ⟨128 + l.val, by omega⟩ :=
  Fin.sum_univ_add (a := 128) (b := 128) f

/-- A score of joined keys against joined queries. -/
theorem scoresAll_join {M : ℕ} (h h') (kn kr : FVec Ideal (Sh M 128) .bf16) (qn qr : FVec Ideal (Sh 256 128) .bf16) (i : Fin M) (r : Fin 256) :
    scoresAll (joinLanes h kn kr) (joinLanes h' qn qr) (ix2 i r)
      = (∑ l : Fin 128, kn (ix2 i l) * qn (ix2 r l)) + ∑ l : Fin 128, kr (ix2 i l) * qr (ix2 r l) := by
  rw [scoresAll_apply, sum_256]
  refine congrArg₂ (· + ·) (Finset.sum_congr rfl fun l _ => ?_) (Finset.sum_congr rfl fun l _ => ?_)
  · rw [joinLanes_left, joinLanes_left]
  · rw [joinLanes_right, joinLanes_right]

/-- A score of a block: head `a` of the two in it, query `p`, key `k`. -/
def blockScore (x0 x1 x2 : FVec Ideal (Sh 2048 256) .bf16) (x3 : FVec Ideal (Sh 2048 128) .bf16) (a p k : ℕ) : EReal :=
  (∑ l : Fin 128, nat2 x2 k (128 * a + l.val) * nat2 x0 p (128 * a + l.val))
    + ∑ l : Fin 128, nat2 x3 k l.val * nat2 x1 p (128 * a + l.val)

/-- The row of scores a query sees: keys of a later chunk are at minus infinity. -/
def rowScore (x0 x1 x2 : FVec Ideal (Sh 2048 256) .bf16) (x3 : FVec Ideal (Sh 2048 128) .bf16) (a p k : ℕ) : EReal :=
  if k / 64 ≤ p / 64 then blockScore x0 x1 x2 x3 a p k else ⊥

/-- The attention of a block at query `p` and value lane `w` of the two heads' 256. -/
def blockAttn (x0 x1 x2 : FVec Ideal (Sh 2048 256) .bf16) (x3 : FVec Ideal (Sh 2048 128) .bf16) (x4 : FVec Ideal (Sh 256 2048) .bf16)
    (p w : ℕ) : EReal :=
  average2 2048 (rowScore x0 x1 x2 x3 (w / 128) p) fun k => nat2 x4 w k

end Cert.Attn

end
-- ==== Proof.Pieces.lean ====
/- One piece of the attention's output block: 256 queries and the 128 lanes of one head, over the blocks as loaded. -/
module

public import proofs.«01_k».proof.Proof.Mask
public import proofs.«01_k».proof.Proof.Score

@[expose] public section

noncomputable section

namespace Cert.Attn

open Idealize.ShloMosaic Idealize.ShloMosaic.ValueIdx
open Cert.KernelIdeal Cert.KernelIdeal.Gen

/-- The facts every task shares. -/
theorem common : CommonFacts :=
  ⟨reduces_S256x256_S256, shapeCasts_S256_S1x256, broadcasts_S1x256_S256x256, broadcasts_S1x256_S128x256,
    transposes_S128x256_p1_0_S256x128, bitsLt_bf16_f32⟩

/-- The named mask value is minus infinity. -/
theorem mask_bot : (Named.named (F := Ideal) κ "mask" (0xF149F2CA#32 : BitVec (FTy.bits .f32)) : Ideal .f32) = (⊥ : EReal) :=
  IdealRules.named_const.ideal_named_scalar _ _ _ _ rfl

/-- A rectangle inside a matrix. -/
theorem inb2 {a b a' b' o₀ o₁ : ℕ} (h0 : o₀ + a' ≤ a) (h1 : o₁ + b' ≤ b) :
    ∀ ax : Fin 2, (![o₀, o₁] : Fin 2 → ℕ) ax + (Sh a' b').size ax ≤ (Sh a b).size ax :=
  fun ax => match ax with | ⟨0, _⟩ => h0 | ⟨1, _⟩ => h1

/-- The part of a matrix at an offset, as loaded. -/
def part {a b : ℕ} (a' b' o₀ o₁ : ℕ) (h0 : o₀ + a' ≤ a) (h1 : o₁ + b' ≤ b) (x : Vec Ideal (Sh a b) .bf16) : FVec Ideal (Sh a' b') .bf16 :=
  shapeCast (Sh a' b') (View.ld x (Rect.unit (s := Sh a b) ![o₀, o₁] (Sh a' b').size (inb2 h0 h1))) rfl

theorem part_apply {a b a' b' o₀ o₁ : ℕ} (h0 : o₀ + a' ≤ a) (h1 : o₁ + b' ≤ b) (x : Vec Ideal (Sh a b) .bf16) (i : Fin a') (j : Fin b') :
    part a' b' o₀ o₁ h0 h1 x (ix2 i j) = nat2 x (o₀ + i.val) (o₁ + j.val) := by
  unfold part
  exact (congrFun (shapeCast_self (s := Sh a' b') (View.ld x (Rect.unit (s := Sh a b) ![o₀, o₁] (Sh a' b').size (inb2 h0 h1))) rfl) _).trans
    (ld_unit_nat2 x o₀ o₁ _ i j)

section

variable (x0 x1 x2 : Vec Ideal S2048x256 .bf16) (x3 : Vec Ideal S2048x128 .bf16) (x4 : Vec Ideal S256x2048 .bf16)

/-- The keys of a head: its lanes, then the rotary lanes the heads share. -/
def keysOf (o : ℕ) (ho : o + 128 ≤ 256) : FVec Ideal S2048x256 .bf16 :=
  joinLanes concatenates_S2048x128_S2048x128_S2048x256_d1 (part 2048 128 0 o (by omega) ho x2) (part 2048 128 0 0 (by omega) (by omega) x3)

/-- The queries of a head from row `n`. -/
def queriesOf (n o : ℕ) (hn : n + 256 ≤ 2048) (ho : o + 128 ≤ 256) : FVec Ideal S256x256 .bf16 :=
  joinLanes concatenates_S256x128_S256x128_S256x256_d1 (part 256 128 n o hn ho x0) (part 256 128 n o hn ho x1)

theorem scoresAll_block (a n : ℕ) (ha : 128 * a + 128 ≤ 256) (hn : n + 256 ≤ 2048) (k : Fin 2048) (r : Fin 256) :
    scoresAll (keysOf x2 x3 (128 * a) ha) (queriesOf x0 x1 n (128 * a) hn ha) (ix2 k r) = blockScore x0 x1 x2 x3 a (n + r.val) k.val := by
  unfold keysOf queriesOf blockScore
  rw [scoresAll_join]
  refine congrArg₂ (· + ·) (Finset.sum_congr rfl fun l _ => ?_) (Finset.sum_congr rfl fun l _ => ?_)
  · rw [part_apply, part_apply, Nat.zero_add]
  · rw [part_apply, part_apply, Nat.zero_add, Nat.zero_add]

/-- From scores that are the block's, a task is the block's attention at its rows and lanes. -/
theorem task_block {n : ℕ} (a : ℕ) (ha : 128 * a + 128 ≤ 256) (hn : n + 256 ≤ 2048) (hn64 : n % 64 = 0)
    (T : TaskFacts n (n + 256)) (s : FVec Ideal (Sh (n + 256) 256) .f32)
    (hs : ∀ (k : Fin (n + 256)) (r : Fin 256), s (ix2 k r) = blockScore x0 x1 x2 x3 a (n + r.val) k.val) (r : Fin 256) (c : Fin 128) :
    task common T (Named.named (F := Ideal) κ "mask" (0xF149F2CA#32 : BitVec (FTy.bits .f32)) : Ideal .f32) chunkMask s
        (part 128 256 (128 * a) n ha hn x4) (part 128 n (128 * a) 0 ha (by omega) x4) (ix2 r c)
      = blockAttn x0 x1 x2 x3 x4 (n + r.val) (128 * a + c.val) := by
  have e : (128 * a + c.val) / 128 = a := by omega
  rw [mask_bot]
  unfold blockAttn
  rw [e, average2_of_bot (n + 256) 2048 hn]
  · refine task_apply common T chunkMask s _ _ r c _ _ (fun k => ?_) (fun k => ?_) (fun k => ?_) (fun k => ?_)
    · unfold rowScore
      rw [if_pos (by omega), nat2_of s k.val r.val (by omega) r.isLt, hs]
    · unfold rowScore
      rw [nat2_of s (n + k.val) r.val (by omega) r.isLt, hs]
      exact if_congr (chunkMask_iff n hn64 k r).symm rfl rfl
    · rw [part_apply, Nat.zero_add]
    · rw [part_apply]
  · intro k hk
    unfold rowScore
    rw [if_neg (by omega)]

/-- A piece whose keys are a prefix. -/
theorem piece {n : ℕ} (a o : ℕ) (e : o = 128 * a) (ha : o + 128 ≤ 256) (hn : n + 256 ≤ 2048) (hn64 : n % 64 = 0)
    (T : TaskFacts n (n + 256)) (hsl : S2048x256.Slices ![0, 0] (Sh (n + 256) 256)) (r : Fin 256) (c : Fin 128) :
    task common T (Named.named (F := Ideal) κ "mask" (0xF149F2CA#32 : BitVec (FTy.bits .f32)) : Ideal .f32) chunkMask
        (scores hsl (keysOf x2 x3 o ha) (queriesOf x0 x1 n o hn ha))
        (part 128 256 o n ha hn x4) (part 128 n o 0 ha (by omega) x4) (ix2 r c)
      = blockAttn x0 x1 x2 x3 x4 (n + r.val) (o + c.val) := by
  subst e
  refine task_block x0 x1 x2 x3 x4 a ha hn hn64 T _ (fun k r => ?_) r c
  rw [scores_eq_all hsl _ _ k (by omega) r, scoresAll_block]

/-- The piece whose keys are all 2048. -/
theorem pieceAll (a o : ℕ) (e : o = 128 * a) (ha : o + 128 ≤ 256) (T : TaskFacts 1792 2048) (r : Fin 256) (c : Fin 128) :
    task common T (Named.named (F := Ideal) κ "mask" (0xF149F2CA#32 : BitVec (FTy.bits .f32)) : Ideal .f32) chunkMask
        (scoresAll (keysOf x2 x3 o ha) (queriesOf x0 x1 1792 o (by omega) ha))
        (part 128 256 o 1792 ha (by omega) x4) (part 128 1792 o 0 ha (by omega) x4) (ix2 r c)
      = blockAttn x0 x1 x2 x3 x4 (1792 + r.val) (o + c.val) := by
  subst e
  exact task_block x0 x1 x2 x3 x4 (n := 1792) a ha (by omega) (by omega) T _ (fun k r => scoresAll_block x0 x1 x2 x3 a 1792 ha (by omega) k r) r c

/-- The piece of the first 256 queries, which has the diagonal block only. -/
theorem piece0 (a o : ℕ) (e : o = 128 * a) (ha : o + 128 ≤ 256) (hsl : S2048x256.Slices ![0, 0] (Sh 256 256)) (r : Fin 256) (c : Fin 128) :
    task0 common (Named.named (F := Ideal) κ "mask" (0xF149F2CA#32 : BitVec (FTy.bits .f32)) : Ideal .f32) chunkMask
        (scores hsl (keysOf x2 x3 o ha) (queriesOf x0 x1 0 o (by omega) ha))
        (part 128 256 o 0 ha (by omega) x4) (ix2 r c)
      = blockAttn x0 x1 x2 x3 x4 (0 + r.val) (o + c.val) := by
  subst e
  have e : (128 * a + c.val) / 128 = a := by omega
  rw [mask_bot]
  unfold blockAttn
  rw [e, average2_of_bot 256 2048 (by omega)]
  · refine task0_apply common chunkMask _ _ r c _ _ (fun k => ?_) (fun k => ?_)
    · unfold rowScore
      rw [nat2_of (scores hsl _ _) k.val r.val k.isLt r.isLt, scores_eq_all hsl _ _ _ (by omega) r, scoresAll_block]
      refine if_congr ?_ rfl rfl
      have h := chunkMask_iff 0 rfl k r
      rw [Nat.zero_add, Nat.zero_add] at h
      rw [Nat.zero_add]
      exact h.symm
    · rw [part_apply, Nat.zero_add]
  · intro k hk
    unfold rowScore
    rw [if_neg (by omega)]

end

end Cert.Attn

end
-- ==== Proof.Payloads.lean ====
/- Each of the sixteen pieces the kernel stores in its attention block is the block's attention at that piece's rows and lanes. -/
module

public import proofs.«01_k».proof.Proof.Pieces

@[expose] public section

noncomputable section

namespace Cert.Attn

open Idealize.ShloMosaic Idealize.ShloMosaic.ValueIdx
open Cert.KernelIdeal Cert.KernelIdeal.Gen

variable (x0 x1 x2 : Vec Ideal S2048x256 .bf16) (x3 : Vec Ideal S2048x128 .bf16) (x4 : Vec Ideal S256x2048 .bf16)
  (x5 : Vec Ideal S320x2048 .f32) (x6 x7 x8 : Vec Ideal S64x2048 .f32) (x9 : Vec Ideal S64x11264 .f32)

theorem attn_r0_53 (r : Fin 256) (c : Fin 128) :
    k0_pay1 (k0_pay105 (k0_pay110 x0 x1 x2 x3 x4 x5 x6 x7 x8 x9) (k0_pay119 x0 x1 x2 x3 x4 x5 x6 x7 x8 x9)) (k0_pay106 (View.ld x4 r0_60)) (k0_pay107 (k0_pay110 x0 x1 x2 x3 x4 x5 x6 x7 x8 x9) (k0_pay119 x0 x1 x2 x3 x4 x5 x6 x7 x8 x9)) (ix2 r c)
      = blockAttn x0 x1 x2 x3 x4 (0 + r.val) (128 + c.val) :=
  piece0 x0 x1 x2 x3 x4 1 128 rfl (by decide) slices_S2048x256_o0_0_S256x256 r c

theorem attn_r0_49 (r : Fin 256) (c : Fin 128) :
    k0_pay102 (k0_pay110 x0 x1 x2 x3 x4 x5 x6 x7 x8 x9) (k0_pay92 (k0_pay108 x0 x1 x2 x3 x4 x5 x6 x7 x8 x9) (k0_pay91 (View.ld x0 r0_49)) (View.ld x1 r0_49)) (View.ld x4 r0_58) (ix2 r c)
      = blockAttn x0 x1 x2 x3 x4 (0 + r.val) (0 + c.val) :=
  piece0 x0 x1 x2 x3 x4 0 0 rfl (by decide) slices_S2048x256_o0_0_S256x256 r c

theorem attn_r0_45 (r : Fin 256) (c : Fin 128) :
    k0_pay100 (k0_pay110 x0 x1 x2 x3 x4 x5 x6 x7 x8 x9) (k0_pay87 (k0_pay109 x0 x1 x2 x3 x4 x5 x6 x7 x8 x9) (View.ld x0 r0_45) (View.ld x1 r0_45)) (View.ld x4 r0_59) (View.ld x4 r0_60) (ix2 r c)
      = blockAttn x0 x1 x2 x3 x4 (256 + r.val) (128 + c.val) :=
  piece x0 x1 x2 x3 x4 (n := 256) 1 128 rfl (by decide) (by decide) (by decide) ⟨slices_S512x256_o256_0_S256x256, slices_S512x256_o0_0_S256x256, reduces_S256x256_S256, broadcasts_S1x256_S256x256⟩ slices_S2048x256_o0_0_S512x256 r c

theorem attn_r0_41 (r : Fin 256) (c : Fin 128) :
    k0_pay98 (k0_pay110 x0 x1 x2 x3 x4 x5 x6 x7 x8 x9) (k0_pay80 (k0_pay108 x0 x1 x2 x3 x4 x5 x6 x7 x8 x9) (View.ld x0 r0_41) (View.ld x1 r0_41)) (View.ld x4 r0_57) (View.ld x4 r0_58) (ix2 r c)
      = blockAttn x0 x1 x2 x3 x4 (256 + r.val) (0 + c.val) :=
  piece x0 x1 x2 x3 x4 (n := 256) 0 0 rfl (by decide) (by decide) (by decide) ⟨slices_S512x256_o256_0_S256x256, slices_S512x256_o0_0_S256x256, reduces_S256x256_S256, broadcasts_S1x256_S256x256⟩ slices_S2048x256_o0_0_S512x256 r c

theorem attn_r0_37 (r : Fin 256) (c : Fin 128) :
    k0_pay96 (k0_pay110 x0 x1 x2 x3 x4 x5 x6 x7 x8 x9) (k0_pay72 (k0_pay109 x0 x1 x2 x3 x4 x5 x6 x7 x8 x9) (View.ld x0 r0_37) (View.ld x1 r0_37)) (View.ld x4 r0_54) (View.ld x4 r0_55) (ix2 r c)
      = blockAttn x0 x1 x2 x3 x4 (512 + r.val) (128 + c.val) :=
  piece x0 x1 x2 x3 x4 (n := 512) 1 128 rfl (by decide) (by decide) (by decide) ⟨slices_S768x256_o512_0_S256x256, slices_S768x256_o0_0_S512x256, reduces_S512x256_S256, broadcasts_S1x256_S512x256⟩ slices_S2048x256_o0_0_S768x256 r c

theorem attn_r0_33 (r : Fin 256) (c : Fin 128) :
    k0_pay93 (k0_pay110 x0 x1 x2 x3 x4 x5 x6 x7 x8 x9) (k0_pay62 (k0_pay108 x0 x1 x2 x3 x4 x5 x6 x7 x8 x9) (View.ld x0 r0_33) (View.ld x1 r0_33)) (View.ld x4 r0_50) (View.ld x4 r0_51) (ix2 r c)
      = blockAttn x0 x1 x2 x3 x4 (512 + r.val) (0 + c.val) :=
  piece x0 x1 x2 x3 x4 (n := 512) 0 0 rfl (by decide) (by decide) (by decide) ⟨slices_S768x256_o512_0_S256x256, slices_S768x256_o0_0_S512x256, reduces_S512x256_S256, broadcasts_S1x256_S512x256⟩ slices_S2048x256_o0_0_S768x256 r c

theorem attn_r0_29 (r : Fin 256) (c : Fin 128) :
    k0_pay89 (k0_pay110 x0 x1 x2 x3 x4 x5 x6 x7 x8 x9) (k0_pay118 x0 x1 x2 x3 x4 x5 x6 x7 x8 x9) (k0_pay88 (k0_pay118 x0 x1 x2 x3 x4 x5 x6 x7 x8 x9)) (Named.named κ "mask" 0xF149F2CA#32) (View.ld x4 r0_46) (View.ld x4 r0_47) (ix2 r c)
      = blockAttn x0 x1 x2 x3 x4 (768 + r.val) (128 + c.val) :=
  piece x0 x1 x2 x3 x4 (n := 768) 1 128 rfl (by decide) (by decide) (by decide) ⟨slices_S1024x256_o768_0_S256x256, slices_S1024x256_o0_0_S768x256, reduces_S768x256_S256, broadcasts_S1x256_S768x256⟩ slices_S2048x256_o0_0_S1024x256 r c

theorem attn_r0_25 (r : Fin 256) (c : Fin 128) :
    k0_pay85 (k0_pay81 (k0_pay110 x0 x1 x2 x3 x4 x5 x6 x7 x8 x9) (k0_pay117 x0 x1 x2 x3 x4 x5 x6 x7 x8 x9)) (k0_pay82 (k0_pay110 x0 x1 x2 x3 x4 x5 x6 x7 x8 x9) (k0_pay117 x0 x1 x2 x3 x4 x5 x6 x7 x8 x9)) (k0_pay83 (k0_pay117 x0 x1 x2 x3 x4 x5 x6 x7 x8 x9)) (k0_pay84 (k0_pay117 x0 x1 x2 x3 x4 x5 x6 x7 x8 x9)) (View.ld x4 r0_42) (View.ld x4 r0_43) (ix2 r c)
      = blockAttn x0 x1 x2 x3 x4 (768 + r.val) (0 + c.val) :=
  piece x0 x1 x2 x3 x4 (n := 768) 0 0 rfl (by decide) (by decide) (by decide) ⟨slices_S1024x256_o768_0_S256x256, slices_S1024x256_o0_0_S768x256, reduces_S768x256_S256, broadcasts_S1x256_S768x256⟩ slices_S2048x256_o0_0_S1024x256 r c

theorem attn_r0_21 (r : Fin 256) (c : Fin 128) :
    k0_pay78 (k0_pay74 (k0_pay116 x0 x1 x2 x3 x4 x5 x6 x7 x8 x9)) (k0_pay75 (k0_pay110 x0 x1 x2 x3 x4 x5 x6 x7 x8 x9) (k0_pay116 x0 x1 x2 x3 x4 x5 x6 x7 x8 x9)) (k0_pay76 (k0_pay110 x0 x1 x2 x3 x4 x5 x6 x7 x8 x9) (k0_pay116 x0 x1 x2 x3 x4 x5 x6 x7 x8 x9)) (k0_pay77 (k0_pay110 x0 x1 x2 x3 x4 x5 x6 x7 x8 x9) (k0_pay116 x0 x1 x2 x3 x4 x5 x6 x7 x8 x9)) (View.ld x4 r0_38) (View.ld x4 r0_39) (ix2 r c)
      = blockAttn x0 x1 x2 x3 x4 (1024 + r.val) (128 + c.val) :=
  piece x0 x1 x2 x3 x4 (n := 1024) 1 128 rfl (by decide) (by decide) (by decide) ⟨slices_S1280x256_o1024_0_S256x256, slices_S1280x256_o0_0_S1024x256, reduces_S1024x256_S256, broadcasts_S1x256_S1024x256⟩ slices_S2048x256_o0_0_S1280x256 r c

theorem attn_r0_17 (r : Fin 256) (c : Fin 128) :
    k0_pay70 (k0_pay67 (k0_pay110 x0 x1 x2 x3 x4 x5 x6 x7 x8 x9) (k0_pay115 x0 x1 x2 x3 x4 x5 x6 x7 x8 x9)) (k0_pay68 (k0_pay110 x0 x1 x2 x3 x4 x5 x6 x7 x8 x9) (k0_pay115 x0 x1 x2 x3 x4 x5 x6 x7 x8 x9) (View.ld x4 r0_34)) (k0_pay69 (k0_pay110 x0 x1 x2 x3 x4 x5 x6 x7 x8 x9) (k0_pay115 x0 x1 x2 x3 x4 x5 x6 x7 x8 x9)) (View.ld x4 r0_35) (ix2 r c)
      = blockAttn x0 x1 x2 x3 x4 (1024 + r.val) (0 + c.val) :=
  piece x0 x1 x2 x3 x4 (n := 1024) 0 0 rfl (by decide) (by decide) (by decide) ⟨slices_S1280x256_o1024_0_S256x256, slices_S1280x256_o0_0_S1024x256, reduces_S1024x256_S256, broadcasts_S1x256_S1024x256⟩ slices_S2048x256_o0_0_S1280x256 r c

theorem attn_r0_12 (r : Fin 256) (c : Fin 128) :
    k0_pay60 (k0_pay55 (k0_pay110 x0 x1 x2 x3 x4 x5 x6 x7 x8 x9) (k0_pay114 x0 x1 x2 x3 x4 x5 x6 x7 x8 x9) (View.ld x4 r0_30)) (k0_pay57 (k0_pay110 x0 x1 x2 x3 x4 x5 x6 x7 x8 x9) (k0_pay114 x0 x1 x2 x3 x4 x5 x6 x7 x8 x9)) (k0_pay58 (View.ld x4 r0_31)) (k0_pay59 (k0_pay110 x0 x1 x2 x3 x4 x5 x6 x7 x8 x9) (k0_pay114 x0 x1 x2 x3 x4 x5 x6 x7 x8 x9)) (constant S128x256 .f32 0x00000000#32) (ix2 r c)
      = blockAttn x0 x1 x2 x3 x4 (1280 + r.val) (128 + c.val) :=
  piece x0 x1 x2 x3 x4 (n := 1280) 1 128 rfl (by decide) (by decide) (by decide) ⟨slices_S1536x256_o1280_0_S256x256, slices_S1536x256_o0_0_S1280x256, reduces_S1280x256_S256, broadcasts_S1x256_S1280x256⟩ slices_S2048x256_o0_0_S1536x256 r c

theorem attn_r0_7 (r : Fin 256) (c : Fin 128) :
    k0_pay48 (k0_pay110 x0 x1 x2 x3 x4 x5 x6 x7 x8 x9) (k0_pay16 (k0_pay108 x0 x1 x2 x3 x4 x5 x6 x7 x8 x9) (View.ld x0 r0_7) (View.ld x1 r0_7)) (View.ld x4 r0_26) (View.ld x4 r0_27) (ix2 r c)
      = blockAttn x0 x1 x2 x3 x4 (1280 + r.val) (0 + c.val) :=
  piece x0 x1 x2 x3 x4 (n := 1280) 0 0 rfl (by decide) (by decide) (by decide) ⟨slices_S1536x256_o1280_0_S256x256, slices_S1536x256_o0_0_S1280x256, reduces_S1280x256_S256, broadcasts_S1x256_S1280x256⟩ slices_S2048x256_o0_0_S1536x256 r c

theorem attn_r0_6 (r : Fin 256) (c : Fin 128) :
    k0_pay45 (k0_pay110 x0 x1 x2 x3 x4 x5 x6 x7 x8 x9) (k0_pay15 (k0_pay109 x0 x1 x2 x3 x4 x5 x6 x7 x8 x9) (k0_pay14 (View.ld x0 r0_6)) (View.ld x1 r0_6)) (View.ld x4 r0_22) (View.ld x4 r0_23) (ix2 r c)
      = blockAttn x0 x1 x2 x3 x4 (1536 + r.val) (128 + c.val) :=
  piece x0 x1 x2 x3 x4 (n := 1536) 1 128 rfl (by decide) (by decide) (by decide) ⟨slices_S1792x256_o1536_0_S256x256, slices_S1792x256_o0_0_S1536x256, reduces_S1536x256_S256, broadcasts_S1x256_S1536x256⟩ slices_S2048x256_o0_0_S1792x256 r c

theorem attn_r0_5 (r : Fin 256) (c : Fin 128) :
    k0_pay40 (k0_pay113 x0 x1 x2 x3 x4 x5 x6 x7 x8 x9) (k0_pay39 (k0_pay110 x0 x1 x2 x3 x4 x5 x6 x7 x8 x9) (k0_pay113 x0 x1 x2 x3 x4 x5 x6 x7 x8 x9)) (View.ld x4 r0_18) (View.ld x4 r0_19) (ix2 r c)
      = blockAttn x0 x1 x2 x3 x4 (1536 + r.val) (0 + c.val) :=
  piece x0 x1 x2 x3 x4 (n := 1536) 0 0 rfl (by decide) (by decide) (by decide) ⟨slices_S1792x256_o1536_0_S256x256, slices_S1792x256_o0_0_S1536x256, reduces_S1536x256_S256, broadcasts_S1x256_S1536x256⟩ slices_S2048x256_o0_0_S1792x256 r c

theorem attn_r0_4 (r : Fin 256) (c : Fin 128) :
    k0_pay35 (k0_pay29 (k0_pay112 x0 x1 x2 x3 x4 x5 x6 x7 x8 x9)) (k0_pay30 (k0_pay110 x0 x1 x2 x3 x4 x5 x6 x7 x8 x9) (k0_pay112 x0 x1 x2 x3 x4 x5 x6 x7 x8 x9)) (k0_pay32 (k0_pay110 x0 x1 x2 x3 x4 x5 x6 x7 x8 x9) (k0_pay112 x0 x1 x2 x3 x4 x5 x6 x7 x8 x9)) (k0_pay33 (View.ld x4 r0_13)) (k0_pay34 (k0_pay110 x0 x1 x2 x3 x4 x5 x6 x7 x8 x9) (k0_pay112 x0 x1 x2 x3 x4 x5 x6 x7 x8 x9)) (View.ld x4 r0_14) (ix2 r c)
      = blockAttn x0 x1 x2 x3 x4 (1792 + r.val) (128 + c.val) :=
  pieceAll x0 x1 x2 x3 x4 1 128 rfl (by decide) ⟨slices_S2048x256_o1792_0_S256x256, slices_S2048x256_o0_0_S1792x256, reduces_S1792x256_S256, broadcasts_S1x256_S1792x256⟩ r c

theorem attn_r0_3 (r : Fin 256) (c : Fin 128) :
    k0_pay24 (k0_pay22 (k0_pay110 x0 x1 x2 x3 x4 x5 x6 x7 x8 x9) (k0_pay111 x0 x1 x2 x3 x4 x5 x6 x7 x8 x9) (View.ld x4 r0_8) (View.ld x4 r0_9)) (k0_pay23 (k0_pay110 x0 x1 x2 x3 x4 x5 x6 x7 x8 x9) (k0_pay111 x0 x1 x2 x3 x4 x5 x6 x7 x8 x9)) (ix2 r c)
      = blockAttn x0 x1 x2 x3 x4 (1792 + r.val) (0 + c.val) :=
  pieceAll x0 x1 x2 x3 x4 0 0 rfl (by decide) ⟨slices_S2048x256_o1792_0_S256x256, slices_S2048x256_o0_0_S1792x256, reduces_S1792x256_S256, broadcasts_S1x256_S1792x256⟩ r c

end Cert.Attn

end
-- ==== Proof.Block.lean ====
/- What one grid point leaves in each output block: the attention of the block, and the weight slabs unchanged. -/
module

public import proofs.«01_k».proof.Proof.Payloads

@[expose] public section

noncomputable section

namespace Cert.Attn

open Idealize.ShloMosaic Idealize.ShloMosaic.ValueIdx
open Cert.KernelIdeal Cert.KernelIdeal.Gen

/-- A piece given at its rows and lanes is the whole function at the piece's place. -/
theorem piece_emb {a b a' b' : ℕ} (o₀ o₁ : ℕ) (inb) (G : ℕ → ℕ → EReal) (P : (Sh a' b').Idx → EReal)
    (h : ∀ (i : Fin a') (j : Fin b'), P (ix2 i j) = G (o₀ + i.val) (o₁ + j.val)) (x : (Sh a' b').Idx) :
    P x = (fun y : (Sh a b).Idx => G (y 0).val (y 1).val) ((Rect.unit (s := Sh a b) ![o₀, o₁] (Sh a' b').size inb).emb x) := by
  show P x = G ((Rect.unit (s := Sh a b) ![o₀, o₁] (Sh a' b').size inb).emb x 0).val ((Rect.unit (s := Sh a b) ![o₀, o₁] (Sh a' b').size inb).emb x 1).val
  rw [ValueKit.rect_emb_unit_val, ValueKit.rect_emb_unit_val]
  show P x = G (o₀ + (x 0).val) (o₁ + (x 1).val)
  conv_lhs => rw [eq_ix2 x]
  exact h (x 0) (x 1)

variable (x0 x1 x2 : Vec Ideal S2048x256 .bf16) (x3 : Vec Ideal S2048x128 .bf16) (x4 : Vec Ideal S256x2048 .bf16)
  (x5 : Vec Ideal S320x2048 .f32) (x6 x7 x8 : Vec Ideal S64x2048 .f32) (x9 : Vec Ideal S64x11264 .f32)

/-- The attention block. -/
theorem out10_apply (y : S2048x256.Idx) :
    out0_10 x0 x1 x2 x3 x4 x5 x6 x7 x8 x9 y = blockAttn x0 x1 x2 x3 x4 (y 0).val (y 1).val := by
  unfold out0_10
  refine View.canon_apply_of_pieces (Val := Elt Ideal) (e := .bf16) (fun y : S2048x256.Idx => blockAttn x0 x1 x2 x3 x4 (y 0).val (y 1).val) _ ?_ y (cover0_10 _ _ _ _ _ _ _ _ _ _ _ _ _ _ _ _ y)
  simp only [List.forall_mem_cons]
  refine ⟨?_, ?_, ?_, ?_, ?_, ?_, ?_, ?_, ?_, ?_, ?_, ?_, ?_, ?_, ?_, ?_, fun p hp => absurd hp (List.not_mem_nil)⟩
  · exact fun z => piece_emb 0 128 _ (blockAttn x0 x1 x2 x3 x4) _ (attn_r0_53 x0 x1 x2 x3 x4 x5 x6 x7 x8 x9) z
  · exact fun z => piece_emb 0 0 _ (blockAttn x0 x1 x2 x3 x4) _ (attn_r0_49 x0 x1 x2 x3 x4 x5 x6 x7 x8 x9) z
  · exact fun z => piece_emb 256 128 _ (blockAttn x0 x1 x2 x3 x4) _ (attn_r0_45 x0 x1 x2 x3 x4 x5 x6 x7 x8 x9) z
  · exact fun z => piece_emb 256 0 _ (blockAttn x0 x1 x2 x3 x4) _ (attn_r0_41 x0 x1 x2 x3 x4 x5 x6 x7 x8 x9) z
  · exact fun z => piece_emb 512 128 _ (blockAttn x0 x1 x2 x3 x4) _ (attn_r0_37 x0 x1 x2 x3 x4 x5 x6 x7 x8 x9) z
  · exact fun z => piece_emb 512 0 _ (blockAttn x0 x1 x2 x3 x4) _ (attn_r0_33 x0 x1 x2 x3 x4 x5 x6 x7 x8 x9) z
  · exact fun z => piece_emb 768 128 _ (blockAttn x0 x1 x2 x3 x4) _ (attn_r0_29 x0 x1 x2 x3 x4 x5 x6 x7 x8 x9) z
  · exact fun z => piece_emb 768 0 _ (blockAttn x0 x1 x2 x3 x4) _ (attn_r0_25 x0 x1 x2 x3 x4 x5 x6 x7 x8 x9) z
  · exact fun z => piece_emb 1024 128 _ (blockAttn x0 x1 x2 x3 x4) _ (attn_r0_21 x0 x1 x2 x3 x4 x5 x6 x7 x8 x9) z
  · exact fun z => piece_emb 1024 0 _ (blockAttn x0 x1 x2 x3 x4) _ (attn_r0_17 x0 x1 x2 x3 x4 x5 x6 x7 x8 x9) z
  · exact fun z => piece_emb 1280 128 _ (blockAttn x0 x1 x2 x3 x4) _ (attn_r0_12 x0 x1 x2 x3 x4 x5 x6 x7 x8 x9) z
  · exact fun z => piece_emb 1280 0 _ (blockAttn x0 x1 x2 x3 x4) _ (attn_r0_7 x0 x1 x2 x3 x4 x5 x6 x7 x8 x9) z
  · exact fun z => piece_emb 1536 128 _ (blockAttn x0 x1 x2 x3 x4) _ (attn_r0_6 x0 x1 x2 x3 x4 x5 x6 x7 x8 x9) z
  · exact fun z => piece_emb 1536 0 _ (blockAttn x0 x1 x2 x3 x4) _ (attn_r0_5 x0 x1 x2 x3 x4 x5 x6 x7 x8 x9) z
  · exact fun z => piece_emb 1792 128 _ (blockAttn x0 x1 x2 x3 x4) _ (attn_r0_4 x0 x1 x2 x3 x4 x5 x6 x7 x8 x9) z
  · exact fun z => piece_emb 1792 0 _ (blockAttn x0 x1 x2 x3 x4) _ (attn_r0_3 x0 x1 x2 x3 x4 x5 x6 x7 x8 x9) z

/-- A stored part of weights is the loaded part, cast. -/
theorem pay90_eq (v : Vec Ideal S32x2048 .f32) (z : S32x2048.Idx) : k0_pay90 v z = v z :=
  congrFun (shapeCast_self v shapeCasts_S32x2048_S32x2048) z

/-- A stored part of weights is the loaded part, cast. -/
theorem pay86_eq (v : Vec Ideal S32x2048 .f32) (z : S32x2048.Idx) : k0_pay86 v z = v z :=
  congrFun (shapeCast_self v shapeCasts_S32x2048_S32x2048) z

/-- A stored part of weights is the loaded part, cast. -/
theorem pay79_eq (v : Vec Ideal S32x2048 .f32) (z : S32x2048.Idx) : k0_pay79 v z = v z :=
  congrFun (shapeCast_self v shapeCasts_S32x2048_S32x2048) z

/-- A stored part of weights is the loaded part, cast. -/
theorem pay71_eq (v : Vec Ideal S32x2048 .f32) (z : S32x2048.Idx) : k0_pay71 v z = v z :=
  congrFun (shapeCast_self v shapeCasts_S32x2048_S32x2048) z

/-- A stored part of weights is the loaded part, cast. -/
theorem pay61_eq (v : Vec Ideal S32x2048 .f32) (z : S32x2048.Idx) : k0_pay61 v z = v z :=
  congrFun (shapeCast_self v shapeCasts_S32x2048_S32x2048) z

/-- A stored part of weights is the loaded part, cast. -/
theorem pay49_eq (v : Vec Ideal S32x2048 .f32) (z : S32x2048.Idx) : k0_pay49 v z = v z :=
  congrFun (shapeCast_self v shapeCasts_S32x2048_S32x2048) z

/-- A stored part of weights is the loaded part, cast. -/
theorem pay46_eq (v : Vec Ideal S32x2048 .f32) (z : S32x2048.Idx) : k0_pay46 v z = v z :=
  congrFun (shapeCast_self v shapeCasts_S32x2048_S32x2048) z

/-- A stored part of weights is the loaded part, cast. -/
theorem pay41_eq (v : Vec Ideal S32x2048 .f32) (z : S32x2048.Idx) : k0_pay41 v z = v z :=
  congrFun (shapeCast_self v shapeCasts_S32x2048_S32x2048) z

/-- A stored part of weights is the loaded part, cast. -/
theorem pay36_eq (v : Vec Ideal S32x2048 .f32) (z : S32x2048.Idx) : k0_pay36 v z = v z :=
  congrFun (shapeCast_self v shapeCasts_S32x2048_S32x2048) z

/-- A stored part of weights is the loaded part, cast. -/
theorem pay25_eq (v : Vec Ideal S32x2048 .f32) (z : S32x2048.Idx) : k0_pay25 v z = v z :=
  congrFun (shapeCast_self v shapeCasts_S32x2048_S32x2048) z

/-- A stored part of weights is the loaded part, cast. -/
theorem pay97_eq (v : Vec Ideal S32x2048 .f32) (z : S32x2048.Idx) : k0_pay97 v z = v z :=
  congrFun (shapeCast_self v shapeCasts_S32x2048_S32x2048) z

/-- A stored part of weights is the loaded part, cast. -/
theorem pay94_eq (v : Vec Ideal S32x2048 .f32) (z : S32x2048.Idx) : k0_pay94 v z = v z :=
  congrFun (shapeCast_self v shapeCasts_S32x2048_S32x2048) z

/-- A stored part of weights is the loaded part, cast. -/
theorem pay101_eq (v : Vec Ideal S32x2048 .f32) (z : S32x2048.Idx) : k0_pay101 v z = v z :=
  congrFun (shapeCast_self v shapeCasts_S32x2048_S32x2048) z

/-- A stored part of weights is the loaded part, cast. -/
theorem pay99_eq (v : Vec Ideal S32x2048 .f32) (z : S32x2048.Idx) : k0_pay99 v z = v z :=
  congrFun (shapeCast_self v shapeCasts_S32x2048_S32x2048) z

/-- A stored part of weights is the loaded part, cast. -/
theorem pay2_eq (v : Vec Ideal S32x2048 .f32) (z : S32x2048.Idx) : k0_pay2 v z = v z :=
  congrFun (shapeCast_self v shapeCasts_S32x2048_S32x2048) z

/-- A stored part of weights is the loaded part, cast. -/
theorem pay103_eq (v : Vec Ideal S32x2048 .f32) (z : S32x2048.Idx) : k0_pay103 v z = v z :=
  congrFun (shapeCast_self v shapeCasts_S32x2048_S32x2048) z

/-- A stored part of weights is the loaded part, cast. -/
theorem pay37_eq (v : Vec Ideal S32x11264 .f32) (z : S32x11264.Idx) : k0_pay37 v z = v z :=
  congrFun (shapeCast_self v shapeCasts_S32x11264_S32x11264) z

/-- A stored part of weights is the loaded part, cast. -/
theorem pay26_eq (v : Vec Ideal S32x11264 .f32) (z : S32x11264.Idx) : k0_pay26 v z = v z :=
  congrFun (shapeCast_self v shapeCasts_S32x11264_S32x11264) z

/-- The weight slab of window 11, cast and unchanged over the reals. -/
theorem out11_apply (y : S320x2048.Idx) : out0_11 x0 x1 x2 x3 x4 x5 x6 x7 x8 x9 y = x5 y := by
  unfold out0_11
  refine View.canon_apply_of_pieces (Val := Elt Ideal) (e := .bf16) x5 _ ?_ y (cover0_11 _ _ _ _ _ _ _ _ _ _ y)
  simp only [List.forall_mem_cons]
  exact ⟨fun z => pay90_eq _ z, fun z => pay86_eq _ z, fun z => pay79_eq _ z, fun z => pay71_eq _ z, fun z => pay61_eq _ z, fun z => pay49_eq _ z, fun z => pay46_eq _ z, fun z => pay41_eq _ z, fun z => pay36_eq _ z, fun z => pay25_eq _ z, fun p hp => absurd hp (List.not_mem_nil)⟩

/-- The weight slab of window 12, cast and unchanged over the reals. -/
theorem out12_apply (y : S64x2048.Idx) : out0_12 x0 x1 x2 x3 x4 x5 x6 x7 x8 x9 y = x6 y := by
  unfold out0_12
  refine View.canon_apply_of_pieces (Val := Elt Ideal) (e := .bf16) x6 _ ?_ y (cover0_12 _ _ y)
  simp only [List.forall_mem_cons]
  exact ⟨fun z => pay97_eq _ z, fun z => pay94_eq _ z, fun p hp => absurd hp (List.not_mem_nil)⟩

/-- The weight slab of window 13, cast and unchanged over the reals. -/
theorem out13_apply (y : S64x2048.Idx) : out0_13 x0 x1 x2 x3 x4 x5 x6 x7 x8 x9 y = x7 y := by
  unfold out0_13
  refine View.canon_apply_of_pieces (Val := Elt Ideal) (e := .bf16) x7 _ ?_ y (cover0_13 _ _ y)
  simp only [List.forall_mem_cons]
  exact ⟨fun z => pay101_eq _ z, fun z => pay99_eq _ z, fun p hp => absurd hp (List.not_mem_nil)⟩

/-- The weight slab of window 14, cast and unchanged over the reals. -/
theorem out14_apply (y : S64x2048.Idx) : out0_14 x0 x1 x2 x3 x4 x5 x6 x7 x8 x9 y = x8 y := by
  unfold out0_14
  refine View.canon_apply_of_pieces (Val := Elt Ideal) (e := .bf16) x8 _ ?_ y (cover0_14 _ _ y)
  simp only [List.forall_mem_cons]
  exact ⟨fun z => pay2_eq _ z, fun z => pay103_eq _ z, fun p hp => absurd hp (List.not_mem_nil)⟩

/-- The weight slab of window 15, cast and unchanged over the reals. -/
theorem out15_apply (y : S64x11264.Idx) : out0_15 x0 x1 x2 x3 x4 x5 x6 x7 x8 x9 y = x9 y := by
  unfold out0_15
  refine View.canon_apply_of_pieces (Val := Elt Ideal) (e := .bf16) x9 _ ?_ y (cover0_15 _ _ y)
  simp only [List.forall_mem_cons]
  exact ⟨fun z => pay37_eq _ z, fun z => pay26_eq _ z, fun p hp => absurd hp (List.not_mem_nil)⟩

end Cert.Attn

end
-- ==== Proof.Arrays.lean ====
/- The blocks of the grid's points at coordinates, and each output array after the run as one function of the arrays the
   call reads. -/
module

public import proofs.«01_k».proof.Proof.Block
public import proofs.«01_k».proof.Proof.Gen.KernelIdeal.Value
public import Idealize.ShloMosaic.Lib.Pipeline.ValueKit.Geometry

@[expose] public section

noncomputable section

namespace Cert.Attn

open Idealize.ShloMosaic Idealize.ShloMosaic.ValueIdx Idealize.ShloMosaic.TcCoe
open Cert.KernelIdeal Cert.KernelIdeal.Gen

variable (m : (ℓ : Loc nD τ sig) → Buf (Elt Ideal) ℓ) (c : Dev nD)

/-! ## The index maps, point by point -/

theorem idx0 : ∀ t : Fin cfg0.N, win0_0.index t = ![t.val / 8, t.val % 8] :=
  (by decide +kernel : ∀ t : Fin grid0.N, win0_0.index t = ![t.val / 8, t.val % 8])
theorem idx1 : ∀ t : Fin cfg0.N, win0_1.index t = ![t.val / 8, t.val % 8] :=
  (by decide +kernel : ∀ t : Fin grid0.N, win0_1.index t = ![t.val / 8, t.val % 8])
theorem idx2 : ∀ t : Fin cfg0.N, win0_2.index t = ![t.val / 8, t.val % 8] :=
  (by decide +kernel : ∀ t : Fin grid0.N, win0_2.index t = ![t.val / 8, t.val % 8])
theorem idx10 : ∀ t : Fin cfg0.N, win0_10.index t = ![t.val / 8, t.val % 8] :=
  (by decide +kernel : ∀ t : Fin grid0.N, win0_10.index t = ![t.val / 8, t.val % 8])
theorem idx3 : ∀ t : Fin cfg0.N, win0_3.index t = ![t.val / 8, 0] :=
  (by decide +kernel : ∀ t : Fin grid0.N, win0_3.index t = ![t.val / 8, 0])
theorem idx4 : ∀ t : Fin cfg0.N, win0_4.index t = ![t.val % 8, t.val / 8] :=
  (by decide +kernel : ∀ t : Fin grid0.N, win0_4.index t = ![t.val % 8, t.val / 8])
theorem idx5 : ∀ t : Fin cfg0.N, win0_5.index t = ![1088 + 320 * t.val, 0] :=
  (by decide +kernel : ∀ t : Fin grid0.N, win0_5.index t = ![1088 + 320 * t.val, 0])
theorem idx6 : ∀ t : Fin cfg0.N, win0_6.index t = ![64 * t.val, 0] :=
  (by decide +kernel : ∀ t : Fin grid0.N, win0_6.index t = ![64 * t.val, 0])
theorem idx7 : ∀ t : Fin cfg0.N, win0_7.index t = ![64 * t.val, 0] :=
  (by decide +kernel : ∀ t : Fin grid0.N, win0_7.index t = ![64 * t.val, 0])
theorem idx8 : ∀ t : Fin cfg0.N, win0_8.index t = ![64 * t.val, 0] :=
  (by decide +kernel : ∀ t : Fin grid0.N, win0_8.index t = ![64 * t.val, 0])
theorem idx9 : ∀ t : Fin cfg0.N, win0_9.index t = ![64 * t.val, 0] :=
  (by decide +kernel : ∀ t : Fin grid0.N, win0_9.index t = ![64 * t.val, 0])
theorem idx11 : ∀ t : Fin cfg0.N, win0_11.index t = ![t.val, 0] :=
  (by decide +kernel : ∀ t : Fin grid0.N, win0_11.index t = ![t.val, 0])
theorem idx12 : ∀ t : Fin cfg0.N, win0_12.index t = ![t.val, 0] :=
  (by decide +kernel : ∀ t : Fin grid0.N, win0_12.index t = ![t.val, 0])
theorem idx13 : ∀ t : Fin cfg0.N, win0_13.index t = ![t.val, 0] :=
  (by decide +kernel : ∀ t : Fin grid0.N, win0_13.index t = ![t.val, 0])
theorem idx14 : ∀ t : Fin cfg0.N, win0_14.index t = ![t.val, 0] :=
  (by decide +kernel : ∀ t : Fin grid0.N, win0_14.index t = ![t.val, 0])
theorem idx15 : ∀ t : Fin cfg0.N, win0_15.index t = ![t.val, 0] :=
  (by decide +kernel : ∀ t : Fin grid0.N, win0_15.index t = ![t.val, 0])

/-! ## The input blocks at coordinates -/

/-- Block `t` of window 0, in the array. -/
theorem blk0 (t : Fin cfg0.N) (p w : ℕ) (hp : p < 2048) (hw : w < 256) :
    nat2 (a := 2048) (b := 256) (iblk m c 0 t) p w
      = nat2 (a := 8192) (b := 2048) (V m c main_v5) (2048 * (t.val / 8) + p) (256 * (t.val % 8) + w) := by
  have ht : t.val < 32 := t.isLt
  rw [nat2_of _ p w hp hw, nat2_of _ _ _ (by omega) (by omega)]
  blk_simp [iblk]
  refine congrArg (V m c main_v5) ?_
  blk_ext [idx0]

/-- Block `t` of window 1, in the array. -/
theorem blk1 (t : Fin cfg0.N) (p w : ℕ) (hp : p < 2048) (hw : w < 256) :
    nat2 (a := 2048) (b := 256) (iblk m c 1 t) p w
      = nat2 (a := 8192) (b := 2048) (V m c main_v10) (2048 * (t.val / 8) + p) (256 * (t.val % 8) + w) := by
  have ht : t.val < 32 := t.isLt
  rw [nat2_of _ p w hp hw, nat2_of _ _ _ (by omega) (by omega)]
  blk_simp [iblk]
  refine congrArg (V m c main_v10) ?_
  blk_ext [idx1]

/-- Block `t` of window 2, in the array. -/
theorem blk2 (t : Fin cfg0.N) (p w : ℕ) (hp : p < 2048) (hw : w < 256) :
    nat2 (a := 2048) (b := 256) (iblk m c 2 t) p w
      = nat2 (a := 8192) (b := 2048) (V m c main_v12) (2048 * (t.val / 8) + p) (256 * (t.val % 8) + w) := by
  have ht : t.val < 32 := t.isLt
  rw [nat2_of _ p w hp hw, nat2_of _ _ _ (by omega) (by omega)]
  blk_simp [iblk]
  refine congrArg (V m c main_v12) ?_
  blk_ext [idx2]

/-- Block `t` of window 3, in the array. -/
theorem blk3 (t : Fin cfg0.N) (p w : ℕ) (hp : p < 2048) (hw : w < 128) :
    nat2 (a := 2048) (b := 128) (iblk m c 3 t) p w
      = nat2 (a := 8192) (b := 128) (V m c main_v15) (2048 * (t.val / 8) + p) (w) := by
  have ht : t.val < 32 := t.isLt
  rw [nat2_of _ p w hp hw, nat2_of _ _ _ (by omega) (by omega)]
  blk_simp [iblk]
  refine congrArg (V m c main_v15) ?_
  blk_ext [idx3]

/-- Block `t` of window 4, in the array. -/
theorem blk4 (t : Fin cfg0.N) (p w : ℕ) (hp : p < 256) (hw : w < 2048) :
    nat2 (a := 256) (b := 2048) (iblk m c 4 t) p w
      = nat2 (a := 2048) (b := 8192) (V m c main_v18) (256 * (t.val % 8) + p) (2048 * (t.val / 8) + w) := by
  have ht : t.val < 32 := t.isLt
  rw [nat2_of _ p w hp hw, nat2_of _ _ _ (by omega) (by omega)]
  blk_simp [iblk]
  refine congrArg (V m c main_v18) ?_
  blk_ext [idx4]

/-- Block `t` of window 5, whose index map gives element offsets, in the array. -/
theorem blk5 (t : Fin cfg0.N) (p w : ℕ) (hp : p < 320) (hw : w < 2048) :
    nat2 (a := 320) (b := 2048) (iblk m c 5 t) p w = nat2 (a := 11328) (b := 2048) (V m c main_v20) (1088 + 320 * t.val + p) w := by
  have ht : t.val < 32 := t.isLt
  rw [nat2_of _ p w hp hw, nat2_of _ _ _ (by omega) (by omega)]
  refine congrArg (V m c main_v20) (funext fun a => Fin.ext ?_)
  refine (ValueKit.rect_emb_unit_val _ _ _ _ _).trans ?_
  match a with
  | ⟨0, _⟩ => exact congrArg (· + p) (congrFun (idx5 t) 0)
  | ⟨1, _⟩ => exact (congrArg (· + w) (congrFun (idx5 t) 1)).trans (Nat.zero_add _)

/-- Block `t` of window 6, whose index map gives element offsets, in the array. -/
theorem blk6 (t : Fin cfg0.N) (p w : ℕ) (hp : p < 64) (hw : w < 2048) :
    nat2 (a := 64) (b := 2048) (iblk m c 6 t) p w = nat2 (a := 2048) (b := 2048) (V m c main_v21) (64 * t.val + p) w := by
  have ht : t.val < 32 := t.isLt
  rw [nat2_of _ p w hp hw, nat2_of _ _ _ (by omega) (by omega)]
  refine congrArg (V m c main_v21) (funext fun a => Fin.ext ?_)
  refine (ValueKit.rect_emb_unit_val _ _ _ _ _).trans ?_
  match a with
  | ⟨0, _⟩ => exact congrArg (· + p) (congrFun (idx6 t) 0)
  | ⟨1, _⟩ => exact (congrArg (· + w) (congrFun (idx6 t) 1)).trans (Nat.zero_add _)

/-- Block `t` of window 7, whose index map gives element offsets, in the array. -/
theorem blk7 (t : Fin cfg0.N) (p w : ℕ) (hp : p < 64) (hw : w < 2048) :
    nat2 (a := 64) (b := 2048) (iblk m c 7 t) p w = nat2 (a := 2048) (b := 2048) (V m c main_v22) (64 * t.val + p) w := by
  have ht : t.val < 32 := t.isLt
  rw [nat2_of _ p w hp hw, nat2_of _ _ _ (by omega) (by omega)]
  refine congrArg (V m c main_v22) (funext fun a => Fin.ext ?_)
  refine (ValueKit.rect_emb_unit_val _ _ _ _ _).trans ?_
  match a with
  | ⟨0, _⟩ => exact congrArg (· + p) (congrFun (idx7 t) 0)
  | ⟨1, _⟩ => exact (congrArg (· + w) (congrFun (idx7 t) 1)).trans (Nat.zero_add _)

/-- Block `t` of window 8, whose index map gives element offsets, in the array. -/
theorem blk8 (t : Fin cfg0.N) (p w : ℕ) (hp : p < 64) (hw : w < 2048) :
    nat2 (a := 64) (b := 2048) (iblk m c 8 t) p w = nat2 (a := 2048) (b := 2048) (V m c main_v23) (64 * t.val + p) w := by
  have ht : t.val < 32 := t.isLt
  rw [nat2_of _ p w hp hw, nat2_of _ _ _ (by omega) (by omega)]
  refine congrArg (V m c main_v23) (funext fun a => Fin.ext ?_)
  refine (ValueKit.rect_emb_unit_val _ _ _ _ _).trans ?_
  match a with
  | ⟨0, _⟩ => exact congrArg (· + p) (congrFun (idx8 t) 0)
  | ⟨1, _⟩ => exact (congrArg (· + w) (congrFun (idx8 t) 1)).trans (Nat.zero_add _)

/-- Block `t` of window 9, whose index map gives element offsets, in the array. -/
theorem blk9 (t : Fin cfg0.N) (p w : ℕ) (hp : p < 64) (hw : w < 11264) :
    nat2 (a := 64) (b := 11264) (iblk m c 9 t) p w = nat2 (a := 2048) (b := 11264) (V m c main_v24) (64 * t.val + p) w := by
  have ht : t.val < 32 := t.isLt
  rw [nat2_of _ p w hp hw, nat2_of _ _ _ (by omega) (by omega)]
  refine congrArg (V m c main_v24) (funext fun a => Fin.ext ?_)
  refine (ValueKit.rect_emb_unit_val _ _ _ _ _).trans ?_
  match a with
  | ⟨0, _⟩ => exact congrArg (· + p) (congrFun (idx9 t) 0)
  | ⟨1, _⟩ => exact (congrArg (· + w) (congrFun (idx9 t) 1)).trans (Nat.zero_add _)

/-! ## The attention of the whole batch over flat rows -/

/-- The score of the query in row `R` against key `k` of its batch, at head `a`. -/
def flatScore (qn qr kn : (Sh 8192 2048).Idx → EReal) (kr : (Sh 8192 128).Idx → EReal) (a R k : ℕ) : EReal :=
  (∑ l : Fin 128, nat2 kn (2048 * (R / 2048) + k) (128 * a + l.val) * nat2 qn R (128 * a + l.val))
    + ∑ l : Fin 128, nat2 kr (2048 * (R / 2048) + k) l.val * nat2 qr R (128 * a + l.val)

/-- The attention of the query in row `R` at value lane `C` of all heads' lanes. -/
def flatAttn (qn qr kn : (Sh 8192 2048).Idx → EReal) (kr : (Sh 8192 128).Idx → EReal) (vt : (Sh 2048 8192).Idx → EReal)
    (R C : ℕ) : EReal :=
  average2 2048 (fun k => if k / 64 ≤ R % 2048 / 64 then flatScore qn qr kn kr (C / 128) R k else ⊥)
    fun k => nat2 vt C (2048 * (R / 2048) + k)

/-- The average depends on the scores and values of its keys only. -/
theorem average2_congr (N : ℕ) (s s' v v' : ℕ → EReal) (hs : ∀ k < N, s k = s' k) (hv : ∀ k < N, v k = v' k) :
    average2 N s v = average2 N s' v' := by
  unfold average2
  have hsup : (Finset.range N).sup s = (Finset.range N).sup s' :=
    Finset.sup_congr rfl fun k hk => hs k (Finset.mem_range.1 hk)
  rw [hsup]
  refine congrArg₂ Ideal.div (Finset.sum_congr rfl fun k hk => ?_) (Finset.sum_congr rfl fun k hk => ?_)
  · rw [hs k (Finset.mem_range.1 hk), hv k (Finset.mem_range.1 hk)]
  · rw [hs k (Finset.mem_range.1 hk)]

/-- A point's block of attention is the flat attention at the block's place. -/
theorem blockAttn_eq (t : Fin cfg0.N) (p w : ℕ) (hp : p < 2048) (hw : w < 256) :
    blockAttn (iblk m c 0 t) (iblk m c 1 t) (iblk m c 2 t) (iblk m c 3 t) (iblk m c 4 t) p w
      = flatAttn (V m c main_v5) (V m c main_v10) (V m c main_v12) (V m c main_v15) (V m c main_v18)
          (2048 * (t.val / 8) + p) (256 * (t.val % 8) + w) := by
  have e1 : (2048 * (t.val / 8) + p) % 2048 = p := by omega
  have e2 : (2048 * (t.val / 8) + p) / 2048 = t.val / 8 := by omega
  have e3 : ∀ l : Fin 128, 128 * ((256 * (t.val % 8) + w) / 128) + l.val = 256 * (t.val % 8) + (128 * (w / 128) + l.val) := fun l => by omega
  unfold blockAttn flatAttn
  refine average2_congr _ _ _ _ _ (fun k hk => ?_) fun k hk => ?_
  · unfold rowScore
    rw [e1]
    refine if_congr Iff.rfl ?_ rfl
    unfold blockScore flatScore
    rw [e2]
    refine congrArg₂ (· + ·) (Finset.sum_congr rfl fun l _ => ?_) (Finset.sum_congr rfl fun l _ => ?_)
    · have hl := l.isLt
      rw [e3, ← blk0 m c t p (128 * (w / 128) + l.val) hp (by omega), ← blk2 m c t k (128 * (w / 128) + l.val) hk (by omega)]
    · have hl := l.isLt
      rw [e3, ← blk1 m c t p (128 * (w / 128) + l.val) hp (by omega), ← blk3 m c t k l.val hk hl]
  · rw [e2]
    exact blk4 m c t w k hw hk

/-! ## The output arrays after the run -/

/-- The attention result. -/
theorem final10 : (dats m 0 c).arrAt 10 cfg0.N = fun y : S8192x2048.Idx =>
    flatAttn (V m c main_v5) (V m c main_v10) (V m c main_v12) (V m c main_v15) (V m c main_v18) (y 0).val (y 1).val := by
  refine (dats m 0 c).arrAt_eq_of_covers 10 _ (by decide +kernel) fun t hf y => ?_
  blk_simp
  rw [after0_10, out10_apply]
  refine (blockAttn_eq m c t _ _ (y 0).isLt (y 1).isLt).trans ?_
  blk_simp [idx10]
  refine congrArg₂ (flatAttn (V m c main_v5) (V m c main_v10) (V m c main_v12) (V m c main_v15) (V m c main_v18)) ?_ ?_
  · exact congrArg (· + (y 0).val) (Nat.mul_comm _ _)
  · exact congrArg (· + (y 1).val) (Nat.mul_comm _ _)

/-- The weights cast through window 11. -/
theorem final11 : (dats m 0 c).arrAt 11 cfg0.N = fun y : S10240x2048.Idx =>
    nat2 (a := 11328) (b := 2048) (V m c main_v20) (1088 + (y 0).val) (y 1).val := by
  refine (dats m 0 c).arrAt_eq_of_covers 11 _ (by decide +kernel) fun t hf y => ?_
  blk_simp
  rw [after0_11, out11_apply]
  refine (nat2_ix2 (a := 320) (b := 2048) (iblk m c 5 t) (y 0) (y 1)).symm.trans ((blk5 m c t _ _ (y 0).isLt (y 1).isLt).trans ?_)
  blk_simp [idx11]
  refine congrArg₂ (nat2 (a := 11328) (b := 2048) (V m c main_v20)) ?_ ?_
  · show 1088 + 320 * t.val + (y 0).val = 1088 + (t.val * 320 + (y 0).val)
    omega
  · rfl

/-- The weights cast through window 12. -/
theorem final12 : (dats m 0 c).arrAt 12 cfg0.N = fun y : S2048x2048.Idx =>
    nat2 (a := 2048) (b := 2048) (V m c main_v21) ((y 0).val) (y 1).val := by
  refine (dats m 0 c).arrAt_eq_of_covers 12 _ (by decide +kernel) fun t hf y => ?_
  blk_simp
  rw [after0_12, out12_apply]
  refine (nat2_ix2 (a := 64) (b := 2048) (iblk m c 6 t) (y 0) (y 1)).symm.trans ((blk6 m c t _ _ (y 0).isLt (y 1).isLt).trans ?_)
  blk_simp [idx12]
  refine congrArg₂ (nat2 (a := 2048) (b := 2048) (V m c main_v21)) ?_ ?_
  · show 64 * t.val + (y 0).val = (t.val * 64 + (y 0).val)
    omega
  · rfl

/-- The weights cast through window 13. -/
theorem final13 : (dats m 0 c).arrAt 13 cfg0.N = fun y : S2048x2048.Idx =>
    nat2 (a := 2048) (b := 2048) (V m c main_v22) ((y 0).val) (y 1).val := by
  refine (dats m 0 c).arrAt_eq_of_covers 13 _ (by decide +kernel) fun t hf y => ?_
  blk_simp
  rw [after0_13, out13_apply]
  refine (nat2_ix2 (a := 64) (b := 2048) (iblk m c 7 t) (y 0) (y 1)).symm.trans ((blk7 m c t _ _ (y 0).isLt (y 1).isLt).trans ?_)
  blk_simp [idx13]
  refine congrArg₂ (nat2 (a := 2048) (b := 2048) (V m c main_v22)) ?_ ?_
  · show 64 * t.val + (y 0).val = (t.val * 64 + (y 0).val)
    omega
  · rfl

/-- The weights cast through window 14. -/
theorem final14 : (dats m 0 c).arrAt 14 cfg0.N = fun y : S2048x2048.Idx =>
    nat2 (a := 2048) (b := 2048) (V m c main_v23) ((y 0).val) (y 1).val := by
  refine (dats m 0 c).arrAt_eq_of_covers 14 _ (by decide +kernel) fun t hf y => ?_
  blk_simp
  rw [after0_14, out14_apply]
  refine (nat2_ix2 (a := 64) (b := 2048) (iblk m c 8 t) (y 0) (y 1)).symm.trans ((blk8 m c t _ _ (y 0).isLt (y 1).isLt).trans ?_)
  blk_simp [idx14]
  refine congrArg₂ (nat2 (a := 2048) (b := 2048) (V m c main_v23)) ?_ ?_
  · show 64 * t.val + (y 0).val = (t.val * 64 + (y 0).val)
    omega
  · rfl

/-- The weights cast through window 15. -/
theorem final15 : (dats m 0 c).arrAt 15 cfg0.N = fun y : S2048x11264.Idx =>
    nat2 (a := 2048) (b := 11264) (V m c main_v24) ((y 0).val) (y 1).val := by
  refine (dats m 0 c).arrAt_eq_of_covers 15 _ (by decide +kernel) fun t hf y => ?_
  blk_simp
  rw [after0_15, out15_apply]
  refine (nat2_ix2 (a := 64) (b := 11264) (iblk m c 9 t) (y 0) (y 1)).symm.trans ((blk9 m c t _ _ (y 0).isLt (y 1).isLt).trans ?_)
  blk_simp [idx15]
  refine congrArg₂ (nat2 (a := 2048) (b := 11264) (V m c main_v24)) ?_ ?_
  · show 64 * t.val + (y 0).val = (t.val * 64 + (y 0).val)
    omega
  · rfl

end Cert.Attn

end
-- ==== Proof.Entries.lean ====
/- Entries of arrays of three and four axes at natural coordinates, and the softmax average they make: what the attention
   call is to compute, stated over real scores. -/
module

public import proofs.«01_k».proof.Proof.Task

@[expose] public section

noncomputable section

namespace Cert.Attn

open Idealize.ShloMosaic

/-- An entry of an array of three axes at natural coordinates, 0 outside. -/
def nat3 {a b c : ℕ} (x : (⟨3, ![a, b, c]⟩ : Shape).Idx → EReal) (i j k : ℕ) : EReal :=
  if h : i < a ∧ j < b ∧ k < c then x (ValueIdx.ix3 ⟨i, h.1⟩ ⟨j, h.2.1⟩ ⟨k, h.2.2⟩) else 0

theorem nat3_of {a b c : ℕ} (x : (⟨3, ![a, b, c]⟩ : Shape).Idx → EReal) (i j k : ℕ) (hi : i < a) (hj : j < b) (hk : k < c) :
    nat3 x i j k = x (ValueIdx.ix3 ⟨i, hi⟩ ⟨j, hj⟩ ⟨k, hk⟩) := by
  unfold nat3; rw [dif_pos ⟨hi, hj, hk⟩]

/-- An entry of an array of four axes at natural coordinates, 0 outside. -/
def nat4 {a b c d : ℕ} (x : (⟨4, ![a, b, c, d]⟩ : Shape).Idx → EReal) (i j k l : ℕ) : EReal :=
  if h : i < a ∧ j < b ∧ k < c ∧ l < d then x (ValueIdx.ix4 ⟨i, h.1⟩ ⟨j, h.2.1⟩ ⟨k, h.2.2.1⟩ ⟨l, h.2.2.2⟩) else 0

theorem nat4_of {a b c d : ℕ} (x : (⟨4, ![a, b, c, d]⟩ : Shape).Idx → EReal) (i j k l : ℕ) (hi : i < a) (hj : j < b) (hk : k < c)
    (hl : l < d) : nat4 x i j k l = x (ValueIdx.ix4 ⟨i, hi⟩ ⟨j, hj⟩ ⟨k, hk⟩ ⟨l, hl⟩) := by
  unfold nat4; rw [dif_pos ⟨hi, hj, hk, hl⟩]

/-- The softmax scale as a real number: the 32-bit pattern nearest to the inverse root of 192. -/
def attnScale : ℝ := (Ideal.ofBits .f32 0x3D93CD3A#32).toReal

theorem ofBits_attnScale : Ideal.ofBits .f32 0x3D93CD3A#32 = (attnScale : EReal) := by
  have h : Ideal.ofBits .f32 0x3D93CD3A#32 = (((0x93CD3A * 2⁻¹ ^ 27 : ℝ)) : EReal) := by
    simp [Ideal.ofBits, Ideal.ieee]
  unfold attnScale
  rw [h, EReal.toReal_coe]

theorem attnScale_pos : 0 < attnScale := by
  have h : Ideal.ofBits .f32 0x3D93CD3A#32 = (((0x93CD3A * 2⁻¹ ^ 27 : ℝ)) : EReal) := by
    simp [Ideal.ofBits, Ideal.ieee]
  unfold attnScale
  rw [h, EReal.toReal_coe]
  norm_num

theorem ofBits_two : Ideal.ofBits .f32 0x40000000#32 = ((2 : ℝ) : EReal) := by
  simp [Ideal.ofBits, Ideal.ieee]
  rw [← EReal.coe_mul]
  norm_num

abbrev QN := (⟨4, ![4, 2048, 16, 128]⟩ : Shape).Idx → EReal
abbrev QR := (⟨4, ![4, 2048, 16, 64]⟩ : Shape).Idx → EReal
abbrev KR := (⟨3, ![4, 2048, 64]⟩ : Shape).Idx → EReal

/-- The score of query `q` against key `k` in batch `b` and head `h`, before the scale. -/
def realScore (x0 : QN) (x1 : QR) (x2 : QN) (x3 : KR) (b h q k : ℕ) : ℝ :=
  (∑ d : Fin 128, (nat4 x2 b k h d.val).toReal * (nat4 x0 b q h d.val).toReal)
    + ∑ e : Fin 64, (nat3 x3 b k e.val).toReal * (nat4 x1 b q h e.val).toReal

/-- The attention at batch `b`, query `q`, head `h`, lane `d`: the softmax over the keys of no later chunk. -/
def attnOf (x0 : QN) (x1 : QR) (x2 : QN) (x3 : KR) (x4 : QN) (b q h d : ℕ) : EReal :=
  ∑ k ∈ Finset.range 2048, nat4 x4 b k h d
    * Ideal.div (Ideal.exp (masked (fun k => k / 64 ≤ q / 64) (realScore x0 x1 x2 x3 b h q) attnScale k
          - (Finset.range 2048).sup (masked (fun k => k / 64 ≤ q / 64) (realScore x0 x1 x2 x3 b h q) attnScale)))
        (∑ k ∈ Finset.range 2048, Ideal.exp (masked (fun k => k / 64 ≤ q / 64) (realScore x0 x1 x2 x3 b h q) attnScale k
          - (Finset.range 2048).sup (masked (fun k => k / 64 ≤ q / 64) (realScore x0 x1 x2 x3 b h q) attnScale)))

/-- The base 2 average with the division last is that attention. -/
theorem average2_attnOf (x0 : QN) (x1 : QR) (x2 : QN) (x3 : KR) (x4 : QN) (b q h d : ℕ) (hq : q < 2048) :
    average2 2048 (masked (fun k => k / 64 ≤ q / 64) (realScore x0 x1 x2 x3 b h q) (attnScale / Real.log 2))
        (fun k => nat4 x4 b k h d) = attnOf x0 x1 x2 x3 x4 b q h d :=
  softmax_average 2048 (fun k => k / 64 ≤ q / 64) (realScore x0 x1 x2 x3 b h q) attnScale attnScale_pos
    (fun k => nat4 x4 b k h d) ⟨q, hq, le_rfl⟩

end Cert.Attn

end
-- ==== Proof.Host.lean ====
/- The arrays that the host prepares for the attention call, at an element: the arguments of the layer's step, the queries
   scaled, the rotary halves padded to 128 lanes by zeros, the values and a weight transposed. -/
module

public import proofs.«01_k».proof.Proof.Arrays
public import proofs.«01_k».proof.Proof.Entries
public import Idealize.ShloMosaic.Lib.StableHlo.ReadAt
public import Idealize.ShloMosaic.Lib.Pointwise

@[expose] public section

noncomputable section

namespace Cert.Attn

open Idealize.ShloMosaic Idealize.ShloMosaic.TcCoe
open Cert.KernelIdeal Cert.KernelIdeal.Gen

variable (m : (ℓ : Loc nD τ sig) → Buf (Elt Ideal) ℓ) (c : Dev nD)

/-- The factor of the queries: the softmax scale over the logarithm of 2. -/
theorem prescale : Ideal.div (Ideal.ofBits .f32 0x3D93CD3A#32) (Ideal.log (Ideal.ofBits .f32 0x40000000#32))
    = ((attnScale / Real.log 2 : ℝ) : EReal) := by
  have hl : 0 < Real.log 2 := Real.log_pos one_lt_two
  rw [ofBits_attnScale, ofBits_two]
  have e : Ideal.log ((2 : ℝ) : EReal) = ((Real.log 2 : ℝ) : EReal) := by
    show (if (2 : ℝ) ≤ 0 then (⊥ : EReal) else ((Real.log 2 : ℝ) : EReal)) = _
    rw [if_neg (by norm_num)]
  rw [e, div_coe_pos _ _ hl, ← EReal.coe_mul, div_eq_mul_inv]

/-- The queries: row `R` is batch and position, lane `C` is head and dimension, the factor taken in. -/
theorem host5 (R C : ℕ) (hR : R < 8192) (hC : C < 2048) :
    nat2 (a := 8192) (b := 2048) (V m c main_v5) R C
      = nat4 (a := 4) (b := 2048) (c := 16) (d := 128) (m ((c : Thread nD τ).loc main_arg0)) (R / 2048) (R % 2048) (C / 128) (C % 128)
        * ((attnScale / Real.log 2 : ℝ) : EReal) := by
  rw [nat2_of _ R C hR hC, nat4_of _ _ _ _ _ (by omega) (by omega) (by omega) (by omega), ← prescale]
  unfold V
  after_reads_at
  rfl

/-- The rotary queries, in the 64 lanes of each head that hold them. -/
theorem host10 (R C : ℕ) (hR : R < 8192) (hC : C < 2048) (hl : C % 128 < 64) :
    nat2 (a := 8192) (b := 2048) (V m c main_v10) R C
      = nat4 (a := 4) (b := 2048) (c := 16) (d := 64) (m ((c : Thread nD τ).loc main_arg1)) (R / 2048) (R % 2048) (C / 128) (C % 128)
        * ((attnScale / Real.log 2 : ℝ) : EReal) := by
  rw [nat2_of _ R C hR hC, nat4_of _ _ _ _ _ (by omega) (by omega) (by omega) hl, ← prescale]
  unfold V
  after_reads_at
  rw [dif_pos hl]
  rfl

/-- The keys. -/
theorem host12 (R C : ℕ) (hR : R < 8192) (hC : C < 2048) :
    nat2 (a := 8192) (b := 2048) (V m c main_v12) R C
      = nat4 (a := 4) (b := 2048) (c := 16) (d := 128) (m ((c : Thread nD τ).loc main_arg2)) (R / 2048) (R % 2048) (C / 128) (C % 128) := by
  rw [nat2_of _ R C hR hC, nat4_of _ _ _ _ _ (by omega) (by omega) (by omega) (by omega)]
  unfold V
  after_reads_at
  rfl

/-- The rotary key, and zeros in the other 64 lanes. -/
theorem host15 (R l : ℕ) (hR : R < 8192) (hl : l < 128) :
    nat2 (a := 8192) (b := 128) (V m c main_v15) R l
      = if l < 64 then nat3 (a := 4) (b := 2048) (c := 64) (m ((c : Thread nD τ).loc main_arg3)) (R / 2048) (R % 2048) l else 0 := by
  rw [nat2_of _ R l hR hl]
  unfold V
  after_reads_at
  split
  · rename_i h
    rw [if_pos h.2, nat3_of _ _ _ _ (by omega) (by omega) h.2]
    rfl
  · rename_i h
    rw [if_neg (fun e => h ⟨hR, e⟩)]
    show (((0#32 : BitVec 32).toInt : ℝ) : EReal) = 0
    norm_num

/-- The values, transposed. -/
theorem host18 (C R : ℕ) (hC : C < 2048) (hR : R < 8192) :
    nat2 (a := 2048) (b := 8192) (V m c main_v18) C R
      = nat4 (a := 4) (b := 2048) (c := 16) (d := 128) (m ((c : Thread nD τ).loc main_arg4)) (R / 2048) (R % 2048) (C / 128) (C % 128) := by
  rw [nat2_of _ C R hC hR, nat4_of _ _ _ _ _ (by omega) (by omega) (by omega) (by omega)]
  unfold V
  after_reads_at
  rfl

/-- The input weight, transposed. -/
theorem host20 (R C : ℕ) (hR : R < 11328) (hC : C < 2048) :
    nat2 (a := 11328) (b := 2048) (V m c main_v20) R C = nat3 (a := 1) (b := 2048) (c := 11328) (m ((c : Thread nD τ).loc main_arg5)) 0 C R := by
  rw [nat2_of _ R C hR hC, nat3_of _ _ _ _ (by omega) hC hR]
  unfold V
  after_reads_at
  rfl

/-- The weight of argument 6, its leading axis dropped. -/
theorem host21 (R C : ℕ) (hR : R < 2048) (hC : C < 2048) :
    nat2 (a := 2048) (b := 2048) (V m c main_v21) R C = nat3 (a := 1) (b := 2048) (c := 2048) (m ((c : Thread nD τ).loc main_arg6)) 0 R C := by
  rw [nat2_of _ R C hR hC, nat3_of _ _ _ _ (by omega) hR hC]
  unfold V
  after_reads_at
  rfl

/-- The weight of argument 7, its leading axis dropped. -/
theorem host22 (R C : ℕ) (hR : R < 2048) (hC : C < 2048) :
    nat2 (a := 2048) (b := 2048) (V m c main_v22) R C = nat3 (a := 1) (b := 2048) (c := 2048) (m ((c : Thread nD τ).loc main_arg7)) 0 R C := by
  rw [nat2_of _ R C hR hC, nat3_of _ _ _ _ (by omega) hR hC]
  unfold V
  after_reads_at
  rfl

/-- The weight of argument 8, its leading axis dropped. -/
theorem host23 (R C : ℕ) (hR : R < 2048) (hC : C < 2048) :
    nat2 (a := 2048) (b := 2048) (V m c main_v23) R C = nat3 (a := 1) (b := 2048) (c := 2048) (m ((c : Thread nD τ).loc main_arg8)) 0 R C := by
  rw [nat2_of _ R C hR hC, nat3_of _ _ _ _ (by omega) hR hC]
  unfold V
  after_reads_at
  rfl

/-- The weight of argument 9, its leading axis dropped. -/
theorem host24 (R C : ℕ) (hR : R < 2048) (hC : C < 11264) :
    nat2 (a := 2048) (b := 11264) (V m c main_v24) R C = nat3 (a := 1) (b := 2048) (c := 11264) (m ((c : Thread nD τ).loc main_arg9)) 0 R C := by
  rw [nat2_of _ R C hR hC, nat3_of _ _ _ _ (by omega) hR hC]
  unfold V
  after_reads_at
  rfl

end Cert.Attn

end
-- ==== Proof.KernelValue.lean ====
/- The attention that the kernel leaves, over the arguments of the step: with finite queries and keys every score is a
   real number, and the flat array holds the softmax attention of each batch, position and head. -/
module

public import proofs.«01_k».proof.Proof.Host

@[expose] public section

noncomputable section

namespace Cert.Attn

open Idealize.ShloMosaic Idealize.ShloMosaic.TcCoe
open Cert.KernelIdeal Cert.KernelIdeal.Gen

/-- Every entry is a real number. -/
def Real' {ι : Type} (x : ι → EReal) : Prop := ∀ i, x i = ((x i).toReal : EReal)

theorem nat3_real {a b c : ℕ} {x : (⟨3, ![a, b, c]⟩ : Shape).Idx → EReal} (h : Real' x) (i j k : ℕ) :
    nat3 x i j k = ((nat3 x i j k).toReal : EReal) := by
  unfold nat3; split
  · exact h _
  · simp

theorem nat4_real {a b c d : ℕ} {x : (⟨4, ![a, b, c, d]⟩ : Shape).Idx → EReal} (h : Real' x) (i j k l : ℕ) :
    nat4 x i j k l = ((nat4 x i j k l).toReal : EReal) := by
  unfold nat4; split
  · exact h _
  · simp

/-- A sum over 128 lanes of which the last 64 hold zeros is the sum over the first 64. -/
theorem sum_pad (f : ℕ → EReal) (hf : ∀ l, 64 ≤ l → l < 128 → f l = 0) : ∑ l : Fin 128, f l.val = ∑ l : Fin 64, f l.val := by
  rw [Fin.sum_univ_eq_sum_range f 128, Fin.sum_univ_eq_sum_range f 64]
  refine (Finset.sum_subset (fun l hl => Finset.mem_range.2 ((Finset.mem_range.1 hl).trans (by norm_num))) fun l hl h => ?_).symm
  exact hf l (by simpa using h) (Finset.mem_range.1 hl)

/-- A product of reals with a real factor on the second. -/
theorem mul_scaled (x y : EReal) (s : ℝ) (hx : x = (x.toReal : EReal)) (hy : y = (y.toReal : EReal)) :
    x * (y * (s : EReal)) = ((s * (x.toReal * y.toReal) : ℝ) : EReal) := by
  rw [hx, hy, EReal.toReal_coe, EReal.toReal_coe, ← EReal.coe_mul, ← EReal.coe_mul]
  congr 1; ring

variable (m : (ℓ : Loc nD τ sig) → Buf (Elt Ideal) ℓ) (c : Dev nD)

/-- The score of the flat arrays is the real score, scaled. -/
theorem flatScore_eq
    (h0 : Real' (m ((c : Thread nD τ).loc main_arg0))) (h1 : Real' (m ((c : Thread nD τ).loc main_arg1)))
    (h2 : Real' (m ((c : Thread nD τ).loc main_arg2))) (h3 : Real' (m ((c : Thread nD τ).loc main_arg3)))
    (a R k : ℕ) (ha : a < 16) (hR : R < 8192) (hk : k < 2048) :
    flatScore (V m c main_v5) (V m c main_v10) (V m c main_v12) (V m c main_v15) a R k
      = ((attnScale / Real.log 2 * realScore (m ((c : Thread nD τ).loc main_arg0)) (m ((c : Thread nD τ).loc main_arg1))
          (m ((c : Thread nD τ).loc main_arg2)) (m ((c : Thread nD τ).loc main_arg3)) (R / 2048) a (R % 2048) k : ℝ) : EReal) := by
  have e1 : (2048 * (R / 2048) + k) / 2048 = R / 2048 := by omega
  have e2 : (2048 * (R / 2048) + k) % 2048 = k := by omega
  unfold flatScore realScore
  rw [mul_add, EReal.coe_add, Finset.mul_sum, Finset.mul_sum, coe_sum, coe_sum]
  refine congrArg₂ (· + ·) (Finset.sum_congr rfl fun l _ => ?_) ?_
  · have hl := l.isLt
    have e3 : (128 * a + l.val) / 128 = a := by omega
    have e4 : (128 * a + l.val) % 128 = l.val := by omega
    rw [host12 m c _ _ (by omega) (by omega), host5 m c _ _ hR (by omega), e1, e2, e3, e4]
    exact mul_scaled _ _ _ (nat4_real h2 _ _ _ _) (nat4_real h0 _ _ _ _)
  · refine (sum_pad (fun l => nat2 (a := 8192) (b := 128) (V m c main_v15) (2048 * (R / 2048) + k) l
      * nat2 (a := 8192) (b := 2048) (V m c main_v10) R (128 * a + l)) fun l hl hl' => ?_).trans ?_
    · show nat2 (a := 8192) (b := 128) (V m c main_v15) _ _ * _ = 0
      rw [host15 m c _ _ (by omega) hl', if_neg (by omega), zero_mul]
    · refine Finset.sum_congr rfl fun l _ => ?_
      have hl := l.isLt
      have e3 : (128 * a + l.val) / 128 = a := by omega
      have e4 : (128 * a + l.val) % 128 = l.val := by omega
      show nat2 (a := 8192) (b := 128) (V m c main_v15) _ _ * nat2 (a := 8192) (b := 2048) (V m c main_v10) _ _ = _
      rw [host15 m c _ _ (by omega) (by omega), if_pos hl, host10 m c _ _ hR (by omega) (by omega), e1, e2, e3, e4]
      exact mul_scaled _ _ _ (nat3_real h3 _ _ _) (nat4_real h1 _ _ _ _)

/-- The flat attention is the softmax attention of the arguments. -/
theorem flatAttn_eq
    (h0 : Real' (m ((c : Thread nD τ).loc main_arg0))) (h1 : Real' (m ((c : Thread nD τ).loc main_arg1)))
    (h2 : Real' (m ((c : Thread nD τ).loc main_arg2))) (h3 : Real' (m ((c : Thread nD τ).loc main_arg3)))
    (R C : ℕ) (hR : R < 8192) (hC : C < 2048) :
    flatAttn (V m c main_v5) (V m c main_v10) (V m c main_v12) (V m c main_v15) (V m c main_v18) R C
      = attnOf (m ((c : Thread nD τ).loc main_arg0)) (m ((c : Thread nD τ).loc main_arg1))
          (m ((c : Thread nD τ).loc main_arg2)) (m ((c : Thread nD τ).loc main_arg3)) (m ((c : Thread nD τ).loc main_arg4))
          (R / 2048) (R % 2048) (C / 128) (C % 128) := by
  rw [← average2_attnOf _ _ _ _ _ _ _ _ _ (Nat.mod_lt R (by norm_num))]
  unfold flatAttn
  refine average2_congr _ _ _ _ _ (fun k hk => ?_) fun k hk => ?_
  · unfold masked
    refine if_congr Iff.rfl ?_ rfl
    exact flatScore_eq m c h0 h1 h2 h3 _ _ _ (by omega) hR hk
  · have e1 : (2048 * (R / 2048) + k) / 2048 = R / 2048 := by omega
    have e2 : (2048 * (R / 2048) + k) % 2048 = k := by omega
    rw [host18 m c _ _ hC (by omega), e1, e2]

end Cert.Attn

end
-- ==== Proof.Finite.lean ====
/- The precondition read: every entry of the queries and of the keys is a real number. -/
module

public import proofs.«01_k».proof.Proof.Gen.Pre_finite_qk
public import proofs.«01_k».proof.Proof.KernelValue
public import Idealize.ShloMosaic.Lib.ReduceAll

@[expose] public section

noncomputable section

namespace Cert.Attn

open Idealize.ShloMosaic

/-- The pattern of plus infinity. -/
theorem ofBits_posInf : Ideal.ofBits .f32 0x7F800000#32 = ⊤ := by
  simp [Ideal.ofBits, Ideal.ieee]

/-- An absolute value below infinity makes a real number. -/
theorem real_of_abs_lt (x : EReal)
    (h : FloatOps.cmpf (F := Ideal) (φ := .f32) .olt (max x (-x) : EReal) (Ideal.ofBits .f32 0x7F800000#32) = 1#1) :
    x = (x.toReal : EReal) := by
  rw [ofBits_posInf] at h
  have hlt : max x (-x) < ⊤ := by
    by_contra hc
    have h' : BitVec.ofBool (decide (max x (-x) < (⊤ : EReal))) = 1#1 := h
    rw [decide_eq_false hc] at h'
    exact absurd h' (by decide)
  have h1 : x ≠ ⊤ := fun e => by rw [e] at hlt; simp at hlt
  have h2 : x ≠ ⊥ := fun e => by rw [e] at hlt; simp at hlt
  exact (EReal.coe_toReal h1 h2).symm

open Cert.Pre_finite_qk in
/-- The four arrays of queries and keys hold real numbers where the precondition holds. -/
theorem real_of_pre (x0 : FVec Ideal S4x2048x16x128 .f32) (x1 : FVec Ideal S4x2048x16x64 .f32) (x2 : FVec Ideal S4x2048x16x128 .f32)
    (x3 : FVec Ideal S4x2048x64 .f32) (x4 : FVec Ideal S4x2048x16x128 .f32) (x5 : FVec Ideal S1x2048x11328 .f32)
    (x6 x7 x8 : FVec Ideal S1x2048x2048 .f32) (x9 : FVec Ideal S1x2048x11264 .f32) (j : S_.Idx)
    (h : Cert.Pre_finite_qk.fn (F := Ideal) x0 x1 x2 x3 x4 x5 x6 x7 x8 x9 j = 1#1) :
    Real' x0 ∧ Real' x1 ∧ Real' x2 ∧ Real' x3 := by
  haveI : Subsingleton S_.Idx := ⟨fun a b => funext fun k => k.elim0⟩
  dsimp only [Cert.Pre_finite_qk.fn, Cert.Pre_finite_qk.fn_part1] at h
  obtain ⟨h, h3⟩ := IntOp.andi_eq_one.1 h
  obtain ⟨h, h2⟩ := IntOp.andi_eq_one.1 h
  obtain ⟨h0, h1⟩ := IntOp.andi_eq_one.1 h
  exact ⟨fun i => real_of_abs_lt _ (Host.reduce_andi_all _ _ _ _ _ h0 i), fun i => real_of_abs_lt _ (Host.reduce_andi_all _ _ _ _ _ h1 i),
    fun i => real_of_abs_lt _ (Host.reduce_andi_all _ _ _ _ _ h2 i), fun i => real_of_abs_lt _ (Host.reduce_andi_all _ _ _ _ _ h3 i)⟩

end Cert.Attn

end
-- ==== Proof.RefValue.lean ====
/- The reference read at an element: the softmax attention of the arguments, and the five weights as they are. -/
module

public import proofs.«01_k».proof.Proof.Gen.ReferenceIdeal.Read
public import proofs.«01_k».proof.Proof.KernelValue
public import Idealize.ShloMosaic.Lib.KernelVsHost

@[expose] public section

noncomputable section

namespace Cert.Attn

open Idealize.ShloMosaic
open Cert.ReferenceIdeal Cert.ReferenceIdeal.Gen Cert.ReferenceIdeal.Read

/-- A chunk number on words. -/
theorem chunk_word : ∀ k : Fin 2048, IntOp.divsi .host (BitVec.ofNat 32 k.val) 64#32 = BitVec.ofNat 32 (k.val / 64) := by
  decide +kernel

theorem chunk_le : ∀ a b : Fin 32, IntOp.cmpi .sle (BitVec.ofNat 32 a.val) (BitVec.ofNat 32 b.val) = if a.val ≤ b.val then 1#1 else 0#1 := by
  decide +kernel

/-- The reference's mask: keys of no later chunk. -/
theorem ref_mask (i : S4x16x2048x2048.Idx) :
    val_main_call0_v1 (F := Ideal) i = if (i 3).val / 64 ≤ (i 2).val / 64 then 1#1 else 0#1 := by
  rw [val_main_call0_v1_apply, val_main_v14_apply, val_main_v13_apply, val_main_v11_apply, val_main_v9_apply, val_main_v12_apply,
    val_main_v10_apply, val_main_v8_apply, val_main_v8_apply, val_main_v7_apply, val_main_v7_apply, val_main_c_apply,
    val_main_v6_apply, val_main_v6_apply]
  have h2 : (i 2).val < 2048 := (i 2).isLt
  have h3 : (i 3).val < 2048 := (i 3).isLt
  show IntOp.cmpi .sle (IntOp.divsi .host (BitVec.ofNat 32 (i 3).val) 64#32) (IntOp.divsi .host (BitVec.ofNat 32 (i 2).val) 64#32) = _
  rw [chunk_word ⟨_, h3⟩, chunk_word ⟨_, h2⟩]
  exact chunk_le ⟨(i 3).val / 64, by omega⟩ ⟨(i 2).val / 64, by omega⟩

/-- A product of two real numbers. -/
theorem mul_real (x y : EReal) (hx : x = (x.toReal : EReal)) (hy : y = (y.toReal : EReal)) :
    x * y = ((y.toReal * x.toReal : ℝ) : EReal) := by
  rw [hx, hy, EReal.toReal_coe, EReal.toReal_coe, ← EReal.coe_mul, mul_comm]

variable (x0 : QN) (x1 : QR) (x2 : QN) (x3 : KR) (x4 : QN)

/-- The masked and scaled scores of the reference. -/
theorem ref_score (h0 : Real' x0) (h1 : Real' x1) (h2 : Real' x2) (h3 : Real' x3) (i : S4x16x2048x2048.Idx) :
    val_main_v15 (F := Ideal) x0 x1 x2 x3 i
      = masked (fun k => k / 64 ≤ (i 2).val / 64) (realScore x0 x1 x2 x3 (i 0).val (i 1).val (i 2).val) attnScale (i 3).val := by
  have b0 : (i 0).val < 4 := (i 0).isLt
  have b1 : (i 1).val < 16 := (i 1).isLt
  have b2 : (i 2).val < 2048 := (i 2).isLt
  have b3 : (i 3).val < 2048 := (i 3).isLt
  have hs : val_main_v5 (F := Ideal) x0 x1 x2 x3 i
      = ((attnScale * realScore x0 x1 x2 x3 (i 0).val (i 1).val (i 2).val (i 3).val : ℝ) : EReal) := by
    rw [val_main_v5_apply, val_main_v3_apply, val_main_v4_apply, val_main_cst_apply, val_main_v2_apply, val_main_v1_apply, val_main_v0_apply]
    show (((∑ d : Fin 128, _) + ∑ e : Fin 64, _ : EReal)) * Ideal.ofBits .f32 0x3D93CD3A#32 = _
    rw [ofBits_attnScale, mul_comm attnScale, EReal.coe_mul]
    refine congrArg (· * _) ?_
    unfold realScore
    rw [EReal.coe_add, coe_sum, coe_sum]
    refine congrArg₂ (· + ·) (Finset.sum_congr rfl fun l _ => ?_) (Finset.sum_congr rfl fun l _ => ?_)
    · rw [nat4_of x2 _ _ _ _ b0 b3 b1 l.isLt, nat4_of x0 _ _ _ _ b0 b2 b1 l.isLt]
      have e0 : lidx_main_v0 i l = ValueIdx.ix4 ⟨_, b0⟩ ⟨_, b2⟩ ⟨_, b1⟩ ⟨_, l.isLt⟩ :=
        funext fun a => by match a with | ⟨0, _⟩ => rfl | ⟨1, _⟩ => rfl | ⟨2, _⟩ => rfl | ⟨3, _⟩ => rfl
      have e2 : ridx_main_v0 i l = ValueIdx.ix4 ⟨_, b0⟩ ⟨_, b3⟩ ⟨_, b1⟩ ⟨_, l.isLt⟩ :=
        funext fun a => by match a with | ⟨0, _⟩ => rfl | ⟨1, _⟩ => rfl | ⟨2, _⟩ => rfl | ⟨3, _⟩ => rfl
      rw [e0, e2]
      exact mul_real _ _ (h0 _) (h2 _)
    · rw [nat3_of x3 _ _ _ b0 b3 l.isLt, nat4_of x1 _ _ _ _ b0 b2 b1 l.isLt]
      have e3 : lidx_main_v1 (idx_main_v2 i) l = ValueIdx.ix3 ⟨_, b0⟩ ⟨_, b3⟩ ⟨_, l.isLt⟩ :=
        funext fun a => by match a with | ⟨0, _⟩ => rfl | ⟨1, _⟩ => rfl | ⟨2, _⟩ => rfl
      have e1 : ridx_main_v1 (idx_main_v2 i) l = ValueIdx.ix4 ⟨_, b0⟩ ⟨_, b2⟩ ⟨_, b1⟩ ⟨_, l.isLt⟩ :=
        funext fun a => by match a with | ⟨0, _⟩ => rfl | ⟨1, _⟩ => rfl | ⟨2, _⟩ => rfl | ⟨3, _⟩ => rfl
      rw [e3, e1, mul_comm]
      exact mul_real _ _ (h1 _) (h3 _)
  rw [val_main_v15_apply, ref_mask, hs, val_main_call0_v2_apply, val_main_call0_v0_apply, val_main_cst_0_apply]
  show Scalar.select _ _ (Ideal.ofBits .f32 0xFF800000#32) = _
  rw [ofBits_negInf]
  unfold masked
  split
  · rfl
  · rfl

theorem reduces_keys : S4x16x2048x2048.Reduces [3] S4x16x2048 := by decide

/-- The reference's maximum over the last axis is a fold of the maximum. -/
theorem reduce_max (x : FVec Ideal S4x16x2048x2048 .f32) (i : S4x16x2048.Idx) :
    Host.reduce (FloatOps.maximumf (F := Ideal) (φ := .f32)) x (val_main_cst_1 (F := Ideal)) reducesTo_S4x16x2048x2048_S4x16x2048_d3 h_S_ i
      = (Finset.univ : Finset (Fin 2048)).fold max (Ideal.ofBits .f32 0xFF800000#32) fun k => x (reduces_keys.lift i k) :=
  (congrFun (hostReduce_maximumf_eq_multiReduction x 0xFF800000#32 reducesTo_S4x16x2048x2048_S4x16x2048_d3 h_S_ reduces_keys (.inl rfl) rfl) i).trans
    (Ideal.multiReduction_maximumf_single x 0xFF800000#32 reduces_keys (.inl rfl) rfl i)

/-- The row of scores that the softmax is over. -/
abbrev scoreRow (b h q : ℕ) : ℕ → EReal := masked (fun k => k / 64 ≤ q / 64) (realScore x0 x1 x2 x3 b h q) attnScale

/-- The greatest score of a row. -/
theorem ref_max (h0 : Real' x0) (h1 : Real' x1) (h2 : Real' x2) (h3 : Real' x3) (i : S4x16x2048.Idx) :
    val_main_v18 (F := Ideal) x0 x1 x2 x3 i = (Finset.range 2048).sup (scoreRow x0 x1 x2 x3 (i 0).val (i 1).val (i 2).val) := by
  have h16 : val_main_v16 (F := Ideal) x0 x1 x2 x3 i = (Finset.range 2048).sup (scoreRow x0 x1 x2 x3 (i 0).val (i 1).val (i 2).val) := by
    rw [← fold_max_bot]
    refine (reduce_max _ i).trans ?_
    refine (congrArg (fun z => (Finset.univ : Finset (Fin 2048)).fold max z _) ofBits_negInf).trans ?_
    refine congrArg (fun f => (Finset.univ : Finset (Fin 2048)).fold max ⊥ f) (funext fun k => ?_)
    exact ref_score x0 x1 x2 x3 h0 h1 h2 h3 _
  rw [val_main_v18_apply, h16, val_main_v17_apply, val_main_cst_2_apply]
  show max (Ideal.ofBits .f32 0xFF800000#32) _ = _
  rw [ofBits_negInf]
  exact max_eq_right bot_le

/-- The weight of a key before the division. -/
theorem ref_weight (h0 : Real' x0) (h1 : Real' x1) (h2 : Real' x2) (h3 : Real' x3) (i : S4x16x2048x2048.Idx) :
    val_main_v22 (F := Ideal) x0 x1 x2 x3 i = Ideal.exp (scoreRow x0 x1 x2 x3 (i 0).val (i 1).val (i 2).val (i 3).val
      - (Finset.range 2048).sup (scoreRow x0 x1 x2 x3 (i 0).val (i 1).val (i 2).val)) := by
  rw [val_main_v22_apply, val_main_v21_apply, val_main_v20_apply, val_main_v19_apply, ref_max x0 x1 x2 x3 h0 h1 h2 h3,
    ref_score x0 x1 x2 x3 h0 h1 h2 h3]
  rfl

/-- The first result of the reference is the softmax attention. -/
theorem ref_attn (h0 : Real' x0) (h1 : Real' x1) (h2 : Real' x2) (h3 : Real' x3) (y : S8192x2048.Idx) :
    val_main_v30 (F := Ideal) x0 x1 x2 x3 x4 y
      = attnOf x0 x1 x2 x3 x4 ((y 0).val / 2048) ((y 0).val % 2048) ((y 1).val / 128) ((y 1).val % 128) := by
  have hR : (y 0).val < 8192 := (y 0).isLt
  have hC : (y 1).val < 2048 := (y 1).isLt
  rw [val_main_v30_apply, val_main_v29_apply, val_main_v28_apply, val_main_v27_apply]
  show (∑ k : Fin 2048, _ : EReal) = _
  unfold attnOf
  rw [← Fin.sum_univ_eq_sum_range]
  have d0 : ((y 0).val * 2048 + (y 1).val) / 4194304 = (y 0).val / 2048 := by omega
  have d1 : ((y 0).val * 2048 + (y 1).val) / 2048 % 2048 = (y 0).val % 2048 := by omega
  have d2 : ((y 0).val * 2048 + (y 1).val) / 128 % 16 = (y 1).val / 128 := by omega
  have d3 : ((y 0).val * 2048 + (y 1).val) % 128 = (y 1).val % 128 := by omega
  refine Finset.sum_congr rfl fun k _ => ?_
  refine congrArg₂ (· * ·) ?_ ?_
  · rw [nat4_of x4 _ _ _ _ (by omega) k.isLt (by omega) (by omega)]
    exact congrArg x4 (funext fun a => Fin.ext (by match a with | ⟨0, _⟩ => exact d0 | ⟨1, _⟩ => rfl | ⟨2, _⟩ => exact d2 | ⟨3, _⟩ => exact d3))
  · rw [val_main_v26_apply, ref_weight x0 x1 x2 x3 h0 h1 h2 h3, val_main_v25_apply, val_main_v24_apply, val_main_v23_apply, val_main_cst_3_apply]
    show Ideal.div _ (Ideal.ofBits .f32 0x00000000#32 + ∑ l : Fin 2048, _) = _
    rw [ofBits_zero, zero_add, ← Fin.sum_univ_eq_sum_range]
    refine congrArg₂ Ideal.div ?_ (Finset.sum_congr rfl fun l _ => ?_)
    · show Ideal.exp (scoreRow x0 x1 x2 x3 (((y 0).val * 2048 + (y 1).val) / 4194304) (((y 0).val * 2048 + (y 1).val) / 128 % 16)
        (((y 0).val * 2048 + (y 1).val) / 2048 % 2048) k.val - (Finset.range 2048).sup (scoreRow x0 x1 x2 x3
        (((y 0).val * 2048 + (y 1).val) / 4194304) (((y 0).val * 2048 + (y 1).val) / 128 % 16) (((y 0).val * 2048 + (y 1).val) / 2048 % 2048))) = _
      rw [d0, d1, d2]
    · rw [ref_weight x0 x1 x2 x3 h0 h1 h2 h3]
      show Ideal.exp (scoreRow x0 x1 x2 x3 (((y 0).val * 2048 + (y 1).val) / 4194304) (((y 0).val * 2048 + (y 1).val) / 128 % 16)
        (((y 0).val * 2048 + (y 1).val) / 2048 % 2048) l.val - (Finset.range 2048).sup (scoreRow x0 x1 x2 x3
        (((y 0).val * 2048 + (y 1).val) / 4194304) (((y 0).val * 2048 + (y 1).val) / 128 % 16) (((y 0).val * 2048 + (y 1).val) / 2048 % 2048))) = _
      rw [d0, d1, d2]

/-- The input weight's lanes from 1088 on, transposed. -/
theorem ref_w34 (x5 : (⟨3, ![1, 2048, 11328]⟩ : Shape).Idx → EReal) (y : S10240x2048.Idx) :
    val_main_v34 (F := Ideal) x5 y = nat3 x5 0 (y 1).val (1088 + (y 0).val) := by
  have hR : (y 0).val < 10240 := (y 0).isLt
  have hC : (y 1).val < 2048 := (y 1).isLt
  rw [val_main_v34_apply, val_main_v33_apply, val_main_v32_apply, val_main_v31_apply, nat3_of x5 _ _ _ (by omega) hC (by omega)]
  exact congrArg x5 (funext fun a => Fin.ext (by
    match a with
    | ⟨0, _⟩ => rfl
    | ⟨1, _⟩ => show ((y 1).val * 11328 + _) / 11328 % 2048 = (y 1).val; dsimp; omega
    | ⟨2, _⟩ => show ((y 1).val * 11328 + _) % 11328 = 1088 + (y 0).val; dsimp; omega))

/-- The weight of argument 6, its leading axis dropped. -/
theorem ref_w36 (x : (⟨3, ![1, 2048, 2048]⟩ : Shape).Idx → EReal) (y : S2048x2048.Idx) :
    val_main_v36 (F := Ideal) x y = nat3 x 0 (y 0).val (y 1).val := by
  have hR : (y 0).val < 2048 := (y 0).isLt
  have hC : (y 1).val < 2048 := (y 1).isLt
  rw [val_main_v36_apply, val_main_v35_apply, nat3_of x _ _ _ (by omega) hR hC]
  exact congrArg x (funext fun a => Fin.ext (by
    match a with
    | ⟨0, _⟩ => rfl
    | ⟨1, _⟩ => show ((y 0).val * 2048 + (y 1).val) / 2048 % 2048 = (y 0).val; omega
    | ⟨2, _⟩ => show ((y 0).val * 2048 + (y 1).val) % 2048 = (y 1).val; omega))

/-- The weight of argument 7, its leading axis dropped. -/
theorem ref_w38 (x : (⟨3, ![1, 2048, 2048]⟩ : Shape).Idx → EReal) (y : S2048x2048.Idx) :
    val_main_v38 (F := Ideal) x y = nat3 x 0 (y 0).val (y 1).val := by
  have hR : (y 0).val < 2048 := (y 0).isLt
  have hC : (y 1).val < 2048 := (y 1).isLt
  rw [val_main_v38_apply, val_main_v37_apply, nat3_of x _ _ _ (by omega) hR hC]
  exact congrArg x (funext fun a => Fin.ext (by
    match a with
    | ⟨0, _⟩ => rfl
    | ⟨1, _⟩ => show ((y 0).val * 2048 + (y 1).val) / 2048 % 2048 = (y 0).val; omega
    | ⟨2, _⟩ => show ((y 0).val * 2048 + (y 1).val) % 2048 = (y 1).val; omega))

/-- The weight of argument 8, its leading axis dropped. -/
theorem ref_w40 (x : (⟨3, ![1, 2048, 2048]⟩ : Shape).Idx → EReal) (y : S2048x2048.Idx) :
    val_main_v40 (F := Ideal) x y = nat3 x 0 (y 0).val (y 1).val := by
  have hR : (y 0).val < 2048 := (y 0).isLt
  have hC : (y 1).val < 2048 := (y 1).isLt
  rw [val_main_v40_apply, val_main_v39_apply, nat3_of x _ _ _ (by omega) hR hC]
  exact congrArg x (funext fun a => Fin.ext (by
    match a with
    | ⟨0, _⟩ => rfl
    | ⟨1, _⟩ => show ((y 0).val * 2048 + (y 1).val) / 2048 % 2048 = (y 0).val; omega
    | ⟨2, _⟩ => show ((y 0).val * 2048 + (y 1).val) % 2048 = (y 1).val; omega))

/-- The weight of argument 9, its leading axis dropped. -/
theorem ref_w42 (x : (⟨3, ![1, 2048, 11264]⟩ : Shape).Idx → EReal) (y : S2048x11264.Idx) :
    val_main_v42 (F := Ideal) x y = nat3 x 0 (y 0).val (y 1).val := by
  have hR : (y 0).val < 2048 := (y 0).isLt
  have hC : (y 1).val < 11264 := (y 1).isLt
  rw [val_main_v42_apply, val_main_v41_apply, nat3_of x _ _ _ (by omega) hR hC]
  exact congrArg x (funext fun a => Fin.ext (by
    match a with
    | ⟨0, _⟩ => rfl
    | ⟨1, _⟩ => show ((y 0).val * 11264 + (y 1).val) / 11264 % 2048 = (y 0).val; omega
    | ⟨2, _⟩ => show ((y 0).val * 11264 + (y 1).val) % 11264 = (y 1).val; omega))

end Cert.Attn

end
-- ==== Proof.AttnClaims.lean ====
/- The claims about the attention call: its frames, its reference's, the named mask, and the equality over the reals. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Finite
public import proofs.«01_k».proof.Proof.RefValue
public import Idealize.ShloMosaic.Adequacy
public import Idealize.ShloMosaic.Init
public import Idealize.ShloMosaic.Lib.Quiescent

@[expose] public section

noncomputable section

namespace Cert.Attn

open Idealize.ShloMosaic Idealize.ShloMosaic.TcCoe Idealize.SL.Sem

/-- The kernel runs on bits, leaves its arguments and its semaphores as they were. -/
theorem frame_kernel : Cert.quiescent_Kernel (hKernel := Cert.Kernel.Gen.facts) :=
  fun m ρ _ => Cert.Kernel.Gen.frame m ρ

/-- The same over the extended reals. -/
theorem frame_ideal : Cert.quiescent_KernelIdeal (hKernelIdeal := Cert.KernelIdeal.Gen.facts) :=
  fun m ρ _ => Cert.KernelIdeal.Gen.frame m ρ

/-- The same where the queries and keys are finite. -/
theorem frame_ideal_finite : Cert.quiescent_KernelIdeal_pre_finite_qk (hKernelIdeal := Cert.KernelIdeal.Gen.facts)
    (hPre_finite_qk := Cert.Pre_finite_qk.Gen.facts) :=
  fun m ρ _ => Cert.KernelIdeal.Gen.frame m ρ

/-- The reference runs, leaves its arguments and its semaphores as they were. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m ρ)

/-- The same where the queries and keys are finite. -/
theorem frame_reference_finite : Cert.quiescent_ReferenceIdeal_pre_finite_qk (hReferenceIdeal := Cert.ReferenceIdeal.Gen.facts)
    (hPre_finite_qk := Cert.Pre_finite_qk.Gen.facts) := fun m ρ _ => frame_reference m ρ trivial

/-- The mask's constant is read as minus infinity. -/
theorem preserves_mask : Cert.preserves_Kernel_KernelIdeal :=
  IdealRules.named_const.statement Cert.KernelIdeal.κ "mask" .f32 0xF149F2CA#32 ⊥ rfl

section Results

open Cert.KernelIdeal Cert.KernelIdeal.Gen

variable (m : (ℓ : Loc nD τ sig) → Buf (Elt Ideal) ℓ) (c : Dev nD)

/-- The attention the kernel leaves is the reference's. -/
theorem result0 (h0 : Real' (m ((c : Thread nD τ).loc main_arg0))) (h1 : Real' (m ((c : Thread nD τ).loc main_arg1)))
    (h2 : Real' (m ((c : Thread nD τ).loc main_arg2))) (h3 : Real' (m ((c : Thread nD τ).loc main_arg3))) :
    Cert.ReferenceIdeal.Read.val_main_v30 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      = (dats m 0 c).arrAt 10 cfg0.N := by
  refine (funext fun y => ?_ : _ = fun y : S8192x2048.Idx => _).trans (final10 m c).symm
  rw [flatAttn_eq m c h0 h1 h2 h3 _ _ (y 0).isLt (y 1).isLt]
  exact ref_attn _ _ _ _ _ h0 h1 h2 h3 y

/-- The cast lanes of the input weight are the reference's. -/
theorem result1 : Cert.ReferenceIdeal.Read.val_main_v34 (F := Ideal) (m ((c : Thread nD τ).loc main_arg5)) = (dats m 0 c).arrAt 11 cfg0.N := by
  refine (funext fun y => ?_ : _ = fun y : S10240x2048.Idx => _).trans (final11 m c).symm
  have hy : (y 0).val < 10240 := (y 0).isLt
  rw [host20 m c _ _ (by omega) (y 1).isLt]
  exact ref_w34 _ y

/-- The cast weight of argument 6 is the reference's. -/
theorem result2 : Cert.ReferenceIdeal.Read.val_main_v36 (F := Ideal) (m ((c : Thread nD τ).loc main_arg6)) = (dats m 0 c).arrAt 12 cfg0.N := by
  refine (funext fun y => ?_ : _ = fun y : S2048x2048.Idx => _).trans (final12 m c).symm
  rw [host21 m c _ _ (y 0).isLt (y 1).isLt]
  exact ref_w36 _ y

/-- The cast weight of argument 7 is the reference's. -/
theorem result3 : Cert.ReferenceIdeal.Read.val_main_v38 (F := Ideal) (m ((c : Thread nD τ).loc main_arg7)) = (dats m 0 c).arrAt 13 cfg0.N := by
  refine (funext fun y => ?_ : _ = fun y : S2048x2048.Idx => _).trans (final13 m c).symm
  rw [host22 m c _ _ (y 0).isLt (y 1).isLt]
  exact ref_w38 _ y

/-- The cast weight of argument 8 is the reference's. -/
theorem result4 : Cert.ReferenceIdeal.Read.val_main_v40 (F := Ideal) (m ((c : Thread nD τ).loc main_arg8)) = (dats m 0 c).arrAt 14 cfg0.N := by
  refine (funext fun y => ?_ : _ = fun y : S2048x2048.Idx => _).trans (final14 m c).symm
  rw [host23 m c _ _ (y 0).isLt (y 1).isLt]
  exact ref_w40 _ y

/-- The cast weight of argument 9 is the reference's. -/
theorem result5 : Cert.ReferenceIdeal.Read.val_main_v42 (F := Ideal) (m ((c : Thread nD τ).loc main_arg9)) = (dats m 0 c).arrAt 15 cfg0.N := by
  refine (funext fun y => ?_ : _ = fun y : S2048x11264.Idx => _).trans (final15 m c).symm
  rw [host24 m c _ _ (y 0).isLt (y 1).isLt]
  exact ref_w42 _ y

end Results

/-- The six results agree, element by element, with the reference's. -/
theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m g m' g' hpre hargs
  refine ⟨fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, fun c => (Cert.KernelIdeal.Gen.dats m 0 c).arrAt 13 Cert.KernelIdeal.cfg0.N,
    fun c => (Cert.KernelIdeal.Gen.dats m 0 c).arrAt 14 Cert.KernelIdeal.cfg0.N, fun c => (Cert.KernelIdeal.Gen.dats m 0 c).arrAt 15 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨r0, r1, r2, r3, r4, r5, rest⟩ := h c
  obtain ⟨a0, a1, a2, a3, a4, a5, a6, a7, a8, a9⟩ := hargs c
  obtain ⟨h0, h1, h2, h3⟩ := real_of_pre _ _ _ _ _ _ _ _ _ _ (fun k => k.elim0) (congrFun (hpre c) _)
  refine ⟨?_, ?_, ?_, ?_, ?_, ?_, rest⟩
  · refine (r0.trans (Cert.ReferenceIdeal.Read.val_main_v30_eq m' c)).trans (Eq.trans ?_ (result0 m c h0 h1 h2 h3))
    rw [a0, a1, a2, a3, a4]
  · exact (r1.trans (Cert.ReferenceIdeal.Read.val_main_v34_eq _)).trans ((congrArg _ a5).trans (result1 m c))
  · exact (r2.trans (Cert.ReferenceIdeal.Read.val_main_v36_eq _)).trans ((congrArg _ a6).trans (result2 m c))
  · exact (r3.trans (Cert.ReferenceIdeal.Read.val_main_v38_eq _)).trans ((congrArg _ a7).trans (result3 m c))
  · exact (r4.trans (Cert.ReferenceIdeal.Read.val_main_v40_eq _)).trans ((congrArg _ a8).trans (result4 m c))
  · exact (r5.trans (Cert.ReferenceIdeal.Read.val_main_v42_eq _)).trans ((congrArg _ a9).trans (result5 m c))

end Cert.Attn

end
-- ==== Proof.FfnMath.lean ====
/- Layer normalisation over the extended reals: a positive real factor on the row changes nothing but the size of the
   small constant under the root. -/
module

public import proofs.«01_k».proof.Proof.Softmax

@[expose] public section

noncomputable section

namespace Cert.Ffn

open Idealize.ShloMosaic Cert.Attn

/-- The mean of a row of 2048 extended reals. -/
def mean (z : ℕ → EReal) : EReal := Ideal.div (∑ k ∈ Finset.range 2048, z k) ((2048 : ℝ) : EReal)

/-- The mean square distance from the mean. -/
def variance (z : ℕ → EReal) : EReal := mean fun k => (z k - mean z) * (z k - mean z)

/-- An entry of the row, normalised with the small constant `e`. -/
def normed (e : ℝ) (z : ℕ → EReal) (n : ℕ) : EReal := (z n - mean z) * Ideal.rsqrt (variance z + (e : EReal))

/-- A real nonnegative factor distributes over a sum. -/
theorem coe_mul_add (a : ℝ) (ha : 0 ≤ a) (x y : EReal) : (a : EReal) * (x + y) = a * x + a * y :=
  EReal.left_distrib_of_nonneg_of_ne_top (EReal.coe_nonneg.2 ha) (EReal.coe_ne_top a) x y

theorem coe_mul_sub (a : ℝ) (ha : 0 ≤ a) (x y : EReal) : (a : EReal) * x - a * y = a * (x - y) := by
  rw [sub_eq_add_neg, sub_eq_add_neg, coe_mul_add a ha, mul_neg]

theorem mean_scale (a : ℝ) (ha : 0 ≤ a) (z : ℕ → EReal) : mean (fun k => (a : EReal) * z k) = a * mean z := by
  unfold mean
  rw [div_coe_pos _ _ (by norm_num), div_coe_pos _ _ (by norm_num), ← mul_assoc, mul_comm (a : EReal), sum_mul_coe _ _ a ha]
  exact congrArg (· * _) (Finset.sum_congr rfl fun k _ => mul_comm _ _)

theorem variance_scale (a : ℝ) (ha : 0 ≤ a) (z : ℕ → EReal) : variance (fun k => (a : EReal) * z k) = ((a * a : ℝ) : EReal) * variance z := by
  unfold variance
  rw [mean_scale a ha, ← mean_scale (a * a) (mul_nonneg ha ha)]
  refine congrArg mean (funext fun k => ?_)
  rw [coe_mul_sub a ha, mul_mul_mul_comm, ← EReal.coe_mul]

theorem square_nonneg (x : EReal) : 0 ≤ x * x := by
  rcases le_total 0 x with h | h
  · exact mul_nonneg h h
  · have h' : 0 ≤ -x := EReal.neg_nonneg.2 h
    have e : x * x = -x * -x := by rw [neg_mul, mul_neg, neg_neg]
    rw [e]
    exact mul_nonneg h' h'

theorem variance_nonneg (z : ℕ → EReal) : 0 ≤ variance z := by
  unfold variance mean
  rw [div_coe_pos _ _ (by norm_num)]
  exact mul_nonneg (Finset.sum_nonneg fun k _ => square_nonneg _) (EReal.coe_nonneg.2 (by norm_num))

/-- The root of a positive number times a square. -/
theorem rsqrt_scale (a : ℝ) (ha : 0 < a) (w : EReal) (hw : 0 < w) :
    Ideal.rsqrt (((a * a : ℝ) : EReal) * w) = ((a⁻¹ : ℝ) : EReal) * Ideal.rsqrt w := by
  induction w with
  | bot => exact absurd hw (by simp)
  | top =>
    rw [EReal.coe_mul_top_of_pos (mul_pos ha ha)]
    show (0 : EReal) = _ * 0
    rw [mul_zero]
  | coe r =>
    have hr : 0 < r := EReal.coe_pos.1 hw
    have har : 0 < a * a * r := mul_pos (mul_pos ha ha) hr
    rw [← EReal.coe_mul, Ideal.rsqrt_coe, Ideal.rsqrt_coe, if_neg har.not_gt, if_neg har.ne', if_neg hr.not_gt, if_neg hr.ne',
      ← EReal.coe_mul, Real.sqrt_mul (mul_nonneg ha.le ha.le), Real.sqrt_mul_self ha.le, mul_inv]

/-- Normalising `a` times a row with `a * a * e` is normalising the row with `e`. -/
theorem normed_scale (a e : ℝ) (ha : 0 < a) (he : 0 < e) (z : ℕ → EReal) (n : ℕ) :
    normed (a * a * e) (fun k => (a : EReal) * z k) n = normed e z n := by
  unfold normed
  have hw : 0 < variance z + (e : EReal) :=
    lt_of_lt_of_le (EReal.coe_pos.2 he) (le_add_of_nonneg_left (variance_nonneg z))
  rw [mean_scale a ha.le, variance_scale a ha.le, coe_mul_sub a ha.le, EReal.coe_mul (a * a) e, ← coe_mul_add _ (mul_nonneg ha.le ha.le),
    rsqrt_scale a ha _ hw, mul_mul_mul_comm, ← EReal.coe_mul, mul_inv_cancel₀ ha.ne', EReal.coe_one, one_mul]

/-- The residual scaled and the gated branch added, as a factor on both. -/
theorem residual_scale (a : ℝ) (ha : 0 < a) (x g b : EReal) :
    (a : EReal) * x + g * b = a * (x + (g * ((a⁻¹ : ℝ) : EReal)) * b) := by
  have e : (a : EReal) * ((g * ((a⁻¹ : ℝ) : EReal)) * b) = g * b := by
    rw [mul_comm g, mul_assoc, ← mul_assoc (a : EReal), ← EReal.coe_mul, mul_inv_cancel₀ ha.ne', EReal.coe_one, one_mul]
  rw [coe_mul_add a ha.le, e]

end Cert.Ffn

end
-- ==== Proof.FfnPay.lean ====
/- The block computations of the feed-forward call at an element: the gated hidden columns, the product with the second
   weight matrix, and the residual with its layer norm. -/
module

public import proofs.«01_k».proof.Proof.Gen.Kernel2Ideal.Value
public import proofs.«01_k».proof.Proof.FfnMath
public import proofs.«01_k».proof.Proof.Score
public import proofs.«01_k».proof.Proof.Entries

@[expose] public section

noncomputable section

namespace Cert.Ffn

open Idealize.ShloMosaic Idealize.ShloMosaic.ValueIdx
open Cert.Kernel2Ideal Cert.Kernel2Ideal.Gen Cert.Attn

/-- A load at a unit rectangle of a matrix, read at an index. -/
theorem ld_unit_ix2 {e : EltTy} {a b a' b' : ℕ} (x : Vec Ideal (Sh a b) e) (o : Fin 2 → ℕ) (o₀ o₁ : ℕ) (ho : o = ![o₀, o₁]) (inb)
    (i : Fin a') (j : Fin b') (hi : o₀ + i.val < a) (hj : o₁ + j.val < b) :
    View.ld x (Rect.unit (s := Sh a b) o (Sh a' b').size inb) (ix2 i j) = x (ix2 ⟨o₀ + i.val, hi⟩ ⟨o₁ + j.val, hj⟩) := by
  subst ho
  show x _ = x _
  refine congrArg x (funext fun ax => Fin.ext ?_)
  match ax with
  | ⟨0, _⟩ => exact ValueKit.rect_emb_unit_val _ _ _ _ _
  | ⟨1, _⟩ => exact ValueKit.rect_emb_unit_val _ _ _ _ _

theorem inb_of {a b a' b' : ℕ} (o : Fin 2 → ℕ) (o₀ o₁ : ℕ) (ho : o = ![o₀, o₁]) (inb : ∀ ax, o ax + (Sh a' b').size ax ≤ (Sh a b).size ax) :
    o₀ + a' ≤ a ∧ o₁ + b' ≤ b := by
  subst ho
  exact ⟨inb 0, inb 1⟩

/-- The same of a matrix of half floats, by the numbers of row and column. -/
theorem ldb_unit_nat2 {a b a' b' : ℕ} (x : Vec Ideal (Sh a b) .bf16) (o : Fin 2 → ℕ) (o₀ o₁ : ℕ) (ho : o = ![o₀, o₁]) (inb) (i : Fin a') (j : Fin b') :
    View.ld x (Rect.unit (s := Sh a b) o (Sh a' b').size inb) (ix2 i j) = nat2 x (o₀ + i.val) (o₁ + j.val) := by
  obtain ⟨h0, h1⟩ := inb_of o o₀ o₁ ho inb
  rw [nat2_of x (o₀ + i.val) (o₁ + j.val) (by omega) (by omega)]
  exact ld_unit_ix2 x o o₀ o₁ ho inb i j _ _

/-- The same of a matrix of floats. -/
theorem ldf_unit_nat2 {a b a' b' : ℕ} (x : Vec Ideal (Sh a b) .f32) (o : Fin 2 → ℕ) (o₀ o₁ : ℕ) (ho : o = ![o₀, o₁]) (inb) (i : Fin a') (j : Fin b') :
    View.ld x (Rect.unit (s := Sh a b) o (Sh a' b').size inb) (ix2 i j) = nat2 x (o₀ + i.val) (o₁ + j.val) := by
  obtain ⟨h0, h1⟩ := inb_of o o₀ o₁ ho inb
  rw [nat2_of x (o₀ + i.val) (o₁ + j.val) (by omega) (by omega)]
  exact ld_unit_ix2 x o o₀ o₁ ho inb i j _ _

/-- A product of two matrices over a zero accumulator. -/
theorem matmul_plain_zero {m k n : ℕ} {φ : FTy} (x : FVec Ideal (Sh m k) φ) (w : FVec Ideal (Sh k n) φ) (r : Fin m) (c : Fin n) :
    FloatOps.matmul (DotDims.plain m k n) none x w (constant (Sh m n) .f32 0x00000000#32) (ix2 r c)
      = ∑ l ∈ Finset.range k, nat2 x r.val l * nat2 w l c.val := by
  rw [Ideal.matmul_plain_apply]
  show Ideal.ofBits .f32 0x00000000#32 + _ = _
  rw [ofBits_zero, zero_add, ← Fin.sum_univ_eq_sum_range fun l => nat2 x r.val l * nat2 w l c.val]
  refine Finset.sum_congr rfl fun l _ => ?_
  rw [nat2_ix2, nat2_ix2]

/-- The gated hidden value of a row `r` and a column `p`: the gate through the logistic, times the other product. -/
def gated (u wg wu : ℕ → ℕ → EReal) (r p : ℕ) : EReal :=
  ((∑ k ∈ Finset.range 2048, u r k * wg k p) * Ideal.logistic (∑ k ∈ Finset.range 2048, u r k * wg k p))
    * ∑ k ∈ Finset.range 2048, u r k * wu k p

theorem gated_congr (u wg wu wg' wu' : ℕ → ℕ → EReal) (r p p' : ℕ) (hg : ∀ k < 2048, wg k p = wg' k p') (hu : ∀ k < 2048, wu k p = wu' k p') :
    gated u wg wu r p = gated u wg' wu' r p' := by
  have e1 : ∑ k ∈ Finset.range 2048, u r k * wg k p = ∑ k ∈ Finset.range 2048, u r k * wg' k p' :=
    Finset.sum_congr rfl fun k hk => by rw [hg k (Finset.mem_range.mp hk)]
  have e2 : ∑ k ∈ Finset.range 2048, u r k * wu k p = ∑ k ∈ Finset.range 2048, u r k * wu' k p' :=
    Finset.sum_congr rfl fun k hk => by rw [hu k (Finset.mem_range.mp hk)]
  unfold gated
  rw [e1, e2]

theorem shapeCast_same {s : Shape} {φ : FTy} (x : FVec Ideal s φ) (h) : shapeCast s x h = x := shapeCast_self x h

/-- The hidden block. -/
theorem pay12_apply (u : Vec Ideal S1024x2048 .bf16) (g w : Vec Ideal S2048x256 .bf16) (r : Fin 1024) (p : Fin 256) :
    k0_pay12 u g w (ix2 r p) = gated (nat2 u) (nat2 g) (nat2 w) r.val p.val := by
  unfold gated
  rw [← matmul_plain_zero u g r p, ← matmul_plain_zero u w r p]
  unfold k0_pay12
  rw [shapeCast_same, shapeCast_same]
  rfl

theorem pay13_eq (u : Vec Ideal S1024x2048 .bf16) (g w : Vec Ideal S2048x256 .bf16) : k0_pay13 u g w = k0_pay12 u g w := rfl

/-- The product of the hidden blocks with the second weights, added to what was there. -/
theorem pay17_apply (h0 h1 : Vec Ideal S1024x256 .bf16) (old : Vec Ideal S1024x512 .f32) (w0 w1 : Vec Ideal S256x512 .bf16) (r : Fin 1024) (c : Fin 512) :
    k0_pay17 h0 h1 old w0 w1 (ix2 r c)
      = old (ix2 r c) + ((∑ p ∈ Finset.range 256, nat2 h0 r.val p * nat2 w0 p c.val) + ∑ p ∈ Finset.range 256, nat2 h1 r.val p * nat2 w1 p c.val) := by
  rw [← matmul_plain_zero h0 w0 r c, ← matmul_plain_zero h1 w1 r c]
  unfold k0_pay17
  rw [shapeCast_same, shapeCast_same, shapeCast_same]
  rfl

theorem pay18_eq (h0 h1 : Vec Ideal S1024x256 .bf16) (old : Vec Ideal S1024x512 .f32) (w0 w1 : Vec Ideal S256x512 .bf16) :
    k0_pay18 h0 h1 old w0 w1 = k0_pay17 h0 h1 old w0 w1 := rfl

theorem pay1_eq (h0 h1 : Vec Ideal S1024x256 .bf16) (old : Vec Ideal S1024x512 .f32) (w0 w1 : Vec Ideal S256x512 .bf16) :
    k0_pay1 h1 (k0_pay19 old) (k0_pay20 h0 w0) w1 = k0_pay17 h0 h1 old w0 w1 := rfl

theorem pay16_eq (u : Vec Ideal S1024x2048 .bf16) (g0 w0 g1 w1 : Vec Ideal S2048x256 .bf16) (old : Vec Ideal S1024x512 .f32) (a b : Vec Ideal S256x512 .bf16) :
    k0_pay16 (k0_pay14 old) (k0_pay15 u g0 w0 g1 w1 a b) = k0_pay17 (k0_pay12 u g0 w0) (k0_pay13 u g1 w1) old a b := rfl

/-- What one step of the second product adds to: `old` plus the part of the 512 hidden columns of the step. -/
def stepVal (old u wg wu wo : ℕ → ℕ → EReal) (r n : ℕ) : EReal :=
  old r n + ((∑ p ∈ Finset.range 256, gated u wg wu r p * wo p n) + ∑ p ∈ Finset.range 256, gated u wg wu r (256 + p) * wo (256 + p) n)

/-- One chunk of 512 output lanes of a step. -/
theorem chunk_apply (o : ℕ) (old : ℕ → ℕ → EReal) (u : Vec Ideal S1024x2048 .bf16) (g w : Vec Ideal S2048x512 .bf16) (wo : Vec Ideal S512x2048 .bf16)
    (a : Vec Ideal S1024x512 .f32) (ha : ∀ (r : Fin 1024) (c : Fin 512), a (ix2 r c) = old (0 + r.val) (o + c.val)) (i0 i1 j0 j1 k0 k1)
    (r : Fin 1024) (c : Fin 512) :
    k0_pay17 (k0_pay12 u (View.ld g (Rect.unit ![0, 0] S2048x256.size i0)) (View.ld w (Rect.unit ![0, 0] S2048x256.size j0)))
        (k0_pay13 u (View.ld g (Rect.unit ![0, 256] S2048x256.size i1)) (View.ld w (Rect.unit ![0, 256] S2048x256.size j1)))
        a (View.ld wo (Rect.unit ![0, o] S256x512.size k0)) (View.ld wo (Rect.unit ![256, o] S256x512.size k1)) (ix2 r c)
      = stepVal old (nat2 u) (nat2 g) (nat2 w) (nat2 wo) (0 + r.val) (o + c.val) := by
  rw [pay17_apply, ha, pay13_eq]
  unfold stepVal
  congr 1
  congr 1
  · refine Finset.sum_congr rfl fun p hp => ?_
    have hp' := Finset.mem_range.mp hp
    rw [nat2_of _ r.val p r.isLt hp', nat2_of _ p c.val hp' c.isLt, pay12_apply, ldb_unit_nat2 wo _ 0 o rfl, Nat.zero_add, Nat.zero_add]
    congr 1
    refine gated_congr _ _ _ _ _ _ _ _ (fun k hk => ?_) (fun k hk => ?_)
    · rw [nat2_of _ k p hk hp', ldb_unit_nat2 g _ 0 0 rfl, Nat.zero_add, Nat.zero_add]
    · rw [nat2_of _ k p hk hp', ldb_unit_nat2 w _ 0 0 rfl, Nat.zero_add, Nat.zero_add]
  · refine Finset.sum_congr rfl fun p hp => ?_
    have hp' := Finset.mem_range.mp hp
    rw [nat2_of _ r.val p r.isLt hp', nat2_of _ p c.val hp' c.isLt, pay12_apply, ldb_unit_nat2 wo _ 256 o rfl, Nat.zero_add]
    congr 1
    refine gated_congr _ _ _ _ _ _ _ _ (fun k hk => ?_) (fun k hk => ?_)
    · rw [nat2_of _ k p hk hp', ldb_unit_nat2 g _ 0 256 rfl, Nat.zero_add]
    · rw [nat2_of _ k p hk hp', ldb_unit_nat2 w _ 0 256 rfl, Nat.zero_add]

end Cert.Ffn

end
-- ==== Proof.FfnNorm.lean ====
/- The modulated rows, the residual and its layer norm in the feed-forward call, at an element. -/
module

public import proofs.«01_k».proof.Proof.FfnPay
public import Idealize.ShloMosaic.Lib.ValueLayoutCasts

@[expose] public section

noncomputable section

namespace Cert.Ffn

open Idealize.ShloMosaic Idealize.ShloMosaic.ValueIdx
open Cert.Kernel2Ideal Cert.Kernel2Ideal.Gen Cert.Attn

/-- A column spread over lanes, read at an index. -/
theorem broadcastTo_a1_ab_apply {a b : ℕ} (v : FVec Ideal (Sh a 1) .f32) (h : (Sh a 1).Broadcasts (Sh a b)) (p : Fin a) (c : Fin b) :
    broadcastTo (Sh a b) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split <;> omega
  | ⟨1, _⟩ => rfl

theorem ofBits_2048 : Ideal.ofBits .f32 0x45000000#32 = ((2048 : ℝ) : EReal) := by
  simp [Ideal.ofBits, Ideal.ieee]
  rw [← EReal.coe_mul]
  norm_num

theorem ofBits_one : Ideal.ofBits .f32 0x3F800000#32 = (1 : EReal) := by
  rw [← EReal.coe_one]
  simp [Ideal.ofBits, Ideal.ieee]
  rw [← EReal.coe_mul]
  norm_num

/-- The named reciprocal of the residual's factor. -/
theorem inv_alpha_val : (Named.named (F := Ideal) κ "inv_alpha" (0x3F5744FD#32 : BitVec (FTy.bits .f32)) : Ideal .f32) = ((524288 / 623487 : ℝ) : EReal) :=
  IdealRules.named_const.ideal_named_scalar _ _ _ _ rfl

/-- The named small constant under the root. -/
theorem eps_z_val : (Named.named (F := Ideal) κ "eps_z" (0x36ED4403#32 : BitVec (FTy.bits .f32)) : Ideal .f32) = ((2748779 / 388736039169 : ℝ) : EReal) :=
  IdealRules.named_const.ideal_named_scalar _ _ _ _ rfl

/-- Row sums of a matrix, kept as one column, read at a row. -/
theorem rowSum_apply {n : ℕ} (x : FVec Ideal (Sh n 2048) .f32) (hr : (Sh n 2048).Reduces [1] ⟨1, ![n]⟩)
    (hc : (⟨1, ![n]⟩ : Shape).ShapeCasts (Sh n 1)) (hφ : FKind.Formats .f32) (hacc) (r : Fin n) (u : Fin 1) :
    shapeCast (Sh n 1) (multiReduction .add [1] ⟨1, ![n]⟩ x 0x00000000#32 hr hφ hacc) hc (ix2 r u)
      = ∑ k ∈ Finset.range 2048, nat2 x r.val k := by
  rw [shapeCast_a_a1_apply, Ideal.multiReduction_add_single, ← Fin.sum_univ_eq_sum_range]
  refine Finset.sum_congr rfl fun k _ => ?_
  show x (hr.lift (ix1 r) k) = nat2 x r.val k.val
  rw [nat2_of x r.val k.val r.isLt k.isLt]
  refine congrArg x (funext fun a => ?_)
  match a with
  | ⟨0, _⟩ => rfl
  | ⟨1, _⟩ => rfl

/-- The modulated rows: one plus the scale, times the row, plus the shift. -/
theorem pay10_apply (x : Vec Ideal S1024x2048 .f32) (sc sh : Vec Ideal S1x2048 .f32) (r : Fin 1024) (k : Fin 2048) :
    k0_pay10 (F := Ideal) x sc sh (ix2 r k) = x (ix2 r k) * (1 + sc (ix2 (0 : Fin 1) k)) + sh (ix2 (0 : Fin 1) k) := by
  unfold k0_pay10
  rw [shapeCast_same]
  show x (ix2 r k) * broadcastTo (Sh 1024 2048) (addf (F := Ideal) (s := S1x2048) (φ := .f32) (broadcast S1x2048 (Scalar.ofBits .f32 0x3F800000#32)) sc) _ (ix2 r k)
    + broadcastTo (Sh 1024 2048) sh _ (ix2 r k) = _
  rw [broadcastTo_1b_ab_apply, broadcastTo_1b_ab_apply]
  show x (ix2 r k) * (Ideal.ofBits .f32 0x3F800000#32 + _) + _ = _
  rw [ofBits_one]

theorem pay11_apply (y : S1024x2048.Idx) : (k0_pay11 (F := Ideal)) y = 0 := by
  show Ideal.ofBits .f32 0x00000000#32 = 0
  exact ofBits_zero

/-- A row of the residual, divided by the residual's factor. -/
def resRow (x g acc : ℕ → EReal) (n : ℕ) : EReal := x n + (g n * ((524288 / 623487 : ℝ) : EReal)) * acc n

/-- The residual block before it is centred. -/
def resBlock (x : Vec Ideal S1024x2048 .f32) (g : Vec Ideal S1x2048 .f32) (acc : Vec Ideal S1024x2048 .f32) : FVec Ideal S1024x2048 .f32 :=
  addf x (mulf (broadcastTo S1024x2048 (mulf g (broadcast S1x2048 (Named.named κ "inv_alpha" 0x3F5744FD#32))) broadcasts_S1x2048_S1024x2048) acc)

theorem resBlock_apply (x : Vec Ideal S1024x2048 .f32) (g : Vec Ideal S1x2048 .f32) (acc : Vec Ideal S1024x2048 .f32) (r : Fin 1024) (n : Fin 2048) :
    resBlock x g acc (ix2 r n) = resRow (nat2 x r.val) (nat2 g 0) (nat2 acc r.val) n.val := by
  unfold resBlock resRow
  show x (ix2 r n) + broadcastTo (Sh 1024 2048) (mulf (F := Ideal) (s := S1x2048) (φ := .f32) g (broadcast S1x2048 (Named.named κ "inv_alpha" 0x3F5744FD#32))) _ (ix2 r n) * acc (ix2 r n) = _
  rw [broadcastTo_1b_ab_apply, nat2_ix2, nat2_ix2, nat2_of g 0 n.val (by decide) n.isLt]
  show _ + (_ * Named.named (F := Ideal) κ "inv_alpha" (0x3F5744FD#32 : BitVec (FTy.bits .f32))) * _ = _
  rw [inv_alpha_val]
  rfl

theorem resBlock_row (x : Vec Ideal S1024x2048 .f32) (g : Vec Ideal S1x2048 .f32) (acc : Vec Ideal S1024x2048 .f32) (r : Fin 1024) :
    ∑ k ∈ Finset.range 2048, nat2 (resBlock x g acc) r.val k = ∑ k ∈ Finset.range 2048, resRow (nat2 x r.val) (nat2 g 0) (nat2 acc r.val) k := by
  refine Finset.sum_congr rfl fun k hk => ?_
  rw [nat2_of _ r.val k r.isLt (Finset.mem_range.mp hk)]
  exact resBlock_apply x g acc r ⟨k, Finset.mem_range.mp hk⟩

/-- The column of a row's sums over 2048. -/
def meanCol (z : FVec Ideal S1024x2048 .f32) : FVec Ideal S1024x1 .f32 :=
  divf (shapeCast S1024x1 (multiReduction .add [1] S1024 z 0x00000000#32 reduces_S1024x2048_S1024 (.inl rfl) rfl) shapeCasts_S1024_S1024x1)
    (broadcast S1024x1 (Scalar.ofBits .f32 0x45000000#32))

theorem meanCol_apply (z : FVec Ideal S1024x2048 .f32) (r : Fin 1024) (u : Fin 1) : meanCol z (ix2 r u) = mean (nat2 z r.val) := by
  unfold mean
  rw [← ofBits_2048, ← rowSum_apply z reduces_S1024x2048_S1024 shapeCasts_S1024_S1024x1 (.inl rfl) rfl r u]
  rfl

theorem mean_congr (z w : ℕ → EReal) (h : ∀ k < 2048, z k = w k) : mean z = mean w := by
  unfold mean
  rw [Finset.sum_congr rfl fun k hk => h k (Finset.mem_range.mp hk)]

/-- The centred residual. -/
theorem pay8_apply (x : Vec Ideal S1024x2048 .f32) (g : Vec Ideal S1x2048 .f32) (acc : Vec Ideal S1024x2048 .f32) (r : Fin 1024) (n : Fin 2048) :
    k0_pay8 x g acc (ix2 r n) = resRow (nat2 x r.val) (nat2 g 0) (nat2 acc r.val) n.val - mean (resRow (nat2 x r.val) (nat2 g 0) (nat2 acc r.val)) := by
  have e : k0_pay8 x g acc = subf (resBlock x g acc) (broadcastTo S1024x2048 (meanCol (resBlock x g acc)) broadcasts_S1024x1_S1024x2048) := by
    unfold k0_pay8
    rw [shapeCast_same, shapeCast_same, shapeCast_same]
    rfl
  rw [e]
  show resBlock x g acc (ix2 r n) - broadcastTo (Sh 1024 2048) (meanCol (resBlock x g acc)) _ (ix2 r n) = _
  rw [broadcastTo_a1_ab_apply, meanCol_apply, resBlock_apply]
  congr 1
  refine mean_congr _ _ fun k hk => ?_
  rw [nat2_of _ r.val k r.isLt hk]
  exact resBlock_apply x g acc r ⟨k, hk⟩

/-- The column of reciprocal roots. -/
theorem rootCol_apply (m : FVec Ideal S1024x1 .f32) (r : Fin 1024) (u : Fin 1) :
    rsqrt (addf m (broadcast S1024x1 (Named.named κ "eps_z" 0x36ED4403#32))) (ix2 r u) = Ideal.rsqrt (m (ix2 r u) + ((2748779 / 388736039169 : ℝ) : EReal)) := by
  rw [← eps_z_val]
  rfl

/-- The layer norm of the residual, with the gain and the bias. -/
theorem pay2_apply (x : Vec Ideal S1024x2048 .f32) (g lg lb : Vec Ideal S1x2048 .f32) (acc : Vec Ideal S1024x2048 .f32) (r : Fin 1024) (n : Fin 2048) :
    k0_pay2 (k0_pay6 lg) (k0_pay7 lb) (k0_pay8 x g acc) (k0_pay9 x g acc) (ix2 r n)
      = normed (2748779 / 388736039169) (resRow (nat2 x r.val) (nat2 g 0) (nat2 acc r.val)) n.val * nat2 lg 0 n.val + nat2 lb 0 n.val := by
  have e : k0_pay2 (k0_pay6 lg) (k0_pay7 lb) (k0_pay8 x g acc) (k0_pay9 x g acc)
      = addf (mulf (mulf (k0_pay8 x g acc) (broadcastTo S1024x2048 (rsqrt (addf (meanCol (k0_pay9 x g acc)) (broadcast S1024x1 (Named.named κ "eps_z" 0x36ED4403#32)))) broadcasts_S1024x1_S1024x2048))
          (broadcastTo S1024x2048 lg broadcasts_S1x2048_S1024x2048)) (broadcastTo S1024x2048 lb broadcasts_S1x2048_S1024x2048) := by
    unfold k0_pay2 k0_pay6 k0_pay7
    rw [shapeCast_same, shapeCast_same]
    rfl
  rw [e]
  show k0_pay8 x g acc (ix2 r n) * broadcastTo (Sh 1024 2048) (rsqrt (addf (meanCol (k0_pay9 x g acc)) (broadcast S1024x1 (Named.named κ "eps_z" 0x36ED4403#32)))) _ (ix2 r n)
      * broadcastTo (Sh 1024 2048) lg _ (ix2 r n) + broadcastTo (Sh 1024 2048) lb _ (ix2 r n) = _
  rw [broadcastTo_1b_ab_apply, broadcastTo_1b_ab_apply, broadcastTo_a1_ab_apply, nat2_of lg 0 n.val (by decide) n.isLt, nat2_of lb 0 n.val (by decide) n.isLt]
  have hm : mean (nat2 (k0_pay9 x g acc) r.val) = variance (resRow (nat2 x r.val) (nat2 g 0) (nat2 acc r.val)) := by
    unfold variance
    refine mean_congr _ _ fun k hk => ?_
    rw [nat2_of _ r.val k r.isLt hk]
    show k0_pay8 x g acc (ix2 r ⟨k, hk⟩) * k0_pay8 x g acc (ix2 r ⟨k, hk⟩) = _
    rw [pay8_apply]
  rw [rootCol_apply, meanCol_apply, pay8_apply, hm]
  rfl

end Cert.Ffn

end
-- ==== Proof.FfnOutB.lean ====
/- What one grid point of the feed-forward call leaves in its output block and its scratch block: a point in the middle of a tile's sweep. -/
module

public import proofs.«01_k».proof.Proof.FfnNorm
public import Idealize.ShloMosaic.Lib.Pipeline.CanonAppend

@[expose] public section

noncomputable section

namespace Cert.Ffn

open Idealize.ShloMosaic Idealize.ShloMosaic.ValueIdx Idealize.ShloMosaic.TcCoe Idealize.SL.Sem
open Cert.Kernel2Ideal Cert.Kernel2Ideal.Gen Cert.Attn

theorem zeros2 : (![0, 0] : Fin 2 → Nat) = fun _ => 0 := by
  funext a
  match a with
  | ⟨0, _⟩ => rfl
  | ⟨1, _⟩ => rfl

/-- A piece given at its rows and lanes is the whole function at the piece's place. -/
theorem piece_emb {a b a' b' : ℕ} (o₀ o₁ : ℕ) (inb) (G : ℕ → ℕ → EReal) (P : (Sh a' b').Idx → EReal)
    (h : ∀ (i : Fin a') (j : Fin b'), P (ix2 i j) = G (o₀ + i.val) (o₁ + j.val)) (x : (Sh a' b').Idx) :
    P x = (fun y : (Sh a b).Idx => G (y 0).val (y 1).val) ((Rect.unit (s := Sh a b) ![o₀, o₁] (Sh a' b').size inb).emb x) := by
  show P x = G ((Rect.unit (s := Sh a b) ![o₀, o₁] (Sh a' b').size inb).emb x 0).val ((Rect.unit (s := Sh a b) ![o₀, o₁] (Sh a' b').size inb).emb x 1).val
  rw [ValueKit.rect_emb_unit_val, ValueKit.rect_emb_unit_val]
  show P x = G (o₀ + (x 0).val) (o₁ + (x 1).val)
  conv_lhs => rw [eq_ix2 x]
  exact h (x 0) (x 1)

/-- The four chunks of 512 lanes a point stores, the last stored first. -/
def chunks (p0 p1 p2 p3 : Vec Ideal S1024x512 .f32) : List (View.Piece (Elt Ideal) S1024x2048 .f32) :=
  [⟨Rect.unit ![0, 1536] S1024x512.size inb_S1024x2048_S1024x512_0_1536, p3⟩, ⟨Rect.unit ![0, 1024] S1024x512.size inb_S1024x2048_S1024x512_0_1024, p2⟩,
    ⟨Rect.unit ![0, 512] S1024x512.size inb_S1024x2048_S1024x512_0_512, p1⟩, ⟨Rect.unit ![0, 0] S1024x512.size inb_S1024x2048_S1024x512_0_0, p0⟩]

theorem chunks_cover (p0 p1 p2 p3 : Vec Ideal S1024x512 .f32) (y : S1024x2048.Idx) : ∃ p ∈ chunks p0 p1 p2 p3, y ∈ p.1.set :=
  View.cover_of_tiledBy (chunks p0 p1 p2 p3) ![1024, 512] (by sl_kernel_rfl) y

/-- Chunks that each hold their part of one function leave that function, whatever was stored before. -/
theorem canon_chunks (T : List (View.Piece (Elt Ideal) S1024x2048 .f32)) (G : ℕ → ℕ → EReal) (p0 p1 p2 p3 : Vec Ideal S1024x512 .f32)
    (h0 : ∀ (r : Fin 1024) (c : Fin 512), p0 (ix2 r c) = G (0 + r.val) (0 + c.val))
    (h1 : ∀ (r : Fin 1024) (c : Fin 512), p1 (ix2 r c) = G (0 + r.val) (512 + c.val))
    (h2 : ∀ (r : Fin 1024) (c : Fin 512), p2 (ix2 r c) = G (0 + r.val) (1024 + c.val))
    (h3 : ∀ (r : Fin 1024) (c : Fin 512), p3 (ix2 r c) = G (0 + r.val) (1536 + c.val)) (y : S1024x2048.Idx) :
    View.canon (chunks p0 p1 p2 p3 ++ T) y = G (y 0).val (y 1).val := by
  refine View.canon_append_of_pieces (Val := Elt Ideal) (e := .f32) (fun y : S1024x2048.Idx => G (y 0).val (y 1).val) T _ ?_ y (chunks_cover p0 p1 p2 p3 y)
  unfold chunks
  simp only [List.forall_mem_cons]
  refine ⟨?_, ?_, ?_, ?_, fun p hp => absurd hp (List.not_mem_nil)⟩
  · exact fun z => piece_emb 0 1536 _ G _ h3 z
  · exact fun z => piece_emb 0 1024 _ G _ h2 z
  · exact fun z => piece_emb 0 512 _ G _ h1 z
  · exact fun z => piece_emb 0 0 _ G _ h0 z

/-- A middle point adds its part to what the output block held. -/
theorem out_B  (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : ¬cond0_0 i) (hc1 : ¬cond0_1 i)
    (x0 : Vec Ideal S1024x2048 .f32) (x1 : Vec Ideal S8x2048 .f32) (x2 : Vec Ideal S8x2048 .f32) (x3 : Vec Ideal S8x2048 .f32) (x4 : Vec Ideal S2048x512 .bf16) (x5 : Vec Ideal S2048x512 .bf16) (x6 : Vec Ideal S512x2048 .bf16) (x7 : Vec Ideal S1x2048 .f32) (x8 : Vec Ideal S1x2048 .f32) (xo9 : Vec Ideal S1024x2048 .f32) (xs0 : Vec Ideal S1024x2048 .bf16) : out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 = fun y => stepVal (nat2 xo9) (nat2 xs0) (nat2 x4) (nat2 x5) (nat2 x6) (y 0).val (y 1).val := by
  unfold out0_B_9
  unfold kernelRun0_B
  dsimp only
  sl_unfold_words
  rw [View.read_writes_junk_eq_canon]
  simp only [View.readAt_eq_ld, harg6.read_unread, harg7.read_unread, harg8.read_unread, harg11.read_unread, harg12.read_unread, pay18_eq, pay1_eq, pay16_eq]
  rw [View.ld_unit_zero (S := S1024x2048) zeros2]
  funext y
  refine canon_chunks [] (stepVal (nat2 xo9) (nat2 xs0) (nat2 x4) (nat2 x5) (nat2 x6)) _ _ _ _ ?_ ?_ ?_ ?_ y
  · exact chunk_apply 0 (nat2 xo9) xs0 x4 x5 x6 _ (fun r c => ldf_unit_nat2 xo9 _ 0 0 rfl _ r c) _ _ _ _ _ _
  · exact chunk_apply 512 (nat2 xo9) xs0 x4 x5 x6 _ (fun r c => ldf_unit_nat2 xo9 _ 0 512 rfl _ r c) _ _ _ _ _ _
  · exact chunk_apply 1024 (nat2 xo9) xs0 x4 x5 x6 _ (fun r c => ldf_unit_nat2 xo9 _ 0 1024 rfl _ r c) _ _ _ _ _ _
  · exact chunk_apply 1536 (nat2 xo9) xs0 x4 x5 x6 _ (fun r c => ldf_unit_nat2 xo9 _ 0 1536 rfl _ r c) _ _ _ _ _ _

end Cert.Ffn

end
-- ==== Proof.FfnOutA.lean ====
/- What one grid point of the feed-forward call leaves in its output block and its scratch block: the first point of a tile's sweep. -/
module

public import proofs.«01_k».proof.Proof.FfnOutB

@[expose] public section

noncomputable section

namespace Cert.Ffn

open Idealize.ShloMosaic Idealize.ShloMosaic.ValueIdx Idealize.ShloMosaic.TcCoe Idealize.SL.Sem
open Cert.Kernel2Ideal Cert.Kernel2Ideal.Gen Cert.Attn

/-- The modulated rows of a block, from loads that are known. -/
theorem mod_of (x : Vec Ideal S1024x2048 .f32) (x1 x2 : Vec Ideal S8x2048 .f32) (o : Fin 2 → ℕ) (q : ℕ) (hq : o = ![q, 0]) (i1 i2 h1 h2 h3) (y : S1024x2048.Idx) :
    k0_pay10 (F := Ideal) (shapeCast S1024x2048 x h1) (shapeCast S1x2048 (View.ld x1 (Rect.unit (s := S8x2048) o S1x2048.size i1)) h2)
        (shapeCast S1x2048 (View.ld x2 (Rect.unit (s := S8x2048) o S1x2048.size i2)) h3) y
      = nat2 x (y 0).val (y 1).val * (1 + nat2 x1 q (y 1).val) + nat2 x2 q (y 1).val := by
  conv_lhs => rw [eq_ix2 y]
  refine (pay10_apply _ _ _ (y 0) (y 1)).trans ?_
  rw [shapeCast_same]
  have s1 := congrFun (shapeCast_self (View.ld x1 (Rect.unit (s := S8x2048) o S1x2048.size i1)) h2) (ix2 (0 : Fin 1) (y 1))
  have s2 := congrFun (shapeCast_self (View.ld x2 (Rect.unit (s := S8x2048) o S1x2048.size i2)) h3) (ix2 (0 : Fin 1) (y 1))
  have e1 := ldf_unit_nat2 (a' := 1) (b' := 2048) x1 o q 0 hq i1 (0 : Fin 1) (y 1)
  have e2 := ldf_unit_nat2 (a' := 1) (b' := 2048) x2 o q 0 hq i2 (0 : Fin 1) (y 1)
  have e3 : nat2 x (y 0).val (y 1).val = x (ix2 (y 0) (y 1)) := nat2_ix2 x (y 0) (y 1)
  rw [Nat.zero_add] at e1 e2
  rw [e3]
  exact congrArg₂ (fun a b : EReal => x (ix2 (y 0) (y 1)) * (1 + a) + b) (s1.trans e1) (s2.trans e2)

/-- The first point leaves the modulated rows in the scratch block. -/
theorem sout_A (q : ℕ)  (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : cond0_0 i) (hc1 : ¬cond0_1 i)
    (hq : k0_off1 i = ![q, 0]) (x0 : Vec Ideal S1024x2048 .f32) (x1 : Vec Ideal S8x2048 .f32) (x2 : Vec Ideal S8x2048 .f32) (x3 : Vec Ideal S8x2048 .f32) (x4 : Vec Ideal S2048x512 .bf16) (x5 : Vec Ideal S2048x512 .bf16) (x6 : Vec Ideal S512x2048 .bf16) (x7 : Vec Ideal S1x2048 .f32) (x8 : Vec Ideal S1x2048 .f32) : sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = fun y => nat2 x0 (y 0).val (y 1).val * (1 + nat2 x1 q (y 1).val) + nat2 x2 q (y 1).val := by
  unfold sout0_A_0
  unfold kernelRun0_A
  dsimp only
  sl_unfold_words
  rw [View.read_writes_junk_eq_canon, View.canon_unit_zero (S := S1024x2048) zeros2]
  simp only [View.readAt_eq_ld, harg2.read_unread, harg3.read_unread, harg4.read_unread]
  rw [View.ld_unit_zero (S := S1024x2048) zeros2]
  funext y
  exact mod_of x0 x1 x2 _ q hq _ _ _ _ _ y

/-- A chunk read of the zeros, past the chunks stored since. -/
theorem zero_read (L : List (View.Piece (Elt Ideal) S1024x2048 .f32)) (o : ℕ) (io) (i0)
    (h : ∀ p ∈ L, Disjoint p.1.set (Rect.unit (s := S1024x2048) ![0, o] S1024x512.size io).toLoadRect.set) (x : S1024x512.Idx) :
    View.canon (L ++ [(⟨Rect.unit ![0, 0] S1024x2048.size i0, k0_pay11 (F := Ideal)⟩ : View.Piece (Elt Ideal) S1024x2048 .f32)])
      ((Rect.unit (s := S1024x2048) ![0, o] S1024x512.size io).toLoadRect.idx x) = (0 : EReal) := by
  induction L with
  | nil =>
    rw [List.nil_append, View.canon_unit_zero (S := S1024x2048) zeros2]
    exact pay11_apply _
  | cons p L ih =>
    rw [List.cons_append, View.canon_cons_of_not_mem _ _ (Finset.disjoint_right.mp (h p (by simp)) (LoadRect.idx_mem _ x))]
    exact ih fun q hq => h q (by simp [hq])

/-- Chunks of other lanes are apart. -/
theorem lanes_apart (o o' : ℕ) (io io') (h : o + 512 ≤ o' ∨ o' + 512 ≤ o) :
    Disjoint (Rect.unit (s := S1024x2048) ![0, o] S1024x512.size io).set (Rect.unit (s := S1024x2048) ![0, o'] S1024x512.size io').toLoadRect.set := by
  refine Rect.disjoint_of_separated (Rect.unit (s := S1024x2048) ![0, o] S1024x512.size io) (Rect.unit (s := S1024x2048) ![0, o'] S1024x512.size io') 1 ?_
  show (512 = 0 ∨ o + 1 * (512 - 1) < o') ∨ (512 = 0 ∨ o' + 1 * (512 - 1) < o)
  omega

/-- A step's value looks at the first 2048 lanes of its row only. -/
theorem stepVal_congr (old u u' wg wu wo : ℕ → ℕ → EReal) (r n : ℕ) (h : ∀ k < 2048, u r k = u' r k) : stepVal old u wg wu wo r n = stepVal old u' wg wu wo r n := by
  have e : ∀ (w : ℕ → ℕ → EReal) (p : ℕ), ∑ k ∈ Finset.range 2048, u r k * w k p = ∑ k ∈ Finset.range 2048, u' r k * w k p := fun w p =>
    Finset.sum_congr rfl fun k hk => by rw [h k (Finset.mem_range.mp hk)]
  have e' : ∀ p, gated u wg wu r p = gated u' wg wu r p := fun p => by
    unfold gated
    rw [e, e]
  unfold stepVal
  simp only [e']

/-- One chunk of a step whose rows are known. -/
theorem chunk_of (o : ℕ) (U : ℕ → ℕ → EReal) (u : Vec Ideal S1024x2048 .bf16) (hu : ∀ y : S1024x2048.Idx, u y = U (y 0).val (y 1).val)
    (g w : Vec Ideal S2048x512 .bf16) (wo : Vec Ideal S512x2048 .bf16)
    (a : Vec Ideal S1024x512 .f32) (ha : ∀ x : S1024x512.Idx, a x = (0 : EReal)) (i0 i1 j0 j1 k0 k1) (r : Fin 1024) (c : Fin 512) :
    k0_pay17 (k0_pay12 u (View.ld g (Rect.unit ![0, 0] S2048x256.size i0)) (View.ld w (Rect.unit ![0, 0] S2048x256.size j0)))
        (k0_pay13 u (View.ld g (Rect.unit ![0, 256] S2048x256.size i1)) (View.ld w (Rect.unit ![0, 256] S2048x256.size j1)))
        a (View.ld wo (Rect.unit ![0, o] S256x512.size k0)) (View.ld wo (Rect.unit ![256, o] S256x512.size k1)) (ix2 r c)
      = stepVal (fun _ _ => 0) U (nat2 g) (nat2 w) (nat2 wo) (0 + r.val) (o + c.val) := by
  rw [chunk_apply o (fun _ _ => 0) u g w wo a (fun r c => ha _) i0 i1 j0 j1 k0 k1 r c]
  refine stepVal_congr _ _ _ _ _ _ _ _ fun k hk => ?_
  rw [Nat.zero_add, nat2_of u r.val k r.isLt hk]
  exact hu _

theorem idx_whole (i0) (z : S1024x2048.Idx) : (Rect.unit (s := S1024x2048) ![0, 0] S1024x2048.size i0).toLoadRect.idx z = z :=
  congrFun (View.ld_unit_zero (Val := fun _ => S1024x2048.Idx) (e := .f32) (S := S1024x2048) zeros2 i0 fun z => z) z

/-- The first point's output block: the part of the first 512 hidden columns. -/
theorem out_A (q : ℕ)  (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : cond0_0 i) (hc1 : ¬cond0_1 i)
    (hq : k0_off1 i = ![q, 0]) (x0 : Vec Ideal S1024x2048 .f32) (x1 : Vec Ideal S8x2048 .f32) (x2 : Vec Ideal S8x2048 .f32) (x3 : Vec Ideal S8x2048 .f32) (x4 : Vec Ideal S2048x512 .bf16) (x5 : Vec Ideal S2048x512 .bf16) (x6 : Vec Ideal S512x2048 .bf16) (x7 : Vec Ideal S1x2048 .f32) (x8 : Vec Ideal S1x2048 .f32) : out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = fun y => stepVal (fun _ _ => 0) (fun r k => nat2 x0 r k * (1 + nat2 x1 q k) + nat2 x2 q k) (nat2 x4) (nat2 x5) (nat2 x6) (y 0).val (y 1).val := by
  unfold out0_A_9
  unfold kernelRun0_A
  dsimp only
  sl_unfold_words
  rw [View.read_writes_junk_eq_canon]
  simp only [View.readCov_eq_canon', View.readAt_eq_ld, harg2.read_unread, harg3.read_unread, harg4.read_unread, harg6.read_unread, harg7.read_unread, harg8.read_unread, pay18_eq, pay1_eq, pay16_eq]
  simp only [View.ld_unit_zero (S := S1024x2048) zeros2, View.canon_unit_zero (S := S1024x2048) zeros2]
  have hU : ∀ y : S1024x2048.Idx, (fun j => k0_pay10 (F := Ideal) (shapeCast S1024x2048 x0 shapeCasts_S1024x2048_S1024x2048)
      (shapeCast S1x2048 (View.ld x1 (Rect.unit (s := S8x2048) (k0_off1 i) S1x2048.size (k0_off1_inb i hc0))) shapeCasts_S1x2048_S1x2048)
      (shapeCast S1x2048 (View.ld x2 (Rect.unit (s := S8x2048) (k0_off1 i) S1x2048.size (k0_off1_inb i hc0))) shapeCasts_S1x2048_S1x2048)
      ((Rect.unit (s := S1024x2048) ![0, 0] S1024x2048.size inb_S1024x2048_S1024x2048_0_0).toLoadRect.idx j)) y
        = (fun r k => nat2 x0 r k * (1 + nat2 x1 q k) + nat2 x2 q k) (y 0).val (y 1).val := fun y => by
    show k0_pay10 (F := Ideal) _ _ _ ((Rect.unit (s := S1024x2048) ![0, 0] S1024x2048.size inb_S1024x2048_S1024x2048_0_0).toLoadRect.idx y) = _
    rw [idx_whole]
    exact mod_of x0 x1 x2 _ q hq _ _ _ _ _ y
  generalize (fun r k => nat2 x0 r k * (1 + nat2 x1 q k) + nat2 x2 q k) = U at hU ⊢
  funext y
  refine canon_chunks [_] (stepVal (fun _ _ => 0) U (nat2 x4) (nat2 x5) (nat2 x6)) _ _ _ _ ?_ ?_ ?_ ?_ y
  · exact chunk_of 0 U _ hU x4 x5 x6 _ (fun x => pay11_apply _) _ _ _ _ _ _
  · refine chunk_of 512 U _ hU x4 x5 x6 _ (zero_read [_] 512 _ _ ?_) _ _ _ _ _ _
    simp only [List.forall_mem_cons]
    exact ⟨lanes_apart 0 512 _ _ (by omega), fun p hp => absurd hp (List.not_mem_nil)⟩
  · refine chunk_of 1024 U _ hU x4 x5 x6 _ (zero_read [_, _] 1024 _ _ ?_) _ _ _ _ _ _
    simp only [List.forall_mem_cons]
    exact ⟨lanes_apart 512 1024 _ _ (by omega), lanes_apart 0 1024 _ _ (by omega), fun p hp => absurd hp (List.not_mem_nil)⟩
  · refine chunk_of 1536 U _ hU x4 x5 x6 _ (zero_read [_, _, _] 1536 _ _ ?_) _ _ _ _ _ _
    simp only [List.forall_mem_cons]
    exact ⟨lanes_apart 1024 1536 _ _ (by omega), lanes_apart 512 1536 _ _ (by omega), lanes_apart 0 1536 _ _ (by omega), fun p hp => absurd hp (List.not_mem_nil)⟩

end Cert.Ffn

end
-- ==== Proof.FfnOutC.lean ====
/- What one grid point of the feed-forward call leaves in its output block and its scratch block: the last point of a tile's sweep. -/
module

public import proofs.«01_k».proof.Proof.FfnOutB

@[expose] public section

noncomputable section

namespace Cert.Ffn

open Idealize.ShloMosaic Idealize.ShloMosaic.ValueIdx Idealize.ShloMosaic.TcCoe Idealize.SL.Sem
open Cert.Kernel2Ideal Cert.Kernel2Ideal.Gen Cert.Attn

theorem normed_congr (e : ℝ) (z w : ℕ → EReal) (h : ∀ k < 2048, z k = w k) (n : ℕ) (hn : n < 2048) : normed e z n = normed e w n := by
  unfold normed variance
  rw [mean_congr z w h, h n hn, mean_congr (fun k => (z k - mean w) * (z k - mean w)) (fun k => (w k - mean w) * (w k - mean w)) fun k hk => by rw [h k hk]]

/-- The norm of a residual block whose loads are known. -/
theorem norm_of (x : Vec Ideal S1024x2048 .f32) (g : Vec Ideal S1x2048 .f32) (lg lb : Vec Ideal S1x2048 .f32) (acc : Vec Ideal S1024x2048 .f32)
    (A : ℕ → ℕ → EReal) (G : ℕ → EReal) (hA : ∀ y : S1024x2048.Idx, acc y = A (y 0).val (y 1).val) (hG : ∀ n : Fin 2048, g (ix2 (0 : Fin 1) n) = G n.val)
    (y : S1024x2048.Idx) :
    k0_pay2 (k0_pay6 lg) (k0_pay7 lb) (k0_pay8 x g acc) (k0_pay9 x g acc) y
      = normed (2748779 / 388736039169) (resRow (nat2 x (y 0).val) G (A (y 0).val)) (y 1).val * nat2 lg 0 (y 1).val + nat2 lb 0 (y 1).val := by
  conv_lhs => rw [eq_ix2 y]
  refine (pay2_apply x g lg lb acc (y 0) (y 1)).trans ?_
  congr 2
  refine normed_congr _ _ _ (fun k hk => ?_) _ (y 1).isLt
  unfold resRow
  rw [nat2_of g 0 k (by decide) hk, nat2_of acc (y 0).val k (y 0).isLt hk, hA]
  show _ + (g (ix2 (0 : Fin 1) ⟨k, hk⟩) * _) * _ = _
  rw [hG]

/-- The last point adds its part, then norms the residual of the sum. -/
theorem out_C (q : ℕ)  (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : ¬cond0_0 i) (hc1 : cond0_1 i)
    (hq : k0_off2 i = ![q, 0]) (x0 : Vec Ideal S1024x2048 .f32) (x1 : Vec Ideal S8x2048 .f32) (x2 : Vec Ideal S8x2048 .f32) (x3 : Vec Ideal S8x2048 .f32) (x4 : Vec Ideal S2048x512 .bf16) (x5 : Vec Ideal S2048x512 .bf16) (x6 : Vec Ideal S512x2048 .bf16) (x7 : Vec Ideal S1x2048 .f32) (x8 : Vec Ideal S1x2048 .f32) (xo9 : Vec Ideal S1024x2048 .f32) (xs0 : Vec Ideal S1024x2048 .bf16) : out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 = fun y => normed (2748779 / 388736039169)
      (resRow (nat2 x0 (y 0).val) (nat2 x3 q) (stepVal (nat2 xo9) (nat2 xs0) (nat2 x4) (nat2 x5) (nat2 x6) (y 0).val)) (y 1).val * nat2 x7 0 (y 1).val + nat2 x8 0 (y 1).val := by
  unfold out0_C_9
  unfold kernelRun0_C
  dsimp only
  sl_unfold_words
  rw [View.read_writes_junk_eq_canon, View.canon_cons_unit_zero (S := S1024x2048) zeros2]
  simp only [View.readCov_eq_canon', View.readAt_eq_ld, harg2.read_unread, harg5.read_unread, harg9.read_unread, harg10.read_unread, harg6.read_unread, harg7.read_unread, harg8.read_unread, harg11.read_unread, harg12.read_unread, pay18_eq, pay1_eq, pay16_eq]
  simp only [View.ld_unit_zero (S := S1024x2048) zeros2, View.ld_unit_zero (S := S1x2048) zeros2]
  funext y
  refine norm_of x0 _ x7 x8 _ (stepVal (nat2 xo9) (nat2 xs0) (nat2 x4) (nat2 x5) (nat2 x6)) (nat2 x3 q) (fun z => ?_) (fun n => ?_) y
  · have hz : (Rect.unit (s := S1024x2048) ![0, 0] S1024x2048.size inb_S1024x2048_S1024x2048_0_0).toLoadRect.idx z = z :=
      congrFun (View.ld_unit_zero (Val := fun _ => S1024x2048.Idx) (e := .f32) (S := S1024x2048) zeros2 inb_S1024x2048_S1024x2048_0_0 fun z => z) z
    rw [hz]
    refine canon_chunks [] (stepVal (nat2 xo9) (nat2 xs0) (nat2 x4) (nat2 x5) (nat2 x6)) _ _ _ _ ?_ ?_ ?_ ?_ z
    · exact chunk_apply 0 (nat2 xo9) xs0 x4 x5 x6 _ (fun r c => ldf_unit_nat2 xo9 _ 0 0 rfl _ r c) _ _ _ _ _ _
    · exact chunk_apply 512 (nat2 xo9) xs0 x4 x5 x6 _ (fun r c => ldf_unit_nat2 xo9 _ 0 512 rfl _ r c) _ _ _ _ _ _
    · exact chunk_apply 1024 (nat2 xo9) xs0 x4 x5 x6 _ (fun r c => ldf_unit_nat2 xo9 _ 0 1024 rfl _ r c) _ _ _ _ _ _
    · exact chunk_apply 1536 (nat2 xo9) xs0 x4 x5 x6 _ (fun r c => ldf_unit_nat2 xo9 _ 0 1536 rfl _ r c) _ _ _ _ _ _
  · refine (ldf_unit_nat2 x3 _ q 0 hq _ (0 : Fin 1) n).trans ?_
    show nat2 x3 (q + 0) (0 + n.val) = _
    rw [Nat.zero_add, Nat.add_zero]

end Cert.Ffn

end
-- ==== Proof.FfnSpec.lean ====
/- The feed-forward branch of the layer on arrays of extended reals: the modulated rows, the hidden columns, the branch as a
   sum over the hidden columns, and the layer norm of the residual. -/
module

public import proofs.«01_k».proof.Proof.FfnOutA
public import proofs.«01_k».proof.Proof.FfnOutC

@[expose] public section

noncomputable section

namespace Cert.Ffn

open Idealize.ShloMosaic

variable (X M Wi Wo : ℕ → ℕ → EReal)

/-- The modulated residual stream: row `R` belongs to batch `R / 2048`. -/
def modRow (R k : ℕ) : EReal := X R k * (1 + M (R / 2048) (8192 + k)) + M (R / 2048) (6144 + k)

/-- A hidden column: the gate half through the activation, times the other half. -/
def hidden (R f : ℕ) : EReal := gated (modRow X M) Wi (fun k f => Wi k (5632 + f)) R f

/-- The branch, summed over the first `b` hidden columns. -/
def branch (b R n : ℕ) : EReal := ∑ f ∈ Finset.range b, hidden X M Wi R f * Wo f n

/-- The layer norm of the residual and the gated branch, the residual's factor divided out. -/
def ffnOut (G B : ℕ → EReal) (R n : ℕ) : EReal :=
  normed (2748779 / 388736039169) (resRow (X R) (fun n => M (R / 2048) (10240 + n)) (branch X M Wi Wo 5632 R)) n * G n + B n

/-- Sums over 256 and the next 256 numbers are the sum over 512 numbers. -/
theorem sum_halves (h : ℕ → EReal) :
    (∑ p ∈ Finset.range 256, h p) + ∑ p ∈ Finset.range 256, h (256 + p) = ∑ p ∈ Finset.range 512, h p :=
  (Finset.sum_range_add h 256 256).symm

/-- A point's step takes the branch's sum over the columns so far to the sum over 512 more. -/
theorem stepVal_branch (old u wg wu wo : ℕ → ℕ → EReal) (r n R j : ℕ)
    (hold : old r n = branch X M Wi Wo (512 * j) R n)
    (hu : ∀ k < 2048, u r k = modRow X M R k)
    (hg : ∀ k < 2048, ∀ p < 512, wg k p = Wi k (512 * j + p))
    (hw : ∀ k < 2048, ∀ p < 512, wu k p = Wi k (5632 + 512 * j + p))
    (ho : ∀ p < 512, wo p n = Wo (512 * j + p) n) :
    stepVal old u wg wu wo r n = branch X M Wi Wo (512 * (j + 1)) R n := by
  unfold stepVal branch
  rw [hold, sum_halves (fun p => gated u wg wu r p * wo p n), Nat.mul_add, Nat.mul_one, Finset.sum_range_add]
  unfold branch
  refine congrArg (_ + ·) (Finset.sum_congr rfl fun p hp => ?_)
  have hp := Finset.mem_range.1 hp
  rw [ho p hp]
  refine congrArg (· * _) ?_
  have e1 : ∑ k ∈ Finset.range 2048, u r k * wg k p = ∑ k ∈ Finset.range 2048, modRow X M R k * Wi k (512 * j + p) :=
    Finset.sum_congr rfl fun k hk => by rw [hu k (Finset.mem_range.1 hk), hg k (Finset.mem_range.1 hk) p hp]
  have e2 : ∑ k ∈ Finset.range 2048, u r k * wu k p = ∑ k ∈ Finset.range 2048, modRow X M R k * Wi k (5632 + (512 * j + p)) :=
    Finset.sum_congr rfl fun k hk => by rw [hu k (Finset.mem_range.1 hk), hw k (Finset.mem_range.1 hk) p hp, Nat.add_assoc]
  unfold hidden gated
  rw [e1, e2]

/-- A residual row read from equal rows. -/
theorem resRow_congr (x x' g g' a a' : ℕ → EReal) (k : ℕ) (hx : x k = x' k) (hg : g k = g' k) (ha : a k = a' k) :
    resRow x g a k = resRow x' g' a' k := by
  unfold resRow
  rw [hx, hg, ha]

end Cert.Ffn

end
-- ==== Proof.FfnArrays.lean ====
/- The blocks of the feed-forward call's points, at coordinates, in the arguments of the layer's step. -/
module

public import proofs.«01_k».proof.Proof.FfnOutA
public import proofs.«01_k».proof.Proof.FfnOutC
public import Idealize.ShloMosaic.Lib.Pipeline.ValueKit.Geometry
public import Idealize.ShloMosaic.Lib.StableHlo.ReadAt
public import Idealize.ShloMosaic.Lib.Pointwise

@[expose] public section

noncomputable section

namespace Cert.Ffn

open Idealize.ShloMosaic Idealize.ShloMosaic.ValueIdx Idealize.ShloMosaic.TcCoe
open Cert.Kernel2Ideal Cert.Kernel2Ideal.Gen Cert.Attn

variable (m : (ℓ : Loc nD τ sig) → Buf (Elt Ideal) ℓ) (c : Dev nD)

/-! ## The index maps, point by point -/

theorem idx0 : ∀ t : Fin cfg0.N, win0_0.index t = ![t.val / 11, 0] :=
  (by decide +kernel : ∀ t : Fin grid0.N, win0_0.index t = ![t.val / 11, 0])
theorem idx1 : ∀ t : Fin cfg0.N, win0_1.index t = ![0, 4] :=
  (by decide +kernel : ∀ t : Fin grid0.N, win0_1.index t = ![0, 4])
theorem idx2 : ∀ t : Fin cfg0.N, win0_2.index t = ![0, 3] :=
  (by decide +kernel : ∀ t : Fin grid0.N, win0_2.index t = ![0, 3])
theorem idx3 : ∀ t : Fin cfg0.N, win0_3.index t = ![0, 5] :=
  (by decide +kernel : ∀ t : Fin grid0.N, win0_3.index t = ![0, 5])
theorem idx4 : ∀ t : Fin cfg0.N, win0_4.index t = ![0, t.val % 11] :=
  (by decide +kernel : ∀ t : Fin grid0.N, win0_4.index t = ![0, t.val % 11])
theorem idx5 : ∀ t : Fin cfg0.N, win0_5.index t = ![0, 11 + t.val % 11] :=
  (by decide +kernel : ∀ t : Fin grid0.N, win0_5.index t = ![0, 11 + t.val % 11])
theorem idx6 : ∀ t : Fin cfg0.N, win0_6.index t = ![t.val % 11, 0] :=
  (by decide +kernel : ∀ t : Fin grid0.N, win0_6.index t = ![t.val % 11, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])

/-- The row of the conditioning that a point's tile takes. -/
theorem off1_eq : ∀ t : Fin cfg0.N, k0_off1 (grid0.coords t) = ![t.val / 22, 0] :=
  (by decide +kernel : ∀ t : Fin grid0.N, k0_off1 (grid0.coords t) = ![t.val / 22, 0])

theorem off2_eq : ∀ t : Fin cfg0.N, k0_off2 (grid0.coords t) = ![t.val / 22, 0] :=
  (by decide +kernel : ∀ t : Fin grid0.N, k0_off2 (grid0.coords t) = ![t.val / 22, 0])

/-! ## The host's arrays -/

/-- The residual stream, its batches and positions joined. -/
theorem hostX (R C : ℕ) (hR : R < 8192) (hC : C < 2048) :
    nat2 (a := 8192) (b := 2048) (V m c main_v1) R C
      = nat3 (a := 4) (b := 2048) (c := 2048) (m ((c : Thread nD τ).loc main_arg0)) (R / 2048) (R % 2048) C := by
  rw [nat2_of _ R C hR hC, nat3_of _ _ _ _ (by omega) (by omega) hC]
  unfold V
  after_reads_at
  rfl

/-- The conditioning rows, of which four are given. -/
theorem hostMod (R C : ℕ) (hR : R < 4) (hC : C < 12288) :
    nat2 (a := 8) (b := 12288) (V m c main_v0) R C = nat2 (a := 4) (b := 12288) (m ((c : Thread nD τ).loc main_arg1)) R C := by
  rw [nat2_of _ R C (by omega) hC, nat2_of _ R C hR hC]
  unfold V
  after_reads_at
  split
  · rfl
  · rename_i h
    exact absurd ⟨hR, hC⟩ h

/-- The first weight. -/
theorem hostWin (R C : ℕ) (hR : R < 2048) (hC : C < 11264) :
    nat2 (a := 2048) (b := 11264) (V m c main_v3) R C = nat3 (a := 1) (b := 2048) (c := 11264) (m ((c : Thread nD τ).loc main_arg2)) 0 R C := by
  rw [nat2_of _ R C hR hC, nat3_of _ _ _ _ (by omega) hR hC]
  unfold V
  after_reads_at
  rfl

/-- The second weight. -/
theorem hostWout (R C : ℕ) (hR : R < 5632) (hC : C < 2048) :
    nat2 (a := 5632) (b := 2048) (V m c main_v5) R C = nat3 (a := 1) (b := 5632) (c := 2048) (m ((c : Thread nD τ).loc main_arg3)) 0 R C := by
  rw [nat2_of _ R C hR hC, nat3_of _ _ _ _ (by omega) hR hC]
  unfold V
  after_reads_at
  rfl

/-- The gain of the layer norm. -/
theorem hostG (C : ℕ) (hC : C < 2048) :
    nat2 (a := 1) (b := 2048) (V m c main_v7) 0 C = nat2 (a := 1) (b := 2048) (m ((c : Thread nD τ).loc main_arg4)) 0 C := by
  rw [nat2_of _ 0 C (by omega) hC, nat2_of _ 0 C (by omega) hC]
  unfold V
  after_reads_at
  rfl

/-- The bias of the layer norm. -/
theorem hostB (C : ℕ) (hC : C < 2048) :
    nat2 (a := 1) (b := 2048) (V m c main_v9) 0 C = nat2 (a := 1) (b := 2048) (m ((c : Thread nD τ).loc main_arg5)) 0 C := by
  rw [nat2_of _ 0 C (by omega) hC, nat2_of _ 0 C (by omega) hC]
  unfold V
  after_reads_at
  rfl

/-! ## The input blocks at coordinates -/

/-- Rows of the residual stream. -/
theorem blk0 (t : Fin cfg0.N) (p w : ℕ) (hp : p < 1024) (hw : w < 2048) :
    nat2 (a := 1024) (b := 2048) (iblk m c 0 t) p w
      = nat3 (a := 4) (b := 2048) (c := 2048) (m ((c : Thread nD τ).loc main_arg0))
          ((1024 * (t.val / 11) + p) / 2048) ((1024 * (t.val / 11) + p) % 2048) w := by
  have ht : t.val < 88 := t.isLt
  rw [← hostX m c (1024 * (t.val / 11) + p) w (by omega) hw, nat2_of _ p w (by omega) hw, nat2_of _ _ _ (by omega) (by omega)]
  blk_simp [iblk]
  refine congrArg (V m c main_v1) ?_
  blk_ext [idx0]

/-- The scale columns of the conditioning. -/
theorem blk1 (t : Fin cfg0.N) (p w : ℕ) (hp : p < 4) (hw : w < 2048) :
    nat2 (a := 8) (b := 2048) (iblk m c 1 t) p w
      = nat2 (a := 4) (b := 12288) (m ((c : Thread nD τ).loc main_arg1)) p (8192 + w) := by
  have ht : t.val < 88 := t.isLt
  rw [← hostMod m c p (8192 + w) hp (by omega), nat2_of _ p w (by omega) hw, nat2_of _ _ _ (by omega) (by omega)]
  blk_simp [iblk]
  refine congrArg (V m c main_v0) ?_
  blk_ext [idx1]

/-- The shift columns of the conditioning. -/
theorem blk2 (t : Fin cfg0.N) (p w : ℕ) (hp : p < 4) (hw : w < 2048) :
    nat2 (a := 8) (b := 2048) (iblk m c 2 t) p w
      = nat2 (a := 4) (b := 12288) (m ((c : Thread nD τ).loc main_arg1)) p (6144 + w) := by
  have ht : t.val < 88 := t.isLt
  rw [← hostMod m c p (6144 + w) hp (by omega), nat2_of _ p w (by omega) hw, nat2_of _ _ _ (by omega) (by omega)]
  blk_simp [iblk]
  refine congrArg (V m c main_v0) ?_
  blk_ext [idx2]

/-- The gate columns of the conditioning. -/
theorem blk3 (t : Fin cfg0.N) (p w : ℕ) (hp : p < 4) (hw : w < 2048) :
    nat2 (a := 8) (b := 2048) (iblk m c 3 t) p w
      = nat2 (a := 4) (b := 12288) (m ((c : Thread nD τ).loc main_arg1)) p (10240 + w) := by
  have ht : t.val < 88 := t.isLt
  rw [← hostMod m c p (10240 + w) hp (by omega), nat2_of _ p w (by omega) hw, nat2_of _ _ _ (by omega) (by omega)]
  blk_simp [iblk]
  refine congrArg (V m c main_v0) ?_
  blk_ext [idx3]

/-- The gate columns of the first weight. -/
theorem blk4 (t : Fin cfg0.N) (p w : ℕ) (hp : p < 2048) (hw : w < 512) :
    nat2 (a := 2048) (b := 512) (iblk m c 4 t) p w
      = nat3 (a := 1) (b := 2048) (c := 11264) (m ((c : Thread nD τ).loc main_arg2)) 0 p (512 * (t.val % 11) + w) := by
  have ht : t.val < 88 := t.isLt
  rw [← hostWin m c p (512 * (t.val % 11) + w) hp (by omega), nat2_of _ p w (by omega) hw, nat2_of _ _ _ (by omega) (by omega)]
  blk_simp [iblk]
  refine congrArg (V m c main_v3) ?_
  blk_ext [idx4]

/-- The other columns of the first weight. -/
theorem blk5 (t : Fin cfg0.N) (p w : ℕ) (hp : p < 2048) (hw : w < 512) :
    nat2 (a := 2048) (b := 512) (iblk m c 5 t) p w
      = nat3 (a := 1) (b := 2048) (c := 11264) (m ((c : Thread nD τ).loc main_arg2)) 0 p (5632 + 512 * (t.val % 11) + w) := by
  have ht : t.val < 88 := t.isLt
  rw [← hostWin m c p (5632 + 512 * (t.val % 11) + w) hp (by omega), nat2_of _ p w (by omega) hw, nat2_of _ _ _ (by omega) (by omega)]
  blk_simp [iblk]
  refine congrArg (V m c main_v3) ?_
  blk_ext [idx5]

/-- Rows of the second weight. -/
theorem blk6 (t : Fin cfg0.N) (p w : ℕ) (hp : p < 512) (hw : w < 2048) :
    nat2 (a := 512) (b := 2048) (iblk m c 6 t) p w
      = nat3 (a := 1) (b := 5632) (c := 2048) (m ((c : Thread nD τ).loc main_arg3)) 0 (512 * (t.val % 11) + p) w := by
  have ht : t.val < 88 := t.isLt
  rw [← hostWout m c (512 * (t.val % 11) + p) w (by omega) hw, nat2_of _ p w (by omega) hw, nat2_of _ _ _ (by omega) (by omega)]
  blk_simp [iblk]
  refine congrArg (V m c main_v5) ?_
  blk_ext [idx6]

/-- The gain. -/
theorem blk7 (t : Fin cfg0.N) (w : ℕ) (hw : w < 2048) :
    nat2 (a := 1) (b := 2048) (iblk m c 7 t) 0 w = nat2 (a := 1) (b := 2048) (m ((c : Thread nD τ).loc main_arg4)) 0 w := by
  have ht : t.val < 88 := t.isLt
  rw [← hostG m c w hw, nat2_of _ 0 w (by omega) hw, nat2_of _ _ _ (by omega) (by omega)]
  blk_simp [iblk]
  refine congrArg (V m c main_v7) ?_
  blk_ext [idx7]

/-- The bias. -/
theorem blk8 (t : Fin cfg0.N) (w : ℕ) (hw : w < 2048) :
    nat2 (a := 1) (b := 2048) (iblk m c 8 t) 0 w = nat2 (a := 1) (b := 2048) (m ((c : Thread nD τ).loc main_arg5)) 0 w := by
  have ht : t.val < 88 := t.isLt
  rw [← hostB m c w hw, nat2_of _ 0 w (by omega) hw, nat2_of _ _ _ (by omega) (by omega)]
  blk_simp [iblk]
  refine congrArg (V m c main_v9) ?_
  blk_ext [idx8]

end Cert.Ffn

end
-- ==== Proof.FfnValue.lean ====
/- The array that the feed-forward call leaves: point by point the scratch holds the modulated rows of the point's tile and
   the output block holds the branch summed so far, and the tile's last point normalises the residual. -/
module

public import proofs.«01_k».proof.Proof.FfnSpec
public import proofs.«01_k».proof.Proof.FfnArrays

@[expose] public section

noncomputable section

namespace Cert.Ffn

open Idealize.ShloMosaic Idealize.ShloMosaic.ValueIdx Idealize.ShloMosaic.TcCoe
open Cert.Kernel2Ideal Cert.Kernel2Ideal.Gen Cert.Attn

variable (m : (ℓ : Loc nD τ sig) → Buf (Elt Ideal) ℓ) (c : Dev nD)

/-- The residual stream, its batches and positions joined. -/
abbrev argX (R C : ℕ) : EReal :=
  nat3 (a := 4) (b := 2048) (c := 2048) (m ((c : Thread nD τ).loc main_arg0)) (R / 2048) (R % 2048) C

/-- The conditioning. -/
abbrev argM : ℕ → ℕ → EReal := nat2 (a := 4) (b := 12288) (m ((c : Thread nD τ).loc main_arg1))

/-- The first weight. -/
abbrev argWi : ℕ → ℕ → EReal := nat3 (a := 1) (b := 2048) (c := 11264) (m ((c : Thread nD τ).loc main_arg2)) 0

/-- The second weight. -/
abbrev argWo : ℕ → ℕ → EReal := nat3 (a := 1) (b := 5632) (c := 2048) (m ((c : Thread nD τ).loc main_arg3)) 0

/-- The gain. -/
abbrev argG : ℕ → EReal := nat2 (a := 1) (b := 2048) (m ((c : Thread nD τ).loc main_arg4)) 0

/-- The bias. -/
abbrev argB : ℕ → EReal := nat2 (a := 1) (b := 2048) (m ((c : Thread nD τ).loc main_arg5)) 0

/-- The modulated rows over a point's blocks are the modulated rows of its tile. -/
theorem mod_blocks (t : Fin cfg0.N) (r k : ℕ) (hr : r < 1024) (hk : k < 2048) :
    nat2 (a := 1024) (b := 2048) (iblk m c 0 t) r k * (1 + nat2 (a := 8) (b := 2048) (iblk m c 1 t) (t.val / 22) k)
        + nat2 (a := 8) (b := 2048) (iblk m c 2 t) (t.val / 22) k
      = modRow (argX m c) (argM m c) (1024 * (t.val / 11) + r) k := by
  have ht : t.val < 88 := t.isLt
  have e : (1024 * (t.val / 11) + r) / 2048 = t.val / 22 := by omega
  rw [blk0 m c t r k hr hk, blk1 m c t _ k (by omega) hk, blk2 m c t _ k (by omega) hk]
  unfold modRow
  rw [← e]

/-- A step over a point's blocks adds the point's 512 hidden columns. -/
theorem step_blocks (t : Fin cfg0.N) (old u : ℕ → ℕ → EReal) (r n : ℕ) (hn : n < 2048)
    (hold : old r n = branch (argX m c) (argM m c) (argWi m c) (argWo m c) (512 * (t.val % 11)) (1024 * (t.val / 11) + r) n)
    (hu : ∀ k < 2048, u r k = modRow (argX m c) (argM m c) (1024 * (t.val / 11) + r) k) :
    stepVal old u (nat2 (a := 2048) (b := 512) (iblk m c 4 t)) (nat2 (a := 2048) (b := 512) (iblk m c 5 t))
        (nat2 (a := 512) (b := 2048) (iblk m c 6 t)) r n
      = branch (argX m c) (argM m c) (argWi m c) (argWo m c) (512 * (t.val % 11 + 1)) (1024 * (t.val / 11) + r) n :=
  stepVal_branch _ _ _ _ _ _ _ _ _ _ _ _ _ hold hu (fun k hk p hp => blk4 m c t k p hk hp) (fun k hk p hp => blk5 m c t k p hk hp)
    (fun p hp => blk6 m c t p n hp hn)

/-- The output block after a first point. -/
theorem first_out (t : Fin cfg0.N) (h0 : t.val % 11 = 0) (h1 : ¬t.val % 11 = 10) : (outsAt0 m c t.val t.isLt).1 = fun y : S1024x2048.Idx => stepVal (fun _ _ => 0) (fun r k => (nat2 (a := 1024) (b := 2048) (iblk m c 0 t)) r k * (1 + (nat2 (a := 8) (b := 2048) (iblk m c 1 t)) (t.val / 22) k) + (nat2 (a := 8) (b := 2048) (iblk m c 2 t)) (t.val / 22) k) (nat2 (a := 2048) (b := 512) (iblk m c 4 t)) (nat2 (a := 2048) (b := 512) (iblk m c 5 t)) (nat2 (a := 512) (b := 2048) (iblk m c 6 t)) (y 0).val (y 1).val := by
  have e : (outsAt0 m c t.val t.isLt).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) := by
    rw [outsAt0_A m c t h0 h1]
  exact e.trans (out_A (t.val / 22) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (off1_eq t) (iblk m c 0 t) (iblk m c 1 t) (iblk m c 2 t) (iblk m c 3 t) (iblk m c 4 t) (iblk m c 5 t) (iblk m c 6 t) (iblk m c 7 t) (iblk m c 8 t))

/-- The scratch after a first point. -/
theorem first_scratch (t : Fin cfg0.N) (h0 : t.val % 11 = 0) (h1 : ¬t.val % 11 = 10) : (outsAt0 m c t.val t.isLt).2 = fun y : S1024x2048.Idx => (nat2 (a := 1024) (b := 2048) (iblk m c 0 t)) (y 0).val (y 1).val * (1 + (nat2 (a := 8) (b := 2048) (iblk m c 1 t)) (t.val / 22) (y 1).val) + (nat2 (a := 8) (b := 2048) (iblk m c 2 t)) (t.val / 22) (y 1).val := by
  have e : (outsAt0 m c t.val t.isLt).2 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) := by
    rw [outsAt0_A m c t h0 h1]
  exact e.trans (sout_A (t.val / 22) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (off1_eq t) (iblk m c 0 t) (iblk m c 1 t) (iblk m c 2 t) (iblk m c 3 t) (iblk m c 4 t) (iblk m c 5 t) (iblk m c 6 t) (iblk m c 7 t) (iblk m c 8 t))

/-- The output block after a middle point. -/
theorem middle_out (t : Fin cfg0.N) (h0 : ¬t.val % 11 = 0) (h1 : ¬t.val % 11 = 10) : (outsAt0 m c t.val t.isLt).1 = fun y : S1024x2048.Idx => stepVal (nat2 (a := 1024) (b := 2048) (outsAt0 m c (t.val - 1) (Nat.lt_of_le_of_lt (Nat.sub_le _ _) t.isLt)).1) (nat2 (a := 1024) (b := 2048) (outsAt0 m c (t.val - 1) (Nat.lt_of_le_of_lt (Nat.sub_le _ _) t.isLt)).2) (nat2 (a := 2048) (b := 512) (iblk m c 4 t)) (nat2 (a := 2048) (b := 512) (iblk m c 5 t)) (nat2 (a := 512) (b := 2048) (iblk m c 6 t)) (y 0).val (y 1).val := by
  have e : (outsAt0 m c t.val t.isLt).1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2 := by
    rw [outsAt0_B m c t h0 h1]
  exact e.trans (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2)

/-- A middle point leaves the scratch. -/
theorem middle_scratch (t : Fin cfg0.N) (h0 : ¬t.val % 11 = 0) (h1 : ¬t.val % 11 = 10) : (outsAt0 m c t.val t.isLt).2 = (outsAt0 m c (t.val - 1) (Nat.lt_of_le_of_lt (Nat.sub_le _ _) t.isLt)).2 := by
  rw [outsAt0_B m c t h0 h1]
  rfl

/-- The output block after a last point. -/
theorem last_out (t : Fin cfg0.N) (h0 : ¬t.val % 11 = 0) (h1 : t.val % 11 = 10) : (outsAt0 m c t.val t.isLt).1 = fun y : S1024x2048.Idx => normed (2748779 / 388736039169) (resRow ((nat2 (a := 1024) (b := 2048) (iblk m c 0 t)) (y 0).val) ((nat2 (a := 8) (b := 2048) (iblk m c 3 t)) (t.val / 22)) (stepVal (nat2 (a := 1024) (b := 2048) (outsAt0 m c (t.val - 1) (Nat.lt_of_le_of_lt (Nat.sub_le _ _) t.isLt)).1) (nat2 (a := 1024) (b := 2048) (outsAt0 m c (t.val - 1) (Nat.lt_of_le_of_lt (Nat.sub_le _ _) t.isLt)).2) (nat2 (a := 2048) (b := 512) (iblk m c 4 t)) (nat2 (a := 2048) (b := 512) (iblk m c 5 t)) (nat2 (a := 512) (b := 2048) (iblk m c 6 t)) (y 0).val)) (y 1).val * (nat2 (a := 1) (b := 2048) (iblk m c 7 t)) 0 (y 1).val + (nat2 (a := 1) (b := 2048) (iblk m c 8 t)) 0 (y 1).val := by
  have e : (outsAt0 m c t.val t.isLt).1 = out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2 := by
    rw [outsAt0_C m c t h0 h1]
  exact e.trans (out_C (t.val / 22) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (off2_eq t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2)

/-- A last point leaves the scratch. -/
theorem last_scratch (t : Fin cfg0.N) (h0 : ¬t.val % 11 = 0) (h1 : t.val % 11 = 10) : (outsAt0 m c t.val t.isLt).2 = (outsAt0 m c (t.val - 1) (Nat.lt_of_le_of_lt (Nat.sub_le _ _) t.isLt)).2 := by
  rw [outsAt0_C m c t h0 h1]
  rfl

/-- What the scratch and the output block hold after a point. -/
structure PointHolds (t : Fin cfg0.N) : Prop where
  rows : ∀ r < 1024, ∀ k < 2048, nat2 (a := 1024) (b := 2048) (outsAt0 m c t.val t.isLt).2 r k
    = modRow (argX m c) (argM m c) (1024 * (t.val / 11) + r) k
  sums : ¬t.val % 11 = 10 → ∀ r < 1024, ∀ n < 2048, nat2 (a := 1024) (b := 2048) (outsAt0 m c t.val t.isLt).1 r n
    = branch (argX m c) (argM m c) (argWi m c) (argWo m c) (512 * (t.val % 11 + 1)) (1024 * (t.val / 11) + r) n
  last : t.val % 11 = 10 → ∀ r < 1024, ∀ n < 2048, nat2 (a := 1024) (b := 2048) (outsAt0 m c t.val t.isLt).1 r n
    = ffnOut (argX m c) (argM m c) (argWi m c) (argWo m c) (argG m c) (argB m c) (1024 * (t.val / 11) + r) n

/-- The first point of a tile. -/
theorem holds_first (t : Fin cfg0.N) (h0 : t.val % 11 = 0) : PointHolds m c t := by
  have h1 : ¬t.val % 11 = 10 := by omega
  have e1 := first_out m c t h0 h1
  have e2 := first_scratch m c t h0 h1
  refine ⟨fun r hr k hk => ?_, fun _ r hr n hn => ?_, fun h => absurd h h1⟩
  · rw [e2, nat2_of _ r k hr hk]
    exact mod_blocks m c t r k hr hk
  · rw [e1, nat2_of _ r n hr hn]
    refine step_blocks m c t _ _ r n hn ?_ fun k hk => mod_blocks m c t r k hr hk
    rw [h0]
    unfold branch
    rw [Nat.mul_zero, Finset.sum_range_zero]

/-- A later point of a tile, after the one before it. -/
theorem holds_next (t s : Fin cfg0.N) (hs : s.val = t.val - 1) (h0 : ¬t.val % 11 = 0) (hp : PointHolds m c s) : PointHolds m c t := by
  have d : s.val / 11 = t.val / 11 := by omega
  have e : s.val % 11 + 1 = t.val % 11 := by omega
  have h' : ¬s.val % 11 = 10 := by omega
  obtain ⟨hp1, hp2, -⟩ := hp
  have hp2 := hp2 h'
  rw [d] at hp1 hp2
  rw [e] at hp2
  have ho : outsAt0 m c (t.val - 1) (Nat.lt_of_le_of_lt (Nat.sub_le _ _) t.isLt) = outsAt0 m c s.val s.isLt := by
    congr 1; exact hs.symm
  by_cases h1 : t.val % 11 = 10
  · have e1 := last_out m c t h0 h1
    have e2 := last_scratch m c t h0 h1
    rw [ho] at e1 e2
    refine ⟨fun r hr k hk => ?_, fun h => absurd h1 h, fun _ r hr n hn => ?_⟩
    · rw [e2]; exact hp1 r hr k hk
    · have ht : t.val < 88 := t.isLt
      have q : (1024 * (t.val / 11) + r) / 2048 = t.val / 22 := by omega
      rw [e1, nat2_of _ r n hr hn]
      unfold ffnOut
      refine congrArg₂ (· + ·) (congrArg₂ (· * ·) (normed_congr _ _ _ (fun k hk => ?_) n hn) (blk7 m c t n hn)) (blk8 m c t n hn)
      refine resRow_congr _ _ _ _ _ _ k (blk0 m c t r k hr hk) ?_ ?_
      · rw [q]; exact blk3 m c t _ k (by omega) hk
      · refine (step_blocks m c t _ _ r k hk (hp2 r hr k hk) (hp1 r hr)).trans ?_
        rw [h1]
  · have e1 := middle_out m c t h0 h1
    have e2 := middle_scratch m c t h0 h1
    rw [ho] at e1 e2
    refine ⟨fun r hr k hk => ?_, fun _ r hr n hn => ?_, fun h => absurd h h1⟩
    · rw [e2]; exact hp1 r hr k hk
    · rw [e1, nat2_of _ r n hr hn]
      exact step_blocks m c t _ _ r n hn (hp2 r hr n hn) (hp1 r hr)

/-- Every point, one after another. -/
theorem holds_all : ∀ (n : ℕ) (hn : n < cfg0.N), PointHolds m c ⟨n, hn⟩
  | 0, hn => holds_first m c ⟨0, hn⟩ rfl
  | n + 1, hn => by
    by_cases h0 : (n + 1) % 11 = 0
    · exact holds_first m c ⟨n + 1, hn⟩ h0
    · exact holds_next m c ⟨n + 1, hn⟩ ⟨n, Nat.lt_of_succ_lt hn⟩ rfl h0 (holds_all n _)

/-- The array the call leaves. -/
theorem result_eq (y : S8192x2048.Idx) : Cert.Kernel2Ideal.Value.G9 m c y
    = ffnOut (argX m c) (argM m c) (argWi m c) (argWo m c) (argG m c) (argB m c) (y 0).val (y 1).val := by
  have b0 : (y 0).val < 8192 := (y 0).isLt
  have b1 : (y 1).val < 2048 := (y 1).isLt
  have hd : (y 1).val / 2048 = 0 := Nat.div_eq_of_lt b1
  have hp : Cert.Kernel2Ideal.Value.pt9Of y = 11 * ((y 0).val / 1024) + 10 := by
    show 11 * (1 * ((y 0).val / 1024 - 0) + 1 * ((y 1).val / 2048 - 0)) + 10 = _
    omega
  have hN : Cert.Kernel2Ideal.Value.pt9Of y < cfg0.N := by
    rw [hp]; exact lt_of_lt_of_eq (by omega : _ < 88) N_0.symm
  unfold Cert.Kernel2Ideal.Value.G9
  rw [dif_pos hN, ← Cert.Kernel2Ideal.Value.outsAt0_sweep m c _ hN]
  have h := (holds_all m c _ hN).last (by show Cert.Kernel2Ideal.Value.pt9Of y % 11 = 10; omega) ((y 0).val % 1024) (Nat.mod_lt _ (by norm_num))
    (y 1).val b1
  rw [nat2_of _ _ _ (Nat.mod_lt _ (by norm_num)) b1] at h
  have er : 1024 * (Cert.Kernel2Ideal.Value.pt9Of y / 11) + (y 0).val % 1024 = (y 0).val := by omega
  refine Eq.trans (congrArg _ ?_) (h.trans (congrArg (fun R => ffnOut _ _ _ _ _ _ R _) er))
  exact funext fun a => by
    match a with
    | ⟨0, _⟩ => rfl
    | ⟨1, _⟩ => exact Fin.ext (Nat.mod_eq_of_lt b1)

end Cert.Ffn

end
-- ==== Proof.FfnRef.lean ====
/- The reference of the feed-forward call read at an element: the same modulated rows, hidden columns and branch, and the
   layer norm of the residual with its factor, which is the layer norm with the factor divided out. -/
module

public import proofs.«01_k».proof.Proof.Gen.Reference2Ideal.Read
public import proofs.«01_k».proof.Proof.FfnSpec

@[expose] public section

noncomputable section

namespace Cert.Ffn

open Idealize.ShloMosaic Cert.Attn
open Cert.Reference2Ideal Cert.Reference2Ideal.Gen Cert.Reference2Ideal.Read

variable (x0 : (⟨S4x2048x2048, .f32⟩ : BufTy).Contents (Elt Ideal)) (x1 : (⟨S4x12288, .f32⟩ : BufTy).Contents (Elt Ideal))
  (x2 : (⟨S1x2048x11264, .f32⟩ : BufTy).Contents (Elt Ideal)) (x3 : (⟨S1x5632x2048, .f32⟩ : BufTy).Contents (Elt Ideal))
  (x4 x5 : (⟨S1x2048, .f32⟩ : BufTy).Contents (Elt Ideal))

/-- The residual stream, its batches and positions joined. -/
abbrev rowsOf (R C : ℕ) : EReal := nat3 (a := 4) (b := 2048) (c := 2048) x0 (R / 2048) (R % 2048) C

/-- The factor of the residual. -/
theorem ofBits_alpha : Ideal.ofBits .f32 0x3F9837F0#32 = ((623487 / 524288 : ℝ) : EReal) := by
  simp [Ideal.ofBits, Ideal.ieee]
  rw [← EReal.coe_mul]
  norm_num

/-- The small constant under the root. -/
theorem ofBits_eps : Ideal.ofBits .f32 0x3727C5AC#32 = ((2748779 / 274877906944 : ℝ) : EReal) := by
  simp [Ideal.ofBits, Ideal.ieee]
  rw [← EReal.coe_mul]
  norm_num

theorem rows_at (i : S4x2048x2048.Idx) : rowsOf x0 (2048 * (i 0).val + (i 1).val) (i 2).val = x0 i := by
  have b0 : (i 0).val < 4 := (i 0).isLt
  have b1 : (i 1).val < 2048 := (i 1).isLt
  have e1 : (2048 * (i 0).val + (i 1).val) / 2048 = (i 0).val := by omega
  have e2 : (2048 * (i 0).val + (i 1).val) % 2048 = (i 1).val := by omega
  unfold rowsOf
  rw [e1, e2, nat3_of x0 _ _ _ b0 b1 (i 2).isLt]
  exact congrArg x0 (funext fun a => by match a with | ⟨0, _⟩ => rfl | ⟨1, _⟩ => rfl | ⟨2, _⟩ => rfl)

/-- The modulated residual stream. -/
theorem ref_mod (i : S4x2048x2048.Idx) :
    val_main_v17 (F := Ideal) x0 x1 i = modRow (rowsOf x0) (nat2 (a := 4) (b := 12288) x1) (2048 * (i 0).val + (i 1).val) (i 2).val := by
  have b0 : (i 0).val < 4 := (i 0).isLt
  have b1 : (i 1).val < 2048 := (i 1).isLt
  have b2 : (i 2).val < 2048 := (i 2).isLt
  have e1 : (2048 * (i 0).val + (i 1).val) / 2048 = (i 0).val := by omega
  rw [val_main_v17_apply, val_main_v15_apply, val_main_v14_apply, val_main_v13_apply, val_main_v12_apply, val_main_cst_apply,
    val_main_v10_apply, val_main_v4_apply, val_main_v16_apply, val_main_v9_apply, val_main_v3_apply]
  unfold modRow
  rw [rows_at, e1, nat2_of x1 _ _ b0 (by omega), nat2_of x1 _ _ b0 (by omega)]
  show x0 i * (Ideal.ofBits .f32 0x3F800000#32 + x1 _) + x1 _ = _
  rw [ofBits_one]
  refine congrArg₂ (· + ·) (congrArg (fun z => x0 i * (1 + z)) (congrArg x1 ?_)) (congrArg x1 ?_)
  · exact funext fun a => by match a with | ⟨0, _⟩ => rfl | ⟨1, _⟩ => rfl
  · exact funext fun a => by match a with | ⟨0, _⟩ => rfl | ⟨1, _⟩ => rfl

/-- The product with the first weight. -/
theorem ref_first (i : S4x2048x11264.Idx) : val_main_v19 (F := Ideal) x0 x1 x2 i
    = ∑ k ∈ Finset.range 2048, modRow (rowsOf x0) (nat2 (a := 4) (b := 12288) x1) (2048 * (i 0).val + (i 1).val) k
        * nat3 (a := 1) (b := 2048) (c := 11264) x2 0 k (i 2).val := by
  have b2 : (i 2).val < 11264 := (i 2).isLt
  rw [val_main_v19_apply, ← Fin.sum_univ_eq_sum_range (fun k => modRow (rowsOf x0) (nat2 (a := 4) (b := 12288) x1) (2048 * (i 0).val + (i 1).val) k
        * nat3 (a := 1) (b := 2048) (c := 11264) x2 0 k (i 2).val) 2048]
  refine Finset.sum_congr rfl fun k _ => ?_
  rw [ref_mod, val_main_v18_apply, nat3_of x2 _ _ _ (by norm_num) k.isLt b2]
  refine congrArg₂ (· * ·) rfl (congrArg x2 ?_)
  exact funext fun a => by
    match a with
    | ⟨0, _⟩ => rfl
    | ⟨1, _⟩ => exact Fin.ext (by have hk := k.isLt; show (k.val * 11264 + (i 2).val) / 11264 % 2048 = k.val; omega)
    | ⟨2, _⟩ => exact Fin.ext (by show (k.val * 11264 + (i 2).val) % 11264 = (i 2).val; omega)

/-- The hidden columns. -/
theorem ref_hidden (i : S4x2048x5632.Idx) : val_main_v23 (F := Ideal) x0 x1 x2 i
    = hidden (rowsOf x0) (nat2 (a := 4) (b := 12288) x1) (nat3 (a := 1) (b := 2048) (c := 11264) x2 0) (2048 * (i 0).val + (i 1).val) (i 2).val := by
  rw [val_main_v23_apply, val_main_v22_apply, val_main_call0_v5_apply, val_main_call0_v4_apply, val_main_call0_cst_0_apply, val_main_call0_v3_apply,
    val_main_call0_v2_apply, val_main_call0_cst_apply, val_main_call0_v1_apply, val_main_call0_v0_apply, val_main_v20_apply, val_main_v21_apply,
    ref_first, ref_first]
  unfold hidden gated Ideal.logistic
  rw [← ofBits_one]
  rfl

/-- The branch. -/
theorem ref_branch (i : S4x2048x2048.Idx) : val_main_v25 (F := Ideal) x0 x1 x2 x3 i
    = branch (rowsOf x0) (nat2 (a := 4) (b := 12288) x1) (nat3 (a := 1) (b := 2048) (c := 11264) x2 0)
        (nat3 (a := 1) (b := 5632) (c := 2048) x3 0) 5632 (2048 * (i 0).val + (i 1).val) (i 2).val := by
  have b2 : (i 2).val < 2048 := (i 2).isLt
  unfold branch
  rw [val_main_v25_apply, ← Fin.sum_univ_eq_sum_range (fun f => hidden (rowsOf x0) (nat2 (a := 4) (b := 12288) x1)
    (nat3 (a := 1) (b := 2048) (c := 11264) x2 0) (2048 * (i 0).val + (i 1).val) f * nat3 (a := 1) (b := 5632) (c := 2048) x3 0 f (i 2).val) 5632]
  refine Finset.sum_congr rfl fun k _ => ?_
  rw [ref_hidden, val_main_v24_apply, nat3_of x3 _ _ _ (by norm_num) k.isLt b2]
  refine congrArg₂ (· * ·) rfl (congrArg x3 ?_)
  exact funext fun a => by
    match a with
    | ⟨0, _⟩ => rfl
    | ⟨1, _⟩ => exact Fin.ext (by have hk := k.isLt; show (k.val * 2048 + (i 2).val) / 2048 % 5632 = k.val; omega)
    | ⟨2, _⟩ => exact Fin.ext (by show (k.val * 2048 + (i 2).val) % 2048 = (i 2).val; omega)

/-- The residual and the gated branch, the residual's factor divided out of both. -/
abbrev restOf (R : ℕ) : ℕ → EReal :=
  resRow (rowsOf x0 R) (fun n => nat2 (a := 4) (b := 12288) x1 (R / 2048) (10240 + n))
    (branch (rowsOf x0) (nat2 (a := 4) (b := 12288) x1) (nat3 (a := 1) (b := 2048) (c := 11264) x2 0)
      (nat3 (a := 1) (b := 5632) (c := 2048) x3 0) 5632 R)

/-- The reference's residual sum is the factor times it. -/
theorem ref_rest (i : S4x2048x2048.Idx) : val_main_v30 (F := Ideal) x0 x1 x2 x3 i
    = ((623487 / 524288 : ℝ) : EReal) * restOf x0 x1 x2 x3 (2048 * (i 0).val + (i 1).val) (i 2).val := by
  have b0 : (i 0).val < 4 := (i 0).isLt
  have b1 : (i 1).val < 2048 := (i 1).isLt
  have b2 : (i 2).val < 2048 := (i 2).isLt
  have e1 : (2048 * (i 0).val + (i 1).val) / 2048 = (i 0).val := by omega
  rw [val_main_v30_apply, val_main_v27_apply, val_main_v26_apply, val_main_cst_0_apply, val_main_v29_apply, val_main_v28_apply,
    val_main_v11_apply, val_main_v5_apply, ref_branch]
  show Ideal.ofBits .f32 0x3F9837F0#32 * x0 i + x1 _ * _ = _
  rw [ofBits_alpha, residual_scale _ (by norm_num)]
  unfold restOf resRow
  rw [rows_at, e1]
  beta_reduce
  rw [nat2_of x1 _ _ b0 (by omega), show ((623487 / 524288 : ℝ)⁻¹) = 524288 / 623487 by norm_num]
  refine congrArg (fun z => _ * (x0 i + z * _ * _)) (congrArg x1 ?_)
  exact funext fun a => by match a with | ⟨0, _⟩ => rfl | ⟨1, _⟩ => rfl

/-- The row that the reference normalises. -/
abbrev scaledOf (R : ℕ) : ℕ → EReal := fun n => ((623487 / 524288 : ℝ) : EReal) * restOf x0 x1 x2 x3 R n

/-- The mean of the row. -/
theorem ref_mean (i : S4x2048x1.Idx) : val_main_v36 (F := Ideal) x0 x1 x2 x3 i
    = mean (scaledOf x0 x1 x2 x3 (2048 * (i 0).val + (i 1).val)) := by
  rw [val_main_v36_apply, val_main_v34_apply, val_main_v33_apply, val_main_cst_1_apply, val_main_v35_apply, val_main_cst_2_apply]
  show Ideal.div (Ideal.ofBits .f32 0x00000000#32 + _) (Ideal.ofBits .f32 0x45000000#32) = _
  rw [ofBits_zero, zero_add, ofBits_2048]
  unfold mean
  refine congrArg (fun z => Ideal.div z _) ?_
  rw [← Fin.sum_univ_eq_sum_range (scaledOf x0 x1 x2 x3 (2048 * (i 0).val + (i 1).val)) 2048]
  exact Finset.sum_congr rfl fun k _ => ref_rest x0 x1 x2 x3 _

/-- The mean square distance from the mean. -/
theorem ref_variance (i : S4x2048x1.Idx) : val_main_v43 (F := Ideal) x0 x1 x2 x3 i
    = variance (scaledOf x0 x1 x2 x3 (2048 * (i 0).val + (i 1).val)) := by
  rw [val_main_v43_apply, val_main_v41_apply, val_main_v40_apply, val_main_cst_3_apply, val_main_v42_apply, val_main_cst_4_apply]
  show Ideal.div (Ideal.ofBits .f32 0x00000000#32 + _) (Ideal.ofBits .f32 0x45000000#32) = _
  rw [ofBits_zero, zero_add, ofBits_2048]
  unfold variance
  generalize hz : scaledOf x0 x1 x2 x3 (2048 * (i 0).val + (i 1).val) = z
  refine (congrArg (fun s => Ideal.div s _) ?_ : _ = Ideal.div (∑ k ∈ Finset.range 2048, (z k - mean z) * (z k - mean z)) _)
  rw [← Fin.sum_univ_eq_sum_range (fun k => (z k - mean z) * (z k - mean z)) 2048]
  refine Finset.sum_congr rfl fun k _ => ?_
  rw [val_main_v39_apply, val_main_v38_apply, val_main_v37_apply, ref_mean, ref_rest, ← hz]
  rfl

/-- The reference at an element. -/
theorem ref_ffn (y : S8192x2048.Idx) : val_main_v57 (F := Ideal) x0 x1 x2 x3 x4 x5 y
    = ffnOut (rowsOf x0) (nat2 (a := 4) (b := 12288) x1) (nat3 (a := 1) (b := 2048) (c := 11264) x2 0)
        (nat3 (a := 1) (b := 5632) (c := 2048) x3 0) (nat2 (a := 1) (b := 2048) x4 0) (nat2 (a := 1) (b := 2048) x5 0) (y 0).val (y 1).val := by
  have b0 : (y 0).val < 8192 := (y 0).isLt
  have b1 : (y 1).val < 2048 := (y 1).isLt
  rw [val_main_v57_apply]
  generalize hi : idx_main_v57 y = i
  have i0 : (i 0).val = (y 0).val / 2048 := by
    rw [← hi]; show ((y 0).val * 2048 + (y 1).val) / 4194304 = _; omega
  have i1 : (i 1).val = (y 0).val % 2048 := by
    rw [← hi]; show ((y 0).val * 2048 + (y 1).val) / 2048 % 2048 = _; omega
  have i2 : (i 2).val = (y 1).val := by
    rw [← hi]; show ((y 0).val * 2048 + (y 1).val) % 2048 = _; omega
  have hR : 2048 * (i 0).val + (i 1).val = (y 0).val := by omega
  rw [val_main_v56_apply, val_main_v53_apply, val_main_v50_apply, val_main_v45_apply, val_main_v44_apply, val_main_v49_apply, val_main_v48_apply,
    val_main_v47_apply, val_main_v46_apply, val_main_cst_5_apply, val_main_v52_apply, val_main_v51_apply, val_main_v31_apply,
    val_main_v55_apply, val_main_v54_apply, val_main_v32_apply, ref_mean, ref_variance, ref_rest]
  show (_ - mean (scaledOf x0 x1 x2 x3 (2048 * (i 0).val + (i 1).val)))
    * Ideal.rsqrt (variance (scaledOf x0 x1 x2 x3 (2048 * (i 0).val + (i 1).val)) + Ideal.ofBits .f32 0x3727C5AC#32) * x4 _ + x5 _ = _
  rw [ofBits_eps, hR, i2]
  unfold ffnOut
  rw [nat2_of x4 0 _ (by norm_num) b1, nat2_of x5 0 _ (by norm_num) b1]
  refine congrArg₂ (· + ·) (congrArg₂ (· * ·) ?_ (congrArg x4 ?_)) (congrArg x5 ?_)
  · have h := normed_scale (623487 / 524288) (2748779 / 388736039169) (by norm_num) (by norm_num) (restOf x0 x1 x2 x3 (y 0).val) (y 1).val
    rw [show (623487 / 524288 * (623487 / 524288) * (2748779 / 388736039169) : ℝ) = 2748779 / 274877906944 by norm_num] at h
    exact h
  · exact funext fun a => by match a with | ⟨0, _⟩ => rfl | ⟨1, _⟩ => exact Fin.ext (by show (i 2).val % 2048 = (y 1).val; omega)
  · exact funext fun a => by match a with | ⟨0, _⟩ => rfl | ⟨1, _⟩ => exact Fin.ext (by show (i 2).val % 2048 = (y 1).val; omega)

end Cert.Ffn

end
-- ==== Proof.FfnClaims.lean ====
/- The claims about the feed-forward call: its frames, its reference's, the named constants, and the equality over the
   extended reals. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.FfnValue
public import proofs.«01_k».proof.Proof.FfnRef
public import Idealize.ShloMosaic.Adequacy
public import Idealize.ShloMosaic.Init
public import Idealize.ShloMosaic.Lib.Quiescent

@[expose] public section

noncomputable section

namespace Cert.Ffn

open Idealize.ShloMosaic Idealize.ShloMosaic.TcCoe Idealize.SL.Sem

/-- The kernel runs on bits, leaves its arguments and its semaphores as they were. -/
theorem frame_kernel : Cert.quiescent_Kernel2 (hKernel2 := Cert.Kernel2.Gen.facts) :=
  fun m ρ _ => Cert.Kernel2.Gen.frame m ρ

/-- The same over the extended reals. -/
theorem frame_ideal : Cert.quiescent_Kernel2Ideal (hKernel2Ideal := Cert.Kernel2Ideal.Gen.facts) :=
  fun m ρ _ => Cert.Kernel2Ideal.Gen.frame m ρ

/-- The reference runs, leaves its arguments and its semaphores as they were. -/
theorem frame_reference : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The reciprocal of the residual's factor and the small constant divided by its square are read as the rational numbers. -/
theorem preserves_constants : Cert.preserves_Kernel2_Kernel2Ideal :=
  ⟨IdealRules.named_const.statement Cert.Kernel2Ideal.κ "inv_alpha" .f32 0x3F5744FD#32 ((524288 / 623487 : ℝ) : EReal) rfl,
    IdealRules.named_const.statement Cert.Kernel2Ideal.κ "eps_z" .f32 0x36ED4403#32 ((2748779 / 388736039169 : ℝ) : EReal) rfl⟩

/-- The array the kernel leaves is the reference's. -/
theorem result (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v57 (F := Ideal) (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4))
      (m ((c : Thread Cert.Kernel2Ideal.nD Cert.Kernel2Ideal.τ).loc Cert.Kernel2Ideal.main_arg5))
      = Cert.Kernel2Ideal.Value.G9 m c :=
  funext fun y => (ref_ffn _ _ _ _ _ _ y).trans (result_eq m c y).symm

/-- The result agrees, element by element, with the reference's. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Value.G9 m c, Cert.Kernel2Ideal.Value.run m g, ?_⟩
  refine (θ_run Cert.Reference2Ideal.defs _ _).mono (fun r h c => ?_) (Cert.Reference2Ideal.Value.run (F := Ideal) m' g')
  obtain ⟨r0, rest⟩ := h c
  obtain ⟨a0, a1, a2, a3, a4, a5⟩ := hargs c
  refine ⟨?_, rest⟩
  refine (r0.trans (Cert.Reference2Ideal.Read.val_main_v57_eq m' c)).trans (Eq.trans ?_ (result m c))
  rw [a0, a1, a2, a3, a4, a5]

end Cert.Ffn

end
-- ==== Proof.MergeOut.lean ====
/- One grid point of the call that merges the two branches: each branch's product with its weight, under its gate, and a
   slab of the feed-forward weight cast. -/
module

public import proofs.«01_k».proof.Proof.Gen.Kernel3Ideal.Value
public import proofs.«01_k».proof.Proof.FfnOutB

@[expose] public section

noncomputable section

namespace Cert.Merge

open Idealize.ShloMosaic Idealize.ShloMosaic.ValueIdx Idealize.ShloMosaic.TcCoe Idealize.SL.Sem
open Cert.Kernel3Ideal Cert.Kernel3Ideal.Gen Cert.Attn Cert.Ffn

/-- An element of the merged branches: each branch's product under its gate. -/
def merge (a b wa wb g : ℕ → ℕ → EReal) (r c : ℕ) : EReal :=
  g r c * (∑ k ∈ Finset.range 2048, a r k * wa k c) + g r (2048 + c) * (∑ k ∈ Finset.range 2048, b r k * wb k c)

/-- The first chunk of columns. -/
theorem pay6_apply (a b : Vec Ideal S512x2048 .bf16) (wa wb : Vec Ideal S2048x256 .bf16) (ga gb : Vec Ideal S512x256 .bf16) (r : Fin 512) (n : Fin 256) :
    k0_pay6 a b wa wb ga gb (ix2 r n) = ga (ix2 r n) * (∑ k ∈ Finset.range 2048, nat2 a r.val k * nat2 wa k n.val)
      + gb (ix2 r n) * (∑ k ∈ Finset.range 2048, nat2 b r.val k * nat2 wb k n.val) := by
  rw [← matmul_plain_zero a wa r n, ← matmul_plain_zero b wb r n]
  unfold k0_pay6 k0_pay4 k0_pay5
  rw [shapeCast_same, shapeCast_same, shapeCast_same, shapeCast_same, shapeCast_same, shapeCast_same]
  rfl

/-- The chunk of columns from `o` on. -/
theorem chunk (o o' : ℕ) (ho : o' = 2048 + o) (x0 x1 : Vec Ideal S512x2048 .bf16) (x2 x3 : Vec Ideal S2048x2048 .bf16) (x4 : Vec Ideal S512x4096 .bf16)
    (i2 i4 i5) (r : Fin 512) (n : Fin 256) :
    k0_pay6 x0 x1 (View.ld x2 (Rect.unit (s := S2048x2048) ![0, o] S2048x256.size i2)) (View.ld x3 (Rect.unit (s := S2048x2048) ![0, o] S2048x256.size i2))
        (View.ld x4 (Rect.unit (s := S512x4096) ![0, o] S512x256.size i4)) (View.ld x4 (Rect.unit (s := S512x4096) ![0, o'] S512x256.size i5)) (ix2 r n)
      = merge (nat2 x0) (nat2 x1) (nat2 x2) (nat2 x3) (nat2 x4) (0 + r.val) (o + n.val) := by
  have hw : ∀ x : Vec Ideal S2048x2048 .bf16, ∀ k ∈ Finset.range 2048,
      nat2 (a := 2048) (b := 256) (View.ld x (Rect.unit (s := S2048x2048) ![0, o] S2048x256.size i2)) k n.val = nat2 (a := 2048) (b := 2048) x k (o + n.val) := fun x k hk => by
    have hk' := Finset.mem_range.mp hk
    rw [nat2_of _ k n.val hk' n.isLt]
    refine (ldb_unit_nat2 (a := 2048) (b := 2048) (a' := 2048) (b' := 256) x ![0, o] 0 o rfl i2 ⟨k, hk'⟩ n).trans ?_
    rw [Nat.zero_add]
  rw [pay6_apply]
  unfold merge
  rw [Nat.zero_add, ← Nat.add_assoc, ← ho]
  refine congrArg₂ (· + ·) (congrArg₂ (· * ·) ?_ (Finset.sum_congr rfl fun k hk => ?_)) (congrArg₂ (· * ·) ?_ (Finset.sum_congr rfl fun k hk => ?_))
  · refine (ldb_unit_nat2 (a := 512) (b := 4096) (a' := 512) (b' := 256) x4 ![0, o] 0 o rfl i4 r n).trans ?_
    rw [Nat.zero_add]
  · rw [hw x2 k hk]
  · refine (ldb_unit_nat2 (a := 512) (b := 4096) (a' := 512) (b' := 256) x4 ![0, o'] 0 o' rfl i5 r n).trans ?_
    rw [Nat.zero_add]
  · rw [hw x3 k hk]

variable (x0 x1 : Vec Ideal S512x2048 .bf16) (x2 x3 : Vec Ideal S2048x2048 .bf16) (x4 : Vec Ideal S512x4096 .bf16) (x5 : Vec Ideal S352x2048 .f32)

theorem ld_rows (x : Vec Ideal S512x2048 .bf16) : View.ld x r0_0 = x := View.ld_unit_zero (S := S512x2048) zeros2 _ _

/-- What a point leaves in its block of the merged branches. -/
theorem out6_apply (y : S512x2048.Idx) : out0_6 x0 x1 x2 x3 x4 x5 y
    = merge (nat2 x0) (nat2 x1) (nat2 x2) (nat2 x3) (nat2 x4) (y 0).val (y 1).val := by
  unfold out0_6 k0_pay25 k0_pay26
  rw [ld_rows, ld_rows]
  refine View.canon_apply_of_pieces (Val := Elt Ideal) (e := .bf16)
    (fun y : S512x2048.Idx => merge (nat2 x0) (nat2 x1) (nat2 x2) (nat2 x3) (nat2 x4) (y 0).val (y 1).val) _ ?_ y (cover0_6 _ _ _ _ _ _ _ _ y)
  simp only [List.forall_mem_cons]
  refine ⟨?_, ?_, ?_, ?_, ?_, ?_, ?_, ?_, fun p hp => absurd hp (List.not_mem_nil)⟩
  · exact fun z => piece_emb 0 1792 _ (merge (nat2 x0) (nat2 x1) (nat2 x2) (nat2 x3) (nat2 x4)) _ (fun r n => chunk 1792 3840 rfl x0 x1 x2 x3 x4 _ _ _ r n) z
  · exact fun z => piece_emb 0 1536 _ (merge (nat2 x0) (nat2 x1) (nat2 x2) (nat2 x3) (nat2 x4)) _ (fun r n => chunk 1536 3584 rfl x0 x1 x2 x3 x4 _ _ _ r n) z
  · exact fun z => piece_emb 0 1280 _ (merge (nat2 x0) (nat2 x1) (nat2 x2) (nat2 x3) (nat2 x4)) _ (fun r n => chunk 1280 3328 rfl x0 x1 x2 x3 x4 _ _ _ r n) z
  · exact fun z => piece_emb 0 1024 _ (merge (nat2 x0) (nat2 x1) (nat2 x2) (nat2 x3) (nat2 x4)) _ (fun r n => chunk 1024 3072 rfl x0 x1 x2 x3 x4 _ _ _ r n) z
  · exact fun z => piece_emb 0 768 _ (merge (nat2 x0) (nat2 x1) (nat2 x2) (nat2 x3) (nat2 x4)) _ (fun r n => chunk 768 2816 rfl x0 x1 x2 x3 x4 _ _ _ r n) z
  · exact fun z => piece_emb 0 512 _ (merge (nat2 x0) (nat2 x1) (nat2 x2) (nat2 x3) (nat2 x4)) _ (fun r n => chunk 512 2560 rfl x0 x1 x2 x3 x4 _ _ _ r n) z
  · exact fun z => piece_emb 0 256 _ (merge (nat2 x0) (nat2 x1) (nat2 x2) (nat2 x3) (nat2 x4)) _ (fun r n => chunk 256 2304 rfl x0 x1 x2 x3 x4 _ _ _ r n) z
  · exact fun z => piece_emb 0 0 _ (merge (nat2 x0) (nat2 x1) (nat2 x2) (nat2 x3) (nat2 x4)) _ (fun r n => chunk 0 2048 rfl x0 x1 x2 x3 x4 _ _ _ r n) z

theorem pay3_eq (v : Vec Ideal S32x2048 .f32) (z : S32x2048.Idx) : k0_pay3 v z = v z :=
  congrFun (shapeCast_self v shapeCasts_S32x2048_S32x2048) z

theorem pay1_eq (v : Vec Ideal S32x2048 .f32) (z : S32x2048.Idx) : k0_pay1 v z = v z :=
  congrFun (shapeCast_self v shapeCasts_S32x2048_S32x2048) z

theorem pay23_eq (v : Vec Ideal S32x2048 .f32) (z : S32x2048.Idx) : k0_pay23 v z = v z :=
  congrFun (shapeCast_self v shapeCasts_S32x2048_S32x2048) z

theorem pay20_eq (v : Vec Ideal S32x2048 .f32) (z : S32x2048.Idx) : k0_pay20 v z = v z :=
  congrFun (shapeCast_self v shapeCasts_S32x2048_S32x2048) z

theorem pay18_eq (v : Vec Ideal S32x2048 .f32) (z : S32x2048.Idx) : k0_pay18 v z = v z :=
  congrFun (shapeCast_self v shapeCasts_S32x2048_S32x2048) z

theorem pay16_eq (v : Vec Ideal S32x2048 .f32) (z : S32x2048.Idx) : k0_pay16 v z = v z :=
  congrFun (shapeCast_self v shapeCasts_S32x2048_S32x2048) z

theorem pay15_eq (v : Vec Ideal S32x2048 .f32) (z : S32x2048.Idx) : k0_pay15 v z = v z :=
  congrFun (shapeCast_self v shapeCasts_S32x2048_S32x2048) z

theorem pay11_eq (v : Vec Ideal S32x2048 .f32) (z : S32x2048.Idx) : k0_pay11 v z = v z :=
  congrFun (shapeCast_self v shapeCasts_S32x2048_S32x2048) z

theorem pay10_eq (v : Vec Ideal S32x2048 .f32) (z : S32x2048.Idx) : k0_pay10 v z = v z :=
  congrFun (shapeCast_self v shapeCasts_S32x2048_S32x2048) z

theorem pay8_eq (v : Vec Ideal S32x2048 .f32) (z : S32x2048.Idx) : k0_pay8 v z = v z :=
  congrFun (shapeCast_self v shapeCasts_S32x2048_S32x2048) z

theorem pay7_eq (v : Vec Ideal S32x2048 .f32) (z : S32x2048.Idx) : k0_pay7 v z = v z :=
  congrFun (shapeCast_self v shapeCasts_S32x2048_S32x2048) z

/-- The slab of the feed-forward weight, cast and unchanged over the extended reals. -/
theorem out7_apply (y : S352x2048.Idx) : out0_7 x0 x1 x2 x3 x4 x5 y = x5 y := by
  unfold out0_7
  refine View.canon_apply_of_pieces (Val := Elt Ideal) (e := .bf16) x5 _ ?_ y (cover0_7 _ _ _ _ _ _ _ _ _ _ _ y)
  simp only [List.forall_mem_cons]
  exact ⟨fun z => pay3_eq _ z, fun z => pay1_eq _ z, fun z => pay23_eq _ z, fun z => pay20_eq _ z, fun z => pay18_eq _ z, fun z => pay16_eq _ z, fun z => pay15_eq _ z, fun z => pay11_eq _ z, fun z => pay10_eq _ z, fun z => pay8_eq _ z, fun z => pay7_eq _ z, fun p hp => absurd hp (List.not_mem_nil)⟩

end Cert.Merge

end
-- ==== Proof.MergeValue.lean ====
/- The arrays of the merging call after the run, in the arguments of the layer's step. -/
module

public import proofs.«01_k».proof.Proof.MergeOut
public import Idealize.ShloMosaic.Lib.Pipeline.ValueKit.Geometry
public import Idealize.ShloMosaic.Lib.StableHlo.ReadAt
public import Idealize.ShloMosaic.Lib.Pointwise

@[expose] public section

noncomputable section

namespace Cert.Merge

open Idealize.ShloMosaic Idealize.ShloMosaic.ValueIdx Idealize.ShloMosaic.TcCoe
open Cert.Kernel3Ideal Cert.Kernel3Ideal.Gen Cert.Attn Cert.Ffn

variable (m : (ℓ : Loc nD τ sig) → Buf (Elt Ideal) ℓ) (c : Dev nD)

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![352 * t.val, 0] :=
  (by decide +kernel : ∀ t : Fin grid0.N, win0_5.index t = ![352 * t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

/-- The attention's rows, their batches and positions joined, and their heads and lanes. -/
abbrev attn (R C : ℕ) : EReal :=
  nat4 (a := 4) (b := 2048) (c := 16) (d := 128) (m ((c : Thread nD τ).loc main_arg0)) (R / 2048) (R % 2048) (C / 128) (C % 128)

/-- The convolution branch's rows, their batches and positions joined. -/
abbrev conv (R C : ℕ) : EReal := nat3 (a := 4) (b := 2048) (c := 2048) (m ((c : Thread nD τ).loc main_arg1)) (R / 2048) (R % 2048) C

/-- The two gates' rows, each its own. -/
def gateRow (ga gb : ℕ → ℕ → ℕ → EReal) (R C : ℕ) : EReal :=
  Ideal.logistic (if C < 2048 then ga (R / 2048) (R % 2048) C else gb (R / 2048) (R % 2048) (C - 2048))

abbrev gates (R C : ℕ) : EReal :=
  gateRow (nat3 (a := 4) (b := 2048) (c := 2048) (m ((c : Thread nD τ).loc main_arg2))) (nat3 (a := 4) (b := 2048) (c := 2048) (m ((c : Thread nD τ).loc main_arg3))) R C

/-- The two weights. -/
abbrev weightA (R C : ℕ) : EReal := nat3 (a := 1) (b := 2048) (c := 2048) (m ((c : Thread nD τ).loc main_arg4)) 0 R C
abbrev weightB (R C : ℕ) : EReal := nat3 (a := 1) (b := 2048) (c := 2048) (m ((c : Thread nD τ).loc main_arg5)) 0 R C

/-- The feed-forward weight. -/
abbrev weightF (R C : ℕ) : EReal := nat3 (a := 1) (b := 5632) (c := 2048) (m ((c : Thread nD τ).loc main_arg6)) 0 R C

/-- The attention's rows as the host leaves them. -/
theorem hostA (R C : ℕ) (hR : R < 8192) (hC : C < 2048) : nat2 (a := 8192) (b := 2048) (V m c main_v10) R C = attn m c R C := by
  rw [nat2_of _ R C hR hC]
  unfold attn
  rw [nat4_of _ _ _ _ _ (by omega) (by omega) (by omega) (by omega)]
  unfold V
  after_reads_at
  rfl

theorem hostC (R C : ℕ) (hR : R < 8192) (hC : C < 2048) : nat2 (a := 8192) (b := 2048) (V m c main_v12) R C = conv m c R C := by
  rw [nat2_of _ R C hR hC]
  unfold conv
  rw [nat3_of _ _ _ _ (by omega) (by omega) hC]
  unfold V
  after_reads_at
  rfl

theorem hostWA (R C : ℕ) (hR : R < 2048) (hC : C < 2048) : nat2 (a := 2048) (b := 2048) (V m c main_v14) R C = weightA m c R C := by
  rw [nat2_of _ R C hR hC]
  unfold weightA
  rw [nat3_of _ _ _ _ (by omega) (by omega) hC]
  unfold V
  after_reads_at
  rfl

theorem hostWB (R C : ℕ) (hR : R < 2048) (hC : C < 2048) : nat2 (a := 2048) (b := 2048) (V m c main_v16) R C = weightB m c R C := by
  rw [nat2_of _ R C hR hC]
  unfold weightB
  rw [nat3_of _ _ _ _ (by omega) (by omega) hC]
  unfold V
  after_reads_at
  rfl

theorem hostF (R C : ℕ) (hR : R < 5632) (hC : C < 2048) : nat2 (a := 5632) (b := 2048) (V m c main_v17) R C = weightF m c R C := by
  rw [nat2_of _ R C hR hC]
  unfold weightF
  rw [nat3_of _ _ _ _ (by omega) (by omega) hC]
  unfold V
  after_reads_at
  rfl

/-- The two gates side by side as the host leaves them, after their logistic. -/
theorem hostG (R C : ℕ) (hR : R < 8192) (hC : C < 4096) : nat2 (a := 8192) (b := 4096) (V m c main_v8) R C = gates m c R C := by
  rw [nat2_of _ R C hR hC]
  unfold gates gateRow
  unfold V
  after_reads_at
  by_cases h : C < 2048
  · rw [dif_pos h, if_pos h, nat3_of _ _ _ _ (by omega) (by omega) h]
    rfl
  · rw [dif_neg h, if_neg h, nat3_of _ _ _ _ (by omega) (by omega) (by omega)]
    rfl

theorem blk0 (t : Fin cfg0.N) (p w : ℕ) (hp : p < 512) (hw : w < 2048) :
    nat2 (a := 512) (b := 2048) (iblk m c 0 t) p w = attn m c (512 * t.val + p) w := by
  have ht : t.val < 16 := t.isLt
  rw [← hostA m c (512 * t.val + p) w (by omega) hw, nat2_of _ p w (by omega) hw, nat2_of _ _ _ (by omega) (by omega)]
  blk_simp [iblk]
  refine congrArg (V m c main_v10) ?_
  blk_ext [idx0]

theorem blk1 (t : Fin cfg0.N) (p w : ℕ) (hp : p < 512) (hw : w < 2048) :
    nat2 (a := 512) (b := 2048) (iblk m c 1 t) p w = conv m c (512 * t.val + p) w := by
  have ht : t.val < 16 := t.isLt
  rw [← hostC m c (512 * t.val + p) w (by omega) hw, nat2_of _ p w (by omega) hw, nat2_of _ _ _ (by omega) (by omega)]
  blk_simp [iblk]
  refine congrArg (V m c main_v12) ?_
  blk_ext [idx1]

theorem blk2 (t : Fin cfg0.N) (p w : ℕ) (hp : p < 2048) (hw : w < 2048) :
    nat2 (a := 2048) (b := 2048) (iblk m c 2 t) p w = weightA m c p w := by
  have ht : t.val < 16 := t.isLt
  rw [← hostWA m c p w (by omega) hw, nat2_of _ p w (by omega) hw, nat2_of _ _ _ (by omega) (by omega)]
  blk_simp [iblk]
  refine congrArg (V m c main_v14) ?_
  blk_ext [idx2]

theorem blk3 (t : Fin cfg0.N) (p w : ℕ) (hp : p < 2048) (hw : w < 2048) :
    nat2 (a := 2048) (b := 2048) (iblk m c 3 t) p w = weightB m c p w := by
  have ht : t.val < 16 := t.isLt
  rw [← hostWB m c p w (by omega) hw, nat2_of _ p w (by omega) hw, nat2_of _ _ _ (by omega) (by omega)]
  blk_simp [iblk]
  refine congrArg (V m c main_v16) ?_
  blk_ext [idx3]

theorem blk4 (t : Fin cfg0.N) (p w : ℕ) (hp : p < 512) (hw : w < 4096) :
    nat2 (a := 512) (b := 4096) (iblk m c 4 t) p w = gates m c (512 * t.val + p) w := by
  have ht : t.val < 16 := t.isLt
  rw [← hostG m c (512 * t.val + p) w (by omega) hw, nat2_of _ p w (by omega) hw, nat2_of _ _ _ (by omega) (by omega)]
  blk_simp [iblk]
  refine congrArg (V m c main_v8) ?_
  blk_ext [idx4]

/-- A slab of the feed-forward weight, whose index map gives element offsets. -/
theorem blk5 (t : Fin cfg0.N) (p w : ℕ) (hp : p < 352) (hw : w < 2048) :
    nat2 (a := 352) (b := 2048) (iblk m c 5 t) p w = weightF m c (352 * t.val + p) w := by
  have ht : t.val < 16 := t.isLt
  rw [← hostF m c (352 * t.val + p) w (by omega) hw, nat2_of _ p w hp hw, nat2_of _ _ _ (by omega) (by omega)]
  refine congrArg (V m c main_v17) (funext fun a => Fin.ext ?_)
  refine (ValueKit.rect_emb_unit_val _ _ _ _ _).trans ?_
  match a with
  | ⟨0, _⟩ => exact congrArg (· + p) (congrFun (idx5 t) 0)
  | ⟨1, _⟩ => exact (congrArg (· + w) (congrFun (idx5 t) 1)).trans (Nat.zero_add _)

/-- What a point leaves. -/
theorem point (t : Fin cfg0.N) (p q : ℕ) (hp : p < 512) (hq : q < 2048) :
    merge (nat2 (a := 512) (b := 2048) (iblk m c 0 t)) (nat2 (a := 512) (b := 2048) (iblk m c 1 t)) (nat2 (a := 2048) (b := 2048) (iblk m c 2 t))
        (nat2 (a := 2048) (b := 2048) (iblk m c 3 t)) (nat2 (a := 512) (b := 4096) (iblk m c 4 t)) p q
      = merge (attn m c) (conv m c) (weightA m c) (weightB m c) (gates m c) (512 * t.val + p) q := by
  unfold merge
  rw [blk4 m c t p q hp (by omega), blk4 m c t p (2048 + q) hp (by omega)]
  refine congrArg₂ (· + ·) (congrArg₂ (· * ·) rfl (Finset.sum_congr rfl fun k hk => ?_)) (congrArg₂ (· * ·) rfl (Finset.sum_congr rfl fun k hk => ?_))
  · have hk' := Finset.mem_range.mp hk
    rw [blk0 m c t p k hp hk', blk2 m c t k q hk' hq]
  · have hk' := Finset.mem_range.mp hk
    rw [blk1 m c t p k hp hk', blk3 m c t k q hk' hq]

/-- The merged branches after the run. -/
theorem final6 : (dats m 0 c).arrAt 6 cfg0.N
    = fun y : S8192x2048.Idx => merge (attn m c) (conv m c) (weightA m c) (weightB m c) (gates m c) (y 0).val (y 1).val := by
  refine (dats m 0 c).arrAt_eq_of_covers 6 _ (by decide +kernel) fun t hf y => ?_
  blk_simp
  rw [after0_6, out6_apply]
  refine (point m c t _ _ (y 0).isLt (y 1).isLt).trans ?_
  blk_simp [idx6]
  refine congrArg₂ (merge (attn m c) (conv m c) (weightA m c) (weightB m c) (gates m c)) ?_ ?_
  · exact congrArg (· + (y 0).val) (Nat.mul_comm _ _)
  · rfl

/-- The feed-forward weight after the run. -/
theorem final7 : (dats m 0 c).arrAt 7 cfg0.N = fun y : S5632x2048.Idx => weightF m c (y 0).val (y 1).val := by
  refine (dats m 0 c).arrAt_eq_of_covers 7 _ (by decide +kernel) fun t hf y => ?_
  blk_simp
  rw [after0_7, out7_apply]
  refine (nat2_ix2 (a := 352) (b := 2048) (iblk m c 5 t) (y 0) (y 1)).symm.trans ((blk5 m c t _ _ (y 0).isLt (y 1).isLt).trans ?_)
  blk_simp [idx7]
  refine congrArg₂ (weightF m c) ?_ ?_
  · exact congrArg (· + (y 0).val) (Nat.mul_comm _ _)
  · rfl

end Cert.Merge

end
-- ==== Proof.MergeRef.lean ====
/- The reference of the merging call at an element. -/
module

public import proofs.«01_k».proof.Proof.Gen.Reference3Ideal.Read
public import proofs.«01_k».proof.Proof.MergeValue

@[expose] public section

noncomputable section

namespace Cert.Merge

open Idealize.ShloMosaic Cert.Attn Cert.Ffn
open Cert.Reference3Ideal Cert.Reference3Ideal.Gen Cert.Reference3Ideal.Read

variable (x0 : (⟨S4x2048x16x128, .f32⟩ : BufTy).Contents (Elt Ideal)) (x1 x2 x3 : (⟨S4x2048x2048, .f32⟩ : BufTy).Contents (Elt Ideal))
  (x4 x5 : (⟨S1x2048x2048, .f32⟩ : BufTy).Contents (Elt Ideal)) (x6 : (⟨S1x5632x2048, .f32⟩ : BufTy).Contents (Elt Ideal))

/-- The attention's product with its weight. -/
theorem ref_a (i : S4x2048x2048.Idx) : val_main_v2 (F := Ideal) x0 x4 i
    = ∑ k ∈ Finset.range 2048, nat4 (a := 4) (b := 2048) (c := 16) (d := 128) x0 (i 0).val (i 1).val (k / 128) (k % 128)
        * nat3 (a := 1) (b := 2048) (c := 2048) x4 0 k (i 2).val := by
  have b0 : (i 0).val < 4 := (i 0).isLt
  have b1 : (i 1).val < 2048 := (i 1).isLt
  have b2 : (i 2).val < 2048 := (i 2).isLt
  rw [val_main_v2_apply, ← Fin.sum_univ_eq_sum_range (fun k => nat4 (a := 4) (b := 2048) (c := 16) (d := 128) x0 (i 0).val (i 1).val (k / 128) (k % 128)
        * nat3 (a := 1) (b := 2048) (c := 2048) x4 0 k (i 2).val) 2048]
  refine Finset.sum_congr rfl fun k _ => ?_
  have hk := k.isLt
  rw [val_main_v0_apply, val_main_v1_apply, nat4_of x0 _ _ _ _ b0 b1 (by omega) (by omega), nat3_of x4 _ _ _ (by norm_num) k.isLt b2]
  refine congrArg₂ (· * ·) ?_ ?_
  · exact congrArg x0 (funext fun a => by
      match a with
      | ⟨0, _⟩ => exact Fin.ext (by show (((i 0).val * 2048 + (i 1).val) * 2048 + k.val) / 4194304 = (i 0).val; omega)
      | ⟨1, _⟩ => exact Fin.ext (by show (((i 0).val * 2048 + (i 1).val) * 2048 + k.val) / 2048 % 2048 = (i 1).val; omega)
      | ⟨2, _⟩ => exact Fin.ext (by show (((i 0).val * 2048 + (i 1).val) * 2048 + k.val) / 128 % 16 = k.val / 128; omega)
      | ⟨3, _⟩ => exact Fin.ext (by show (((i 0).val * 2048 + (i 1).val) * 2048 + k.val) % 128 = k.val % 128; omega))
  · exact congrArg x4 (funext fun a => by
      match a with
      | ⟨0, _⟩ => rfl
      | ⟨1, _⟩ => exact Fin.ext (by have hk := k.isLt; show (k.val * 2048 + (i 2).val) / 2048 % 2048 = k.val; omega)
      | ⟨2, _⟩ => exact Fin.ext (by show (k.val * 2048 + (i 2).val) % 2048 = (i 2).val; omega))

/-- The convolution branch's product with its weight. -/
theorem ref_b (i : S4x2048x2048.Idx) : val_main_v4 (F := Ideal) x1 x5 i
    = ∑ k ∈ Finset.range 2048, nat3 (a := 4) (b := 2048) (c := 2048) x1 (i 0).val (i 1).val k
        * nat3 (a := 1) (b := 2048) (c := 2048) x5 0 k (i 2).val := by
  have b2 : (i 2).val < 2048 := (i 2).isLt
  rw [val_main_v4_apply, ← Fin.sum_univ_eq_sum_range (fun k => nat3 (a := 4) (b := 2048) (c := 2048) x1 (i 0).val (i 1).val k
        * nat3 (a := 1) (b := 2048) (c := 2048) x5 0 k (i 2).val) 2048]
  refine Finset.sum_congr rfl fun k _ => ?_
  rw [val_main_v3_apply, nat3_of x1 _ _ _ (i 0).isLt (i 1).isLt k.isLt, nat3_of x5 _ _ _ (by norm_num) k.isLt b2]
  refine congrArg₂ (· * ·) ?_ ?_
  · exact congrArg x1 (funext fun a => by match a with | ⟨0, _⟩ => rfl | ⟨1, _⟩ => rfl | ⟨2, _⟩ => rfl)
  · exact congrArg x5 (funext fun a => by
      match a with
      | ⟨0, _⟩ => rfl
      | ⟨1, _⟩ => exact Fin.ext (by have hk := k.isLt; show (k.val * 2048 + (i 2).val) / 2048 % 2048 = k.val; omega)
      | ⟨2, _⟩ => exact Fin.ext (by show (k.val * 2048 + (i 2).val) % 2048 = (i 2).val; omega))

theorem ref_gate_a (i : S4x2048x2048.Idx) : val_main_v10 (F := Ideal) x2 i = Ideal.logistic (x2 i) := by
  rw [val_main_v10_apply, val_main_v9_apply, val_main_cst_0_apply, val_main_v8_apply, val_main_v7_apply, val_main_cst_apply, val_main_v6_apply, val_main_v5_apply]
  unfold Ideal.logistic
  rw [← ofBits_one]
  rfl

theorem ref_gate_b (i : S4x2048x2048.Idx) : val_main_v17 (F := Ideal) x3 i = Ideal.logistic (x3 i) := by
  rw [val_main_v17_apply, val_main_v16_apply, val_main_cst_2_apply, val_main_v15_apply, val_main_v14_apply, val_main_cst_1_apply, val_main_v13_apply, val_main_v12_apply]
  unfold Ideal.logistic
  rw [← ofBits_one]
  rfl

theorem entry (x : (⟨S4x2048x2048, .f32⟩ : BufTy).Contents (Elt Ideal)) (i : S4x2048x2048.Idx) :
    x i = nat3 (a := 4) (b := 2048) (c := 2048) x (i 0).val (i 1).val (i 2).val := by
  rw [nat3_of x _ _ _ (i 0).isLt (i 1).isLt (i 2).isLt]
  exact congrArg x (funext fun a => by match a with | ⟨0, _⟩ => rfl | ⟨1, _⟩ => rfl | ⟨2, _⟩ => rfl)

/-- The reference's merged branches at an element. -/
theorem ref_merged (y : S8192x2048.Idx) : val_main_v21 (F := Ideal) x0 x1 x2 x3 x4 x5 y
    = merge (fun R C => nat4 (a := 4) (b := 2048) (c := 16) (d := 128) x0 (R / 2048) (R % 2048) (C / 128) (C % 128))
        (fun R C => nat3 (a := 4) (b := 2048) (c := 2048) x1 (R / 2048) (R % 2048) C) (nat3 (a := 1) (b := 2048) (c := 2048) x4 0)
        (nat3 (a := 1) (b := 2048) (c := 2048) x5 0) (gateRow (nat3 (a := 4) (b := 2048) (c := 2048) x2) (nat3 (a := 4) (b := 2048) (c := 2048) x3))
        (y 0).val (y 1).val := by
  have b0 : (y 0).val < 8192 := (y 0).isLt
  have b1 : (y 1).val < 2048 := (y 1).isLt
  rw [val_main_v21_apply, val_main_v20_apply]
  generalize hi : idx_main_v20 y = i
  have i0 : (i 0).val = (y 0).val / 2048 := by
    rw [← hi]; show ((y 0).val * 2048 + (y 1).val) / 4194304 = _; omega
  have i1 : (i 1).val = (y 0).val % 2048 := by
    rw [← hi]; show ((y 0).val * 2048 + (y 1).val) / 2048 % 2048 = _; omega
  have i2 : (i 2).val = (y 1).val := by
    rw [← hi]; show ((y 0).val * 2048 + (y 1).val) % 2048 = _; omega
  rw [val_main_v19_apply, val_main_v11_apply, val_main_v18_apply, ref_a, ref_b, ref_gate_a, ref_gate_b, entry x2 i, entry x3 i, i0, i1, i2]
  unfold merge gateRow
  rw [if_pos b1, if_neg (by omega), show 2048 + (y 1).val - 2048 = (y 1).val by omega]
  rfl

/-- The reference's feed-forward weight at an element. -/
theorem ref_weight (y : S5632x2048.Idx) : val_main_v23 (F := Ideal) x6 y = nat3 (a := 1) (b := 5632) (c := 2048) x6 0 (y 0).val (y 1).val := by
  have b0 : (y 0).val < 5632 := (y 0).isLt
  have b1 : (y 1).val < 2048 := (y 1).isLt
  rw [val_main_v23_apply, val_main_v22_apply, nat3_of x6 _ _ _ (by norm_num) b0 b1]
  exact congrArg x6 (funext fun a => by
    match a with
    | ⟨0, _⟩ => rfl
    | ⟨1, _⟩ => exact Fin.ext (by show ((y 0).val * 2048 + (y 1).val) / 2048 % 5632 = (y 0).val; omega)
    | ⟨2, _⟩ => exact Fin.ext (by show ((y 0).val * 2048 + (y 1).val) % 2048 = (y 1).val; omega))

end Cert.Merge

end
-- ==== Proof.MergeClaims.lean ====
/- The claims about the merging call: its frames, its reference's, and the equality over the extended reals. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.MergeRef
public import Idealize.ShloMosaic.Adequacy
public import Idealize.ShloMosaic.Init
public import Idealize.ShloMosaic.Lib.Quiescent

@[expose] public section

noncomputable section

namespace Cert.Merge

open Idealize.ShloMosaic Idealize.ShloMosaic.TcCoe Idealize.SL.Sem

/-- The kernel runs on bits, leaves its arguments and its semaphores as they were. -/
theorem frame_kernel : Cert.quiescent_Kernel3 (hKernel3 := Cert.Kernel3.Gen.facts) :=
  fun m ρ _ => Cert.Kernel3.Gen.frame m ρ

/-- The same over the extended reals. -/
theorem frame_ideal : Cert.quiescent_Kernel3Ideal (hKernel3Ideal := Cert.Kernel3Ideal.Gen.facts) :=
  fun m ρ _ => Cert.Kernel3Ideal.Gen.frame m ρ

/-- The reference runs, leaves its arguments and its semaphores as they were. -/
theorem frame_reference : Cert.quiescent_Reference3Ideal (hReference3Ideal := Cert.Reference3Ideal.Gen.facts) := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- No operation was given another meaning. -/
theorem preserves : Cert.preserves_Kernel3_Kernel3Ideal := trivial

/-- The merged branches the kernel leaves are the reference's. -/
theorem result_merged (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v21 (F := Ideal) (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3))
      (m ((c : Thread Cert.Kernel3Ideal.nD Cert.Kernel3Ideal.τ).loc Cert.Kernel3Ideal.main_arg4))
      (m ((c : Thread Cert.Kernel3Ideal.nD Cert.Kernel3Ideal.τ).loc Cert.Kernel3Ideal.main_arg5))
      = (Cert.Kernel3Ideal.Gen.dats m 0 c).arrAt 6 Cert.Kernel3Ideal.cfg0.N :=
  (funext fun y => ref_merged _ _ _ _ _ _ y).trans (final6 m c).symm

/-- The feed-forward weight the kernel leaves is the reference's. -/
theorem result_weight (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v23 (F := Ideal) (m ((c : Thread Cert.Kernel3Ideal.nD Cert.Kernel3Ideal.τ).loc Cert.Kernel3Ideal.main_arg6))
      = (Cert.Kernel3Ideal.Gen.dats m 0 c).arrAt 7 Cert.Kernel3Ideal.cfg0.N :=
  (funext fun y => ref_weight _ y).trans (final7 m c).symm

/-- The results agree, element by element, with the reference's. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N,
    Cert.Kernel3Ideal.Value.run_blocks m g, ?_⟩
  refine (θ_run Cert.Reference3Ideal.defs _ _).mono (fun r h c => ?_) (Cert.Reference3Ideal.Value.run (F := Ideal) m' g')
  obtain ⟨r0, r1, rest⟩ := h c
  obtain ⟨a0, a1, a2, a3, a4, a5, a6⟩ := hargs c
  refine ⟨?_, ?_, rest⟩
  · refine (r0.trans (Cert.Reference3Ideal.Read.val_main_v21_eq _ _ _ _ _ _)).trans (Eq.trans ?_ (result_merged m c))
    rw [a0, a1, a2, a3, a4, a5]
  · refine (r1.trans (Cert.Reference3Ideal.Read.val_main_v23_eq _)).trans (Eq.trans ?_ (result_weight m c))
    rw [a6]

end Cert.Merge

end
-- ==== Proof.GatesOut.lean ====
/- One grid point of the gates' call: the logistic of the rows' products with the weights' rows, chunk by chunk of the output. -/
module

public import proofs.«01_k».proof.Proof.Gen.Kernel4Ideal.Value
public import proofs.«01_k».proof.Proof.FfnOutB

@[expose] public section

noncomputable section

namespace Cert.Gates

open Idealize.ShloMosaic Idealize.ShloMosaic.ValueIdx Idealize.ShloMosaic.TcCoe Idealize.SL.Sem
open Cert.Kernel4Ideal Cert.Kernel4Ideal.Gen Cert.Attn Cert.Ffn

/-- A product of a matrix with the transpose of another over a zero accumulator. -/
theorem matmul_rows_zero {m k n : ℕ} {φ : FTy} (x : FVec Ideal (Sh m k) φ) (w : FVec Ideal (Sh n k) φ) (r : Fin m) (c : Fin n) :
    FloatOps.matmul (DotDims.transposedRhs m k n) none x w (constant (Sh m n) .f32 0x00000000#32) (ix2 r c)
      = ∑ l ∈ Finset.range k, nat2 x r.val l * nat2 w c.val l := by
  rw [Ideal.matmul_transposedRhs_apply]
  show Ideal.ofBits .f32 0x00000000#32 + _ = _
  rw [ofBits_zero, zero_add, ← Fin.sum_univ_eq_sum_range fun l => nat2 x r.val l * nat2 w c.val l]
  refine Finset.sum_congr rfl fun l _ => ?_
  rw [nat2_ix2, nat2_ix2]

/-- A gate: the logistic of the product of row `r` of `x` with row `c` of `w`. -/
def gate (x w : ℕ → ℕ → EReal) (r c : ℕ) : EReal := Ideal.logistic (∑ l ∈ Finset.range 2048, x r l * w c l)

/-- The two gates side by side. -/
def gates2 (x w₀ w₁ : ℕ → ℕ → EReal) (r c : ℕ) : EReal := if c < 2048 then gate x w₀ r c else gate x w₁ r (c - 2048)

/-- A chunk of `n` gates, whose weights' rows start at `o`. -/
theorem chunk {n : ℕ} (o : ℕ) (x : Vec Ideal S1024x2048 .bf16) (w : Vec Ideal S2048x2048 .bf16) (inb)
    (h : (Sh n 2048).ShapeCasts (Sh n 2048)) (r : Fin 1024) (c : Fin n) :
    Ideal.logistic (FloatOps.matmul (φ₁ := .bf16) (φ₂ := .bf16) (DotDims.transposedRhs 1024 2048 n) none x
        (shapeCast (Sh n 2048) (View.ld w (Rect.unit (s := S2048x2048) ![o, 0] (Sh n 2048).size inb)) h : FVec Ideal (Sh n 2048) .bf16)
        (constant (Sh 1024 n) .f32 0x00000000#32) (ix2 r c))
      = gate (nat2 x) (nat2 w) r.val (o + c.val) := by
  rw [matmul_rows_zero]
  unfold gate
  refine congrArg Ideal.logistic (Finset.sum_congr rfl fun l hl => ?_)
  have hl' := Finset.mem_range.mp hl
  rw [nat2_of _ c.val l c.isLt hl']
  refine congrArg (_ * ·) ?_
  refine (congrFun (shapeCast_self (s := Sh n 2048) _ h) _).trans ?_
  refine (ldb_unit_nat2 (a := 2048) (b := 2048) (a' := n) (b' := 2048) w ![o, 0] o 0 rfl inb c ⟨l, hl'⟩).trans ?_
  rw [Nat.zero_add]

/-- The six chunks a point stores, the last stored first. -/
def pieces (p0 p1 p2 : Vec Ideal S1024x1024 .bf16) (p3 : Vec Ideal S1024x512 .bf16) (p4 p5 : Vec Ideal S1024x256 .bf16) :
    List (View.Piece (Elt Ideal) S1024x4096 .bf16) :=
  [⟨Rect.unit ![0, 3840] S1024x256.size inb_S1024x4096_S1024x256_0_3840, p5⟩, ⟨Rect.unit ![0, 3584] S1024x256.size inb_S1024x4096_S1024x256_0_3584, p4⟩,
    ⟨Rect.unit ![0, 3072] S1024x512.size inb_S1024x4096_S1024x512_0_3072, p3⟩, ⟨Rect.unit ![0, 2048] S1024x1024.size inb_S1024x4096_S1024x1024_0_2048, p2⟩,
    ⟨Rect.unit ![0, 1024] S1024x1024.size inb_S1024x4096_S1024x1024_0_1024, p1⟩, ⟨Rect.unit ![0, 0] S1024x1024.size inb_S1024x4096_S1024x1024_0_0, p0⟩]

theorem pieces_cover (p0 p1 p2 : Vec Ideal S1024x1024 .bf16) (p3 : Vec Ideal S1024x512 .bf16) (p4 p5 : Vec Ideal S1024x256 .bf16)
    (y : S1024x4096.Idx) : ∃ p ∈ pieces p0 p1 p2 p3 p4 p5, y ∈ p.1.set :=
  View.cover_of_tiledBy (pieces p0 p1 p2 p3 p4 p5) ![1024, 256] (by sl_kernel_rfl) y

/-- Chunks that each hold their part of one function leave that function. -/
theorem canon_pieces (G : ℕ → ℕ → EReal) (p0 p1 p2 : Vec Ideal S1024x1024 .bf16) (p3 : Vec Ideal S1024x512 .bf16) (p4 p5 : Vec Ideal S1024x256 .bf16)
    (h0 : ∀ (r : Fin 1024) (c : Fin 1024), p0 (ix2 r c) = G (0 + r.val) (0 + c.val))
    (h1 : ∀ (r : Fin 1024) (c : Fin 1024), p1 (ix2 r c) = G (0 + r.val) (1024 + c.val))
    (h2 : ∀ (r : Fin 1024) (c : Fin 1024), p2 (ix2 r c) = G (0 + r.val) (2048 + c.val))
    (h3 : ∀ (r : Fin 1024) (c : Fin 512), p3 (ix2 r c) = G (0 + r.val) (3072 + c.val))
    (h4 : ∀ (r : Fin 1024) (c : Fin 256), p4 (ix2 r c) = G (0 + r.val) (3584 + c.val))
    (h5 : ∀ (r : Fin 1024) (c : Fin 256), p5 (ix2 r c) = G (0 + r.val) (3840 + c.val)) (y : S1024x4096.Idx) :
    View.canon (pieces p0 p1 p2 p3 p4 p5 ++ []) y = G (y 0).val (y 1).val := by
  refine View.canon_append_of_pieces (Val := Elt Ideal) (e := .bf16) (fun y : S1024x4096.Idx => G (y 0).val (y 1).val) [] _ ?_ y
    (pieces_cover p0 p1 p2 p3 p4 p5 y)
  unfold pieces
  simp only [List.forall_mem_cons]
  refine ⟨?_, ?_, ?_, ?_, ?_, ?_, fun p hp => absurd hp (List.not_mem_nil)⟩
  · exact fun z => piece_emb 0 3840 _ G _ h5 z
  · exact fun z => piece_emb 0 3584 _ G _ h4 z
  · exact fun z => piece_emb 0 3072 _ G _ h3 z
  · exact fun z => piece_emb 0 2048 _ G _ h2 z
  · exact fun z => piece_emb 0 1024 _ G _ h1 z
  · exact fun z => piece_emb 0 0 _ G _ h0 z

theorem pay3_eq (x : Vec Ideal S1024x2048 .bf16) : k0_pay3 x = x := shapeCast_self (s := S1024x2048) x _

theorem gates2_left (x w₀ w₁ : ℕ → ℕ → EReal) (r c : ℕ) (h : c < 2048) : gates2 x w₀ w₁ (0 + r) c = gate x w₀ r c := by
  unfold gates2
  rw [if_pos h, Nat.zero_add]

theorem gates2_right (x w₀ w₁ : ℕ → ℕ → EReal) (r o c : ℕ) : gates2 x w₀ w₁ (0 + r) (2048 + o + c) = gate x w₁ r (o + c) := by
  unfold gates2
  rw [if_neg (by omega), Nat.zero_add, show 2048 + o + c - 2048 = o + c by omega]

/-- What a point leaves in its block of the output. -/
theorem out_A (c : Dev nD) (i : grid0.Coords) (arg1 : Memref sig .tc .vmem S1024x2048 .bf16) (harg1 : arg1.IsWhole) (arg2 : Memref sig .tc .vmem S2048x2048 .bf16) (harg2 : arg2.IsWhole) (arg3 : Memref sig .tc .vmem S2048x2048 .bf16) (harg3 : arg3.IsWhole) (arg4 : Memref sig .tc .vmem S1024x4096 .bf16) (harg4 : arg4.IsWhole)
    (x0 : Vec Ideal S1024x2048 .bf16) (x1 : Vec Ideal S2048x2048 .bf16) (x2 : Vec Ideal S2048x2048 .bf16) :
    out0_A_3 c i arg1 harg1 arg2 harg2 arg3 harg3 arg4 harg4 x0 x1 x2 = fun y => gates2 (nat2 x0) (nat2 x1) (nat2 x2) (y 0).val (y 1).val := by
  unfold out0_A_3
  unfold kernelRun0_A
  dsimp only
  sl_unfold_words
  rw [View.read_writes_junk_eq_canon]
  simp only [View.readAt_eq_ld, harg1.read_unread, harg2.read_unread, harg3.read_unread]
  rw [View.ld_unit_zero (S := S1024x2048) zeros2]
  funext y
  refine canon_pieces (gates2 (nat2 x0) (nat2 x1) (nat2 x2)) _ _ _ _ _ _ ?_ ?_ ?_ ?_ ?_ ?_ y
  · intro r c
    rw [gates2_left _ _ _ _ _ (by omega), ← chunk 0 x0 x1 inb_S2048x2048_S1024x2048_0_0 shapeCasts_S1024x2048_S1024x2048 r c]
    unfold k0_pay4
    rw [pay3_eq]
    rfl
  · intro r c
    rw [gates2_left _ _ _ _ _ (by omega), ← chunk 1024 x0 x1 inb_S2048x2048_S1024x2048_1024_0 shapeCasts_S1024x2048_S1024x2048 r c]
    unfold k0_pay5
    rw [pay3_eq]
    rfl
  · intro r c
    rw [show 2048 + c.val = 2048 + 0 + c.val by omega, gates2_right, ← chunk 0 x0 x2 inb_S2048x2048_S1024x2048_0_0 shapeCasts_S1024x2048_S1024x2048 r c]
    unfold k0_pay6
    rw [pay3_eq]
    rfl
  · intro r c
    rw [show 3072 + c.val = 2048 + 1024 + c.val by omega, gates2_right, ← chunk 1024 x0 x2 inb_S2048x2048_S512x2048_1024_0 shapeCasts_S512x2048_S512x2048 r c]
    unfold k0_pay7
    rw [pay3_eq]
    rfl
  · intro r c
    rw [show 3584 + c.val = 2048 + 1536 + c.val by omega, gates2_right, ← chunk 1536 x0 x2 inb_S2048x2048_S256x2048_1536_0 shapeCasts_S256x2048_S256x2048 r c]
    unfold k0_pay1 k0_pay8
    rw [pay3_eq]
    rfl
  · intro r c
    rw [show 3840 + c.val = 2048 + 1792 + c.val by omega, gates2_right, ← chunk 1792 x0 x2 inb_S2048x2048_S256x2048_1792_0 shapeCasts_S256x2048_S256x2048 r c]
    unfold k0_pay2
    rw [pay3_eq]
    rfl

end Cert.Gates

end
-- ==== Proof.GatesValue.lean ====
/- The array of the gates' call after the run, in the arguments of the layer's step. -/
module

public import proofs.«01_k».proof.Proof.GatesOut
public import Idealize.ShloMosaic.Lib.Pipeline.ValueKit.Geometry
public import Idealize.ShloMosaic.Lib.StableHlo.ReadAt
public import Idealize.ShloMosaic.Lib.Pointwise

@[expose] public section

noncomputable section

namespace Cert.Gates

open Idealize.ShloMosaic Idealize.ShloMosaic.ValueIdx Idealize.ShloMosaic.TcCoe
open Cert.Kernel4Ideal Cert.Kernel4Ideal.Gen Cert.Attn

variable (m : (ℓ : Loc nD τ sig) → Buf (Elt Ideal) ℓ) (c : Dev nD)

theorem idx0 : ∀ t : Fin cfg0.N, win0_0.index t = ![t.val, 0] :=
  (by decide +kernel : ∀ t : Fin grid0.N, win0_0.index t = ![t.val, 0])
theorem idx1 : ∀ t : Fin cfg0.N, win0_1.index t = ![3, 0] :=
  (by decide +kernel : ∀ t : Fin grid0.N, win0_1.index t = ![3, 0])
theorem idx2 : ∀ t : Fin cfg0.N, win0_2.index t = ![4, 0] :=
  (by decide +kernel : ∀ t : Fin grid0.N, win0_2.index t = ![4, 0])
theorem idx3 : ∀ t : Fin cfg0.N, win0_3.index t = ![t.val, 0] :=
  (by decide +kernel : ∀ t : Fin grid0.N, win0_3.index t = ![t.val, 0])

/-- The rows the gates are computed from, their batches and positions joined. -/
abbrev rows (R C : ℕ) : EReal :=
  nat3 (a := 4) (b := 2048) (c := 2048) (m ((c : Thread nD τ).loc main_arg0)) (R / 2048) (R % 2048) C

/-- The columns of the input weight. -/
abbrev weight (R C : ℕ) : EReal := nat3 (a := 1) (b := 2048) (c := 11328) (m ((c : Thread nD τ).loc main_arg1)) 0 R C

/-- The rows as the host leaves them. -/
theorem hostU (R C : ℕ) (hR : R < 8192) (hC : C < 2048) : nat2 (a := 8192) (b := 2048) (V m c main_v1) R C = rows m c R C := by
  rw [nat2_of _ R C hR hC]
  unfold rows
  rw [nat3_of _ _ _ _ (by omega) (by omega) hC]
  unfold V
  after_reads_at
  rfl

/-- The weight's columns as the host leaves them: as rows, from the convolution's on. -/
theorem hostW (R C : ℕ) (hR : R < 10240) (hC : C < 2048) :
    nat2 (a := 10240) (b := 2048) (V m c main_v5) R C = weight m c C (1088 + R) := by
  rw [nat2_of _ R C hR hC]
  unfold weight
  rw [nat3_of _ _ _ _ (by omega) hC (by omega)]
  unfold V
  after_reads_at
  rfl

/-- The rows of a point. -/
theorem blk0 (t : Fin cfg0.N) (p w : ℕ) (hp : p < 1024) (hw : w < 2048) :
    nat2 (a := 1024) (b := 2048) (iblk m c 0 t) p w = rows m c (1024 * t.val + p) w := by
  have ht : t.val < 8 := t.isLt
  rw [← hostU m c (1024 * t.val + p) w (by omega) hw, nat2_of _ p w (by omega) hw, nat2_of _ _ _ (by omega) (by omega)]
  blk_simp [iblk]
  refine congrArg (V m c main_v1) ?_
  blk_ext [idx0]

/-- The first gate's columns. -/
theorem blk1 (t : Fin cfg0.N) (p w : ℕ) (hp : p < 2048) (hw : w < 2048) :
    nat2 (a := 2048) (b := 2048) (iblk m c 1 t) p w = weight m c w (7232 + p) := by
  rw [show 7232 + p = 1088 + (6144 + p) by omega, ← hostW m c (6144 + p) w (by omega) hw, nat2_of _ p w (by omega) hw, nat2_of _ _ _ (by omega) (by omega)]
  blk_simp [iblk]
  refine congrArg (V m c main_v5) ?_
  blk_ext [idx1]

/-- The second gate's columns. -/
theorem blk2 (t : Fin cfg0.N) (p w : ℕ) (hp : p < 2048) (hw : w < 2048) :
    nat2 (a := 2048) (b := 2048) (iblk m c 2 t) p w = weight m c w (9280 + p) := by
  rw [show 9280 + p = 1088 + (8192 + p) by omega, ← hostW m c (8192 + p) w (by omega) hw, nat2_of _ p w (by omega) hw, nat2_of _ _ _ (by omega) (by omega)]
  blk_simp [iblk]
  refine congrArg (V m c main_v5) ?_
  blk_ext [idx2]

theorem gate_congr (x w x' w' : ℕ → ℕ → EReal) (r r' p p' : ℕ) (h : ∀ l < 2048, x r l * w p l = x' r' l * w' p' l) :
    gate x w r p = gate x' w' r' p' :=
  congrArg Ideal.logistic (Finset.sum_congr rfl fun l hl => h l (Finset.mem_range.mp hl))

/-- The gates of a row: the logistic of its product with the weight's columns from 7232 on. -/
def gatesOut (x w : ℕ → ℕ → EReal) (R C : ℕ) : EReal := Ideal.logistic (∑ l ∈ Finset.range 2048, x R l * w l (7232 + C))

/-- What a point leaves. -/
theorem point (t : Fin cfg0.N) (p q : ℕ) (hp : p < 1024) (hq : q < 4096) :
    gates2 (nat2 (a := 1024) (b := 2048) (iblk m c 0 t)) (nat2 (a := 2048) (b := 2048) (iblk m c 1 t)) (nat2 (a := 2048) (b := 2048) (iblk m c 2 t)) p q
      = gatesOut (rows m c) (weight m c) (1024 * t.val + p) q := by
  unfold gates2
  split
  · rename_i h
    refine gate_congr _ _ (rows m c) (fun p l => weight m c l (7232 + p)) _ (1024 * t.val + p) _ q fun l hl => ?_
    rw [blk0 m c t p l hp hl, blk1 m c t q l h hl]
  · rename_i h
    refine gate_congr _ _ (rows m c) (fun p l => weight m c l (7232 + p)) _ (1024 * t.val + p) _ q fun l hl => ?_
    rw [blk0 m c t p l hp hl, blk2 m c t (q - 2048) l (by omega) hl, show 9280 + (q - 2048) = 7232 + q by omega]

/-- The array after the run. -/
theorem final3 : (dats m 0 c).arrAt 3 cfg0.N = fun y : S8192x4096.Idx => gatesOut (rows m c) (weight m c) (y 0).val (y 1).val := by
  refine (dats m 0 c).arrAt_eq_of_covers 3 _ (by decide +kernel) fun t hf y => ?_
  blk_simp
  rw [after0_3]
  have e : outsAt0 m c t = fun y => gates2 (nat2 (a := 1024) (b := 2048) (iblk m c 0 t)) (nat2 (a := 2048) (b := 2048) (iblk m c 1 t))
      (nat2 (a := 2048) (b := 2048) (iblk m c 2 t)) (y 0).val (y 1).val := by
    unfold outsAt0
    exact out_A c (grid0.coords t) (ms0_0 t) (hs0_0 t) (ms0_1 t) (hs0_1 t) (ms0_2 t) (hs0_2 t) (ms0_3 t) (hs0_3 t) (iblk m c 0 t) (iblk m c 1 t) (iblk m c 2 t)
  rw [e]
  refine (point m c t _ _ (y 0).isLt (y 1).isLt).trans ?_
  blk_simp [idx3]
  refine congrArg₂ (gatesOut (rows m c) (weight m c)) ?_ ?_
  · exact congrArg (· + (y 0).val) (Nat.mul_comm _ _)
  · rfl

end Cert.Gates

end
-- ==== Proof.GatesRef.lean ====
/- The reference of the gates' call at an element. -/
module

public import proofs.«01_k».proof.Proof.Gen.Reference4Ideal.Read
public import proofs.«01_k».proof.Proof.GatesValue

@[expose] public section

noncomputable section

namespace Cert.Gates

open Idealize.ShloMosaic Cert.Attn Cert.Ffn
open Cert.Reference4Ideal Cert.Reference4Ideal.Gen Cert.Reference4Ideal.Read

variable (x0 : (⟨S4x2048x2048, .f32⟩ : BufTy).Contents (Elt Ideal)) (x1 : (⟨S1x2048x11328, .f32⟩ : BufTy).Contents (Elt Ideal))

/-- The product with the input weight. -/
theorem ref_product (i : S4x2048x11328.Idx) : val_main_v1 (F := Ideal) x0 x1 i
    = ∑ k ∈ Finset.range 2048, nat3 (a := 4) (b := 2048) (c := 2048) x0 (i 0).val (i 1).val k
        * nat3 (a := 1) (b := 2048) (c := 11328) x1 0 k (i 2).val := by
  have b2 : (i 2).val < 11328 := (i 2).isLt
  rw [val_main_v1_apply, ← Fin.sum_univ_eq_sum_range (fun k => nat3 (a := 4) (b := 2048) (c := 2048) x0 (i 0).val (i 1).val k
        * nat3 (a := 1) (b := 2048) (c := 11328) x1 0 k (i 2).val) 2048]
  refine Finset.sum_congr rfl fun k _ => ?_
  rw [val_main_v0_apply, nat3_of x0 _ _ _ (i 0).isLt (i 1).isLt k.isLt, nat3_of x1 _ _ _ (by norm_num) k.isLt b2]
  refine congrArg₂ (· * ·) (congrArg x0 ?_) (congrArg x1 ?_)
  · exact funext fun a => by match a with | ⟨0, _⟩ => rfl | ⟨1, _⟩ => rfl | ⟨2, _⟩ => rfl
  · exact funext fun a => by
      match a with
      | ⟨0, _⟩ => rfl
      | ⟨1, _⟩ => exact Fin.ext (by have hk := k.isLt; show (k.val * 11328 + (i 2).val) / 11328 % 2048 = k.val; omega)
      | ⟨2, _⟩ => exact Fin.ext (by show (k.val * 11328 + (i 2).val) % 11328 = (i 2).val; omega)

/-- A gate of the reference, of a batch, a position and a column. -/
abbrev refGate (B S C : ℕ) : EReal :=
  Ideal.logistic (∑ k ∈ Finset.range 2048, nat3 (a := 4) (b := 2048) (c := 2048) x0 B S k * nat3 (a := 1) (b := 2048) (c := 11328) x1 0 k C)

theorem ref_a (i : S4x2048x2048.Idx) : val_main_v13 (F := Ideal) x0 x1 i = refGate x0 x1 (i 0).val (i 1).val (7232 + (i 2).val) := by
  rw [val_main_v13_apply, val_main_v12_apply, val_main_cst_0_apply, val_main_v11_apply, val_main_v10_apply, val_main_cst_apply, val_main_v9_apply,
    val_main_v8_apply, val_main_v6_apply, ref_product]
  unfold refGate Ideal.logistic
  rw [← ofBits_one]
  rfl

theorem ref_b (i : S4x2048x2048.Idx) : val_main_v19 (F := Ideal) x0 x1 i = refGate x0 x1 (i 0).val (i 1).val (9280 + (i 2).val) := by
  rw [val_main_v19_apply, val_main_v18_apply, val_main_cst_2_apply, val_main_v17_apply, val_main_v16_apply, val_main_cst_1_apply, val_main_v15_apply,
    val_main_v14_apply, val_main_v7_apply, ref_product]
  unfold refGate Ideal.logistic
  rw [← ofBits_one]
  rfl

/-- The two gates side by side. -/
theorem ref_pair (i : S4x2048x4096.Idx) : val_main_v20 (F := Ideal) x0 x1 i = refGate x0 x1 (i 0).val (i 1).val (7232 + (i 2).val) := by
  have b2 : (i 2).val < 4096 := (i 2).isLt
  unfold val_main_v20
  by_cases h : (i 2).val < 2048
  · refine (concatenate_pair_apply_left (α := EReal) 2 (val_main_v13 (F := Ideal) x0 x1) (val_main_v19 (F := Ideal) x0 x1) concatenates_S4x2048x2048_S4x2048x2048_S4x2048x4096_d2 i rfl
      (fun a => match a with | ⟨0, _⟩ => ⟨(i 0).val, (i 0).isLt⟩ | ⟨1, _⟩ => ⟨(i 1).val, (i 1).isLt⟩ | ⟨2, _⟩ => ⟨(i 2).val, h⟩ : S4x2048x2048.Idx)
      (fun b => match b with | ⟨0, _⟩ => rfl | ⟨1, _⟩ => rfl | ⟨2, _⟩ => rfl)).trans (ref_a x0 x1 _)
  · refine (concatenate_pair_apply_right (α := EReal) 2 (val_main_v13 (F := Ideal) x0 x1) (val_main_v19 (F := Ideal) x0 x1) concatenates_S4x2048x2048_S4x2048x2048_S4x2048x4096_d2 i rfl rfl
      (fun a => match a with | ⟨0, _⟩ => ⟨(i 0).val, (i 0).isLt⟩ | ⟨1, _⟩ => ⟨(i 1).val, (i 1).isLt⟩ | ⟨2, _⟩ => ⟨(i 2).val - 2048, by show (i 2).val - 2048 < 2048; omega⟩ : S4x2048x2048.Idx)
      (fun b hb => ?_) ?_).trans ((ref_b x0 x1 _).trans ?_)
    · match b, hb with
      | ⟨0, _⟩, _ => rfl
      | ⟨1, _⟩, _ => rfl
      | ⟨2, _⟩, hb => exact absurd rfl hb
    · show (i 2).val - 2048 + 2048 = (i 2).val
      omega
    · show refGate x0 x1 (i 0).val (i 1).val (9280 + ((i 2).val - 2048)) = _
      rw [show 9280 + ((i 2).val - 2048) = 7232 + (i 2).val by omega]

/-- The reference at an element. -/
theorem ref_gates (y : S8192x4096.Idx) : val_main_v22 (F := Ideal) x0 x1 y
    = gatesOut (fun R C => nat3 (a := 4) (b := 2048) (c := 2048) x0 (R / 2048) (R % 2048) C) (nat3 (a := 1) (b := 2048) (c := 11328) x1 0) (y 0).val (y 1).val := by
  have b0 : (y 0).val < 8192 := (y 0).isLt
  have b1 : (y 1).val < 4096 := (y 1).isLt
  rw [val_main_v22_apply, val_main_v21_apply]
  refine (ref_pair x0 x1 (idx_main_v21 y)).trans ?_
  have i0 : (idx_main_v21 y 0).val = (y 0).val / 2048 := by
    show ((y 0).val * 4096 + (y 1).val) / 8388608 = _; omega
  have i1 : (idx_main_v21 y 1).val = (y 0).val % 2048 := by
    show ((y 0).val * 4096 + (y 1).val) / 4096 % 2048 = _; omega
  have i2 : (idx_main_v21 y 2).val = (y 1).val := by
    show ((y 0).val * 4096 + (y 1).val) % 4096 = _; omega
  rw [i0, i1, i2]
  rfl

end Cert.Gates

end
-- ==== Proof.GatesClaims.lean ====
/- The claims about the gates' call: its frames, its reference's, and the equality over the extended reals. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.GatesRef
public import Idealize.ShloMosaic.Adequacy
public import Idealize.ShloMosaic.Init
public import Idealize.ShloMosaic.Lib.Quiescent

@[expose] public section

noncomputable section

namespace Cert.Gates

open Idealize.ShloMosaic Idealize.ShloMosaic.TcCoe Idealize.SL.Sem

/-- The kernel runs on bits, leaves its arguments and its semaphores as they were. -/
theorem frame_kernel : Cert.quiescent_Kernel4 (hKernel4 := Cert.Kernel4.Gen.facts) :=
  fun m ρ _ => Cert.Kernel4.Gen.frame m ρ

/-- The same over the extended reals. -/
theorem frame_ideal : Cert.quiescent_Kernel4Ideal (hKernel4Ideal := Cert.Kernel4Ideal.Gen.facts) :=
  fun m ρ _ => Cert.Kernel4Ideal.Gen.frame m ρ

/-- The reference runs, leaves its arguments and its semaphores as they were. -/
theorem frame_reference : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- No operation was given another meaning. -/
theorem preserves : Cert.preserves_Kernel4_Kernel4Ideal := trivial

/-- The array the kernel leaves is the reference's. -/
theorem result (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v22 (F := Ideal) (m ((c : Thread Cert.Kernel4Ideal.nD Cert.Kernel4Ideal.τ).loc Cert.Kernel4Ideal.main_arg0))
      (m ((c : Thread Cert.Kernel4Ideal.nD Cert.Kernel4Ideal.τ).loc Cert.Kernel4Ideal.main_arg1))
      = (Cert.Kernel4Ideal.Gen.dats m 0 c).arrAt 3 Cert.Kernel4Ideal.cfg0.N :=
  (funext fun y => ref_gates _ _ y).trans (final3 m c).symm

/-- The result agrees, element by element, with the reference's. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 3 Cert.Kernel4Ideal.cfg0.N, Cert.Kernel4Ideal.Value.run_blocks m g, ?_⟩
  refine (θ_run Cert.Reference4Ideal.defs _ _).mono (fun r h c => ?_) (Cert.Reference4Ideal.Value.run (F := Ideal) m' g')
  obtain ⟨r0, rest⟩ := h c
  obtain ⟨a0, a1⟩ := hargs c
  refine ⟨?_, rest⟩
  refine (r0.trans (Cert.Reference4Ideal.Read.val_main_v22_eq _ _)).trans (Eq.trans ?_ (result m c))
  rw [a0, a1]

end Cert.Gates

end
-- ==== Proof.MixOut.lean ====
/- One grid point of the call that mixes the merged branches into the residual: the product with the output weight, the
   residual and its layer norm, in two chunks of rows. -/
module

public import proofs.«01_k».proof.Proof.Gen.Kernel5Ideal.Value
public import proofs.«01_k».proof.Proof.FfnOutC

@[expose] public section

noncomputable section

namespace Cert.Mix

open Idealize.ShloMosaic Idealize.ShloMosaic.ValueIdx Idealize.ShloMosaic.TcCoe Idealize.SL.Sem
open Cert.Kernel5Ideal Cert.Kernel5Ideal.Gen Cert.Attn Cert.Ffn

/-- The named reciprocal of the residual's factor. -/
theorem inv_alpha_val : (Named.named (F := Ideal) κ "inv_alpha" (0x3F5744FD#32 : BitVec (FTy.bits .f32)) : Ideal .f32) = ((524288 / 623487 : ℝ) : EReal) :=
  IdealRules.named_const.ideal_named_scalar _ _ _ _ rfl

/-- The named small constant under the root. -/
theorem eps_z_val : (Named.named (F := Ideal) κ "eps_z" (0x36ED4403#32 : BitVec (FTy.bits .f32)) : Ideal .f32) = ((2748779 / 388736039169 : ℝ) : EReal) :=
  IdealRules.named_const.ideal_named_scalar _ _ _ _ rfl

/-- The residual block before it is centred. -/
def resBlock (x : Vec Ideal S256x2048 .f32) (g : Vec Ideal S1x2048 .f32) (acc : Vec Ideal S256x2048 .f32) : FVec Ideal S256x2048 .f32 :=
  addf x (mulf (broadcastTo S256x2048 (mulf g (broadcast S1x2048 (Named.named κ "inv_alpha" 0x3F5744FD#32))) broadcasts_S1x2048_S256x2048) acc)

theorem resBlock_apply (x : Vec Ideal S256x2048 .f32) (g : Vec Ideal S1x2048 .f32) (acc : Vec Ideal S256x2048 .f32) (r : Fin 256) (n : Fin 2048) :
    resBlock x g acc (ix2 r n) = resRow (nat2 x r.val) (nat2 g 0) (nat2 acc r.val) n.val := by
  unfold resBlock resRow
  show x (ix2 r n) + broadcastTo (Sh 256 2048) (mulf (F := Ideal) (s := S1x2048) (φ := .f32) g (broadcast S1x2048 (Named.named κ "inv_alpha" 0x3F5744FD#32))) _ (ix2 r n) * acc (ix2 r n) = _
  rw [broadcastTo_1b_ab_apply, nat2_ix2, nat2_ix2, nat2_of g 0 n.val (by decide) n.isLt]
  show _ + (_ * Named.named (F := Ideal) κ "inv_alpha" (0x3F5744FD#32 : BitVec (FTy.bits .f32))) * _ = _
  rw [inv_alpha_val]
  rfl

/-- The column of a row's sums over 2048. -/
def meanCol (z : FVec Ideal S256x2048 .f32) : FVec Ideal S256x1 .f32 :=
  divf (shapeCast S256x1 (multiReduction .add [1] S256 z 0x00000000#32 reduces_S256x2048_S256 (.inl rfl) rfl) shapeCasts_S256_S256x1)
    (broadcast S256x1 (Scalar.ofBits .f32 0x45000000#32))

theorem meanCol_apply (z : FVec Ideal S256x2048 .f32) (r : Fin 256) (u : Fin 1) : meanCol z (ix2 r u) = mean (nat2 z r.val) := by
  unfold mean
  rw [← ofBits_2048, ← rowSum_apply z reduces_S256x2048_S256 shapeCasts_S256_S256x1 (.inl rfl) rfl r u]
  rfl

/-- The centred residual. -/
def centred (z : FVec Ideal S256x2048 .f32) : FVec Ideal S256x2048 .f32 :=
  subf z (broadcastTo S256x2048 (meanCol z) broadcasts_S256x1_S256x2048)

theorem centred_apply (z : FVec Ideal S256x2048 .f32) (r : Fin 256) (n : Fin 2048) :
    centred z (ix2 r n) = nat2 z r.val n.val - mean (nat2 z r.val) := by
  show z (ix2 r n) - broadcastTo (Sh 256 2048) (meanCol z) _ (ix2 r n) = _
  rw [broadcastTo_a1_ab_apply, meanCol_apply, nat2_ix2]

/-- The layer norm of a block, with the gain and the bias. -/
def normBlock (z : FVec Ideal S256x2048 .f32) (lg lb : Vec Ideal S1x2048 .f32) : FVec Ideal S256x2048 .f32 :=
  addf (mulf (mulf (centred z) (broadcastTo S256x2048 (rsqrt (addf (meanCol (mulf (centred z) (centred z))) (broadcast S256x1 (Named.named κ "eps_z" 0x36ED4403#32)))) broadcasts_S256x1_S256x2048))
    (broadcastTo S256x2048 lg broadcasts_S1x2048_S256x2048)) (broadcastTo S256x2048 lb broadcasts_S1x2048_S256x2048)

theorem rootCol_apply (m : FVec Ideal S256x1 .f32) (r : Fin 256) (u : Fin 1) :
    rsqrt (addf m (broadcast S256x1 (Named.named κ "eps_z" 0x36ED4403#32))) (ix2 r u) = Ideal.rsqrt (m (ix2 r u) + ((2748779 / 388736039169 : ℝ) : EReal)) := by
  rw [← eps_z_val]
  rfl

theorem normBlock_apply (z : FVec Ideal S256x2048 .f32) (lg lb : Vec Ideal S1x2048 .f32) (r : Fin 256) (n : Fin 2048) :
    normBlock z lg lb (ix2 r n) = normed (2748779 / 388736039169) (nat2 z r.val) n.val * nat2 lg 0 n.val + nat2 lb 0 n.val := by
  show centred z (ix2 r n) * broadcastTo (Sh 256 2048) (rsqrt (addf (meanCol (mulf (centred z) (centred z))) (broadcast S256x1 (Named.named κ "eps_z" 0x36ED4403#32)))) _ (ix2 r n)
      * broadcastTo (Sh 256 2048) lg _ (ix2 r n) + broadcastTo (Sh 256 2048) lb _ (ix2 r n) = _
  rw [broadcastTo_1b_ab_apply, broadcastTo_1b_ab_apply, broadcastTo_a1_ab_apply, nat2_of lg 0 n.val (by decide) n.isLt, nat2_of lb 0 n.val (by decide) n.isLt]
  have hm : mean (nat2 (mulf (centred z) (centred z)) r.val) = variance (nat2 z r.val) := by
    unfold variance
    refine mean_congr _ _ fun k hk => ?_
    rw [nat2_of _ r.val k r.isLt hk]
    show centred z (ix2 r ⟨k, hk⟩) * centred z (ix2 r ⟨k, hk⟩) = _
    rw [centred_apply]
  rw [rootCol_apply, meanCol_apply, centred_apply, hm]
  rfl

/-- The first chunk of rows. -/
theorem pay7_eq (x : Vec Ideal S256x2048 .f32) (g lg lb : Vec Ideal S1x2048 .f32) (acc : Vec Ideal S256x2048 .f32) :
    k0_pay7 (k0_pay2 g) acc (k0_pay5 x) (k0_pay6 lg) lb = normBlock (resBlock x g acc) lg lb := by
  unfold k0_pay7 k0_pay2 k0_pay5 k0_pay6
  rw [shapeCast_same, shapeCast_same, shapeCast_same, shapeCast_same]
  rfl

/-- The second chunk of rows. -/
theorem pay1_eq (x : Vec Ideal S256x2048 .f32) (g lg lb : Vec Ideal S1x2048 .f32) (acc : Vec Ideal S256x2048 .f32) :
    k0_pay1 (k0_pay8 lg) (k0_pay9 lb) (k0_pay10 (k0_pay2 g) acc x) (k0_pay11 (k0_pay2 g) acc x) = normBlock (resBlock x g acc) lg lb := by
  unfold k0_pay1 k0_pay8 k0_pay9 k0_pay11 k0_pay10 k0_pay2
  rw [shapeCast_same, shapeCast_same, shapeCast_same, shapeCast_same]
  rfl

/-- The products with the output weight. -/
theorem pay3_apply (a : Vec Ideal S256x2048 .bf16) (w : Vec Ideal S2048x2048 .bf16) (r : Fin 256) (n : Fin 2048) :
    k0_pay3 a w (ix2 r n) = ∑ k ∈ Finset.range 2048, nat2 a r.val k * nat2 w k n.val := by
  rw [← matmul_plain_zero a w r n]
  unfold k0_pay3
  rw [shapeCast_same, shapeCast_same]
  rfl

theorem pay4_eq (a : Vec Ideal S256x2048 .bf16) (w : Vec Ideal S2048x2048 .bf16) : k0_pay4 a w = k0_pay3 a w := rfl

/-- The residual's row after the product with the output weight. -/
abbrev mixRow (a w x : ℕ → ℕ → EReal) (g : ℕ → EReal) (r : ℕ) : ℕ → EReal :=
  resRow (x r) g fun n => ∑ k ∈ Finset.range 2048, a r k * w k n

/-- An element of the result. -/
def mixOut (a w x : ℕ → ℕ → EReal) (g lg lb : ℕ → EReal) (r n : ℕ) : EReal :=
  normed (2748779 / 388736039169) (mixRow a w x g r) n * lg n + lb n

/-- A chunk of rows from row `o` on. -/
theorem chunk (o q : ℕ) (x0 : Vec Ideal S512x2048 .bf16) (x1 : Vec Ideal S2048x2048 .bf16) (x2 : Vec Ideal S512x2048 .f32) (x3 : Vec Ideal S8x2048 .f32)
    (lg lb : Vec Ideal S1x2048 .f32) (off : Fin 2 → ℕ) (hq : off = ![q, 0]) (i0 i2 i3) (r : Fin 256) (n : Fin 2048) :
    normBlock (resBlock (View.ld x2 (Rect.unit (s := S512x2048) ![o, 0] S256x2048.size i2)) (View.ld x3 (Rect.unit (s := S8x2048) off S1x2048.size i3))
        (k0_pay3 (View.ld x0 (Rect.unit (s := S512x2048) ![o, 0] S256x2048.size i0)) x1)) lg lb (ix2 r n)
      = mixOut (nat2 x0) (nat2 x1) (nat2 x2) (nat2 x3 q) (nat2 lg 0) (nat2 lb 0) (o + r.val) (0 + n.val) := by
  rw [normBlock_apply]
  unfold mixOut
  rw [Nat.zero_add]
  refine congrArg (fun z => z * _ + _) (normed_congr _ _ _ (fun k hk => ?_) _ n.isLt)
  rw [nat2_of _ r.val k r.isLt hk]
  refine (resBlock_apply _ _ _ r ⟨k, hk⟩).trans ?_
  unfold mixRow resRow
  rw [nat2_of _ r.val k r.isLt hk, nat2_of _ 0 k (by norm_num) hk, nat2_of _ r.val k r.isLt hk]
  refine congrArg₂ (· + ·) ?_ (congrArg₂ (· * ·) (congrArg (· * _) ?_) ?_)
  · refine (ldf_unit_nat2 (a := 512) (b := 2048) (a' := 256) (b' := 2048) x2 ![o, 0] o 0 rfl i2 r ⟨k, hk⟩).trans ?_
    rw [Nat.zero_add]
  · refine (ldf_unit_nat2 (a := 8) (b := 2048) (a' := 1) (b' := 2048) x3 off q 0 hq i3 (0 : Fin 1) ⟨k, hk⟩).trans ?_
    rw [Nat.zero_add]
    rfl
  · refine (pay3_apply _ _ r ⟨k, hk⟩).trans (Finset.sum_congr rfl fun l hl => ?_)
    have hl' := Finset.mem_range.mp hl
    rw [nat2_of _ r.val l r.isLt hl']
    refine congrArg (· * _) ?_
    refine (ldb_unit_nat2 (a := 512) (b := 2048) (a' := 256) (b' := 2048) x0 ![o, 0] o 0 rfl i0 r ⟨l, hl'⟩).trans ?_
    rw [Nat.zero_add]

/-- The two chunks of rows a point stores, the last stored first. -/
def pieces (p0 p1 : Vec Ideal S256x2048 .f32) : List (View.Piece (Elt Ideal) S512x2048 .f32) :=
  [⟨Rect.unit ![256, 0] S256x2048.size inb_S512x2048_S256x2048_256_0, p1⟩, ⟨Rect.unit ![0, 0] S256x2048.size inb_S512x2048_S256x2048_0_0, p0⟩]

theorem pieces_cover (p0 p1 : Vec Ideal S256x2048 .f32) (y : S512x2048.Idx) : ∃ p ∈ pieces p0 p1, y ∈ p.1.set :=
  View.cover_of_tiledBy (pieces p0 p1) ![256, 2048] (by sl_kernel_rfl) y

/-- Chunks that each hold their part of one function leave that function. -/
theorem canon_pieces (G : ℕ → ℕ → EReal) (p0 p1 : Vec Ideal S256x2048 .f32)
    (h0 : ∀ (r : Fin 256) (c : Fin 2048), p0 (ix2 r c) = G (0 + r.val) (0 + c.val))
    (h1 : ∀ (r : Fin 256) (c : Fin 2048), p1 (ix2 r c) = G (256 + r.val) (0 + c.val)) (y : S512x2048.Idx) :
    View.canon (pieces p0 p1 ++ []) y = G (y 0).val (y 1).val := by
  refine View.canon_append_of_pieces (Val := Elt Ideal) (e := .f32) (fun y : S512x2048.Idx => G (y 0).val (y 1).val) [] _ ?_ y
    (pieces_cover p0 p1 y)
  unfold pieces
  simp only [List.forall_mem_cons]
  refine ⟨?_, ?_, fun p hp => absurd hp (List.not_mem_nil)⟩
  · exact fun z => piece_emb 256 0 _ G _ h1 z
  · exact fun z => piece_emb 0 0 _ G _ h0 z

/-- What a point leaves in its block of the output. -/
theorem out_A (q : ℕ) (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S8x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole)
    (x0 : Vec Ideal S512x2048 .bf16) (x1 : Vec Ideal S2048x2048 .bf16) (x2 : Vec Ideal S512x2048 .f32) (x3 : Vec Ideal S8x2048 .f32) (x4 : Vec Ideal S1x2048 .f32) (x5 : Vec Ideal S1x2048 .f32)
    (hq : k0_off1 i = ![q, 0]) : out0_A_6 c i arg1 harg1 arg2 harg2 arg3 harg3 arg4 harg4 arg5 harg5 arg6 harg6 arg7 harg7 x0 x1 x2 x3 x4 x5
      = fun y => mixOut (nat2 x0) (nat2 x1) (nat2 x2) (nat2 x3 q) (nat2 x4 0) (nat2 x5 0) (y 0).val (y 1).val := by
  unfold out0_A_6
  unfold kernelRun0_A
  dsimp only
  sl_unfold_words
  rw [View.read_writes_junk_eq_canon]
  simp only [View.readAt_eq_ld, harg1.read_unread, harg2.read_unread, harg3.read_unread, harg4.read_unread, harg5.read_unread, harg6.read_unread, pay7_eq, pay1_eq, pay4_eq]
  simp only [View.ld_unit_zero (S := S2048x2048) zeros2, View.ld_unit_zero (S := S1x2048) zeros2]
  funext y
  refine canon_pieces (mixOut (nat2 x0) (nat2 x1) (nat2 x2) (nat2 x3 q) (nat2 x4 0) (nat2 x5 0)) _ _ ?_ ?_ y
  · exact chunk 0 q x0 x1 x2 x3 x4 x5 _ hq _ _ _
  · exact chunk 256 q x0 x1 x2 x3 x4 x5 _ hq _ _ _

end Cert.Mix

end
-- ==== Proof.MixValue.lean ====
/- The array of the mixing call after the run, in the arguments of the layer's step. -/
module

public import proofs.«01_k».proof.Proof.MixOut
public import Idealize.ShloMosaic.Lib.Pipeline.ValueKit.Geometry
public import Idealize.ShloMosaic.Lib.StableHlo.ReadAt
public import Idealize.ShloMosaic.Lib.Pointwise

@[expose] public section

noncomputable section

namespace Cert.Mix

open Idealize.ShloMosaic Idealize.ShloMosaic.ValueIdx Idealize.ShloMosaic.TcCoe
open Cert.Kernel5Ideal Cert.Kernel5Ideal.Gen Cert.Attn Cert.Ffn

variable (m : (ℓ : Loc nD τ sig) → Buf (Elt Ideal) ℓ) (c : Dev nD)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 2] :=
  (by decide +kernel : ∀ t : Fin grid0.N, win0_3.index t = ![0, 2])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])

/-- The row of the conditioning that a point's tile takes. -/
theorem off1_eq : ∀ t : Fin cfg0.N, k0_off1 (grid0.coords t) = ![t.val / 4, 0] :=
  (by decide +kernel : ∀ t : Fin grid0.N, k0_off1 (grid0.coords t) = ![t.val / 4, 0])

/-- The merged branches, their batches and positions joined. -/
abbrev merged (R C : ℕ) : EReal :=
  nat3 (a := 4) (b := 2048) (c := 2048) (m ((c : Thread nD τ).loc main_arg0)) (R / 2048) (R % 2048) C

/-- The residual stream, its batches and positions joined. -/
abbrev stream (R C : ℕ) : EReal :=
  nat3 (a := 4) (b := 2048) (c := 2048) (m ((c : Thread nD τ).loc main_arg1)) (R / 2048) (R % 2048) C

/-- The gate columns of the conditioning, of a batch. -/
abbrev gateOf (B C : ℕ) : EReal := nat2 (a := 4) (b := 12288) (m ((c : Thread nD τ).loc main_arg2)) B (4096 + C)

/-- The output weight. -/
abbrev weight (R C : ℕ) : EReal := nat3 (a := 1) (b := 2048) (c := 2048) (m ((c : Thread nD τ).loc main_arg3)) 0 R C

/-- The gain and the bias of the layer norm. -/
abbrev gain (C : ℕ) : EReal := nat2 (a := 1) (b := 2048) (m ((c : Thread nD τ).loc main_arg4)) 0 C
abbrev bias (C : ℕ) : EReal := nat2 (a := 1) (b := 2048) (m ((c : Thread nD τ).loc main_arg5)) 0 C

/-- The merged branches as the host leaves them. -/
theorem hostM (R C : ℕ) (hR : R < 8192) (hC : C < 2048) : nat2 (a := 8192) (b := 2048) (V m c main_v2) R C = merged m c R C := by
  rw [nat2_of _ R C hR hC]
  unfold merged
  rw [nat3_of _ _ _ _ (by omega) (by omega) hC]
  unfold V
  after_reads_at
  rfl

/-- The residual stream as the host leaves it. -/
theorem hostX (R C : ℕ) (hR : R < 8192) (hC : C < 2048) : nat2 (a := 8192) (b := 2048) (V m c main_v5) R C = stream m c R C := by
  rw [nat2_of _ R C hR hC]
  unfold stream
  rw [nat3_of _ _ _ _ (by omega) (by omega) hC]
  unfold V
  after_reads_at
  rfl

/-- The output weight as the host leaves it. -/
theorem hostW (R C : ℕ) (hR : R < 2048) (hC : C < 2048) : nat2 (a := 2048) (b := 2048) (V m c main_v4) R C = weight m c R C := by
  rw [nat2_of _ R C hR hC]
  unfold weight
  rw [nat3_of _ _ _ _ (by omega) (by omega) hC]
  unfold V
  after_reads_at
  rfl

/-- The conditioning rows, of which four are given. -/
theorem hostMod (R C : ℕ) (hR : R < 4) (hC : C < 12288) :
    nat2 (a := 8) (b := 12288) (V m c main_v0) R C = nat2 (a := 4) (b := 12288) (m ((c : Thread nD τ).loc main_arg2)) R C := by
  rw [nat2_of _ R C (by omega) hC, nat2_of _ R C hR hC]
  unfold V
  after_reads_at
  split
  · rfl
  · rename_i h
    exact absurd ⟨hR, hC⟩ h

/-- The gain. -/
theorem hostG (C : ℕ) (hC : C < 2048) : nat2 (a := 1) (b := 2048) (V m c main_v7) 0 C = gain m c C := by
  unfold gain
  rw [nat2_of _ 0 C (by omega) hC, nat2_of _ 0 C (by omega) hC]
  unfold V
  after_reads_at
  rfl

/-- The bias. -/
theorem hostB (C : ℕ) (hC : C < 2048) : nat2 (a := 1) (b := 2048) (V m c main_v9) 0 C = bias m c C := by
  unfold bias
  rw [nat2_of _ 0 C (by omega) hC, nat2_of _ 0 C (by omega) hC]
  unfold V
  after_reads_at
  rfl

theorem blk0 (t : Fin cfg0.N) (p w : ℕ) (hp : p < 512) (hw : w < 2048) :
    nat2 (a := 512) (b := 2048) (iblk m c 0 t) p w = merged m c (512 * t.val + p) w := by
  have ht : t.val < 16 := t.isLt
  rw [← hostM m c (512 * t.val + p) w (by omega) hw, nat2_of _ p w (by omega) hw, nat2_of _ _ _ (by omega) (by omega)]
  blk_simp [iblk]
  refine congrArg (V m c main_v2) ?_
  blk_ext [idx0]

theorem blk2 (t : Fin cfg0.N) (p w : ℕ) (hp : p < 512) (hw : w < 2048) :
    nat2 (a := 512) (b := 2048) (iblk m c 2 t) p w = stream m c (512 * t.val + p) w := by
  have ht : t.val < 16 := t.isLt
  rw [← hostX m c (512 * t.val + p) w (by omega) hw, nat2_of _ p w (by omega) hw, nat2_of _ _ _ (by omega) (by omega)]
  blk_simp [iblk]
  refine congrArg (V m c main_v5) ?_
  blk_ext [idx2]

theorem blk1 (t : Fin cfg0.N) (p w : ℕ) (hp : p < 2048) (hw : w < 2048) :
    nat2 (a := 2048) (b := 2048) (iblk m c 1 t) p w = weight m c p w := by
  rw [← hostW m c p w hp hw, nat2_of _ p w (by omega) hw, nat2_of _ _ _ (by omega) (by omega)]
  blk_simp [iblk]
  refine congrArg (V m c main_v4) ?_
  blk_ext [idx1]

theorem blk3 (t : Fin cfg0.N) (p w : ℕ) (hp : p < 4) (hw : w < 2048) :
    nat2 (a := 8) (b := 2048) (iblk m c 3 t) p w = gateOf m c p w := by
  unfold gateOf
  rw [← hostMod m c p (4096 + w) hp (by omega), nat2_of _ p w (by omega) hw, nat2_of _ _ _ (by omega) (by omega)]
  blk_simp [iblk]
  refine congrArg (V m c main_v0) ?_
  blk_ext [idx3]

theorem blk4 (t : Fin cfg0.N) (w : ℕ) (hw : w < 2048) : nat2 (a := 1) (b := 2048) (iblk m c 4 t) 0 w = gain m c w := by
  rw [← hostG m c w hw, nat2_of _ 0 w (by omega) hw, nat2_of _ _ _ (by omega) (by omega)]
  blk_simp [iblk]
  refine congrArg (V m c main_v7) ?_
  blk_ext [idx4]

theorem blk5 (t : Fin cfg0.N) (w : ℕ) (hw : w < 2048) : nat2 (a := 1) (b := 2048) (iblk m c 5 t) 0 w = bias m c w := by
  rw [← hostB m c w hw, nat2_of _ 0 w (by omega) hw, nat2_of _ _ _ (by omega) (by omega)]
  blk_simp [iblk]
  refine congrArg (V m c main_v9) ?_
  blk_ext [idx5]

/-- An element of the result, of a row whose batch gives the gate. -/
def mixed (a w x g : ℕ → ℕ → EReal) (lg lb : ℕ → EReal) (R C : ℕ) : EReal := mixOut a w x (g (R / 2048)) lg lb R C

/-- What a point leaves. -/
theorem point (t : Fin cfg0.N) (p n : ℕ) (hp : p < 512) (hn : n < 2048) :
    mixOut (nat2 (a := 512) (b := 2048) (iblk m c 0 t)) (nat2 (a := 2048) (b := 2048) (iblk m c 1 t)) (nat2 (a := 512) (b := 2048) (iblk m c 2 t))
        (nat2 (a := 8) (b := 2048) (iblk m c 3 t) (t.val / 4)) (nat2 (a := 1) (b := 2048) (iblk m c 4 t) 0) (nat2 (a := 1) (b := 2048) (iblk m c 5 t) 0) p n
      = mixed (merged m c) (weight m c) (stream m c) (gateOf m c) (gain m c) (bias m c) (512 * t.val + p) n := by
  have ht : t.val < 16 := t.isLt
  have hb : (512 * t.val + p) / 2048 = t.val / 4 := by omega
  unfold mixed mixOut
  rw [blk4 m c t n hn, blk5 m c t n hn, hb]
  refine congrArg (fun z => z * _ + _) (normed_congr _ _ _ (fun k hk => ?_) n hn)
  unfold mixRow resRow
  rw [blk2 m c t p k hp hk, blk3 m c t _ k (by omega) hk]
  refine congrArg (fun z => _ + _ * z) (Finset.sum_congr rfl fun l hl => ?_)
  have hl' := Finset.mem_range.mp hl
  rw [blk0 m c t p l hp hl', blk1 m c t l k hl' hk]

/-- The array after the run. -/
theorem final6 : (dats m 0 c).arrAt 6 cfg0.N
    = fun y : S8192x2048.Idx => mixed (merged m c) (weight m c) (stream m c) (gateOf m c) (gain m c) (bias m c) (y 0).val (y 1).val := by
  refine (dats m 0 c).arrAt_eq_of_covers 6 _ (by decide +kernel) fun t hf y => ?_
  blk_simp
  rw [after0_6]
  have e : outsAt0 m c t = fun y => mixOut (nat2 (a := 512) (b := 2048) (iblk m c 0 t)) (nat2 (a := 2048) (b := 2048) (iblk m c 1 t)) (nat2 (a := 512) (b := 2048) (iblk m c 2 t))
        (nat2 (a := 8) (b := 2048) (iblk m c 3 t) (t.val / 4)) (nat2 (a := 1) (b := 2048) (iblk m c 4 t) 0) (nat2 (a := 1) (b := 2048) (iblk m c 5 t) 0) (y 0).val (y 1).val := by
    unfold outsAt0
    exact out_A (t.val / 4) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (iblk m c 0 t) (iblk m c 1 t) (iblk m c 2 t) (iblk m c 3 t) (iblk m c 4 t) (iblk m c 5 t) (off1_eq t)
  rw [e]
  refine (point m c t _ _ (y 0).isLt (y 1).isLt).trans ?_
  blk_simp [idx6]
  refine congrArg₂ (mixed (merged m c) (weight m c) (stream m c) (gateOf m c) (gain m c) (bias m c)) ?_ ?_
  · exact congrArg (· + (y 0).val) (Nat.mul_comm _ _)
  · rfl

end Cert.Mix

end
-- ==== Proof.MixRef.lean ====
/- The reference of the mixing call read at an element: the product with the output weight, and the layer norm of the
   residual with its factor, which is the layer norm with the factor divided out. -/
module

public import proofs.«01_k».proof.Proof.Gen.Reference5Ideal.Read
public import proofs.«01_k».proof.Proof.MixValue
public import proofs.«01_k».proof.Proof.FfnRef

@[expose] public section

noncomputable section

namespace Cert.Mix

open Idealize.ShloMosaic Cert.Attn Cert.Ffn
open Cert.Reference5Ideal Cert.Reference5Ideal.Gen Cert.Reference5Ideal.Read

variable (x0 x1 : (⟨S4x2048x2048, .f32⟩ : BufTy).Contents (Elt Ideal)) (x2 : (⟨S4x12288, .f32⟩ : BufTy).Contents (Elt Ideal))
  (x3 : (⟨S1x2048x2048, .f32⟩ : BufTy).Contents (Elt Ideal)) (x4 x5 : (⟨S1x2048, .f32⟩ : BufTy).Contents (Elt Ideal))

/-- An array of the layer's step, its batches and positions joined. -/
abbrev joined (x : (⟨S4x2048x2048, .f32⟩ : BufTy).Contents (Elt Ideal)) (R C : ℕ) : EReal :=
  nat3 (a := 4) (b := 2048) (c := 2048) x (R / 2048) (R % 2048) C

theorem joined_at (x : (⟨S4x2048x2048, .f32⟩ : BufTy).Contents (Elt Ideal)) (i : S4x2048x2048.Idx) :
    joined x (2048 * (i 0).val + (i 1).val) (i 2).val = x i := by
  have b0 : (i 0).val < 4 := (i 0).isLt
  have b1 : (i 1).val < 2048 := (i 1).isLt
  have e1 : (2048 * (i 0).val + (i 1).val) / 2048 = (i 0).val := by omega
  have e2 : (2048 * (i 0).val + (i 1).val) % 2048 = (i 1).val := by omega
  unfold joined
  rw [e1, e2, nat3_of x _ _ _ b0 b1 (i 2).isLt]
  exact congrArg x (funext fun a => by match a with | ⟨0, _⟩ => rfl | ⟨1, _⟩ => rfl | ⟨2, _⟩ => rfl)

/-- The product of a row with the output weight. -/
abbrev product (R C : ℕ) : EReal :=
  ∑ k ∈ Finset.range 2048, joined x0 R k * nat3 (a := 1) (b := 2048) (c := 2048) x3 0 k C

/-- The product with the output weight. -/
theorem ref_product (i : S4x2048x2048.Idx) : val_main_v13 (F := Ideal) x0 x3 i
    = product x0 x3 (2048 * (i 0).val + (i 1).val) (i 2).val := by
  have b2 : (i 2).val < 2048 := (i 2).isLt
  unfold product
  rw [val_main_v13_apply, ← Fin.sum_univ_eq_sum_range (fun k => joined x0 (2048 * (i 0).val + (i 1).val) k
        * nat3 (a := 1) (b := 2048) (c := 2048) x3 0 k (i 2).val) 2048]
  refine Finset.sum_congr rfl fun k _ => ?_
  rw [val_main_v12_apply, nat3_of x3 _ _ _ (by norm_num) k.isLt b2]
  refine congrArg₂ (· * ·) ?_ (congrArg x3 ?_)
  · refine Eq.trans ?_ (joined_at x0 (fun a => match a with | ⟨0, _⟩ => ⟨(i 0).val, (i 0).isLt⟩ | ⟨1, _⟩ => ⟨(i 1).val, (i 1).isLt⟩ | ⟨2, _⟩ => ⟨k.val, k.isLt⟩)).symm
    exact congrArg x0 (funext fun a => by match a with | ⟨0, _⟩ => rfl | ⟨1, _⟩ => rfl | ⟨2, _⟩ => rfl)
  · exact funext fun a => by
      match a with
      | ⟨0, _⟩ => rfl
      | ⟨1, _⟩ => exact Fin.ext (by have hk := k.isLt; show (k.val * 2048 + (i 2).val) / 2048 % 2048 = k.val; omega)
      | ⟨2, _⟩ => exact Fin.ext (by show (k.val * 2048 + (i 2).val) % 2048 = (i 2).val; omega)

/-- The residual and the gated product, the residual's factor divided out of both. -/
abbrev restOf (R : ℕ) : ℕ → EReal :=
  resRow (joined x1 R) (fun n => nat2 (a := 4) (b := 12288) x2 (R / 2048) (4096 + n)) (product x0 x3 R)

/-- The reference's residual sum is the factor times it. -/
theorem ref_rest (i : S4x2048x2048.Idx) : val_main_v18 (F := Ideal) x0 x1 x2 x3 i
    = ((623487 / 524288 : ℝ) : EReal) * restOf x0 x1 x2 x3 (2048 * (i 0).val + (i 1).val) (i 2).val := by
  have b0 : (i 0).val < 4 := (i 0).isLt
  have b1 : (i 1).val < 2048 := (i 1).isLt
  have b2 : (i 2).val < 2048 := (i 2).isLt
  have e1 : (2048 * (i 0).val + (i 1).val) / 2048 = (i 0).val := by omega
  rw [val_main_v18_apply, val_main_v15_apply, val_main_v14_apply, val_main_cst_apply, val_main_v17_apply, val_main_v16_apply,
    val_main_v8_apply, val_main_v2_apply, ref_product]
  show Ideal.ofBits .f32 0x3F9837F0#32 * x1 i + x2 _ * _ = _
  rw [ofBits_alpha, residual_scale _ (by norm_num)]
  unfold restOf resRow
  rw [joined_at, e1]
  beta_reduce
  rw [nat2_of x2 _ _ b0 (by omega), show ((623487 / 524288 : ℝ)⁻¹) = 524288 / 623487 by norm_num]
  refine congrArg (fun z => _ * (x1 i + z * _ * _)) (congrArg x2 ?_)
  exact funext fun a => by match a with | ⟨0, _⟩ => rfl | ⟨1, _⟩ => rfl

/-- The row that the reference normalises. -/
abbrev scaledOf (R : ℕ) : ℕ → EReal := fun n => ((623487 / 524288 : ℝ) : EReal) * restOf x0 x1 x2 x3 R n

/-- The mean of the row. -/
theorem ref_mean (i : S4x2048x1.Idx) : val_main_v24 (F := Ideal) x0 x1 x2 x3 i
    = mean (scaledOf x0 x1 x2 x3 (2048 * (i 0).val + (i 1).val)) := by
  rw [val_main_v24_apply, val_main_v22_apply, val_main_v21_apply, val_main_cst_0_apply, val_main_v23_apply, val_main_cst_1_apply]
  show Ideal.div (Ideal.ofBits .f32 0x00000000#32 + _) (Ideal.ofBits .f32 0x45000000#32) = _
  rw [ofBits_zero, zero_add, ofBits_2048]
  unfold mean
  refine congrArg (fun z => Ideal.div z _) ?_
  rw [← Fin.sum_univ_eq_sum_range (scaledOf x0 x1 x2 x3 (2048 * (i 0).val + (i 1).val)) 2048]
  exact Finset.sum_congr rfl fun k _ => ref_rest x0 x1 x2 x3 _

/-- The mean square distance from the mean. -/
theorem ref_variance (i : S4x2048x1.Idx) : val_main_v31 (F := Ideal) x0 x1 x2 x3 i
    = variance (scaledOf x0 x1 x2 x3 (2048 * (i 0).val + (i 1).val)) := by
  rw [val_main_v31_apply, val_main_v29_apply, val_main_v28_apply, val_main_cst_2_apply, val_main_v30_apply, val_main_cst_3_apply]
  show Ideal.div (Ideal.ofBits .f32 0x00000000#32 + _) (Ideal.ofBits .f32 0x45000000#32) = _
  rw [ofBits_zero, zero_add, ofBits_2048]
  unfold variance
  generalize hz : scaledOf x0 x1 x2 x3 (2048 * (i 0).val + (i 1).val) = z
  refine (congrArg (fun s => Ideal.div s _) ?_ : _ = Ideal.div (∑ k ∈ Finset.range 2048, (z k - mean z) * (z k - mean z)) _)
  rw [← Fin.sum_univ_eq_sum_range (fun k => (z k - mean z) * (z k - mean z)) 2048]
  refine Finset.sum_congr rfl fun k _ => ?_
  rw [val_main_v27_apply, val_main_v26_apply, val_main_v25_apply, ref_mean, ref_rest, ← hz]
  rfl

/-- The reference at an element. -/
theorem ref_mixed (y : S8192x2048.Idx) : val_main_v45 (F := Ideal) x0 x1 x2 x3 x4 x5 y
    = mixed (joined x0) (nat3 (a := 1) (b := 2048) (c := 2048) x3 0) (joined x1) (fun B C => nat2 (a := 4) (b := 12288) x2 B (4096 + C))
        (nat2 (a := 1) (b := 2048) x4 0) (nat2 (a := 1) (b := 2048) x5 0) (y 0).val (y 1).val := by
  have b0 : (y 0).val < 8192 := (y 0).isLt
  have b1 : (y 1).val < 2048 := (y 1).isLt
  rw [val_main_v45_apply]
  generalize hi : idx_main_v45 y = i
  have i0 : (i 0).val = (y 0).val / 2048 := by
    rw [← hi]; show ((y 0).val * 2048 + (y 1).val) / 4194304 = _; omega
  have i1 : (i 1).val = (y 0).val % 2048 := by
    rw [← hi]; show ((y 0).val * 2048 + (y 1).val) / 2048 % 2048 = _; omega
  have i2 : (i 2).val = (y 1).val := by
    rw [← hi]; show ((y 0).val * 2048 + (y 1).val) % 2048 = _; omega
  have hR : 2048 * (i 0).val + (i 1).val = (y 0).val := by omega
  rw [val_main_v44_apply, val_main_v41_apply, val_main_v38_apply, val_main_v33_apply, val_main_v32_apply, val_main_v37_apply, val_main_v36_apply,
    val_main_v35_apply, val_main_v34_apply, val_main_cst_4_apply, val_main_v40_apply, val_main_v39_apply, val_main_v19_apply,
    val_main_v43_apply, val_main_v42_apply, val_main_v20_apply, ref_mean, ref_variance, ref_rest]
  show (_ - mean (scaledOf x0 x1 x2 x3 (2048 * (i 0).val + (i 1).val)))
    * Ideal.rsqrt (variance (scaledOf x0 x1 x2 x3 (2048 * (i 0).val + (i 1).val)) + Ideal.ofBits .f32 0x3727C5AC#32) * x4 _ + x5 _ = _
  rw [ofBits_eps, hR, i2]
  unfold mixed mixOut
  rw [nat2_of x4 0 _ (by norm_num) b1, nat2_of x5 0 _ (by norm_num) b1]
  refine congrArg₂ (· + ·) (congrArg₂ (· * ·) ?_ (congrArg x4 ?_)) (congrArg x5 ?_)
  · have h := normed_scale (623487 / 524288) (2748779 / 388736039169) (by norm_num) (by norm_num) (restOf x0 x1 x2 x3 (y 0).val) (y 1).val
    rw [show (623487 / 524288 * (623487 / 524288) * (2748779 / 388736039169) : ℝ) = 2748779 / 274877906944 by norm_num] at h
    exact h
  · exact funext fun a => by match a with | ⟨0, _⟩ => rfl | ⟨1, _⟩ => exact Fin.ext (by show (i 2).val % 2048 = (y 1).val; omega)
  · exact funext fun a => by match a with | ⟨0, _⟩ => rfl | ⟨1, _⟩ => exact Fin.ext (by show (i 2).val % 2048 = (y 1).val; omega)

end Cert.Mix

end
-- ==== Proof.MixClaims.lean ====
/- The claims about the mixing call: its frames, its reference's, the named constants, and the equality over the
   extended reals. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.MixValue
public import proofs.«01_k».proof.Proof.MixRef
public import Idealize.ShloMosaic.Adequacy
public import Idealize.ShloMosaic.Init
public import Idealize.ShloMosaic.Lib.Quiescent

@[expose] public section

noncomputable section

namespace Cert.Mix

open Idealize.ShloMosaic Idealize.ShloMosaic.TcCoe Idealize.SL.Sem

/-- The kernel runs on bits, leaves its arguments and its semaphores as they were. -/
theorem frame_kernel : Cert.quiescent_Kernel5 (hKernel5 := Cert.Kernel5.Gen.facts) :=
  fun m ρ _ => Cert.Kernel5.Gen.frame m ρ

/-- The same over the extended reals. -/
theorem frame_ideal : Cert.quiescent_Kernel5Ideal (hKernel5Ideal := Cert.Kernel5Ideal.Gen.facts) :=
  fun m ρ _ => Cert.Kernel5Ideal.Gen.frame m ρ

/-- The reference runs, leaves its arguments and its semaphores as they were. -/
theorem frame_reference : Cert.quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The reciprocal of the residual's factor and the small constant divided by its square are read as the rational numbers. -/
theorem preserves_constants : Cert.preserves_Kernel5_Kernel5Ideal :=
  ⟨IdealRules.named_const.statement Cert.Kernel5Ideal.κ "inv_alpha" .f32 0x3F5744FD#32 ((524288 / 623487 : ℝ) : EReal) rfl,
    IdealRules.named_const.statement Cert.Kernel5Ideal.κ "eps_z" .f32 0x36ED4403#32 ((2748779 / 388736039169 : ℝ) : EReal) rfl⟩

/-- The array the kernel leaves is the reference's. -/
theorem result (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v45 (F := Ideal) (m ((c : Thread Cert.Kernel5Ideal.nD Cert.Kernel5Ideal.τ).loc Cert.Kernel5Ideal.main_arg0))
      (m ((c : Thread Cert.Kernel5Ideal.nD Cert.Kernel5Ideal.τ).loc Cert.Kernel5Ideal.main_arg1))
      (m ((c : Thread Cert.Kernel5Ideal.nD Cert.Kernel5Ideal.τ).loc Cert.Kernel5Ideal.main_arg2))
      (m ((c : Thread Cert.Kernel5Ideal.nD Cert.Kernel5Ideal.τ).loc Cert.Kernel5Ideal.main_arg3))
      (m ((c : Thread Cert.Kernel5Ideal.nD Cert.Kernel5Ideal.τ).loc Cert.Kernel5Ideal.main_arg4))
      (m ((c : Thread Cert.Kernel5Ideal.nD Cert.Kernel5Ideal.τ).loc Cert.Kernel5Ideal.main_arg5))
      = (Cert.Kernel5Ideal.Gen.dats m 0 c).arrAt 6 Cert.Kernel5Ideal.cfg0.N :=
  (funext fun y => ref_mixed _ _ _ _ _ _ y).trans (final6 m c).symm

/-- The result agrees, element by element, with the reference's. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 6 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨r0, rest⟩ := h c
  obtain ⟨a0, a1, a2, a3, a4, a5⟩ := hargs c
  refine ⟨?_, rest⟩
  refine (r0.trans (Cert.Reference5Ideal.Read.val_main_v45_eq m' c)).trans (Eq.trans ?_ (result m c))
  rw [a0, a1, a2, a3, a4, a5]

end Cert.Mix

end
-- ==== Proof.ConvRun.lean ====
/- The convolution call's body at one grid point, run from any contents of the rows that it carries from tile to tile. -/
module

public import proofs.«01_k».proof.Proof.Gen.Kernel6Ideal.Frame
public import proofs.«01_k».proof.Proof.Gen.Kernel6Ideal.Skeleton

@[expose] public section

set_option maxRecDepth 16384

noncomputable section

namespace Cert.Conv

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first tile of a sequence: what the body stores into the carried rows and into its output block, as pieces, the last first, with the proof that it does. -/
noncomputable def runFirst (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S2x8x1024 .f32) (harg8 : arg8.IsWhole) (hc : k0_cond1 i = 1#1)
    (x0 : Vec F S1024x2048 .bf16) (x1 : Vec F S1024x2048 .bf16) (x2 : Vec F S1024x2048 .bf16) (x3 : Vec F S1024x2048 .bf16) (x4 : Vec F S3x1024 .f32) :
    Σ' (LS : List (View.Piece (Elt F) S2x8x1024 .f32)), { L5 : Vec F S2x8x1024 .f32 → List (View.Piece (Elt F) S1024x1024 .bf16) //
      ∀ (xs : Vec F S2x8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (L5 xs))
              ∗ (arg8.view.loc (c : Thread nD τ) ↦[arg8.view.set]{fullShare} arg8.view.writes (Elt F) (harg8.unread xs) LS)) -∗ K ⟨⟩))
          ⊢ wp frame (wpE (defs₀ (F := F)) Variants.none c none) E (cc0_conv_branch i arg2 harg2 arg3 harg3 arg4 harg4 arg5 harg5 arg6 harg6 arg7 harg7 arg8 harg8) K } := by
  refine ⟨?_, ?_, fun xs E K => ?run⟩
  case run =>
    simp only [cc0_conv_branch_eq_skeleton]; unfold cc0_conv_branch_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact HS

set_option maxHeartbeats 1000000 in
/-- A later tile of a sequence: what the body stores into the carried rows and into its output block, as pieces, the last first, with the proof that it does. -/
noncomputable def runNext (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S2x8x1024 .f32) (harg8 : arg8.IsWhole) (hc : ¬k0_cond1 i = 1#1)
    (x0 : Vec F S1024x2048 .bf16) (x1 : Vec F S1024x2048 .bf16) (x2 : Vec F S1024x2048 .bf16) (x3 : Vec F S1024x2048 .bf16) (x4 : Vec F S3x1024 .f32) :
    Σ' (LS : List (View.Piece (Elt F) S2x8x1024 .f32)), { L5 : Vec F S2x8x1024 .f32 → List (View.Piece (Elt F) S1024x1024 .bf16) //
      ∀ (xs : Vec F S2x8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (L5 xs))
              ∗ (arg8.view.loc (c : Thread nD τ) ↦[arg8.view.set]{fullShare} arg8.view.writes (Elt F) (harg8.unread xs) LS)) -∗ K ⟨⟩))
          ⊢ wp frame (wpE (defs₀ (F := F)) Variants.none c none) E (cc0_conv_branch i arg2 harg2 arg3 harg3 arg4 harg4 arg5 harg5 arg6 harg6 arg7 harg7 arg8 harg8) K } := by
  refine ⟨?_, ?_, fun xs E K => ?run⟩
  case run =>
    simp only [cc0_conv_branch_eq_skeleton]; unfold cc0_conv_branch_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact HS

end Cert.Conv

end
-- ==== Proof.ConvBody.lean ====
/- The convolution call's body at one grid point, as functions of the blocks it reads and of the rows carried from the
   tile before. -/
module

public import proofs.«01_k».proof.Proof.ConvRun
public import Idealize.ShloMosaic.Lib.ValueLayout
public import Idealize.ShloMosaic.Lib.WritesUnit

@[expose] public section

set_option maxRecDepth 16384

noncomputable section

namespace Cert.Conv

open Cert.Kernel6Ideal Cert.Kernel6Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem plane_word (i : grid0.Coords) : (Scalar.indexCast (BitVec.ofNat 32 (i 1).val) : Index).toNat = (i 1).val := by
  have h : (i 1).val < 2 := (i 1).isLt
  show (BitVec.ofNat 32 (i 1).val).toNat = (i 1).val
  rw [BitVec.toNat_ofNat, Nat.mod_eq_of_lt (by omega)]

/-- The carried rows' offsets: the second coordinate's plane, and the chunk's lanes. -/
theorem off1_eq (i : grid0.Coords) : k0_off1 i = ![(i 1).val, 0, 0] := by show ![_, _, _] = _; rw [plane_word]
theorem off2_eq (i : grid0.Coords) : k0_off2 i = ![(i 1).val, 0, 0] := by show ![_, _, _] = _; rw [plane_word]
theorem off3_eq (i : grid0.Coords) : k0_off3 i = ![(i 1).val, 0, 256] := by show ![_, _, _] = _; rw [plane_word]
theorem off4_eq (i : grid0.Coords) : k0_off4 i = ![(i 1).val, 0, 512] := by show ![_, _, _] = _; rw [plane_word]
theorem off5_eq (i : grid0.Coords) : k0_off5 i = ![(i 1).val, 0, 768] := by show ![_, _, _] = _; rw [plane_word]

/-- The rows `256 q …` of a weight block. -/
def wRows (w : Vec F S1024x2048 .bf16) (q : Fin 4) : Vec F S256x2048 .bf16 :=
  fun y => w (ix2 (⟨256 * q.val + (y 0).val, by have hy : (y 0).val < 256 := (y 0).isLt; have hq := q.isLt; omega⟩ : Fin 1024) (y 1))

theorem ld_rows (w : Vec F S1024x2048 .bf16) (o : ℕ) (inb) (q : Fin 4) (ho : o = 256 * q.val) :
    View.ld w (Rect.unit (s := S1024x2048) ![o, 0] S256x2048.size inb) = wRows w q := by
  subst ho
  funext y
  refine congrArg w ?_
  funext a
  match a with
  | ⟨0, _⟩ => exact Fin.ext (by show 256 * q.val + 1 * (y 0).val = 256 * q.val + (y 0).val; omega)
  | ⟨1, _⟩ => exact Fin.ext (by show 0 + 1 * (y 1).val = (y 1).val; omega)

theorem ld_full (x : Vec F S1024x2048 .bf16) (inb) :
    View.ld x (Rect.unit (s := S1024x2048) ![0, 0] S1024x2048.size inb) = x := by
  funext y
  refine congrArg x ?_
  funext a
  match a with
  | ⟨0, _⟩ => exact Fin.ext (by show 0 + 1 * (y 0).val = (y 0).val; omega)
  | ⟨1, _⟩ => exact Fin.ext (by show 0 + 1 * (y 1).val = (y 1).val; omega)

/-- The lanes `256 q …` of the taps. -/
def wLanes (w : Vec F S3x1024 .f32) (q : Fin 4) : Vec F S3x256 .f32 :=
  fun y => w (ix2 (y 0) (⟨256 * q.val + (y 1).val, by have hy : (y 1).val < 256 := (y 1).isLt; have hq := q.isLt; omega⟩ : Fin 1024))

theorem ld_lanes (w : Vec F S3x1024 .f32) (o : ℕ) (inb) (q : Fin 4) (ho : o = 256 * q.val) :
    View.ld w (Rect.unit (s := S3x1024) ![0, o] S3x256.size inb) = wLanes w q := by
  subst ho
  funext y
  refine congrArg w ?_
  funext a
  match a with
  | ⟨0, _⟩ => exact Fin.ext (by show 0 + 1 * (y 0).val = (y 0).val; omega)
  | ⟨1, _⟩ => exact Fin.ext (by show 256 * q.val + 1 * (y 1).val = 256 * q.val + (y 1).val; omega)

/-- The lanes `256 q …` of plane `j` of the carried rows. -/
def hLanes (j : Fin 2) (h : Vec F S2x8x1024 .f32) (q : Fin 4) : Vec F S1x8x256 .f32 :=
  fun y => h (ix3 j (y 1) (⟨256 * q.val + (y 2).val, by have hy : (y 2).val < 256 := (y 2).isLt; have hq := q.isLt; omega⟩ : Fin 1024))

theorem ld_halo (i : grid0.Coords) (h : Vec F S2x8x1024 .f32) (off : Fin 3 → ℕ) (inb) (q : Fin 4) (ho : off = ![(i 1).val, 0, 256 * q.val]) :
    View.ld h (Rect.unit (s := S2x8x1024) off S1x8x256.size inb) = hLanes (i 1) h q := by
  subst ho
  funext y
  refine congrArg h ?_
  have h0 : (y 0).val < 1 := (y 0).isLt
  funext a
  match a with
  | ⟨0, _⟩ => exact Fin.ext (by show (i 1).val + 1 * (y 0).val = (i 1).val; omega)
  | ⟨1, _⟩ => exact Fin.ext (by show 0 + 1 * (y 1).val = (y 1).val; omega)
  | ⟨2, _⟩ => exact Fin.ext (by show 256 * q.val + 1 * (y 2).val = 256 * q.val + (y 2).val; omega)

/-- The product of the two gated projections on the lanes `256 q …`. -/
def zChunk (x0 x2 x3 : Vec F S1024x2048 .bf16) (q : Fin 4) : FVec F S1024x256 .f32 := k0_pay6 x0 (wRows x2 q) (wRows x3 q)

/-- The first projection on the lanes `256 q …`. -/
def bChunk (x0 x1 : Vec F S1024x2048 .bf16) (q : Fin 4) : FVec F S1024x256 .f32 := k0_pay5 x0 (wRows x1 q)

/-- What a chunk of lanes stores: the convolution of its products over the rows carried in, times the first projection. -/
def convChunk (b z : FVec F S1024x256 .f32) (prev : Vec F S1x8x256 .f32) (w : Vec F S3x256 .f32) : FVec F S1024x256 .bf16 :=
  k0_pay12 (iota .tc S1024x256 32 [0] iota_S1024x256_d0_w32) b z (k0_pay7 prev) k0_pay8
    (dynamicRotate 0 1#32 none z rotates_S1024x256_d0) (k0_pay10 prev) w

/-- The four stores of the output block, the last first. -/
def outPieces (p : Fin 4 → FVec F S1024x256 .bf16) : List (View.Piece (Elt F) S1024x1024 .bf16) :=
  [⟨Rect.unit (s := S1024x1024) ![0, 768] S1024x256.size inb_S1024x1024_S1024x256_0_768, p 3⟩,
    ⟨Rect.unit (s := S1024x1024) ![0, 512] S1024x256.size inb_S1024x1024_S1024x256_0_512, p 2⟩,
    ⟨Rect.unit (s := S1024x1024) ![0, 256] S1024x256.size inb_S1024x1024_S1024x256_0_256, p 1⟩,
    ⟨Rect.unit (s := S1024x1024) ![0, 0] S1024x256.size inb_S1024x1024_S1024x256_0_0, p 0⟩]

theorem outPieces_cover (p : Fin 4 → FVec F S1024x256 .bf16) (y : S1024x1024.Idx) : ∃ pc ∈ outPieces p, y ∈ pc.1.set :=
  View.cover_of_tiledL (outPieces p) S1024x256.size (by sl_kernel_rfl) y

/-- The four stores of the carried rows over the pieces `L`, the last first. -/
def tailPieces (i : grid0.Coords) (z : Fin 4 → FVec F S1024x256 .f32) (L : List (View.Piece (Elt F) S2x8x1024 .f32)) : List (View.Piece (Elt F) S2x8x1024 .f32) :=
  ⟨Rect.unit (s := S2x8x1024) (k0_off5 i) S1x8x256.size (k0_off5_inb i), k0_pay11 (z 3)⟩ ::
    ⟨Rect.unit (s := S2x8x1024) (k0_off4 i) S1x8x256.size (k0_off4_inb i), k0_pay11 (z 2)⟩ ::
    ⟨Rect.unit (s := S2x8x1024) (k0_off3 i) S1x8x256.size (k0_off3_inb i), k0_pay11 (z 1)⟩ ::
    ⟨Rect.unit (s := S2x8x1024) (k0_off2 i) S1x8x256.size (k0_off2_inb i), k0_pay11 (z 0)⟩ :: L

/-- The carried rows a tile leaves: the last eight rows of its products. -/
def tailRows (z : Fin 4 → FVec F S1024x256 .f32) : Vec F S2x8x1024 .f32 := fun y =>
  z (⟨(y 2).val / 256, by have := (y 2).isLt; change (y 2).val < 1024 at this; omega⟩ : Fin 4)
    (ix2 (⟨1016 + (y 1).val, by have := (y 1).isLt; change (y 1).val < 8 at this; omega⟩ : Fin 1024)
      (⟨(y 2).val % 256, Nat.mod_lt _ (by decide)⟩ : Fin 256))

theorem pay11_apply (z : FVec F S1024x256 .f32) (x : S1x8x256.Idx) :
    k0_pay11 z x = z (ix2 (⟨1016 + (x 1).val, by have := (x 1).isLt; change (x 1).val < 8 at this; omega⟩ : Fin 1024) (⟨(x 2).val, (x 2).isLt⟩ : Fin 256)) := by
  have e : x = ix3 (0 : Fin 1) (x 1) (x 2) := by
    funext a
    match a with
    | ⟨0, _⟩ => exact Fin.ext (by have h : (x 0).val < 1 := (x 0).isLt; show (x 0).val = 0; omega)
    | ⟨1, _⟩ => rfl
    | ⟨2, _⟩ => rfl
  rw [e]
  unfold k0_pay11
  refine (shapeCast_ab_1ab_apply _ _ _ _ _).trans ?_
  refine congrArg z ?_
  funext a
  match a with
  | ⟨0, _⟩ => exact Fin.ext (by show 1016 + (x 1).val = 1016 + (x 1).val; rfl)
  | ⟨1, _⟩ => exact Fin.ext (by show 0 + (x 2).val = (x 2).val; omega)

/-- On the point's plane, the carried rows read what the tile leaves, whatever lay below; -/
theorem read_tail_plane (v : View sig .tc .vmem S2x8x1024 .f32) (f : v.ty.Contents (Elt F)) (i : grid0.Coords) (z : Fin 4 → FVec F S1024x256 .f32)
    (L : List (View.Piece (Elt F) S2x8x1024 .f32)) (y : S2x8x1024.Idx) (hy : (y 0).val = (i 1).val) :
    v.read (Elt F) (v.writes (Elt F) f (tailPieces i z L)) y = tailRows z y := by
  have h1 : (y 1).val < 8 := (y 1).isLt
  have h2 : (y 2).val < 1024 := (y 2).isLt
  have hit : ∀ (q : Fin 4) (off : Fin 3 → ℕ) (inb) (L'), off = ![(i 1).val, 0, 256 * q.val] → (y 2).val / 256 = q.val →
      v.read (Elt F) (v.writes (Elt F) f (⟨Rect.unit (s := S2x8x1024) off S1x8x256.size inb, k0_pay11 (z q)⟩ :: L')) y = tailRows z y := by
    intro q off inb L' ho hq
    refine (View.read_writes_cons_unit_of_mem v f (off := off) (size := S1x8x256.size) inb (k0_pay11 (z q)) L' y
      (ix3 (0 : Fin 1) (⟨(y 1).val, h1⟩ : Fin 8) (⟨(y 2).val % 256, Nat.mod_lt _ (by decide)⟩ : Fin 256)) ho ?_).trans ?_
    · intro a
      match a with
      | ⟨0, _⟩ => show (y 0).val = (i 1).val + 0; omega
      | ⟨1, _⟩ => show (y 1).val = 0 + (y 1).val; omega
      | ⟨2, _⟩ => show (y 2).val = 256 * q.val + (y 2).val % 256; omega
    · rw [pay11_apply]
      unfold tailRows
      have e : q = (⟨(y 2).val / 256, by omega⟩ : Fin 4) := Fin.ext hq.symm
      rw [e]
  have miss : ∀ (q : ℕ) (off : Fin 3 → ℕ) (inb) (w L'), off = ![(i 1).val, 0, 256 * q] → (y 2).val / 256 ≠ q →
      v.read (Elt F) (v.writes (Elt F) f (⟨Rect.unit (s := S2x8x1024) off S1x8x256.size inb, w⟩ :: L')) y = v.read (Elt F) (v.writes (Elt F) f L') y := by
    intro q off inb w L' ho hq
    refine View.read_writes_cons_unit_of_not_mem v f (off := off) (size := S1x8x256.size) inb w L' y ho (2 : Fin 3) ?_
    show (y 2).val < 256 * q ∨ 256 * q + 256 ≤ (y 2).val
    omega
  unfold tailPieces
  by_cases e3 : (y 2).val / 256 = 3
  · exact hit 3 _ _ _ (off5_eq i) e3
  refine (miss 3 _ _ _ _ (off5_eq i) e3).trans ?_
  by_cases e2 : (y 2).val / 256 = 2
  · exact hit 2 _ _ _ (off4_eq i) e2
  refine (miss 2 _ _ _ _ (off4_eq i) e2).trans ?_
  by_cases e1 : (y 2).val / 256 = 1
  · exact hit 1 _ _ _ (off3_eq i) e1
  refine (miss 1 _ _ _ _ (off3_eq i) e1).trans ?_
  exact hit 0 _ _ _ (off2_eq i) (by show (y 2).val / 256 = 0; omega)

/-- off the plane, what lay below. -/
theorem read_tail_other (v : View sig .tc .vmem S2x8x1024 .f32) (f : v.ty.Contents (Elt F)) (i : grid0.Coords) (z : Fin 4 → FVec F S1024x256 .f32)
    (L : List (View.Piece (Elt F) S2x8x1024 .f32)) (y : S2x8x1024.Idx) (hy : (y 0).val ≠ (i 1).val) :
    v.read (Elt F) (v.writes (Elt F) f (tailPieces i z L)) y = v.read (Elt F) (v.writes (Elt F) f L) y := by
  have miss : ∀ (q : ℕ) (off : Fin 3 → ℕ) (inb) (w L'), off = ![(i 1).val, 0, 256 * q] →
      v.read (Elt F) (v.writes (Elt F) f (⟨Rect.unit (s := S2x8x1024) off S1x8x256.size inb, w⟩ :: L')) y = v.read (Elt F) (v.writes (Elt F) f L') y := by
    intro q off inb w L' ho
    refine View.read_writes_cons_unit_of_not_mem v f (off := off) (size := S1x8x256.size) inb w L' y ho (0 : Fin 3) ?_
    show (y 0).val < (i 1).val ∨ (i 1).val + 1 ≤ (y 0).val
    omega
  unfold tailPieces
  exact (miss 3 _ _ _ _ (off5_eq i)).trans ((miss 2 _ _ _ _ (off4_eq i)).trans ((miss 1 _ _ _ _ (off3_eq i)).trans (miss 0 _ _ _ _ (off2_eq i))))

/-- The rows carried in at the first tile of a sequence: zeros. -/
def zeroRows : Vec F S2x8x1024 .f32 := fun _ => Scalar.ofBits .f32 0x00000000#32

/-- What the point stores into its output block over the carried rows `h`. -/
def outChunks (j : Fin 2) (x0 x1 x2 x3 : Vec F S1024x2048 .bf16) (x4 : Vec F S3x1024 .f32) (h : Vec F S2x8x1024 .f32) (q : Fin 4) : FVec F S1024x256 .bf16 :=
  convChunk (bChunk x0 x1 q) (zChunk x0 x2 x3 q) (hLanes j h q) (wLanes x4 q)

section Runs

variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S2x8x1024 .f32) (harg8 : arg8.IsWhole)
  (x0 x1 x2 x3 : Vec F S1024x2048 .bf16) (x4 : Vec F S3x1024 .f32)

theorem next_tail (hc : ¬k0_cond1 i = 1#1) :
    (runNext c i arg2 harg2 arg3 harg3 arg4 harg4 arg5 harg5 arg6 harg6 arg7 harg7 arg8 harg8 hc x0 x1 x2 x3 x4).1 = tailPieces i (zChunk x0 x2 x3) [] := by
  have e : (runNext c i arg2 harg2 arg3 harg3 arg4 harg4 arg5 harg5 arg6 harg6 arg7 harg7 arg8 harg8 hc x0 x1 x2 x3 x4).1
      = tailPieces i (![(k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![0, 0] S256x2048.size inb_S1024x2048_S256x2048_0_0)) (View.ld (arg5.view.read (Elt F) (harg5.unread x3)) (Rect.unit (s := S1024x2048) ![0, 0] S256x2048.size inb_S1024x2048_S256x2048_0_0))),
        (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![256, 0] S256x2048.size inb_S1024x2048_S256x2048_256_0)) (View.ld (arg5.view.read (Elt F) (harg5.unread x3)) (Rect.unit (s := S1024x2048) ![256, 0] S256x2048.size inb_S1024x2048_S256x2048_256_0))),
        (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![512, 0] S256x2048.size inb_S1024x2048_S256x2048_512_0)) (View.ld (arg5.view.read (Elt F) (harg5.unread x3)) (Rect.unit (s := S1024x2048) ![512, 0] S256x2048.size inb_S1024x2048_S256x2048_512_0))),
        (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![768, 0] S256x2048.size inb_S1024x2048_S256x2048_768_0)) (View.ld (arg5.view.read (Elt F) (harg5.unread x3)) (Rect.unit (s := S1024x2048) ![768, 0] S256x2048.size inb_S1024x2048_S256x2048_768_0)))]) [] := by rfl
  rw [e]
  simp only [Memref.IsWhole.read_unread]
  rw [ld_full, ld_rows x2 0 _ 0 rfl, ld_rows x2 256 _ 1 rfl, ld_rows x2 512 _ 2 rfl, ld_rows x2 768 _ 3 rfl, ld_rows x3 0 _ 0 rfl, ld_rows x3 256 _ 1 rfl, ld_rows x3 512 _ 2 rfl, ld_rows x3 768 _ 3 rfl]
  rfl

theorem next_out (hc : ¬k0_cond1 i = 1#1) (xs : Vec F S2x8x1024 .f32) :
    (runNext c i arg2 harg2 arg3 harg3 arg4 harg4 arg5 harg5 arg6 harg6 arg7 harg7 arg8 harg8 hc x0 x1 x2 x3 x4).2.1 xs = outPieces (outChunks (i 1) x0 x1 x2 x3 x4 xs) := by
  have e : (runNext c i arg2 harg2 arg3 harg3 arg4 harg4 arg5 harg5 arg6 harg6 arg7 harg7 arg8 harg8 hc x0 x1 x2 x3 x4).2.1 xs
      = outPieces (![convChunk (k0_pay5 (View.ld (arg2.view.read (Elt F) (harg2.unread x0)) (Rect.unit (s := S1024x2048) ![0, 0] S1024x2048.size inb_S1024x2048_S1024x2048_0_0)) (View.ld (arg3.view.read (Elt F) (harg3.unread x1)) (Rect.unit (s := S1024x2048) ![0, 0] S256x2048.size inb_S1024x2048_S256x2048_0_0))) (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![0, 0] S256x2048.size inb_S1024x2048_S256x2048_0_0)) (View.ld (arg5.view.read (Elt F) (harg5.unread x3)) (Rect.unit (s := S1024x2048) ![0, 0] S256x2048.size inb_S1024x2048_S256x2048_0_0))) (View.ld (arg8.view.read (Elt F) (harg8.unread xs)) (Rect.unit (s := S2x8x1024) (k0_off2 i) S1x8x256.size (k0_off2_inb i))) (View.ld (arg6.view.read (Elt F) (harg6.unread x4)) (Rect.unit (s := S3x1024) ![0, 0] S3x256.size inb_S3x1024_S3x256_0_0)),
        convChunk (k0_pay5 (View.ld (arg2.view.read (Elt F) (harg2.unread x0)) (Rect.unit (s := S1024x2048) ![0, 0] S1024x2048.size inb_S1024x2048_S1024x2048_0_0)) (View.ld (arg3.view.read (Elt F) (harg3.unread x1)) (Rect.unit (s := S1024x2048) ![256, 0] S256x2048.size inb_S1024x2048_S256x2048_256_0))) (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![256, 0] S256x2048.size inb_S1024x2048_S256x2048_256_0)) (View.ld (arg5.view.read (Elt F) (harg5.unread x3)) (Rect.unit (s := S1024x2048) ![256, 0] S256x2048.size inb_S1024x2048_S256x2048_256_0))) (View.ld (arg8.view.read (Elt F) (harg8.unread xs)) (Rect.unit (s := S2x8x1024) (k0_off3 i) S1x8x256.size (k0_off3_inb i))) (View.ld (arg6.view.read (Elt F) (harg6.unread x4)) (Rect.unit (s := S3x1024) ![0, 256] S3x256.size inb_S3x1024_S3x256_0_256)),
        convChunk (k0_pay5 (View.ld (arg2.view.read (Elt F) (harg2.unread x0)) (Rect.unit (s := S1024x2048) ![0, 0] S1024x2048.size inb_S1024x2048_S1024x2048_0_0)) (View.ld (arg3.view.read (Elt F) (harg3.unread x1)) (Rect.unit (s := S1024x2048) ![512, 0] S256x2048.size inb_S1024x2048_S256x2048_512_0))) (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![512, 0] S256x2048.size inb_S1024x2048_S256x2048_512_0)) (View.ld (arg5.view.read (Elt F) (harg5.unread x3)) (Rect.unit (s := S1024x2048) ![512, 0] S256x2048.size inb_S1024x2048_S256x2048_512_0))) (View.ld (arg8.view.read (Elt F) (harg8.unread xs)) (Rect.unit (s := S2x8x1024) (k0_off4 i) S1x8x256.size (k0_off4_inb i))) (View.ld (arg6.view.read (Elt F) (harg6.unread x4)) (Rect.unit (s := S3x1024) ![0, 512] S3x256.size inb_S3x1024_S3x256_0_512)),
        convChunk (k0_pay5 (View.ld (arg2.view.read (Elt F) (harg2.unread x0)) (Rect.unit (s := S1024x2048) ![0, 0] S1024x2048.size inb_S1024x2048_S1024x2048_0_0)) (View.ld (arg3.view.read (Elt F) (harg3.unread x1)) (Rect.unit (s := S1024x2048) ![768, 0] S256x2048.size inb_S1024x2048_S256x2048_768_0))) (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![768, 0] S256x2048.size inb_S1024x2048_S256x2048_768_0)) (View.ld (arg5.view.read (Elt F) (harg5.unread x3)) (Rect.unit (s := S1024x2048) ![768, 0] S256x2048.size inb_S1024x2048_S256x2048_768_0))) (View.ld (arg8.view.read (Elt F) (harg8.unread xs)) (Rect.unit (s := S2x8x1024) (k0_off5 i) S1x8x256.size (k0_off5_inb i))) (View.ld (arg6.view.read (Elt F) (harg6.unread x4)) (Rect.unit (s := S3x1024) ![0, 768] S3x256.size inb_S3x1024_S3x256_0_768))]) := by rfl
  rw [e]
  simp only [Memref.IsWhole.read_unread]
  rw [ld_full, ld_rows x2 0 _ 0 rfl, ld_rows x2 256 _ 1 rfl, ld_rows x2 512 _ 2 rfl, ld_rows x2 768 _ 3 rfl, ld_rows x3 0 _ 0 rfl, ld_rows x3 256 _ 1 rfl, ld_rows x3 512 _ 2 rfl, ld_rows x3 768 _ 3 rfl, ld_rows x1 0 _ 0 rfl, ld_rows x1 256 _ 1 rfl, ld_rows x1 512 _ 2 rfl, ld_rows x1 768 _ 3 rfl, ld_lanes x4 0 _ 0 rfl, ld_lanes x4 256 _ 1 rfl, ld_lanes x4 512 _ 2 rfl, ld_lanes x4 768 _ 3 rfl, ld_halo i xs _ _ 0 (off2_eq i), ld_halo i xs _ _ 1 (off3_eq i), ld_halo i xs _ _ 2 (off4_eq i), ld_halo i xs _ _ 3 (off5_eq i)]
  rfl

end Runs

end Cert.Conv

end
-- ==== Proof.ConvFirst.lean ====
/- The convolution call's body at the first tile of a sequence, where the carried rows are cleared. -/
module

public import proofs.«01_k».proof.Proof.ConvBody

@[expose] public section

set_option maxRecDepth 16384

noncomputable section

namespace Cert.Conv

open Cert.Kernel6Ideal Cert.Kernel6Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of a chunk of the plane, where what lies there reads zeros. -/
theorem cov_zero (v : View sig .tc .vmem S2x8x1024 .f32) (L : List (View.Piece (Elt F) S2x8x1024 .f32)) (i : grid0.Coords) (off : Fin 3 → ℕ) (inb) (q : Fin 4)
    (ho : off = ![(i 1).val, 0, 256 * q.val])
    (hL : ∀ (f : v.ty.Contents (Elt F)) (y : S2x8x1024.Idx), (y 0).val = (i 1).val → (y 2).val / 256 = q.val → v.read (Elt F) (v.writes (Elt F) f L) y = zeroRows y) :
    v.readCov L (Rect.unit (s := S2x8x1024) off S1x8x256.size inb).toLoadRect = hLanes (i 1) zeroRows q := by
  subst ho
  funext j
  have h0 : (j 0).val < 1 := (j 0).isLt
  have h2 : (j 2).val < 256 := (j 2).isLt
  exact hL v.junk ((Rect.unit (s := S2x8x1024) ![(i 1).val, 0, 256 * q.val] S1x8x256.size inb).toLoadRect.idx j)
    (by show (i 1).val + 1 * (j 0).val = (i 1).val; omega) (by show (256 * q.val + 1 * (j 2).val) / 256 = q.val; omega)

theorem zero_piece (v : View sig .tc .vmem S2x8x1024 .f32) (f : v.ty.Contents (Elt F)) (i : grid0.Coords) (hc : k0_cond1 i = 1#1) (y : S2x8x1024.Idx) (hy : (y 0).val = (i 1).val) :
    v.read (Elt F) (v.writes (Elt F) f (⟨Rect.unit (s := S2x8x1024) (k0_off1 i) S1x8x1024.size (k0_off1_inb i hc), k0_pay4⟩ :: [])) y = zeroRows y := by
  refine (View.read_writes_cons_unit_of_mem v f (off := k0_off1 i) (size := S1x8x1024.size) (k0_off1_inb i hc) k0_pay4 [] y
    (ix3 (0 : Fin 1) (⟨(y 1).val, (y 1).isLt⟩ : Fin 8) (⟨(y 2).val, (y 2).isLt⟩ : Fin 1024)) (off1_eq i) ?_).trans ?_
  · intro a
    match a with
    | ⟨0, _⟩ => show (y 0).val = (i 1).val + 0; omega
    | ⟨1, _⟩ => show (y 1).val = 0 + (y 1).val; omega
    | ⟨2, _⟩ => show (y 2).val = 0 + (y 2).val; omega
  · rfl

theorem zero_miss (v : View sig .tc .vmem S2x8x1024 .f32) (f : v.ty.Contents (Elt F)) (i : grid0.Coords) (y : S2x8x1024.Idx) (q : ℕ) (off : Fin 3 → ℕ) (inb) (w) (L')
    (ho : off = ![(i 1).val, 0, 256 * q]) (hq : (y 2).val / 256 ≠ q) :
    v.read (Elt F) (v.writes (Elt F) f (⟨Rect.unit (s := S2x8x1024) off S1x8x256.size inb, w⟩ :: L')) y = v.read (Elt F) (v.writes (Elt F) f L') y := by
  refine View.read_writes_cons_unit_of_not_mem v f (off := off) (size := S1x8x256.size) inb w L' y ho (2 : Fin 3) ?_
  show (y 2).val < 256 * q ∨ 256 * q + 256 ≤ (y 2).val
  omega

theorem cov0 (v : View sig .tc .vmem S2x8x1024 .f32) (i : grid0.Coords) (hc : k0_cond1 i = 1#1) :
    v.readCov (Val := Elt F) (⟨Rect.unit (s := S2x8x1024) (k0_off1 i) S1x8x1024.size (k0_off1_inb i hc), k0_pay4⟩ :: []) (Rect.unit (s := S2x8x1024) (k0_off2 i) S1x8x256.size (k0_off2_inb i)).toLoadRect
      = hLanes (i 1) zeroRows 0 :=
  cov_zero v _ i _ _ 0 (off2_eq i) fun f y hy hq => zero_piece v f i hc y hy

theorem cov1 (v : View sig .tc .vmem S2x8x1024 .f32) (i : grid0.Coords) (hc : k0_cond1 i = 1#1) (w0 : FVec F S1x8x256 .f32) :
    v.readCov (Val := Elt F) (⟨Rect.unit (s := S2x8x1024) (k0_off2 i) S1x8x256.size (k0_off2_inb i), w0⟩ :: ⟨Rect.unit (s := S2x8x1024) (k0_off1 i) S1x8x1024.size (k0_off1_inb i hc), k0_pay4⟩ :: []) (Rect.unit (s := S2x8x1024) (k0_off3 i) S1x8x256.size (k0_off3_inb i)).toLoadRect
      = hLanes (i 1) zeroRows 1 :=
  cov_zero v _ i _ _ 1 (off3_eq i) fun f y hy hq => (zero_miss v f i y 0 _ _ w0 _ (off2_eq i) (by rw [hq]; decide)).trans (zero_piece v f i hc y hy)

theorem cov2 (v : View sig .tc .vmem S2x8x1024 .f32) (i : grid0.Coords) (hc : k0_cond1 i = 1#1) (w0 w1 : FVec F S1x8x256 .f32) :
    v.readCov (Val := Elt F) (⟨Rect.unit (s := S2x8x1024) (k0_off3 i) S1x8x256.size (k0_off3_inb i), w1⟩ :: ⟨Rect.unit (s := S2x8x1024) (k0_off2 i) S1x8x256.size (k0_off2_inb i), w0⟩ :: ⟨Rect.unit (s := S2x8x1024) (k0_off1 i) S1x8x1024.size (k0_off1_inb i hc), k0_pay4⟩ :: []) (Rect.unit (s := S2x8x1024) (k0_off4 i) S1x8x256.size (k0_off4_inb i)).toLoadRect
      = hLanes (i 1) zeroRows 2 :=
  cov_zero v _ i _ _ 2 (off4_eq i) fun f y hy hq => (zero_miss v f i y 1 _ _ w1 _ (off3_eq i) (by rw [hq]; decide)).trans ((zero_miss v f i y 0 _ _ w0 _ (off2_eq i) (by rw [hq]; decide)).trans (zero_piece v f i hc y hy))

theorem cov3 (v : View sig .tc .vmem S2x8x1024 .f32) (i : grid0.Coords) (hc : k0_cond1 i = 1#1) (w0 w1 w2 : FVec F S1x8x256 .f32) :
    v.readCov (Val := Elt F) (⟨Rect.unit (s := S2x8x1024) (k0_off4 i) S1x8x256.size (k0_off4_inb i), w2⟩ :: ⟨Rect.unit (s := S2x8x1024) (k0_off3 i) S1x8x256.size (k0_off3_inb i), w1⟩ :: ⟨Rect.unit (s := S2x8x1024) (k0_off2 i) S1x8x256.size (k0_off2_inb i), w0⟩ :: ⟨Rect.unit (s := S2x8x1024) (k0_off1 i) S1x8x1024.size (k0_off1_inb i hc), k0_pay4⟩ :: []) (Rect.unit (s := S2x8x1024) (k0_off5 i) S1x8x256.size (k0_off5_inb i)).toLoadRect
      = hLanes (i 1) zeroRows 3 :=
  cov_zero v _ i _ _ 3 (off5_eq i) fun f y hy hq => (zero_miss v f i y 2 _ _ w2 _ (off4_eq i) (by rw [hq]; decide)).trans ((zero_miss v f i y 1 _ _ w1 _ (off3_eq i) (by rw [hq]; decide)).trans ((zero_miss v f i y 0 _ _ w0 _ (off2_eq i) (by rw [hq]; decide)).trans (zero_piece v f i hc y hy)))

section Runs

variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S2x8x1024 .f32) (harg8 : arg8.IsWhole)
  (x0 x1 x2 x3 : Vec F S1024x2048 .bf16) (x4 : Vec F S3x1024 .f32)

theorem first_tail (hc : k0_cond1 i = 1#1) :
    (runFirst c i arg2 harg2 arg3 harg3 arg4 harg4 arg5 harg5 arg6 harg6 arg7 harg7 arg8 harg8 hc x0 x1 x2 x3 x4).1 = tailPieces i (zChunk x0 x2 x3) [⟨Rect.unit (s := S2x8x1024) (k0_off1 i) S1x8x1024.size (k0_off1_inb i hc), k0_pay4⟩] := by
  have e : (runFirst c i arg2 harg2 arg3 harg3 arg4 harg4 arg5 harg5 arg6 harg6 arg7 harg7 arg8 harg8 hc x0 x1 x2 x3 x4).1
      = tailPieces i (![(k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![0, 0] S256x2048.size inb_S1024x2048_S256x2048_0_0)) (View.ld (arg5.view.read (Elt F) (harg5.unread x3)) (Rect.unit (s := S1024x2048) ![0, 0] S256x2048.size inb_S1024x2048_S256x2048_0_0))),
        (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![256, 0] S256x2048.size inb_S1024x2048_S256x2048_256_0)) (View.ld (arg5.view.read (Elt F) (harg5.unread x3)) (Rect.unit (s := S1024x2048) ![256, 0] S256x2048.size inb_S1024x2048_S256x2048_256_0))),
        (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![512, 0] S256x2048.size inb_S1024x2048_S256x2048_512_0)) (View.ld (arg5.view.read (Elt F) (harg5.unread x3)) (Rect.unit (s := S1024x2048) ![512, 0] S256x2048.size inb_S1024x2048_S256x2048_512_0))),
        (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![768, 0] S256x2048.size inb_S1024x2048_S256x2048_768_0)) (View.ld (arg5.view.read (Elt F) (harg5.unread x3)) (Rect.unit (s := S1024x2048) ![768, 0] S256x2048.size inb_S1024x2048_S256x2048_768_0)))]) [⟨Rect.unit (s := S2x8x1024) (k0_off1 i) S1x8x1024.size (k0_off1_inb i hc), k0_pay4⟩] := by rfl
  rw [e]
  simp only [Memref.IsWhole.read_unread]
  rw [ld_full, ld_rows x2 0 _ 0 rfl, ld_rows x2 256 _ 1 rfl, ld_rows x2 512 _ 2 rfl, ld_rows x2 768 _ 3 rfl, ld_rows x3 0 _ 0 rfl, ld_rows x3 256 _ 1 rfl, ld_rows x3 512 _ 2 rfl, ld_rows x3 768 _ 3 rfl]
  rfl

theorem first_out (hc : k0_cond1 i = 1#1) (xs : Vec F S2x8x1024 .f32) :
    (runFirst c i arg2 harg2 arg3 harg3 arg4 harg4 arg5 harg5 arg6 harg6 arg7 harg7 arg8 harg8 hc x0 x1 x2 x3 x4).2.1 xs = outPieces (outChunks (i 1) x0 x1 x2 x3 x4 zeroRows) := by
  have e : (runFirst c i arg2 harg2 arg3 harg3 arg4 harg4 arg5 harg5 arg6 harg6 arg7 harg7 arg8 harg8 hc x0 x1 x2 x3 x4).2.1 xs
      = outPieces (![convChunk (k0_pay5 (View.ld (arg2.view.read (Elt F) (harg2.unread x0)) (Rect.unit (s := S1024x2048) ![0, 0] S1024x2048.size inb_S1024x2048_S1024x2048_0_0)) (View.ld (arg3.view.read (Elt F) (harg3.unread x1)) (Rect.unit (s := S1024x2048) ![0, 0] S256x2048.size inb_S1024x2048_S256x2048_0_0))) (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![0, 0] S256x2048.size inb_S1024x2048_S256x2048_0_0)) (View.ld (arg5.view.read (Elt F) (harg5.unread x3)) (Rect.unit (s := S1024x2048) ![0, 0] S256x2048.size inb_S1024x2048_S256x2048_0_0))) (arg8.view.readCov (Val := Elt F) (⟨Rect.unit (s := S2x8x1024) (k0_off1 i) S1x8x1024.size (k0_off1_inb i hc), k0_pay4⟩ :: []) (Rect.unit (s := S2x8x1024) (k0_off2 i) S1x8x256.size (k0_off2_inb i)).toLoadRect) (View.ld (arg6.view.read (Elt F) (harg6.unread x4)) (Rect.unit (s := S3x1024) ![0, 0] S3x256.size inb_S3x1024_S3x256_0_0)),
        convChunk (k0_pay5 (View.ld (arg2.view.read (Elt F) (harg2.unread x0)) (Rect.unit (s := S1024x2048) ![0, 0] S1024x2048.size inb_S1024x2048_S1024x2048_0_0)) (View.ld (arg3.view.read (Elt F) (harg3.unread x1)) (Rect.unit (s := S1024x2048) ![256, 0] S256x2048.size inb_S1024x2048_S256x2048_256_0))) (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![256, 0] S256x2048.size inb_S1024x2048_S256x2048_256_0)) (View.ld (arg5.view.read (Elt F) (harg5.unread x3)) (Rect.unit (s := S1024x2048) ![256, 0] S256x2048.size inb_S1024x2048_S256x2048_256_0))) (arg8.view.readCov (Val := Elt F) (⟨Rect.unit (s := S2x8x1024) (k0_off2 i) S1x8x256.size (k0_off2_inb i), k0_pay11 (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![0, 0] S256x2048.size inb_S1024x2048_S256x2048_0_0)) (View.ld (arg5.view.read (Elt F) (harg5.unread x3)) (Rect.unit (s := S1024x2048) ![0, 0] S256x2048.size inb_S1024x2048_S256x2048_0_0)))⟩ :: ⟨Rect.unit (s := S2x8x1024) (k0_off1 i) S1x8x1024.size (k0_off1_inb i hc), k0_pay4⟩ :: []) (Rect.unit (s := S2x8x1024) (k0_off3 i) S1x8x256.size (k0_off3_inb i)).toLoadRect) (View.ld (arg6.view.read (Elt F) (harg6.unread x4)) (Rect.unit (s := S3x1024) ![0, 256] S3x256.size inb_S3x1024_S3x256_0_256)),
        convChunk (k0_pay5 (View.ld (arg2.view.read (Elt F) (harg2.unread x0)) (Rect.unit (s := S1024x2048) ![0, 0] S1024x2048.size inb_S1024x2048_S1024x2048_0_0)) (View.ld (arg3.view.read (Elt F) (harg3.unread x1)) (Rect.unit (s := S1024x2048) ![512, 0] S256x2048.size inb_S1024x2048_S256x2048_512_0))) (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![512, 0] S256x2048.size inb_S1024x2048_S256x2048_512_0)) (View.ld (arg5.view.read (Elt F) (harg5.unread x3)) (Rect.unit (s := S1024x2048) ![512, 0] S256x2048.size inb_S1024x2048_S256x2048_512_0))) (arg8.view.readCov (Val := Elt F) (⟨Rect.unit (s := S2x8x1024) (k0_off3 i) S1x8x256.size (k0_off3_inb i), k0_pay11 (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![256, 0] S256x2048.size inb_S1024x2048_S256x2048_256_0)) (View.ld (arg5.view.read (Elt F) (harg5.unread x3)) (Rect.unit (s := S1024x2048) ![256, 0] S256x2048.size inb_S1024x2048_S256x2048_256_0)))⟩ :: ⟨Rect.unit (s := S2x8x1024) (k0_off2 i) S1x8x256.size (k0_off2_inb i), k0_pay11 (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![0, 0] S256x2048.size inb_S1024x2048_S256x2048_0_0)) (View.ld (arg5.view.read (Elt F) (harg5.unread x3)) (Rect.unit (s := S1024x2048) ![0, 0] S256x2048.size inb_S1024x2048_S256x2048_0_0)))⟩ :: ⟨Rect.unit (s := S2x8x1024) (k0_off1 i) S1x8x1024.size (k0_off1_inb i hc), k0_pay4⟩ :: []) (Rect.unit (s := S2x8x1024) (k0_off4 i) S1x8x256.size (k0_off4_inb i)).toLoadRect) (View.ld (arg6.view.read (Elt F) (harg6.unread x4)) (Rect.unit (s := S3x1024) ![0, 512] S3x256.size inb_S3x1024_S3x256_0_512)),
        convChunk (k0_pay5 (View.ld (arg2.view.read (Elt F) (harg2.unread x0)) (Rect.unit (s := S1024x2048) ![0, 0] S1024x2048.size inb_S1024x2048_S1024x2048_0_0)) (View.ld (arg3.view.read (Elt F) (harg3.unread x1)) (Rect.unit (s := S1024x2048) ![768, 0] S256x2048.size inb_S1024x2048_S256x2048_768_0))) (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![768, 0] S256x2048.size inb_S1024x2048_S256x2048_768_0)) (View.ld (arg5.view.read (Elt F) (harg5.unread x3)) (Rect.unit (s := S1024x2048) ![768, 0] S256x2048.size inb_S1024x2048_S256x2048_768_0))) (arg8.view.readCov (Val := Elt F) (⟨Rect.unit (s := S2x8x1024) (k0_off4 i) S1x8x256.size (k0_off4_inb i), k0_pay11 (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![512, 0] S256x2048.size inb_S1024x2048_S256x2048_512_0)) (View.ld (arg5.view.read (Elt F) (harg5.unread x3)) (Rect.unit (s := S1024x2048) ![512, 0] S256x2048.size inb_S1024x2048_S256x2048_512_0)))⟩ :: ⟨Rect.unit (s := S2x8x1024) (k0_off3 i) S1x8x256.size (k0_off3_inb i), k0_pay11 (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![256, 0] S256x2048.size inb_S1024x2048_S256x2048_256_0)) (View.ld (arg5.view.read (Elt F) (harg5.unread x3)) (Rect.unit (s := S1024x2048) ![256, 0] S256x2048.size inb_S1024x2048_S256x2048_256_0)))⟩ :: ⟨Rect.unit (s := S2x8x1024) (k0_off2 i) S1x8x256.size (k0_off2_inb i), k0_pay11 (k0_pay6 (View.ld (arg2.view.read (Elt F) (harg2.unread x0)) (Rect.unit (s := S1024x2048) ![0, 0] S1024x2048.size inb_S1024x2048_S1024x2048_0_0)) (View.ld (arg4.view.read (Elt F) (harg4.unread x2)) (Rect.unit (s := S1024x2048) ![0, 0] S256x2048.size inb_S1024x2048_S256x2048_0_0)) (View.ld (arg5.view.read (Elt F) (harg5.unread x3)) (Rect.unit (s := S1024x2048) ![0, 0] S256x2048.size inb_S1024x2048_S256x2048_0_0)))⟩ :: ⟨Rect.unit (s := S2x8x1024) (k0_off1 i) S1x8x1024.size (k0_off1_inb i hc), k0_pay4⟩ :: []) (Rect.unit (s := S2x8x1024) (k0_off5 i) S1x8x256.size (k0_off5_inb i)).toLoadRect) (View.ld (arg6.view.read (Elt F) (harg6.unread x4)) (Rect.unit (s := S3x1024) ![0, 768] S3x256.size inb_S3x1024_S3x256_0_768))]) := by rfl
  rw [e, cov0 _ i hc, cov1 _ i hc, cov2 _ i hc, cov3 _ i hc]
  simp only [Memref.IsWhole.read_unread]
  rw [ld_full, ld_rows x2 0 _ 0 rfl, ld_rows x2 256 _ 1 rfl, ld_rows x2 512 _ 2 rfl, ld_rows x2 768 _ 3 rfl, ld_rows x3 0 _ 0 rfl, ld_rows x3 256 _ 1 rfl, ld_rows x3 512 _ 2 rfl, ld_rows x3 768 _ 3 rfl, ld_rows x1 0 _ 0 rfl, ld_rows x1 256 _ 1 rfl, ld_rows x1 512 _ 2 rfl, ld_rows x1 768 _ 3 rfl, ld_lanes x4 0 _ 0 rfl, ld_lanes x4 256 _ 1 rfl, ld_lanes x4 512 _ 2 rfl, ld_lanes x4 768 _ 3 rfl]
  rfl

end Runs

end Cert.Conv

end
-- ==== Proof.ConvFrame.lean ====
/- The convolution call's whole run: the rows carried from tile to tile, the body at every point, and the frame. -/
module

public import proofs.«01_k».proof.Proof.ConvFirst
public import Idealize.ShloMosaic.Lib.Claim

@[expose] public section

set_option maxRecDepth 16384

noncomputable section

namespace Cert.Conv

open Cert.Kernel6Ideal Cert.Kernel6Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coord0 (t : Fin cfg0.N) : (grid0.coords t 0).val = t.val / 2 := by
  have ht : t.val < 16 := lt_of_lt_of_eq t.isLt (show cfg0.N = 16 from N_0)
  have e : (grid0.coords t 0).val = t.val / 2 % 8 := Pipeline.Grid.coords_val t 0 (by decide) rfl
  rw [e]; omega

theorem coord1 (t : Fin cfg0.N) : (grid0.coords t 1).val = t.val % 2 := by
  have e : (grid0.coords t 1).val = t.val / 1 % 2 := Pipeline.Grid.coords_val t 1 (by decide) rfl
  rw [e, Nat.div_one]

/-- The carried rows are cleared at the first tile of each sequence. -/
theorem first_iff (t : Fin cfg0.N) : k0_cond1 (grid0.coords t) = 1#1 ↔ t.val / 2 % 2 = 0 := by
  revert t
  exact (by decide +kernel : ∀ t : Fin grid0.N, k0_cond1 (grid0.coords t) = 1#1 ↔ t.val / 2 % 2 = 0)

/-- The products of point `t`, by chunks of lanes. -/
def zAt (c : Dev nD) (t : Fin cfg0.N) : Fin 4 → FVec F S1024x256 .f32 := zChunk (iblk m c 0 t) (iblk m c 2 t) (iblk m c 3 t)

/-- The carried rows that point `t` reads: zeros at the first tile of a sequence, else what the tile before left. -/
def halo (c : Dev nD) (t : Fin cfg0.N) : Vec F S2x8x1024 .f32 :=
  if t.val / 2 % 2 = 0 then zeroRows else tailRows (zAt m c ⟨t.val - 2, lt_of_le_of_lt (Nat.sub_le _ _) t.isLt⟩)

/-- What point `t` leaves in its output block. -/
def outAt (c : Dev nD) (t : Fin cfg0.N) : Vec F S1024x1024 .bf16 :=
  View.canon (outPieces (outChunks (grid0.coords t 1) (iblk m c 0 t) (iblk m c 1 t) (iblk m c 2 t) (iblk m c 3 t) (iblk m c 4 t) (halo m c t)))

/-- What is known of the carried rows before position `n`: each plane holds what its last point left. -/
def Good (c : Dev nD) (n : ℕ) (xs : Vec F S2x8x1024 .f32) : Prop :=
  ∀ t : Fin cfg0.N, (t.val + 1 = n ∨ t.val + 2 = n) → ∀ y : S2x8x1024.Idx, (y 0).val = t.val % 2 → xs y = tailRows (zAt m c t) y

theorem Good_step (c : Dev nD) (t : Fin cfg0.N) (xs xs' : Vec F S2x8x1024 .f32) (h : Good m c t.val xs)
    (hon : ∀ y : S2x8x1024.Idx, (y 0).val = (grid0.coords t 1).val → xs' y = tailRows (zAt m c t) y)
    (hoff : ∀ y : S2x8x1024.Idx, (y 0).val ≠ (grid0.coords t 1).val → xs' y = xs y) : Good m c (t.val + 1) xs' := by
  have e := coord1 t
  intro u hu y hy
  rcases hu with hu | hu
  · obtain rfl : u = t := Fin.ext (by omega)
    exact hon y (by omega)
  · exact (hoff y (by omega)).trans (h u (.inl (by omega)) y hy)

/-- The invariant before position `n`. -/
def Phi (c : Dev nD) (n : ℕ) : sProp 𝕄 :=
  iprop((∃ xs, ⌜Good m c n xs⌝ ∗ owns (c : Thread nD τ) (Memref.whole cc0_scratch0) fullShare xs) ∗ (∃ r, prngReg c r))

theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]

/-- The proof data of the call: the arrays as the region finds them, each input's buffer at its block and the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem hLanes_congr (j : Fin 2) (h h' : Vec F S2x8x1024 .f32) (e : ∀ y : S2x8x1024.Idx, (y 0).val = j.val → h y = h' y) (q : Fin 4) :
    hLanes j h q = hLanes j h' q := funext fun y => e _ rfl

theorem outChunks_congr (j : Fin 2) (x0 x1 x2 x3 : Vec F S1024x2048 .bf16) (x4 : Vec F S3x1024 .f32) (h h' : Vec F S2x8x1024 .f32) (e : ∀ y : S2x8x1024.Idx, (y 0).val = j.val → h y = h' y) :
    outChunks j x0 x1 x2 x3 x4 h = outChunks j x0 x1 x2 x3 x4 h' := by
  funext q
  unfold outChunks
  rw [hLanes_congr j h h' e q]

/-- Under the cleared plane the carried rows are as they were. -/
theorem zero_other (v : View sig .tc .vmem S2x8x1024 .f32) (f : v.ty.Contents (Elt F)) (i : grid0.Coords) (hc : k0_cond1 i = 1#1) (y : S2x8x1024.Idx) (hy : (y 0).val ≠ (i 1).val) :
    v.read (Elt F) (v.writes (Elt F) f (⟨Rect.unit (s := S2x8x1024) (k0_off1 i) S1x8x1024.size (k0_off1_inb i hc), k0_pay4⟩ :: [])) y = v.read (Elt F) f y := by
  refine View.read_writes_cons_unit_of_not_mem v f (s := S2x8x1024) (off := k0_off1 i) (size := S1x8x1024.size) (k0_off1_inb i hc) k0_pay4 [] y (off1_eq i) (0 : Fin 3) ?_
  show (y 0).val < (i 1).val ∨ (i 1).val + 1 ≤ (y 0).val
  omega

section Points

variable (c : Dev nD) (t : Fin cfg0.N) (arg2 : Memref sig .tc .vmem S1024x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S2x8x1024 .f32) (harg8 : arg8.IsWhole)

/-- What is known of the carried rows after a first tile; -/
theorem first_good (h0 : k0_cond1 (grid0.coords t) = 1#1) (xs : Vec F S2x8x1024 .f32) (hxs : Good m c t.val xs) :
    Good m c (t.val + 1) (arg8.view.read (Elt F) (arg8.view.writes (Elt F) (harg8.unread xs)
      (runFirst c (grid0.coords t) arg2 harg2 arg3 harg3 arg4 harg4 arg5 harg5 arg6 harg6 arg7 harg7 arg8 harg8 h0 (iblk m c 0 t) (iblk m c 1 t) (iblk m c 2 t) (iblk m c 3 t) (iblk m c 4 t)).1)) := by
  rw [first_tail]
  refine Good_step m c t xs _ hxs (fun y hy => read_tail_plane _ _ _ _ _ y hy) (fun y hy => ?_)
  exact (read_tail_other _ _ _ _ _ y hy).trans ((zero_other _ _ _ h0 y hy).trans (congrFun (harg8.read_unread xs) y))

/-- after a later tile; -/
theorem next_good (h0 : ¬k0_cond1 (grid0.coords t) = 1#1) (xs : Vec F S2x8x1024 .f32) (hxs : Good m c t.val xs) :
    Good m c (t.val + 1) (arg8.view.read (Elt F) (arg8.view.writes (Elt F) (harg8.unread xs)
      (runNext c (grid0.coords t) arg2 harg2 arg3 harg3 arg4 harg4 arg5 harg5 arg6 harg6 arg7 harg7 arg8 harg8 h0 (iblk m c 0 t) (iblk m c 1 t) (iblk m c 2 t) (iblk m c 3 t) (iblk m c 4 t)).1)) := by
  rw [next_tail]
  exact Good_step m c t xs _ hxs (fun y hy => read_tail_plane _ _ _ _ _ y hy)
    (fun y hy => (read_tail_other _ _ _ _ _ y hy).trans (congrFun (harg8.read_unread xs) y))

/-- and what the output block holds after a first tile, -/
theorem first_block (h0 : k0_cond1 (grid0.coords t) = 1#1) (xs : Vec F S2x8x1024 .f32) (e : arg7.view.ty.Contents (Elt F)) :
    arg7.view.read (Elt F) (arg7.view.writes (Elt F) e
      ((runFirst c (grid0.coords t) arg2 harg2 arg3 harg3 arg4 harg4 arg5 harg5 arg6 harg6 arg7 harg7 arg8 harg8 h0 (iblk m c 0 t) (iblk m c 1 t) (iblk m c 2 t) (iblk m c 3 t) (iblk m c 4 t)).2.1 xs)) = outAt m c t := by
  rw [first_out]
  refine (View.read_writes_eq_canon _ _ _ (outPieces_cover _)).trans ?_
  unfold outAt halo
  rw [if_pos ((first_iff t).mp h0)]

/-- and after a later tile. -/
theorem next_block (h0 : ¬k0_cond1 (grid0.coords t) = 1#1) (xs : Vec F S2x8x1024 .f32) (hxs : Good m c t.val xs) (e : arg7.view.ty.Contents (Elt F)) :
    arg7.view.read (Elt F) (arg7.view.writes (Elt F) e
      ((runNext c (grid0.coords t) arg2 harg2 arg3 harg3 arg4 harg4 arg5 harg5 arg6 harg6 arg7 harg7 arg8 harg8 h0 (iblk m c 0 t) (iblk m c 1 t) (iblk m c 2 t) (iblk m c 3 t) (iblk m c 4 t)).2.1 xs)) = outAt m c t := by
  have h1 : ¬t.val / 2 % 2 = 0 := fun h => h0 ((first_iff t).mpr h)
  rw [next_out]
  refine (View.read_writes_eq_canon _ _ _ (outPieces_cover _)).trans ?_
  unfold outAt halo
  rw [if_neg h1]
  refine congrArg (fun p => View.canon (outPieces p)) (outChunks_congr _ _ _ _ _ _ _ _ fun y hy => ?_)
  have e := coord1 t
  exact hxs ⟨t.val - 2, lt_of_le_of_lt (Nat.sub_le _ _) t.isLt⟩ (.inr (by show t.val - 2 + 2 = t.val; omega)) y (by show (y 0).val = (t.val - 2) % 2; omega)

end Points

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

set_option maxHeartbeats 4000000 in
/-- The body at any point: at the first tile of a sequence the carried rows are cleared, at a later one they are what the tile before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = Phi m c (t.val + 1) from rfl, show (dats m 0 c).Φ t.castSucc = Phi m c t.val from rfl]
  unfold Phi
  have hN : t.val < 16 := lt_of_lt_of_eq t.isLt (show cfg0.N = 16 from N_0)
  by_cases h0 : t.val / 2 % 2 = 0
  · iintro ⟨⟨⟨%xs, %hxs, HS⟩, Hg⟩, Ho, ⟨%d0, H0⟩, ⟨%d1, H1⟩, ⟨%d2, H2⟩, ⟨%d3, H3⟩, ⟨%d4, H4⟩, ⟨%d5, H5⟩⟩
    iapply ((runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) ((first_iff t).mpr h0) (iblk m c 0 t) (iblk m c 1 t) (iblk m c 2 t) (iblk m c 3 t) (iblk m c 4 t)).2.2 xs Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hg]
    · isplitl [HS]
      · iexists _; isplitr
        swap
        · unfold owns; iexists _; isplitr
          swap; · iexact HS
          ipureintro; rfl
        ipureintro
        exact first_good m c t _ _ _ _ _ _ _ _ _ _ _ _ _ _ _ xs hxs
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact first_block m c t _ _ _ _ _ _ _ _ _ _ _ _ _ _ _ xs e5
  · iintro ⟨⟨⟨%xs, %hxs, HS⟩, Hg⟩, Ho, ⟨%d0, H0⟩, ⟨%d1, H1⟩, ⟨%d2, H2⟩, ⟨%d3, H3⟩, ⟨%d4, H4⟩, ⟨%d5, H5⟩⟩
    iapply ((runNext c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (fun h => h0 ((first_iff t).mp h)) (iblk m c 0 t) (iblk m c 1 t) (iblk m c 2 t) (iblk m c 3 t) (iblk m c 4 t)).2.2 xs Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hg]
    · isplitl [HS]
      · iexists _; isplitr
        swap
        · unfold owns; iexists _; isplitr
          swap; · iexact HS
          ipureintro; rfl
        ipureintro
        exact next_good m c t _ _ _ _ _ _ _ _ _ _ _ _ _ _ _ xs hxs
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact next_block m c t _ _ _ _ _ _ _ _ _ _ _ _ _ _ _ xs hxs e5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is known of the carried rows. -/
theorem hin (c : Dev nD) : Pipeline.ΦA spec0 c ⊢ (dats m 0 c).Φ 0 := by
  rw [show (dats m 0 c).Φ 0 = Phi m c 0 from rfl, PhiA_eq]
  unfold Phi
  iintro ⟨⟨%d, HS⟩, Hg⟩
  isplitl [HS]
  · iexists d; isplitr
    · ipureintro; intro t ht; exfalso; omega
    iexact HS
  iexact Hg

/-- After the last point what is known of them is forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%d, %hd, HS⟩, Hg⟩
  isplitl [HS]
  · iexists d; iexact HS
  iexact Hg

set_option backward.isDefEq.respectTransparency.types false in
/-- The call runs to the arrays its proof data give, with every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same, without the counters. -/
theorem run_arrays : θ_run defs (onTc (τ := τ) (main (F := F))) (s₀ m ρ) (Pipeline.FramePost cfgs (dats m) 0 (V m)) :=
  (θ_run defs _ _).mono (fun _ h => h.1) (run_quiescent m ρ)

/-- Every run ends with the arguments as launched and every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run_quiescent m ρ))

end Cert.Conv

end
-- ==== Proof.ConvOut.lean ====
/- One grid point of the convolution call at an element, over the extended reals: the products on a chunk of lanes, the two
   rows before each row, and the three taps. -/
module

public import proofs.«01_k».proof.Proof.ConvFrame
public import proofs.«01_k».proof.Proof.FfnOutB
public import proofs.«01_k».proof.Proof.GatesOut
public import Idealize.ShloMosaic.Lib.KernelVsHost

@[expose] public section

noncomputable section

namespace Cert.Conv

open Idealize.ShloMosaic Idealize.ShloMosaic.ValueIdx Idealize.ShloMosaic.TcCoe Idealize.SL.Sem
open Cert.Kernel6Ideal Cert.Kernel6Ideal.Gen Cert.Attn Cert.Ffn

/-- A row of a tile one before row `r`: the last carried row before the first. -/
def back1 (z h : ℕ → EReal) (r : ℕ) : EReal := if r = 0 then h 7 else z (r - 1)

/-- A row of a tile two before row `r`: the last two carried rows before the first two. -/
def back2 (z h : ℕ → EReal) (r : ℕ) : EReal := if r = 0 then h 6 else if r = 1 then h 7 else z (r - 2)

/-- The comparison of a row's number with a small constant. -/
theorem row_is (k : ℕ) (hk : k < 1024) (r : Fin 1024) (l : Fin 256) :
    cmpi .eq (iota .tc S1024x256 32 [0] iota_S1024x256_d0_w32) (broadcast S1024x256 (BitVec.ofNat 32 k)) (ix2 r l) = 1#1 ↔ r.val = k := by
  show IntOp.cmpi .eq (BitVec.ofNat 32 (0 * 1024 + r.val)) (BitVec.ofNat 32 k) = 1#1 ↔ _
  have hr := r.isLt
  rw [WordCmp.cmpi_eq_eq, Nat.zero_mul, Nat.zero_add]
  have e : BitVec.ofNat 32 r.val = BitVec.ofNat 32 k ↔ r.val = k := by
    rw [← BitVec.toNat_inj, BitVec.toNat_ofNat, BitVec.toNat_ofNat, Nat.mod_eq_of_lt (by omega), Nat.mod_eq_of_lt (by omega)]
  by_cases h : r.val = k
  · rw [decide_eq_true (e.mpr h)]; exact ⟨fun _ => h, fun _ => rfl⟩
  · rw [decide_eq_false (fun h' => h (e.mp h'))]; exact ⟨fun h' => absurd h' (by decide), fun h' => absurd h' h⟩

/-- A selection by a row's number. -/
theorem select_row {α : Type} (k : ℕ) (hk : k < 1024) (a b : S1024x256.Idx → α) (r : Fin 1024) (l : Fin 256) :
    select (cmpi .eq (iota .tc S1024x256 32 [0] iota_S1024x256_d0_w32) (broadcast S1024x256 (BitVec.ofNat 32 k))) a b (ix2 r l)
      = if r.val = k then a (ix2 r l) else b (ix2 r l) := by
  show (if _ = 1#1 then _ else _) = _
  exact if_congr (row_is k hk r l) rfl rfl

/-- A rotation by `k` rows, at a row from `k` on. -/
theorem rotate_row (k : ℕ) (hk : k < 1024) (z : FVec Ideal S1024x256 .f32) (h : S1024x256.Rotates 0 none) (r : Fin 1024) (l : Fin 256) (hr : k ≤ r.val) :
    dynamicRotate 0 (BitVec.ofNat 32 k) none z h (ix2 r l) = nat2 (a := 1024) (b := 256) z (r.val - k) l.val := by
  have hr' := r.isLt
  rw [nat2_of z (r.val - k) l.val (by omega) l.isLt]
  refine dynamicRotate_apply 0 (BitVec.ofNat 32 k) z h (ix2 r l) _ fun b => ?_
  match b with
  | ⟨0, _⟩ =>
    show r.val - k = (r.val + 1024 - (BitVec.ofNat 32 k).toNat % 1024) % 1024
    rw [BitVec.toNat_ofNat, Nat.mod_eq_of_lt (show k < 2 ^ 32 by omega), Nat.mod_eq_of_lt hk]
    omega
  | ⟨1, _⟩ => rfl

/-- A row of the carried rows, spread over a tile. -/
theorem spread_row (n : ℕ) (prev : Vec Ideal S1x8x256 .f32) (hs : S8x256.Slices ![n, 0] S1x256) (hn : n < 8) (r : Fin 1024) (l : Fin 256) :
    broadcastTo S1024x256 (shapeCast S1x256 (extractStridedSlice S1x256 ![n, 0] (k0_pay7 prev) hs) shapeCasts_S1x256_S1x256) broadcasts_S1x256_S1024x256 (ix2 r l)
      = nat3 (a := 1) (b := 8) (c := 256) prev 0 n l.val := by
  refine (broadcastTo_1b_ab_apply _ _ r l).trans ?_
  rw [shapeCast_same]
  rw [nat3_of prev 0 n l.val (by norm_num) hn l.isLt]
  refine (extractStridedSlice_apply ![n, 0] _ hs (ix2 (0 : Fin 1) l) (ix2 (⟨n, hn⟩ : Fin 8) l) (fun a => ?_)).trans ?_
  · match a with
    | ⟨0, _⟩ => rfl
    | ⟨1, _⟩ => exact (Nat.zero_add _).symm
  · exact shapeCast_1ab_ab_apply prev _ _ _

/-- A row of the taps, spread over a tile. -/
theorem spread_tap (n : ℕ) (w : Vec Ideal S3x256 .f32) (hs : S3x256.Slices ![n, 0] S1x256) (hn : n < 3) (r : Fin 1024) (l : Fin 256) :
    broadcastTo S1024x256 (extractStridedSlice S1x256 ![n, 0] (shapeCast S3x256 w shapeCasts_S3x256_S3x256) hs) broadcasts_S1x256_S1024x256 (ix2 r l)
      = nat2 (a := 3) (b := 256) w n l.val := by
  refine (broadcastTo_1b_ab_apply _ _ r l).trans ?_
  rw [shapeCast_same (φ := .f32)]
  rw [nat2_of w n l.val hn l.isLt]
  refine extractStridedSlice_apply ![n, 0] _ hs (ix2 (0 : Fin 1) l) (ix2 (⟨n, hn⟩ : Fin 3) l) (fun a => ?_)
  match a with
  | ⟨0, _⟩ => rfl
  | ⟨1, _⟩ => exact (Nat.zero_add _).symm

/-- What a chunk of lanes stores, at an element. -/
theorem convChunk_apply (b z : FVec Ideal S1024x256 .f32) (prev : Vec Ideal S1x8x256 .f32) (w : Vec Ideal S3x256 .f32) (r : Fin 1024) (l : Fin 256) :
    convChunk b z prev w (ix2 r l) = b (ix2 r l)
      * (nat2 (a := 3) (b := 256) w 0 l.val * back2 (fun R => nat2 (a := 1024) (b := 256) z R l.val) (fun R => nat3 (a := 1) (b := 8) (c := 256) prev 0 R l.val) r.val
        + nat2 (a := 3) (b := 256) w 1 l.val * back1 (fun R => nat2 (a := 1024) (b := 256) z R l.val) (fun R => nat3 (a := 1) (b := 8) (c := 256) prev 0 R l.val) r.val
        + nat2 (a := 3) (b := 256) w 2 l.val * z (ix2 r l)) := by
  rw [← spread_tap 0 w slices_S3x256_o0_0_S1x256 (by norm_num) r l, ← spread_tap 1 w slices_S3x256_o1_0_S1x256 (by norm_num) r l,
    ← spread_tap 2 w slices_S3x256_o2_0_S1x256 (by norm_num) r l]
  have e1 : back1 (fun R => nat2 (a := 1024) (b := 256) z R l.val) (fun R => nat3 (a := 1) (b := 8) (c := 256) prev 0 R l.val) r.val
      = select (cmpi .eq (iota .tc S1024x256 32 [0] iota_S1024x256_d0_w32) (broadcast S1024x256 (BitVec.ofNat 32 0)))
          (broadcastTo S1024x256 (shapeCast S1x256 (extractStridedSlice S1x256 ![7, 0] (k0_pay7 prev) slices_S8x256_o7_0_S1x256) shapeCasts_S1x256_S1x256) broadcasts_S1x256_S1024x256)
          (dynamicRotate 0 (BitVec.ofNat 32 1) none z rotates_S1024x256_d0) (ix2 r l) := by
    rw [select_row 0 (by norm_num), spread_row 7 prev _ (by norm_num)]
    unfold back1
    by_cases h : r.val = 0
    · rw [if_pos h, if_pos h]
    · rw [if_neg h, if_neg h, rotate_row 1 (by norm_num) z _ r l (by omega)]
  have e2 : back2 (fun R => nat2 (a := 1024) (b := 256) z R l.val) (fun R => nat3 (a := 1) (b := 8) (c := 256) prev 0 R l.val) r.val
      = select (cmpi .eq (iota .tc S1024x256 32 [0] iota_S1024x256_d0_w32) (broadcast S1024x256 (BitVec.ofNat 32 0)))
          (broadcastTo S1024x256 (shapeCast S1x256 (extractStridedSlice S1x256 ![6, 0] (k0_pay7 prev) slices_S8x256_o6_0_S1x256) shapeCasts_S1x256_S1x256) broadcasts_S1x256_S1024x256)
          (select (cmpi .eq (iota .tc S1024x256 32 [0] iota_S1024x256_d0_w32) (broadcast S1024x256 (BitVec.ofNat 32 1)))
            (broadcastTo S1024x256 (shapeCast S1x256 (extractStridedSlice S1x256 ![7, 0] (k0_pay7 prev) slices_S8x256_o7_0_S1x256) shapeCasts_S1x256_S1x256) broadcasts_S1x256_S1024x256)
            (dynamicRotate 0 (BitVec.ofNat 32 2) none z rotates_S1024x256_d0)) (ix2 r l) := by
    rw [select_row 0 (by norm_num), select_row 1 (by norm_num), spread_row 7 prev _ (by norm_num), spread_row 6 prev _ (by norm_num)]
    unfold back2
    by_cases h : r.val = 0
    · rw [if_pos h, if_pos h]
    · rw [if_neg h, if_neg h]
      by_cases h' : r.val = 1
      · rw [if_pos h', if_pos h']
      · rw [if_neg h', if_neg h', rotate_row 2 (by norm_num) z _ r l (by omega)]
  rw [e1, e2]
  rfl

/-- The product of row `r` of `x` with row `n` of `w`. -/
def rowDot (x w : ℕ → ℕ → EReal) (r n : ℕ) : EReal := ∑ k ∈ Finset.range 2048, x r k * w n k

theorem wRows_dot (x w : Vec Ideal S1024x2048 .bf16) (q : Fin 4) (r : Fin 1024) (l : Fin 256) :
    FloatOps.matmul (φ₁ := .bf16) (φ₂ := .bf16) (DotDims.transposedRhs 1024 2048 256) none x (wRows w q) (constant (Sh 1024 256) .f32 0x00000000#32) (ix2 r l)
      = rowDot (nat2 (a := 1024) (b := 2048) x) (nat2 (a := 1024) (b := 2048) w) r.val (256 * q.val + l.val) := by
  refine (Cert.Gates.matmul_rows_zero (φ := .bf16) x (wRows w q) r l).trans ?_
  refine Finset.sum_congr rfl fun k hk => ?_
  have hk' := Finset.mem_range.mp hk
  have hq := q.isLt
  have hl := l.isLt
  rw [nat2_of (wRows w q) l.val k hl hk', nat2_of w (256 * q.val + l.val) k (by omega) hk']
  rfl

theorem bChunk_apply (x w : Vec Ideal S1024x2048 .bf16) (q : Fin 4) (r : Fin 1024) (l : Fin 256) :
    bChunk x w q (ix2 r l) = rowDot (nat2 (a := 1024) (b := 2048) x) (nat2 (a := 1024) (b := 2048) w) r.val (256 * q.val + l.val) := by
  rw [← wRows_dot]
  unfold bChunk k0_pay5 k0_pay3
  rw [shapeCast_same, shapeCast_same]
  rfl

theorem zChunk_apply (x w v : Vec Ideal S1024x2048 .bf16) (q : Fin 4) (r : Fin 1024) (l : Fin 256) :
    zChunk x w v q (ix2 r l) = rowDot (nat2 (a := 1024) (b := 2048) x) (nat2 (a := 1024) (b := 2048) w) r.val (256 * q.val + l.val)
      * rowDot (nat2 (a := 1024) (b := 2048) x) (nat2 (a := 1024) (b := 2048) v) r.val (256 * q.val + l.val) := by
  rw [← wRows_dot, ← wRows_dot]
  unfold zChunk k0_pay6 k0_pay3
  rw [shapeCast_same, shapeCast_same, shapeCast_same]
  rfl

/-- Chunks that each hold their part of one function leave that function. -/
theorem canon_out (G : ℕ → ℕ → EReal) (p : Fin 4 → FVec Ideal S1024x256 .bf16)
    (hp : ∀ (q : Fin 4) (r : Fin 1024) (l : Fin 256), p q (ix2 r l) = G r.val (256 * q.val + l.val)) (y : S1024x1024.Idx) :
    View.canon (outPieces p) y = G (y 0).val (y 1).val := by
  have key : ∀ (q : Fin 4) (o : ℕ) (ho : o = 256 * q.val) (r : Fin 1024) (l : Fin 256), p q (ix2 r l) = G (0 + r.val) (o + l.val) := by
    intro q o ho r l
    rw [hp, Nat.zero_add, ho]
  refine View.canon_apply_of_pieces (Val := Elt Ideal) (e := .bf16) (fun y : S1024x1024.Idx => G (y 0).val (y 1).val) _ ?_ y (outPieces_cover p y)
  unfold outPieces
  simp only [List.forall_mem_cons]
  refine ⟨?_, ?_, ?_, ?_, fun p hp => absurd hp (List.not_mem_nil)⟩
  · exact fun z => piece_emb 0 768 _ G _ (key 3 768 rfl) z
  · exact fun z => piece_emb 0 512 _ G _ (key 2 512 rfl) z
  · exact fun z => piece_emb 0 256 _ G _ (key 1 256 rfl) z
  · exact fun z => piece_emb 0 0 _ G _ (key 0 0 rfl) z

/-- What a point leaves in its block, at an element: lane `n` of its block, of which `n / 256` is the chunk. -/
theorem outChunks_apply (j : Fin 2) (x0 x1 x2 x3 : Vec Ideal S1024x2048 .bf16) (x4 : Vec Ideal S3x1024 .f32) (h : Vec Ideal S2x8x1024 .f32) (q : Fin 4)
    (r : Fin 1024) (l : Fin 256) (b : ℕ → ℕ → EReal) (z H : ℕ → ℕ → EReal)
    (hb : ∀ R n, R < 1024 → n < 1024 → rowDot (nat2 (a := 1024) (b := 2048) x0) (nat2 (a := 1024) (b := 2048) x1) R n = b R n)
    (hz : ∀ R n, R < 1024 → n < 1024 → rowDot (nat2 (a := 1024) (b := 2048) x0) (nat2 (a := 1024) (b := 2048) x2) R n
      * rowDot (nat2 (a := 1024) (b := 2048) x0) (nat2 (a := 1024) (b := 2048) x3) R n = z R n)
    (hH : ∀ (R : Fin 8) (n : Fin 1024), h (ix3 j R n) = H R.val n.val) :
    outChunks j x0 x1 x2 x3 x4 h q (ix2 r l) = b r.val (256 * q.val + l.val)
      * (nat2 (a := 3) (b := 1024) x4 0 (256 * q.val + l.val) * back2 (fun R => z R (256 * q.val + l.val)) (fun R => H R (256 * q.val + l.val)) r.val
        + nat2 (a := 3) (b := 1024) x4 1 (256 * q.val + l.val) * back1 (fun R => z R (256 * q.val + l.val)) (fun R => H R (256 * q.val + l.val)) r.val
        + nat2 (a := 3) (b := 1024) x4 2 (256 * q.val + l.val) * z r.val (256 * q.val + l.val)) := by
  have hq := q.isLt
  have hl := l.isLt
  have hr := r.isLt
  have ez : ∀ R, R < 1024 → nat2 (a := 1024) (b := 256) (zChunk x0 x2 x3 q) R l.val = z R (256 * q.val + l.val) := by
    intro R hR
    rw [nat2_of _ R l.val hR hl, ← hz R _ hR (by omega)]
    exact zChunk_apply x0 x2 x3 q ⟨R, hR⟩ l
  have eh : ∀ R, R < 8 → nat3 (a := 1) (b := 8) (c := 256) (hLanes j h q) 0 R l.val = H R (256 * q.val + l.val) := by
    intro R hR
    rw [nat3_of _ 0 R l.val (by norm_num) hR hl]
    exact hH ⟨R, hR⟩ ⟨256 * q.val + l.val, by omega⟩
  have et : ∀ n, n < 3 → nat2 (a := 3) (b := 256) (wLanes x4 q) n l.val = nat2 (a := 3) (b := 1024) x4 n (256 * q.val + l.val) := by
    intro n hn
    rw [nat2_of _ n l.val hn hl, nat2_of x4 n _ hn (by omega)]
    rfl
  have e2 : back2 (fun R => nat2 (a := 1024) (b := 256) (zChunk x0 x2 x3 q) R l.val) (fun R => nat3 (a := 1) (b := 8) (c := 256) (hLanes j h q) 0 R l.val) r.val
      = back2 (fun R => z R (256 * q.val + l.val)) (fun R => H R (256 * q.val + l.val)) r.val := by
    unfold back2
    beta_reduce
    rw [eh 6 (by norm_num), eh 7 (by norm_num), ez (r.val - 2) (by omega)]
  have e1 : back1 (fun R => nat2 (a := 1024) (b := 256) (zChunk x0 x2 x3 q) R l.val) (fun R => nat3 (a := 1) (b := 8) (c := 256) (hLanes j h q) 0 R l.val) r.val
      = back1 (fun R => z R (256 * q.val + l.val)) (fun R => H R (256 * q.val + l.val)) r.val := by
    unfold back1
    beta_reduce
    rw [eh 7 (by norm_num), ez (r.val - 1) (by omega)]
  have e0 : zChunk x0 x2 x3 q (ix2 r l) = z r.val (256 * q.val + l.val) := by
    rw [← ez r.val hr, nat2_ix2]
  unfold outChunks
  rw [convChunk_apply, bChunk_apply, hb _ _ hr (by omega), e0, e1, e2, et 0 (by norm_num), et 1 (by norm_num), et 2 (by norm_num)]

end Cert.Conv

end
-- ==== Proof.ConvValue.lean ====
/- The array of the convolution call after the run, in the arguments of the layer's step. -/
module

public import proofs.«01_k».proof.Proof.ConvOut
public import Idealize.ShloMosaic.Lib.Pipeline.ValueKit.Geometry
public import Idealize.ShloMosaic.Lib.StableHlo.ReadAt
public import Idealize.ShloMosaic.Lib.Pointwise

@[expose] public section

noncomputable section

namespace Cert.Conv

open Idealize.ShloMosaic Idealize.ShloMosaic.ValueIdx Idealize.ShloMosaic.TcCoe
open Cert.Kernel6Ideal Cert.Kernel6Ideal.Gen Cert.Attn Cert.Ffn

variable (m : (ℓ : Loc nD τ sig) → Buf (Elt Ideal) ℓ) (c : Dev nD)

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![t.val % 2, 0] :=
  (by decide +kernel : ∀ t : Fin grid0.N, win0_1.index t = ![t.val % 2, 0])
theorem idx2 : ∀ t : Fin cfg0.N, win0_2.index t = ![2 + t.val % 2, 0] :=
  (by decide +kernel : ∀ t : Fin grid0.N, win0_2.index t = ![2 + t.val % 2, 0])
theorem idx3 : ∀ t : Fin cfg0.N, win0_3.index t = ![4 + t.val % 2, 0] :=
  (by decide +kernel : ∀ t : Fin grid0.N, win0_3.index t = ![4 + t.val % 2, 0])
theorem idx4 : ∀ t : Fin cfg0.N, win0_4.index t = ![0, t.val % 2] :=
  (by decide +kernel : ∀ t : Fin grid0.N, win0_4.index t = ![0, t.val % 2])
theorem idx5 : ∀ t : Fin cfg0.N, win0_5.index t = ![t.val / 2, t.val % 2] :=
  (by decide +kernel : ∀ t : Fin grid0.N, win0_5.index t = ![t.val / 2, t.val % 2])

/-- The rows that are projected, their batches and positions joined. -/
abbrev rows (R C : ℕ) : EReal :=
  nat3 (a := 4) (b := 2048) (c := 2048) (m ((c : Thread nD τ).loc main_arg0)) (R / 2048) (R % 2048) C

/-- The columns of the input weight. -/
abbrev weight (R C : ℕ) : EReal := nat3 (a := 1) (b := 2048) (c := 11328) (m ((c : Thread nD τ).loc main_arg1)) 0 R C

/-- The taps. -/
abbrev taps (R C : ℕ) : EReal := nat3 (a := 1) (b := 3) (c := 2048) (m ((c : Thread nD τ).loc main_arg2)) 0 R C

/-- The rows as the host leaves them. -/
theorem hostU (R C : ℕ) (hR : R < 8192) (hC : C < 2048) : nat2 (a := 8192) (b := 2048) (V m c main_v1) R C = rows m c R C := by
  rw [nat2_of _ R C hR hC]
  unfold rows
  rw [nat3_of _ _ _ _ (by omega) (by omega) hC]
  unfold V
  after_reads_at
  rfl

/-- The weight's columns as the host leaves them: as rows, from the convolution's on. -/
theorem hostW (R C : ℕ) (hR : R < 10240) (hC : C < 2048) :
    nat2 (a := 10240) (b := 2048) (V m c main_v5) R C = weight m c C (1088 + R) := by
  rw [nat2_of _ R C hR hC]
  unfold weight
  rw [nat3_of _ _ _ _ (by omega) hC (by omega)]
  unfold V
  after_reads_at
  rfl

/-- The taps as the host leaves them. -/
theorem hostT (R C : ℕ) (hR : R < 3) (hC : C < 2048) : nat2 (a := 3) (b := 2048) (V m c main_v6) R C = taps m c R C := by
  rw [nat2_of _ R C hR hC]
  unfold taps
  rw [nat3_of _ _ _ _ (by omega) (by omega) hC]
  unfold V
  after_reads_at
  rfl

/-- The rows of a point. -/
theorem blk0 (t : Fin cfg0.N) (p w : ℕ) (hp : p < 1024) (hw : w < 2048) :
    nat2 (a := 1024) (b := 2048) (iblk m c 0 t) p w = rows m c (1024 * (t.val / 2) + p) w := by
  have ht : t.val < 16 := t.isLt
  rw [← hostU m c (1024 * (t.val / 2) + p) w (by omega) hw, nat2_of _ p w (by omega) hw, nat2_of _ _ _ (by omega) (by omega)]
  blk_simp [iblk]
  refine congrArg (V m c main_v1) ?_
  blk_ext [idx0]

/-- The columns of the three projections that a point takes. -/
theorem blk1 (t : Fin cfg0.N) (p w : ℕ) (hp : p < 1024) (hw : w < 2048) :
    nat2 (a := 1024) (b := 2048) (iblk m c 1 t) p w = weight m c w (1088 + (1024 * (t.val % 2) + p)) := by
  rw [← hostW m c (1024 * (t.val % 2) + p) w (by omega) hw, nat2_of _ p w (by omega) hw, nat2_of _ _ _ (by omega) (by omega)]
  blk_simp [iblk]
  refine congrArg (V m c main_v5) ?_
  blk_ext [idx1]

theorem blk2 (t : Fin cfg0.N) (p w : ℕ) (hp : p < 1024) (hw : w < 2048) :
    nat2 (a := 1024) (b := 2048) (iblk m c 2 t) p w = weight m c w (3136 + (1024 * (t.val % 2) + p)) := by
  rw [show 3136 + (1024 * (t.val % 2) + p) = 1088 + (1024 * (2 + t.val % 2) + p) by omega, ← hostW m c (1024 * (2 + t.val % 2) + p) w (by omega) hw,
    nat2_of _ p w (by omega) hw, nat2_of _ _ _ (by omega) (by omega)]
  blk_simp [iblk]
  refine congrArg (V m c main_v5) ?_
  blk_ext [idx2]

theorem blk3 (t : Fin cfg0.N) (p w : ℕ) (hp : p < 1024) (hw : w < 2048) :
    nat2 (a := 1024) (b := 2048) (iblk m c 3 t) p w = weight m c w (5184 + (1024 * (t.val % 2) + p)) := by
  rw [show 5184 + (1024 * (t.val % 2) + p) = 1088 + (1024 * (4 + t.val % 2) + p) by omega, ← hostW m c (1024 * (4 + t.val % 2) + p) w (by omega) hw,
    nat2_of _ p w (by omega) hw, nat2_of _ _ _ (by omega) (by omega)]
  blk_simp [iblk]
  refine congrArg (V m c main_v5) ?_
  blk_ext [idx3]

/-- The lanes of the taps that a point takes. -/
theorem blk4 (t : Fin cfg0.N) (p w : ℕ) (hp : p < 3) (hw : w < 1024) :
    nat2 (a := 3) (b := 1024) (iblk m c 4 t) p w = taps m c p (1024 * (t.val % 2) + w) := by
  rw [← hostT m c p (1024 * (t.val % 2) + w) hp (by omega), nat2_of _ p w (by omega) hw, nat2_of _ _ _ (by omega) (by omega)]
  blk_simp [iblk]
  refine congrArg (V m c main_v6) ?_
  blk_ext [idx4]

/-- A projection of row `R` on a column of the weight. -/
def proj (x w : ℕ → ℕ → EReal) (R C : ℕ) : EReal := ∑ k ∈ Finset.range 2048, x R k * w k C

/-- The product of the second and the third projection. -/
def prod (x w : ℕ → ℕ → EReal) (R C : ℕ) : EReal := proj x w R (3136 + C) * proj x w R (5184 + C)

/-- The product `d` positions before position `R % 2048` of its sequence: zero before the sequence's first. -/
def before (x w : ℕ → ℕ → EReal) (d R C : ℕ) : EReal := if R % 2048 < d then 0 else prod x w (R - d) C

/-- An element of the result: the first projection times the causal convolution of the products. -/
def convOut (x w t : ℕ → ℕ → EReal) (R C : ℕ) : EReal :=
  proj x w R (1088 + C) * (t 0 C * before x w 2 R C + t 1 C * before x w 1 R C + t 2 C * prod x w R C)

/-- The products with a block of the weight's columns, from column `o` on. -/
theorem rowDot_proj (t : Fin cfg0.N) (w : Vec Ideal S1024x2048 .bf16) (o : ℕ)
    (hw : ∀ p k, p < 1024 → k < 2048 → nat2 (a := 1024) (b := 2048) w p k = weight m c k (o + (1024 * (t.val % 2) + p))) (R n : ℕ) (hR : R < 1024) (hn : n < 1024) :
    rowDot (nat2 (a := 1024) (b := 2048) (iblk m c 0 t)) (nat2 (a := 1024) (b := 2048) w) R n
      = proj (rows m c) (weight m c) (1024 * (t.val / 2) + R) (o + (1024 * (t.val % 2) + n)) := by
  unfold rowDot proj
  refine Finset.sum_congr rfl fun k hk => ?_
  have hk' := Finset.mem_range.mp hk
  rw [blk0 m c t R k hR hk', hw n k hn hk']

theorem dots_prod (t : Fin cfg0.N) (R n : ℕ) (hR : R < 1024) (hn : n < 1024) :
    rowDot (nat2 (a := 1024) (b := 2048) (iblk m c 0 t)) (nat2 (a := 1024) (b := 2048) (iblk m c 2 t)) R n
        * rowDot (nat2 (a := 1024) (b := 2048) (iblk m c 0 t)) (nat2 (a := 1024) (b := 2048) (iblk m c 3 t)) R n
      = prod (rows m c) (weight m c) (1024 * (t.val / 2) + R) (1024 * (t.val % 2) + n) := by
  rw [rowDot_proj m c t (iblk m c 2 t) 3136 (blk2 m c t) R n hR hn, rowDot_proj m c t (iblk m c 3 t) 5184 (blk3 m c t) R n hR hn]
  rfl

/-- The rows carried into a point: the last eight before its tile, zeros at the first tile of a sequence. -/
theorem halo_at (t : Fin cfg0.N) (R : Fin 8) (n : Fin 1024) :
    halo m c t (ValueIdx.ix3 (grid0.coords t 1) R n)
      = if t.val / 2 % 2 = 0 then 0 else prod (rows m c) (weight m c) (1024 * (t.val / 2) - 8 + R.val) (1024 * (t.val % 2) + n.val) := by
  have hR := R.isLt
  have hn := n.isLt
  unfold halo
  by_cases h : t.val / 2 % 2 = 0
  · rw [if_pos h, if_pos h]
    exact ofBits_zero
  · rw [if_neg h, if_neg h]
    unfold tailRows zAt
    refine (zChunk_apply _ _ _ _ _ _).trans ?_
    have e : 256 * (n.val / 256) + n.val % 256 = n.val := by omega
    show rowDot _ _ (1016 + R.val) (256 * (n.val / 256) + n.val % 256) * rowDot _ _ (1016 + R.val) (256 * (n.val / 256) + n.val % 256) = _
    rw [e]
    refine (dots_prod m c ⟨t.val - 2, lt_of_le_of_lt (Nat.sub_le _ _) t.isLt⟩ (1016 + R.val) n.val (by omega) hn).trans ?_
    have e1 : 1024 * ((t.val - 2) / 2) + (1016 + R.val) = 1024 * (t.val / 2) - 8 + R.val := by omega
    have e2 : (t.val - 2) % 2 = t.val % 2 := by omega
    show prod _ _ (1024 * ((t.val - 2) / 2) + (1016 + R.val)) (1024 * ((t.val - 2) % 2) + n.val) = _
    rw [e1, e2]

/-- What a point leaves. -/
theorem outAt_apply (t : Fin cfg0.N) (y : S1024x1024.Idx) :
    outAt m c t y = convOut (rows m c) (weight m c) (taps m c) (1024 * (t.val / 2) + (y 0).val) (1024 * (t.val % 2) + (y 1).val) := by
  unfold outAt
  refine canon_out (fun R C => convOut (rows m c) (weight m c) (taps m c) (1024 * (t.val / 2) + R) (1024 * (t.val % 2) + C)) _ (fun q r l => ?_) y
  have hq := q.isLt
  have hr := r.isLt
  have hl := l.isLt
  refine (outChunks_apply (grid0.coords t 1) _ _ _ _ _ _ q r l
    (fun R n => proj (rows m c) (weight m c) (1024 * (t.val / 2) + R) (1088 + (1024 * (t.val % 2) + n)))
    (fun R n => prod (rows m c) (weight m c) (1024 * (t.val / 2) + R) (1024 * (t.val % 2) + n))
    (fun R n => if t.val / 2 % 2 = 0 then 0 else prod (rows m c) (weight m c) (1024 * (t.val / 2) - 8 + R) (1024 * (t.val % 2) + n))
    (fun R n hR hn => rowDot_proj m c t (iblk m c 1 t) 1088 (blk1 m c t) R n hR hn) (fun R n hR hn => dots_prod m c t R n hR hn) (halo_at m c t)).trans ?_
  have hc : 256 * q.val + l.val < 1024 := by omega
  generalize 256 * q.val + l.val = n at hc ⊢
  rw [blk4 m c t 0 n (by norm_num) hc, blk4 m c t 1 n (by norm_num) hc, blk4 m c t 2 n (by norm_num) hc]
  beta_reduce
  unfold convOut
  have e1 : back1 (fun R => prod (rows m c) (weight m c) (1024 * (t.val / 2) + R) (1024 * (t.val % 2) + n))
      (fun R => if t.val / 2 % 2 = 0 then 0 else prod (rows m c) (weight m c) (1024 * (t.val / 2) - 8 + R) (1024 * (t.val % 2) + n)) r.val
      = before (rows m c) (weight m c) 1 (1024 * (t.val / 2) + r.val) (1024 * (t.val % 2) + n) := by
    unfold back1 before
    beta_reduce
    by_cases h0 : r.val = 0
    · rw [if_pos h0]
      by_cases h : t.val / 2 % 2 = 0
      · rw [if_pos h, if_pos (by omega)]
      · rw [if_neg h, if_neg (by omega)]
        exact congrArg (fun R => prod (rows m c) (weight m c) R (1024 * (t.val % 2) + n)) (by omega)
    · rw [if_neg h0, if_neg (by omega)]
      exact congrArg (fun R => prod (rows m c) (weight m c) R (1024 * (t.val % 2) + n)) (by omega)
  have e2 : back2 (fun R => prod (rows m c) (weight m c) (1024 * (t.val / 2) + R) (1024 * (t.val % 2) + n))
      (fun R => if t.val / 2 % 2 = 0 then 0 else prod (rows m c) (weight m c) (1024 * (t.val / 2) - 8 + R) (1024 * (t.val % 2) + n)) r.val
      = before (rows m c) (weight m c) 2 (1024 * (t.val / 2) + r.val) (1024 * (t.val % 2) + n) := by
    unfold back2 before
    beta_reduce
    by_cases h0 : r.val = 0
    · rw [if_pos h0]
      by_cases h : t.val / 2 % 2 = 0
      · rw [if_pos h, if_pos (by omega)]
      · rw [if_neg h, if_neg (by omega)]
        exact congrArg (fun R => prod (rows m c) (weight m c) R (1024 * (t.val % 2) + n)) (by omega)
    · rw [if_neg h0]
      by_cases h1 : r.val = 1
      · rw [if_pos h1]
        by_cases h : t.val / 2 % 2 = 0
        · rw [if_pos h, if_pos (by omega)]
        · rw [if_neg h, if_neg (by omega)]
          exact congrArg (fun R => prod (rows m c) (weight m c) R (1024 * (t.val % 2) + n)) (by omega)
      · rw [if_neg h1, if_neg (by omega)]
        exact congrArg (fun R => prod (rows m c) (weight m c) R (1024 * (t.val % 2) + n)) (by omega)
  rw [e1, e2]

/-- The array after the run. -/
theorem final5 : (dats m 0 c).arrAt 5 cfg0.N
    = fun y : S8192x2048.Idx => convOut (rows m c) (weight m c) (taps m c) (y 0).val (y 1).val := by
  refine (dats m 0 c).arrAt_eq_of_covers 5 _ (by decide +kernel) fun t hf y => ?_
  blk_simp
  rw [after_5]
  refine (outAt_apply m c t y).trans ?_
  blk_simp [idx5]
  refine congrArg₂ (convOut (rows m c) (weight m c) (taps m c)) ?_ ?_
  · exact congrArg (· + (y 0).val) (Nat.mul_comm _ _)
  · exact congrArg (· + (y 1).val) (Nat.mul_comm _ _)

end Cert.Conv

end
-- ==== Proof.ConvRef.lean ====
/- The reference of the convolution call at an element. -/
module

public import proofs.«01_k».proof.Proof.Gen.Reference6Ideal.Read
public import proofs.«01_k».proof.Proof.ConvValue

@[expose] public section

noncomputable section

namespace Cert.Conv

open Idealize.ShloMosaic Cert.Attn Cert.Ffn
open Cert.Reference6Ideal Cert.Reference6Ideal.Gen Cert.Reference6Ideal.Read

variable (x0 : (⟨S4x2048x2048, .f32⟩ : BufTy).Contents (Elt Ideal)) (x1 : (⟨S1x2048x11328, .f32⟩ : BufTy).Contents (Elt Ideal))
  (x2 : (⟨S1x3x2048, .f32⟩ : BufTy).Contents (Elt Ideal))

/-- The rows that are projected, their batches and positions joined. -/
abbrev joined (R C : ℕ) : EReal := nat3 (a := 4) (b := 2048) (c := 2048) x0 (R / 2048) (R % 2048) C

/-- The input weight. -/
abbrev inW : ℕ → ℕ → EReal := nat3 (a := 1) (b := 2048) (c := 11328) x1 0

/-- The product with the input weight. -/
theorem ref_proj (i : S4x2048x11328.Idx) : val_main_v1 (F := Ideal) x0 x1 i
    = proj (joined x0) (inW x1) (2048 * (i 0).val + (i 1).val) (i 2).val := by
  have b1 : (i 1).val < 2048 := (i 1).isLt
  have b2 : (i 2).val < 11328 := (i 2).isLt
  have e1 : (2048 * (i 0).val + (i 1).val) / 2048 = (i 0).val := by omega
  have e2 : (2048 * (i 0).val + (i 1).val) % 2048 = (i 1).val := by omega
  unfold proj
  rw [val_main_v1_apply, ← Fin.sum_univ_eq_sum_range (fun k => joined x0 (2048 * (i 0).val + (i 1).val) k * inW x1 k (i 2).val) 2048]
  refine Finset.sum_congr rfl fun k _ => ?_
  unfold joined inW
  rw [e1, e2, val_main_v0_apply, nat3_of x0 _ _ _ (i 0).isLt (i 1).isLt k.isLt, nat3_of x1 _ _ _ (by norm_num) k.isLt b2]
  refine congrArg₂ (· * ·) (congrArg x0 ?_) (congrArg x1 ?_)
  · exact funext fun a => by match a with | ⟨0, _⟩ => rfl | ⟨1, _⟩ => rfl | ⟨2, _⟩ => rfl
  · exact funext fun a => by
      match a with
      | ⟨0, _⟩ => rfl
      | ⟨1, _⟩ => exact Fin.ext (by have hk := k.isLt; show (k.val * 11328 + (i 2).val) / 11328 % 2048 = k.val; omega)
      | ⟨2, _⟩ => exact Fin.ext (by show (k.val * 11328 + (i 2).val) % 11328 = (i 2).val; omega)

/-- The product of the second and the third projection. -/
theorem ref_prod (i : S4x2048x2048.Idx) : val_main_v8 (F := Ideal) x0 x1 i
    = prod (joined x0) (inW x1) (2048 * (i 0).val + (i 1).val) (i 2).val := by
  rw [val_main_v8_apply, val_main_v4_apply, val_main_v5_apply, ref_proj, ref_proj]
  rfl

/-- The padding value is zero. -/
theorem ref_pad (i : S_.Idx) : val_main_call0_v0 (F := Ideal) i = 0 := by
  rw [val_main_call0_v0_apply, val_main_c_apply]
  show (((0#32 : BitVec 32).toInt : ℝ) : EReal) = 0
  simp

/-- The padded products, read `d` positions back. -/
theorem ref_before (d : ℕ) (hd : d ≤ 2) (i : S4x2048x2048.Idx) (j : S4x2050x2048.Idx) (h0 : (j 0).val = (i 0).val) (h1 : (j 1).val + d = (i 1).val + 2)
    (h2 : (j 2).val = (i 2).val) : val_main_v10 (F := Ideal) x0 x1 j
    = before (joined x0) (inW x1) d (2048 * (i 0).val + (i 1).val) (i 2).val := by
  have b0 : (i 0).val < 4 := (i 0).isLt
  have b1 : (i 1).val < 2048 := (i 1).isLt
  unfold before val_main_v10
  by_cases h : (i 1).val < d
  · rw [if_pos (by omega)]
    refine (pad_apply_of_not_inside _ _ _ _ _ _ _ j (1 : Fin 3) fun hin => ?_).trans (ref_pad _)
    have hlo : 2 ≤ (j 1).val := hin.1
    omega
  · rw [if_neg (by omega)]
    refine (pad_apply_of_inside _ _ _ _ _ _ _ j (fun a => match a with
      | ⟨0, _⟩ => ⟨(i 0).val, (i 0).isLt⟩ | ⟨1, _⟩ => ⟨(i 1).val - d, by show (i 1).val - d < 2048; omega⟩ | ⟨2, _⟩ => ⟨(i 2).val, (i 2).isLt⟩ : S4x2048x2048.Idx)
      fun a => ?_).trans ((ref_prod x0 x1 _).trans ?_)
    · match a with
      | ⟨0, _⟩ => show (j 0).val = 0 + (i 0).val * (0 + 1); omega
      | ⟨1, _⟩ => show (j 1).val = 2 + ((i 1).val - d) * (0 + 1); omega
      | ⟨2, _⟩ => show (j 2).val = 0 + (i 2).val * (0 + 1); omega
    · show prod _ _ (2048 * (i 0).val + ((i 1).val - d)) (i 2).val = _
      exact congrArg (fun R => prod (joined x0) (inW x1) R (i 2).val) (by omega)

/-- The three taps. -/
theorem ref_tap0 (i : S4x2048x2048.Idx) : val_main_v15 (F := Ideal) x2 i = nat3 (a := 1) (b := 3) (c := 2048) x2 0 0 (i 2).val := by
  have b2 : (i 2).val < 2048 := (i 2).isLt
  rw [val_main_v15_apply, val_main_v14_apply, val_main_v13_apply, val_main_v12_apply, val_main_v9_apply, nat3_of x2 _ _ _ (by norm_num) (by norm_num) b2]
  refine congrArg x2 (funext fun a => ?_)
  match a with
  | ⟨0, _⟩ => rfl
  | ⟨1, _⟩ => exact Fin.ext (by show (0 * 2048 + (i 2).val % 2048) / 2048 % 3 = 0; omega)
  | ⟨2, _⟩ => exact Fin.ext (by show (0 * 2048 + (i 2).val % 2048) % 2048 = (i 2).val; omega)

theorem ref_tap1 (i : S4x2048x2048.Idx) : val_main_v21 (F := Ideal) x2 i = nat3 (a := 1) (b := 3) (c := 2048) x2 0 1 (i 2).val := by
  have b2 : (i 2).val < 2048 := (i 2).isLt
  rw [val_main_v21_apply, val_main_v20_apply, val_main_v19_apply, val_main_v18_apply, val_main_v9_apply, nat3_of x2 _ _ _ (by norm_num) (by norm_num) b2]
  refine congrArg x2 (funext fun a => ?_)
  match a with
  | ⟨0, _⟩ => rfl
  | ⟨1, _⟩ => exact Fin.ext (by show ((1 + 0) * 2048 + (i 2).val % 2048) / 2048 % 3 = 1; omega)
  | ⟨2, _⟩ => exact Fin.ext (by show ((1 + 0) * 2048 + (i 2).val % 2048) % 2048 = (i 2).val; omega)

theorem ref_tap2 (i : S4x2048x2048.Idx) : val_main_v28 (F := Ideal) x2 i = nat3 (a := 1) (b := 3) (c := 2048) x2 0 2 (i 2).val := by
  have b2 : (i 2).val < 2048 := (i 2).isLt
  rw [val_main_v28_apply, val_main_v27_apply, val_main_v26_apply, val_main_v25_apply, val_main_v9_apply, nat3_of x2 _ _ _ (by norm_num) (by norm_num) b2]
  refine congrArg x2 (funext fun a => ?_)
  match a with
  | ⟨0, _⟩ => rfl
  | ⟨1, _⟩ => exact Fin.ext (by show ((2 + 0) * 2048 + (i 2).val % 2048) / 2048 % 3 = 2; omega)
  | ⟨2, _⟩ => exact Fin.ext (by show ((2 + 0) * 2048 + (i 2).val % 2048) % 2048 = (i 2).val; omega)

/-- The reference of a batch, a position and a column. -/
theorem ref_mid (i : S4x2048x2048.Idx) : val_main_v31 (F := Ideal) x0 x1 x2 i
    = convOut (joined x0) (inW x1) (nat3 (a := 1) (b := 3) (c := 2048) x2 0) (2048 * (i 0).val + (i 1).val) (i 2).val := by
  have p2 : val_main_v11 (F := Ideal) x0 x1 i = before (joined x0) (inW x1) 2 (2048 * (i 0).val + (i 1).val) (i 2).val :=
    (val_main_v11_apply x0 x1 i).trans (ref_before x0 x1 2 le_rfl i _ rfl rfl rfl)
  have p1 : val_main_v17 (F := Ideal) x0 x1 i = before (joined x0) (inW x1) 1 (2048 * (i 0).val + (i 1).val) (i 2).val :=
    (val_main_v17_apply x0 x1 i).trans (ref_before x0 x1 1 (by norm_num) i _ rfl (by show 1 + (i 1).val + 1 = (i 1).val + 2; omega) rfl)
  have p0 : val_main_v24 (F := Ideal) x0 x1 i = prod (joined x0) (inW x1) (2048 * (i 0).val + (i 1).val) (i 2).val :=
    (val_main_v24_apply x0 x1 i).trans ((ref_before x0 x1 0 (by norm_num) i _ rfl (by show 2 + (i 1).val + 0 = (i 1).val + 2; omega) rfl).trans
      (if_neg (Nat.not_lt_zero _)))
  rw [val_main_v31_apply, val_main_v3_apply, ref_proj, val_main_v30_apply, val_main_v23_apply, val_main_v16_apply, val_main_v22_apply, val_main_v29_apply,
    p2, p1, p0, ref_tap0, ref_tap1, ref_tap2]
  unfold convOut
  rw [mul_comm (nat3 x2 0 0 _), mul_comm (nat3 x2 0 1 _), mul_comm (nat3 x2 0 2 _)]
  rfl

/-- The reference at an element. -/
theorem ref_conv (y : S8192x2048.Idx) : val_main_v33 (F := Ideal) x0 x1 x2 y
    = convOut (joined x0) (inW x1) (nat3 (a := 1) (b := 3) (c := 2048) x2 0) (y 0).val (y 1).val := by
  have b0 : (y 0).val < 8192 := (y 0).isLt
  have b1 : (y 1).val < 2048 := (y 1).isLt
  rw [val_main_v33_apply, val_main_v32_apply]
  refine (ref_mid x0 x1 x2 (idx_main_v32 y)).trans ?_
  have i0 : (idx_main_v32 y 0).val = (y 0).val / 2048 := by
    show ((y 0).val * 2048 + (y 1).val) / 4194304 = _; omega
  have i1 : (idx_main_v32 y 1).val = (y 0).val % 2048 := by
    show ((y 0).val * 2048 + (y 1).val) / 2048 % 2048 = _; omega
  have i2 : (idx_main_v32 y 2).val = (y 1).val := by
    show ((y 0).val * 2048 + (y 1).val) % 2048 = _; omega
  rw [i0, i1, i2, Nat.div_add_mod]

end Cert.Conv

end
-- ==== Proof.ConvClaims.lean ====
/- The claims about the convolution call: its frames, its reference's, its idealization, and the equality over the
   extended reals. -/
module

public import proofs.«01_k».proof.Defs
public import proofs.«01_k».proof.Proof.Gen.Kernel6
public import proofs.«01_k».proof.Proof.Gen.Reference6Ideal.Run
public import proofs.«01_k».proof.Proof.ConvValue
public import proofs.«01_k».proof.Proof.ConvRef
public import Idealize.ShloMosaic.Adequacy
public import Idealize.ShloMosaic.Init
public import Idealize.ShloMosaic.Lib.Quiescent

@[expose] public section

noncomputable section

namespace Cert.Conv

open Idealize.ShloMosaic Idealize.ShloMosaic.TcCoe Idealize.SL.Sem

/-- The body of the program on bits is the idealized program's, read on bits. -/
theorem body_text : Cert.Kernel6.cc0_conv_branch (F := Bits) = Cert.Kernel6Ideal.cc0_conv_branch (F := Bits) := rfl

/-- So are the body tables. -/
theorem table_text : Cert.Kernel6.defs₀ (F := Bits) = Cert.Kernel6Ideal.defs₀ (F := Bits) := by
  refine congrArg Defs.onTc (funext fun l => funext fun a => ?_)
  match l, a with
  | ⟨0, _⟩, (t, s) =>
    exact congrFun (congrFun (congrFun (congrFun (congrFun (congrFun (congrFun (congrFun (congrFun (congrFun (congrFun (congrFun
      (congrFun (congrFun (congrFun body_text _) _) _) _) _) _) _) _) _) _) _) _) _) _) _

theorem defs_text : Cert.Kernel6.defs (F := Bits) = Cert.Kernel6Ideal.defs (F := Bits) :=
  congrArg (Pipeline.defs _) table_text

/-- The kernel runs on bits, leaves its arguments and its semaphores as they were: its text is the idealized program's. -/
theorem frame_kernel : Cert.quiescent_Kernel6 (hKernel6 := Cert.Kernel6.Gen.facts) := fun m ρ _ => by
  rw [defs_text]
  exact run_frame (F := Bits) m ρ

/-- The same over the extended reals. -/
theorem frame_ideal : Cert.quiescent_Kernel6Ideal (hKernel6Ideal := Cert.Kernel6Ideal.Gen.facts) :=
  fun m ρ _ => run_frame (F := Ideal) m ρ

/-- The reference runs, leaves its arguments and its semaphores as they were. -/
theorem frame_reference : Cert.quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- No operation is rewritten. -/
theorem preserves_text : Cert.preserves_Kernel6_Kernel6Ideal := trivial

section Run

open Cert.Kernel6Ideal Cert.Kernel6Ideal.Gen

/-- The run, with the output array named and the arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 5, h.2.1 c⟩) (θ_run_and (run_arrays m ρ) (run_frame m ρ))

/-- The array the kernel leaves is the reference's. -/
theorem result (m : (ℓ : Loc nD τ sig) → Buf (Elt Ideal) ℓ) (c : Dev nD) :
    Cert.Reference6Ideal.Read.val_main_v33 (F := Ideal) (m ((c : Thread nD τ).loc main_arg0)) (m ((c : Thread nD τ).loc main_arg1))
      (m ((c : Thread nD τ).loc main_arg2)) = (dats m 0 c).arrAt 5 cfg0.N :=
  (funext fun y => ref_conv _ _ _ y).trans (final5 m c).symm

end Run

/-- The result agrees, element by element, with the reference's. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => (dats m 0 c).arrAt 5 Cert.Kernel6Ideal.cfg0.N, run_named m g, ?_⟩
  refine (θ_run Cert.Reference6Ideal.defs _ _).mono (fun r h c => ?_) (Cert.Reference6Ideal.Value.run (F := Ideal) m' g')
  obtain ⟨r0, rest⟩ := h c
  obtain ⟨a0, a1, a2⟩ := hargs c
  refine ⟨?_, rest⟩
  refine (r0.trans (Cert.Reference6Ideal.Read.val_main_v33_eq _ _ _)).trans (Eq.trans ?_ (result m c))
  rw [a0, a1, a2]

end Cert.Conv

end
-- ==== Proof.LatentOut.lean ====
/- One grid point of the latent projections' call at an element: the modulated rows, the two normalised projections, and the
   projection with the rope columns, over what the two scratch blocks hold. -/
module

public import proofs.«01_k».proof.Proof.Gen.Kernel7Ideal.Value
public import proofs.«01_k».proof.Proof.FfnOutB
public import proofs.«01_k».proof.Proof.GatesOut

@[expose] public section

noncomputable section

namespace Cert.Latent

open Idealize.ShloMosaic Idealize.ShloMosaic.ValueIdx Idealize.ShloMosaic.TcCoe Idealize.SL.Sem
open Cert.Kernel7Ideal Cert.Kernel7Ideal.Gen Cert.Attn Cert.Ffn

/-- A row of 512 over its root mean square, times a gain. -/
def rms (p g : ℕ → EReal) (n : ℕ) : EReal :=
  p n * Ideal.rsqrt (Ideal.div (∑ k ∈ Finset.range 512, p k * p k) (Ideal.ofBits .f32 0x44000000#32) + Ideal.ofBits .f32 0x358637BD#32) * g n

theorem rms_congr (p p' g g' : ℕ → EReal) (hp : ∀ k < 512, p k = p' k) (n : ℕ) (hn : n < 512) (hg : g n = g' n) : rms p g n = rms p' g' n := by
  unfold rms
  rw [hp n hn, hg, Finset.sum_congr rfl fun k hk => by rw [hp k (Finset.mem_range.mp hk)]]

/-- Row sums of a matrix, kept as one column, read at a row. -/
theorem rowSumOf {n w : ℕ} (x : FVec Ideal (Sh n w) .f32) (hr : (Sh n w).Reduces [1] ⟨1, ![n]⟩)
    (hc : (⟨1, ![n]⟩ : Shape).ShapeCasts (Sh n 1)) (hφ : FKind.Formats .f32) (hacc) (r : Fin n) (u : Fin 1) :
    shapeCast (Sh n 1) (multiReduction .add [1] ⟨1, ![n]⟩ x 0x00000000#32 hr hφ hacc) hc (ix2 r u)
      = ∑ k ∈ Finset.range w, nat2 x r.val k := by
  rw [shapeCast_a_a1_apply, Ideal.multiReduction_add_single, ← Fin.sum_univ_eq_sum_range (fun k => nat2 x r.val k) w]
  refine Finset.sum_congr rfl fun k _ => ?_
  show x (hr.lift (ix1 r) k) = nat2 x r.val k.val
  rw [nat2_of x r.val k.val r.isLt k.isLt]
  refine congrArg x (funext fun a => ?_)
  match a with
  | ⟨0, _⟩ => rfl
  | ⟨1, _⟩ => rfl

/-- The column of reciprocal root mean squares. -/
def rootCol (p : FVec Ideal S1024x512 .f32) : FVec Ideal S1024x1 .f32 :=
  rsqrt (addf (divf (shapeCast S1024x1 (multiReduction .add [1] S1024 (mulf p p) 0x00000000#32 reduces_S1024x512_S1024 (.inl rfl) rfl) shapeCasts_S1024_S1024x1)
    (broadcast S1024x1 (Scalar.ofBits .f32 0x44000000#32))) (broadcast S1024x1 (Scalar.ofBits .f32 0x358637BD#32)))

theorem rootCol_apply (p : FVec Ideal S1024x512 .f32) (r : Fin 1024) (u : Fin 1) :
    rootCol p (ix2 r u) = Ideal.rsqrt (Ideal.div (∑ k ∈ Finset.range 512, nat2 p r.val k * nat2 p r.val k) (Ideal.ofBits .f32 0x44000000#32)
      + Ideal.ofBits .f32 0x358637BD#32) := by
  have e : ∑ k ∈ Finset.range 512, nat2 p r.val k * nat2 p r.val k = ∑ k ∈ Finset.range 512, nat2 (mulf p p) r.val k :=
    Finset.sum_congr rfl fun k hk => by
      have hk' := Finset.mem_range.mp hk
      rw [nat2_of p r.val k r.isLt hk', nat2_of _ r.val k r.isLt hk']
      rfl
  rw [e, ← rowSumOf (mulf p p) reduces_S1024x512_S1024 shapeCasts_S1024_S1024x1 (.inl rfl) rfl r u]
  rfl

/-- A block of rows over their root mean squares, times the gain. -/
def rmsBlock (p : FVec Ideal S1024x512 .f32) (g : Vec Ideal S1x512 .f32) : FVec Ideal S1024x512 .f32 :=
  mulf (mulf p (broadcastTo S1024x512 (rootCol p) broadcasts_S1024x1_S1024x512)) (broadcastTo S1024x512 g broadcasts_S1x512_S1024x512)

theorem rmsBlock_apply (p : FVec Ideal S1024x512 .f32) (g : Vec Ideal S1x512 .f32) (r : Fin 1024) (n : Fin 512) :
    rmsBlock p g (ix2 r n) = rms (nat2 p r.val) (nat2 g 0) n.val := by
  show p (ix2 r n) * broadcastTo (Sh 1024 512) (rootCol p) _ (ix2 r n) * broadcastTo (Sh 1024 512) g _ (ix2 r n) = _
  rw [broadcastTo_a1_ab_apply, broadcastTo_1b_ab_apply, rootCol_apply]
  unfold rms
  rw [nat2_of p r.val n.val r.isLt n.isLt, nat2_of g 0 n.val (by decide) n.isLt]
  rfl

/-- The modulated rows of a point: one plus the scale, times the row, plus the shift. -/
def modB (q : ℕ) (x0 : Vec Ideal S1024x2048 .f32) (x1 x2 : Vec Ideal S8x2048 .f32) (r k : ℕ) : EReal :=
  nat2 x0 r k * (1 + nat2 x2 q k) + nat2 x1 q k

theorem pay10_apply (x : Vec Ideal S1024x2048 .f32) (sc sh : Vec Ideal S1x2048 .f32) (r : Fin 1024) (k : Fin 2048) :
    k0_pay10 (F := Ideal) (k0_pay8 x) (k0_pay9 sc) sh (ix2 r k) = x (ix2 r k) * (1 + sc (ix2 (0 : Fin 1) k)) + sh (ix2 (0 : Fin 1) k) := by
  unfold k0_pay10 k0_pay8 k0_pay9
  rw [shapeCast_same (φ := .f32), shapeCast_same (φ := .f32), shapeCast_same (φ := .f32)]
  show x (ix2 r k) * broadcastTo (Sh 1024 2048) (addf (F := Ideal) (s := S1x2048) (φ := .f32) (broadcast S1x2048 (Scalar.ofBits .f32 0x3F800000#32)) sc) _ (ix2 r k)
    + broadcastTo (Sh 1024 2048) sh _ (ix2 r k) = _
  rw [broadcastTo_1b_ab_apply, broadcastTo_1b_ab_apply]
  show x (ix2 r k) * (Ideal.ofBits .f32 0x3F800000#32 + _) + _ = _
  rw [ofBits_one]

/-- The modulated rows as a block. -/
abbrev modBlock (off : Fin 2 → ℕ) (i1 i2 : ∀ a, off a + S1x2048.size a ≤ S8x2048.size a) (x0 : Vec Ideal S1024x2048 .f32) (x1 x2 : Vec Ideal S8x2048 .f32) : FVec Ideal S1024x2048 .bf16 :=
  k0_pay10 (F := Ideal) (k0_pay8 x0) (k0_pay9 (View.ld x2 (Rect.unit (s := S8x2048) off S1x2048.size i2)))
    (View.ld x1 (Rect.unit (s := S8x2048) off S1x2048.size i1))

theorem modBlock_apply (off : Fin 2 → ℕ) (q : ℕ) (hq : off = ![q, 0]) (i1 i2 : ∀ a, off a + S1x2048.size a ≤ S8x2048.size a) (x0 : Vec Ideal S1024x2048 .f32) (x1 x2 : Vec Ideal S8x2048 .f32)
    (r : Fin 1024) (k : Fin 2048) : modBlock off i1 i2 x0 x1 x2 (ix2 r k) = modB q x0 x1 x2 r.val k.val := by
  refine (pay10_apply _ _ _ r k).trans ?_
  have e1 := ldf_unit_nat2 (a' := 1) (b' := 2048) x1 off q 0 hq i1 (0 : Fin 1) k
  have e2 := ldf_unit_nat2 (a' := 1) (b' := 2048) x2 off q 0 hq i2 (0 : Fin 1) k
  rw [Nat.zero_add] at e1 e2
  unfold modB
  rw [nat2_of x0 r.val k.val r.isLt k.isLt]
  exact congrArg₂ (fun a b : EReal => x0 (ix2 r k) * (1 + a) + b) e2 e1

/-- A modulated row times a row of the weight. -/
abbrev projB (q : ℕ) (x0 : Vec Ideal S1024x2048 .f32) (x1 x2 : Vec Ideal S8x2048 .f32) (w : ℕ → ℕ → EReal) (r j : ℕ) : EReal :=
  ∑ l ∈ Finset.range 2048, modB q x0 x1 x2 r l * w j l

section Blocks

variable (off : Fin 2 → ℕ) (q : ℕ) (hq : off = ![q, 0]) (i1 : ∀ a, off a + S1x2048.size a ≤ S8x2048.size a)
  (i2 : ∀ a, off a + S1x2048.size a ≤ S8x2048.size a) (x0 : Vec Ideal S1024x2048 .f32) (x1 x2 : Vec Ideal S8x2048 .f32)

include hq

theorem modBlock_row (r k : ℕ) (hr : r < 1024) (hk : k < 2048) : nat2 (a := 1024) (b := 2048) (modBlock off i1 i2 x0 x1 x2) r k = modB q x0 x1 x2 r k := by
  rw [nat2_of _ r k hr hk]
  exact modBlock_apply off q hq i1 i2 x0 x1 x2 ⟨r, hr⟩ ⟨k, hk⟩

/-- The product with the weight's first 1024 rows. -/
theorem pay11_apply (s : Vec Ideal S1024x2048 .bf16) (r c : Fin 1024) :
    k0_pay11 (F := Ideal) (k0_pay8 x0) (k0_pay9 (View.ld x2 (Rect.unit (s := S8x2048) off S1x2048.size i2)))
        (View.ld x1 (Rect.unit (s := S8x2048) off S1x2048.size i1)) s (ix2 r c)
      = projB q x0 x1 x2 (nat2 s) r.val c.val := by
  refine (Cert.Gates.matmul_rows_zero (m := 1024) (k := 2048) (n := 1024) (φ := .bf16) (modBlock off i1 i2 x0 x1 x2) s r c).trans ?_
  refine Finset.sum_congr rfl fun l hl => ?_
  rw [modBlock_row off q hq i1 i2 x0 x1 x2 r.val l r.isLt (Finset.mem_range.mp hl)]

/-- The product with the rope rows. -/
theorem pay2_apply (s : Vec Ideal S256x2048 .bf16) (r : Fin 1024) (c : Fin 256) :
    k0_pay2 (F := Ideal) (modBlock off i1 i2 x0 x1 x2) s (ix2 r c) = projB q x0 x1 x2 (nat2 s) r.val c.val := by
  refine (Cert.Gates.matmul_rows_zero (m := 1024) (k := 2048) (n := 256) (φ := .bf16) (modBlock off i1 i2 x0 x1 x2) s r c).trans ?_
  refine Finset.sum_congr rfl fun l hl => ?_
  rw [modBlock_row off q hq i1 i2 x0 x1 x2 r.val l r.isLt (Finset.mem_range.mp hl)]

/-- The columns from `o` on of the product. -/
theorem slice_row (o : ℕ) (ho : o + 512 ≤ 1024) (hs : S1024x1024.Slices ![0, o] S1024x512) (s : Vec Ideal S1024x2048 .bf16) (r k : ℕ) (hr : r < 1024) (hk : k < 512) :
    nat2 (a := 1024) (b := 512) (extractStridedSlice S1024x512 ![0, o] (k0_pay11 (F := Ideal) (k0_pay8 x0)
        (k0_pay9 (View.ld x2 (Rect.unit (s := S8x2048) off S1x2048.size i2))) (View.ld x1 (Rect.unit (s := S8x2048) off S1x2048.size i1)) s) hs) r k
      = projB q x0 x1 x2 (nat2 s) r (o + k) := by
  rw [nat2_of _ r k hr hk]
  refine (extractStridedSlice_apply ![0, o] _ hs (ix2 (⟨r, hr⟩ : Fin 1024) (⟨k, hk⟩ : Fin 512))
    (ix2 (⟨r, hr⟩ : Fin 1024) (⟨o + k, by omega⟩ : Fin 1024)) (fun a => ?_)).trans ?_
  · match a with
    | ⟨0, _⟩ => exact (Nat.zero_add _).symm
    | ⟨1, _⟩ => rfl
  · exact pay11_apply off q hq i1 i2 x0 x1 x2 s ⟨r, hr⟩ ⟨o + k, by omega⟩

/-- The first normalised projection. -/
theorem pay12_apply (s : Vec Ideal S1024x2048 .bf16) (g : Vec Ideal S1x512 .f32) (r : Fin 1024) (n : Fin 512) :
    k0_pay12 (F := Ideal) (k0_pay8 x0) (k0_pay9 (View.ld x2 (Rect.unit (s := S8x2048) off S1x2048.size i2)))
        (View.ld x1 (Rect.unit (s := S8x2048) off S1x2048.size i1)) s g (ix2 r n)
      = rms (fun j => projB q x0 x1 x2 (nat2 s) r.val j) (nat2 g 0) n.val := by
  have e : k0_pay12 (F := Ideal) (k0_pay8 x0) (k0_pay9 (View.ld x2 (Rect.unit (s := S8x2048) off S1x2048.size i2)))
        (View.ld x1 (Rect.unit (s := S8x2048) off S1x2048.size i1)) s g
      = (rmsBlock (extractStridedSlice S1024x512 ![0, 0] (k0_pay11 (F := Ideal) (k0_pay8 x0)
        (k0_pay9 (View.ld x2 (Rect.unit (s := S8x2048) off S1x2048.size i2))) (View.ld x1 (Rect.unit (s := S8x2048) off S1x2048.size i1)) s)
          slices_S1024x1024_o0_0_S1024x512) g : S1024x512.Idx → EReal) := by
    unfold k0_pay12
    rw [shapeCast_same (φ := .f32)]
    rfl
  rw [e, rmsBlock_apply]
  refine rms_congr _ _ _ _ (fun k hk => ?_) n.val n.isLt rfl
  rw [slice_row off q hq i1 i2 x0 x1 x2 0 (by norm_num) slices_S1024x1024_o0_0_S1024x512 s r.val k r.isLt hk, Nat.zero_add]

/-- The second normalised projection. -/
theorem pay1_apply (s : Vec Ideal S1024x2048 .bf16) (g : Vec Ideal S1x512 .f32) (r : Fin 1024) (n : Fin 512) :
    k0_pay1 (F := Ideal) (k0_pay13 (k0_pay8 x0) (k0_pay9 (View.ld x2 (Rect.unit (s := S8x2048) off S1x2048.size i2)))
        (View.ld x1 (Rect.unit (s := S8x2048) off S1x2048.size i1)) s) (k0_pay14 g)
        (k0_pay15 (k0_pay8 x0) (k0_pay9 (View.ld x2 (Rect.unit (s := S8x2048) off S1x2048.size i2)))
          (View.ld x1 (Rect.unit (s := S8x2048) off S1x2048.size i1)) s) k0_pay16 (ix2 r n)
      = rms (fun j => projB q x0 x1 x2 (nat2 s) r.val (512 + j)) (nat2 g 0) n.val := by
  have e : k0_pay1 (F := Ideal) (k0_pay13 (k0_pay8 x0) (k0_pay9 (View.ld x2 (Rect.unit (s := S8x2048) off S1x2048.size i2)))
        (View.ld x1 (Rect.unit (s := S8x2048) off S1x2048.size i1)) s) (k0_pay14 g)
        (k0_pay15 (k0_pay8 x0) (k0_pay9 (View.ld x2 (Rect.unit (s := S8x2048) off S1x2048.size i2)))
          (View.ld x1 (Rect.unit (s := S8x2048) off S1x2048.size i1)) s) k0_pay16
      = (rmsBlock (extractStridedSlice S1024x512 ![0, 512] (k0_pay11 (F := Ideal) (k0_pay8 x0)
        (k0_pay9 (View.ld x2 (Rect.unit (s := S8x2048) off S1x2048.size i2))) (View.ld x1 (Rect.unit (s := S8x2048) off S1x2048.size i1)) s)
          slices_S1024x1024_o0_512_S1024x512) g : S1024x512.Idx → EReal) := by
    unfold k0_pay1 k0_pay14
    rw [shapeCast_same (φ := .f32)]
    rfl
  rw [e, rmsBlock_apply]
  refine rms_congr _ _ _ _ (fun k hk => ?_) n.val n.isLt rfl
  rw [slice_row off q hq i1 i2 x0 x1 x2 512 (by norm_num) slices_S1024x1024_o0_512_S1024x512 s r.val k r.isLt hk]

end Blocks

/-- What the first point leaves in the first scratch: the weight's first 1024 rows. -/
abbrev keyW (x3 : Vec Ideal S1088x2048 .f32) : Vec Ideal S1024x2048 .bf16 :=
  k0_pay3 (View.ld x3 (Rect.unit (s := S1088x2048) ![0, 0] S1024x2048.size inb_S1088x2048_S1024x2048_0_0))

theorem keyW_row (x3 : Vec Ideal S1088x2048 .f32) (r k : ℕ) (hr : r < 1024) (hk : k < 2048) : nat2 (a := 1024) (b := 2048) (keyW x3) r k = nat2 x3 r k := by
  rw [nat2_of _ r k hr hk]
  unfold keyW k0_pay3
  rw [shapeCast_same (φ := .bf16), shapeCast_same (φ := .f32)]
  refine (ldf_unit_nat2 (a := 1088) (b := 2048) (a' := 1024) (b' := 2048) x3 ![0, 0] 0 0 rfl inb_S1088x2048_S1024x2048_0_0 ⟨r, hr⟩ ⟨k, hk⟩).trans ?_
  rw [Nat.zero_add, Nat.zero_add]

/-- The rope rows: 64 rows as they are, and after 64 zero rows their second half negated and their first half. -/
def ropeRow (w : ℕ → ℕ → EReal) (r k : ℕ) : EReal :=
  if r < 64 then w (1024 + r) k
  else if r < 128 then 0
  else if r < 160 then 0 - w (1056 + (r - 128)) k
  else if r < 192 then w (1024 + (r - 160)) k
  else 0

/-- The pieces the first point stores into the second scratch, the last stored first. -/
abbrev ropeW (x3 : Vec Ideal S1088x2048 .f32) : List (View.Piece (Elt Ideal) S256x2048 .bf16) :=
  [⟨Rect.unit ![160, 0] S32x2048.size inb_S256x2048_S32x2048_160_0, k0_pay7 (F := Ideal) (View.ld x3 (Rect.unit (s := S1088x2048) ![1024, 0] S32x2048.size inb_S1088x2048_S32x2048_1024_0))⟩,
    ⟨Rect.unit ![128, 0] S32x2048.size inb_S256x2048_S32x2048_128_0, k0_pay6 (F := Ideal) (View.ld x3 (Rect.unit (s := S1088x2048) ![1056, 0] S32x2048.size inb_S1088x2048_S32x2048_1056_0))⟩,
    ⟨Rect.unit ![0, 0] S64x2048.size inb_S256x2048_S64x2048_0_0, k0_pay5 (F := Ideal) (View.ld x3 (Rect.unit (s := S1088x2048) ![1024, 0] S64x2048.size inb_S1088x2048_S64x2048_1024_0))⟩,
    ⟨Rect.unit ![0, 0] S256x2048.size inb_S256x2048_S256x2048_0_0, k0_pay4 (F := Ideal)⟩]

/-- A row inside a piece of `n` rows from row `o` on reads the piece. -/
theorem canon_row_in (n o : ℕ) (inb) (p : Vec Ideal (Sh n 2048) .bf16) (L : List (View.Piece (Elt Ideal) S256x2048 .bf16)) (r k : ℕ)
    (hr : r < 256) (hk : k < 2048) (h0 : o ≤ r) (h1 : r - o < n) :
    View.canon ((⟨Rect.unit ![o, 0] (Sh n 2048).size inb, p⟩ : View.Piece (Elt Ideal) S256x2048 .bf16) :: L) (ix2 ⟨r, hr⟩ ⟨k, hk⟩)
      = p (ix2 ⟨r - o, h1⟩ ⟨k, hk⟩) := by
  have e : (ix2 ⟨r, hr⟩ ⟨k, hk⟩ : S256x2048.Idx) = (Rect.unit (s := S256x2048) ![o, 0] (Sh n 2048).size inb).emb (ix2 ⟨r - o, h1⟩ ⟨k, hk⟩) := by
    funext ax
    refine Fin.ext ?_
    match ax with
    | ⟨0, _⟩ => exact ((ValueKit.rect_emb_unit_val _ _ _ _ _).trans (by show o + (r - o) = r; omega)).symm
    | ⟨1, _⟩ => exact ((ValueKit.rect_emb_unit_val _ _ _ _ _).trans (by show 0 + k = k; omega)).symm
  rw [e, View.canon_cons_emb]

/-- A row outside it reads what is under it. -/
theorem canon_row_out (n o : ℕ) (inb) (p : Vec Ideal (Sh n 2048) .bf16) (L : List (View.Piece (Elt Ideal) S256x2048 .bf16)) (r k : ℕ)
    (hr : r < 256) (hk : k < 2048) (h : r < o ∨ o + n ≤ r) :
    View.canon ((⟨Rect.unit ![o, 0] (Sh n 2048).size inb, p⟩ : View.Piece (Elt Ideal) S256x2048 .bf16) :: L) (ix2 ⟨r, hr⟩ ⟨k, hk⟩)
      = View.canon L (ix2 ⟨r, hr⟩ ⟨k, hk⟩) := by
  refine View.canon_cons_of_not_mem _ _ fun hm => ?_
  have h0 := (Rect.mem_set_unit (s := S256x2048) (inb := inb)).mp hm 0
  have h1 : o ≤ r ∧ r < o + n := h0
  omega

/-- The second scratch after the first point. -/
theorem ropeW_row (x3 : Vec Ideal S1088x2048 .f32) (r k : ℕ) (hr : r < 256) (hk : k < 2048) :
    nat2 (a := 256) (b := 2048) (View.canon (ropeW x3)) r k = ropeRow (nat2 x3) r k := by
  rw [nat2_of _ r k hr hk]
  have z4 : ∀ y, k0_pay4 (F := Ideal) y = (0 : EReal) := fun y => by
    show Ideal.ofBits .bf16 0x0000#16 = 0
    simp [Ideal.ofBits, Ideal.ieee]
  unfold ropeRow ropeW
  by_cases c0 : r < 64
  · rw [if_pos c0, canon_row_out 32 160 _ _ _ r k hr hk (by omega), canon_row_out 32 128 _ _ _ r k hr hk (by omega),
      canon_row_in 64 0 _ _ _ r k hr hk (by omega) (by omega)]
    unfold k0_pay5
    rw [shapeCast_same (φ := .bf16), shapeCast_same (φ := .f32)]
    refine (ldf_unit_nat2 (a := 1088) (b := 2048) (a' := 64) (b' := 2048) x3 ![1024, 0] 1024 0 rfl inb_S1088x2048_S64x2048_1024_0 ⟨r - 0, by omega⟩ ⟨k, hk⟩).trans ?_
    rw [Nat.zero_add]
    rfl
  rw [if_neg c0]
  by_cases c1 : r < 128
  · rw [if_pos c1, canon_row_out 32 160 _ _ _ r k hr hk (by omega), canon_row_out 32 128 _ _ _ r k hr hk (by omega),
      canon_row_out 64 0 _ _ _ r k hr hk (by omega), canon_row_in 256 0 _ _ _ r k hr hk (by omega) (by omega)]
    exact z4 _
  rw [if_neg c1]
  by_cases c2 : r < 160
  · rw [if_pos c2, canon_row_out 32 160 _ _ _ r k hr hk (by omega), canon_row_in 32 128 _ _ _ r k hr hk (by omega) (by omega)]
    unfold k0_pay6
    rw [shapeCast_same (φ := .bf16), shapeCast_same (φ := .f32)]
    show Ideal.ofBits .f32 0x00000000#32 - View.ld x3 (Rect.unit (s := S1088x2048) ![1056, 0] S32x2048.size inb_S1088x2048_S32x2048_1056_0) (ix2 (⟨r - 128, by omega⟩ : Fin 32) (⟨k, hk⟩ : Fin 2048)) = _
    rw [ofBits_zero]
    refine congrArg (0 - ·) ((ldf_unit_nat2 (a := 1088) (b := 2048) (a' := 32) (b' := 2048) x3 ![1056, 0] 1056 0 rfl inb_S1088x2048_S32x2048_1056_0 ⟨r - 128, by omega⟩ ⟨k, hk⟩).trans ?_)
    rw [Nat.zero_add]
  rw [if_neg c2]
  by_cases c3 : r < 192
  · rw [if_pos c3, canon_row_in 32 160 _ _ _ r k hr hk (by omega) (by omega)]
    unfold k0_pay7
    rw [shapeCast_same (φ := .bf16), shapeCast_same (φ := .f32)]
    refine (ldf_unit_nat2 (a := 1088) (b := 2048) (a' := 32) (b' := 2048) x3 ![1024, 0] 1024 0 rfl inb_S1088x2048_S32x2048_1024_0 ⟨r - 160, by omega⟩ ⟨k, hk⟩).trans ?_
    rw [Nat.zero_add]
  · rw [if_neg c3, canon_row_out 32 160 _ _ _ r k hr hk (by omega), canon_row_out 32 128 _ _ _ r k hr hk (by omega),
      canon_row_out 64 0 _ _ _ r k hr hk (by omega), canon_row_in 256 0 _ _ _ r k hr hk (by omega) (by omega)]
    exact z4 _

/-- A load of a whole scratch reads what the stores left. -/
theorem readCov_whole {S : Shape} {κ} {sp} {e : EltTy} {off : Fin S.rank → ℕ} (h : off = fun _ => 0) (inb : ∀ a, off a + S.size a ≤ S.size a)
    (v : View sig κ sp S e) (L : List (View.Piece (Elt Ideal) S e)) :
    v.readCov L (Rect.unit off S.size inb).toLoadRect = View.canon L := by
  rw [View.readCov_eq_canon']
  exact View.ld_unit_zero h inb (View.canon L)

/-- A first point's block of the first normalised projection. -/
theorem out_A_6 (c : Dev nD) (i : grid0.Coords) (arg1 : Memref sig .tc .vmem S1024x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S1088x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x256 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S256x2048 .bf16) (harg12 : arg12.IsWhole) (q : ℕ) (hq : k0_off1 i = ![q, 0]) (hc0 : cond0_0 i)
    (x0 : Vec Ideal S1024x2048 .f32) (x1 : Vec Ideal S8x2048 .f32) (x2 : Vec Ideal S8x2048 .f32) (x3 : Vec Ideal S1088x2048 .f32) (x4 : Vec Ideal S1x512 .f32) (x5 : Vec Ideal S1x512 .f32) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 = fun y => rms (fun j => projB q x0 x1 x2 (nat2 (a := 1024) (b := 2048) (keyW x3)) (y 0).val j) (nat2 x4 0) (y 1).val := by
  unfold out0_A_6
  unfold kernelRun0_A
  dsimp only
  sl_unfold_words
  rw [View.read_writes_junk_eq_canon]
  simp only [readCov_whole (S := S1024x2048) zeros2, readCov_whole (S := S256x2048) zeros2, View.readAt_eq_ld, harg1.read_unread, harg2.read_unread, harg3.read_unread, harg4.read_unread, harg5.read_unread, harg6.read_unread, harg11.read_unread, harg12.read_unread]
  simp only [View.ld_unit_zero (S := S1024x2048) zeros2, View.ld_unit_zero (S := S1x512) zeros2, View.ld_unit_zero (S := S256x2048) zeros2,
    View.canon_unit_zero (S := S1024x512) zeros2, View.canon_unit_zero (S := S1024x2048) zeros2]
  funext y
  conv_lhs => rw [eq_ix2 y]
  exact pay12_apply _ q hq _ _ x0 x1 x2 (keyW x3) x4 (y 0) (y 1)

/-- A first point's block of the second normalised projection. -/
theorem out_A_7 (c : Dev nD) (i : grid0.Coords) (arg1 : Memref sig .tc .vmem S1024x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S1088x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x256 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S256x2048 .bf16) (harg12 : arg12.IsWhole) (q : ℕ) (hq : k0_off1 i = ![q, 0]) (hc0 : cond0_0 i)
    (x0 : Vec Ideal S1024x2048 .f32) (x1 : Vec Ideal S8x2048 .f32) (x2 : Vec Ideal S8x2048 .f32) (x3 : Vec Ideal S1088x2048 .f32) (x4 : Vec Ideal S1x512 .f32) (x5 : Vec Ideal S1x512 .f32) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 = fun y => rms (fun j => projB q x0 x1 x2 (nat2 (a := 1024) (b := 2048) (keyW x3)) (y 0).val (512 + j)) (nat2 x5 0) (y 1).val := by
  unfold out0_A_7
  unfold kernelRun0_A
  dsimp only
  sl_unfold_words
  rw [View.read_writes_junk_eq_canon]
  simp only [readCov_whole (S := S1024x2048) zeros2, readCov_whole (S := S256x2048) zeros2, View.readAt_eq_ld, harg1.read_unread, harg2.read_unread, harg3.read_unread, harg4.read_unread, harg5.read_unread, harg6.read_unread, harg11.read_unread, harg12.read_unread]
  simp only [View.ld_unit_zero (S := S1024x2048) zeros2, View.ld_unit_zero (S := S1x512) zeros2, View.ld_unit_zero (S := S256x2048) zeros2,
    View.canon_unit_zero (S := S1024x512) zeros2, View.canon_unit_zero (S := S1024x2048) zeros2]
  funext y
  conv_lhs => rw [eq_ix2 y]
  exact pay1_apply _ q hq _ _ x0 x1 x2 (keyW x3) x5 (y 0) (y 1)

/-- A first point's block of the product with the rope rows. -/
theorem out_A_8 (c : Dev nD) (i : grid0.Coords) (arg1 : Memref sig .tc .vmem S1024x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S1088x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x256 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S256x2048 .bf16) (harg12 : arg12.IsWhole) (q : ℕ) (hq : k0_off1 i = ![q, 0]) (hc0 : cond0_0 i)
    (x0 : Vec Ideal S1024x2048 .f32) (x1 : Vec Ideal S8x2048 .f32) (x2 : Vec Ideal S8x2048 .f32) (x3 : Vec Ideal S1088x2048 .f32) (x4 : Vec Ideal S1x512 .f32) (x5 : Vec Ideal S1x512 .f32) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 = fun y => projB q x0 x1 x2 (nat2 (a := 256) (b := 2048) (View.canon (ropeW x3))) (y 0).val (y 1).val := by
  unfold out0_A_8
  unfold kernelRun0_A
  dsimp only
  sl_unfold_words
  rw [View.read_writes_junk_eq_canon]
  simp only [readCov_whole (S := S1024x2048) zeros2, readCov_whole (S := S256x2048) zeros2, View.readAt_eq_ld, harg1.read_unread, harg2.read_unread, harg3.read_unread, harg4.read_unread, harg5.read_unread, harg6.read_unread, harg11.read_unread, harg12.read_unread]
  simp only [View.ld_unit_zero (S := S1024x2048) zeros2, View.ld_unit_zero (S := S1x512) zeros2, View.ld_unit_zero (S := S256x2048) zeros2,
    View.canon_unit_zero (S := S1024x256) zeros2, View.canon_unit_zero (S := S1024x2048) zeros2]
  funext y
  conv_lhs => rw [eq_ix2 y]
  exact pay2_apply _ q hq _ _ x0 x1 x2 (View.canon (ropeW x3)) (y 0) (y 1)

/-- A first point's block of the modulated rows. -/
theorem out_A_9 (c : Dev nD) (i : grid0.Coords) (arg1 : Memref sig .tc .vmem S1024x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S1088x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x256 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S256x2048 .bf16) (harg12 : arg12.IsWhole) (q : ℕ) (hq : k0_off1 i = ![q, 0]) (hc0 : cond0_0 i)
    (x0 : Vec Ideal S1024x2048 .f32) (x1 : Vec Ideal S8x2048 .f32) (x2 : Vec Ideal S8x2048 .f32) (x3 : Vec Ideal S1088x2048 .f32) (x4 : Vec Ideal S1x512 .f32) (x5 : Vec Ideal S1x512 .f32) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 = fun y => modB q x0 x1 x2 (y 0).val (y 1).val := by
  unfold out0_A_9
  unfold kernelRun0_A
  dsimp only
  sl_unfold_words
  rw [View.read_writes_junk_eq_canon]
  simp only [readCov_whole (S := S1024x2048) zeros2, readCov_whole (S := S256x2048) zeros2, View.readAt_eq_ld, harg1.read_unread, harg2.read_unread, harg3.read_unread, harg4.read_unread, harg5.read_unread, harg6.read_unread, harg11.read_unread, harg12.read_unread]
  simp only [View.ld_unit_zero (S := S1024x2048) zeros2, View.ld_unit_zero (S := S1x512) zeros2, View.ld_unit_zero (S := S256x2048) zeros2,
    View.canon_unit_zero (S := S1024x2048) zeros2]
  funext y
  conv_lhs => rw [eq_ix2 y]
  exact modBlock_apply _ q hq _ _ x0 x1 x2 (y 0) (y 1)

/-- A later point's block of the first normalised projection. -/
theorem out_B_6 (c : Dev nD) (i : grid0.Coords) (arg1 : Memref sig .tc .vmem S1024x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S1088x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x256 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S256x2048 .bf16) (harg12 : arg12.IsWhole) (q : ℕ) (hq : k0_off1 i = ![q, 0]) (hc0 : ¬cond0_0 i)
    (x0 : Vec Ideal S1024x2048 .f32) (x1 : Vec Ideal S8x2048 .f32) (x2 : Vec Ideal S8x2048 .f32) (x3 : Vec Ideal S1088x2048 .f32) (x4 : Vec Ideal S1x512 .f32) (x5 : Vec Ideal S1x512 .f32) (xs0 : Vec Ideal S1024x2048 .bf16) (xs1 : Vec Ideal S256x2048 .bf16) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 = fun y => rms (fun j => projB q x0 x1 x2 (nat2 (a := 1024) (b := 2048) xs0) (y 0).val j) (nat2 x4 0) (y 1).val := by
  unfold out0_B_6
  unfold kernelRun0_B
  dsimp only
  sl_unfold_words
  rw [View.read_writes_junk_eq_canon]
  simp only [View.readAt_eq_ld, harg1.read_unread, harg2.read_unread, harg3.read_unread, harg4.read_unread, harg5.read_unread, harg6.read_unread, harg11.read_unread, harg12.read_unread]
  simp only [View.ld_unit_zero (S := S1024x2048) zeros2, View.ld_unit_zero (S := S1x512) zeros2, View.ld_unit_zero (S := S256x2048) zeros2,
    View.canon_unit_zero (S := S1024x512) zeros2]
  funext y
  conv_lhs => rw [eq_ix2 y]
  exact pay12_apply _ q hq _ _ x0 x1 x2 xs0 x4 (y 0) (y 1)

/-- A later point's block of the second normalised projection. -/
theorem out_B_7 (c : Dev nD) (i : grid0.Coords) (arg1 : Memref sig .tc .vmem S1024x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S1088x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x256 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S256x2048 .bf16) (harg12 : arg12.IsWhole) (q : ℕ) (hq : k0_off1 i = ![q, 0]) (hc0 : ¬cond0_0 i)
    (x0 : Vec Ideal S1024x2048 .f32) (x1 : Vec Ideal S8x2048 .f32) (x2 : Vec Ideal S8x2048 .f32) (x3 : Vec Ideal S1088x2048 .f32) (x4 : Vec Ideal S1x512 .f32) (x5 : Vec Ideal S1x512 .f32) (xs0 : Vec Ideal S1024x2048 .bf16) (xs1 : Vec Ideal S256x2048 .bf16) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 = fun y => rms (fun j => projB q x0 x1 x2 (nat2 (a := 1024) (b := 2048) xs0) (y 0).val (512 + j)) (nat2 x5 0) (y 1).val := by
  unfold out0_B_7
  unfold kernelRun0_B
  dsimp only
  sl_unfold_words
  rw [View.read_writes_junk_eq_canon]
  simp only [View.readAt_eq_ld, harg1.read_unread, harg2.read_unread, harg3.read_unread, harg4.read_unread, harg5.read_unread, harg6.read_unread, harg11.read_unread, harg12.read_unread]
  simp only [View.ld_unit_zero (S := S1024x2048) zeros2, View.ld_unit_zero (S := S1x512) zeros2, View.ld_unit_zero (S := S256x2048) zeros2,
    View.canon_unit_zero (S := S1024x512) zeros2]
  funext y
  conv_lhs => rw [eq_ix2 y]
  exact pay1_apply _ q hq _ _ x0 x1 x2 xs0 x5 (y 0) (y 1)

/-- A later point's block of the product with the rope rows. -/
theorem out_B_8 (c : Dev nD) (i : grid0.Coords) (arg1 : Memref sig .tc .vmem S1024x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S1088x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x256 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S256x2048 .bf16) (harg12 : arg12.IsWhole) (q : ℕ) (hq : k0_off1 i = ![q, 0]) (hc0 : ¬cond0_0 i)
    (x0 : Vec Ideal S1024x2048 .f32) (x1 : Vec Ideal S8x2048 .f32) (x2 : Vec Ideal S8x2048 .f32) (x3 : Vec Ideal S1088x2048 .f32) (x4 : Vec Ideal S1x512 .f32) (x5 : Vec Ideal S1x512 .f32) (xs0 : Vec Ideal S1024x2048 .bf16) (xs1 : Vec Ideal S256x2048 .bf16) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 = fun y => projB q x0 x1 x2 (nat2 (a := 256) (b := 2048) xs1) (y 0).val (y 1).val := by
  unfold out0_B_8
  unfold kernelRun0_B
  dsimp only
  sl_unfold_words
  rw [View.read_writes_junk_eq_canon]
  simp only [View.readAt_eq_ld, harg1.read_unread, harg2.read_unread, harg3.read_unread, harg4.read_unread, harg5.read_unread, harg6.read_unread, harg11.read_unread, harg12.read_unread]
  simp only [View.ld_unit_zero (S := S1024x2048) zeros2, View.ld_unit_zero (S := S1x512) zeros2, View.ld_unit_zero (S := S256x2048) zeros2,
    View.canon_unit_zero (S := S1024x256) zeros2]
  funext y
  conv_lhs => rw [eq_ix2 y]
  exact pay2_apply _ q hq _ _ x0 x1 x2 xs1 (y 0) (y 1)

/-- A later point's block of the modulated rows. -/
theorem out_B_9 (c : Dev nD) (i : grid0.Coords) (arg1 : Memref sig .tc .vmem S1024x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S1088x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x256 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S256x2048 .bf16) (harg12 : arg12.IsWhole) (q : ℕ) (hq : k0_off1 i = ![q, 0]) (hc0 : ¬cond0_0 i)
    (x0 : Vec Ideal S1024x2048 .f32) (x1 : Vec Ideal S8x2048 .f32) (x2 : Vec Ideal S8x2048 .f32) (x3 : Vec Ideal S1088x2048 .f32) (x4 : Vec Ideal S1x512 .f32) (x5 : Vec Ideal S1x512 .f32) (xs0 : Vec Ideal S1024x2048 .bf16) (xs1 : Vec Ideal S256x2048 .bf16) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 = fun y => modB q x0 x1 x2 (y 0).val (y 1).val := by
  unfold out0_B_9
  unfold kernelRun0_B
  dsimp only
  sl_unfold_words
  rw [View.read_writes_junk_eq_canon]
  simp only [View.readAt_eq_ld, harg1.read_unread, harg2.read_unread, harg3.read_unread, harg4.read_unread, harg5.read_unread, harg6.read_unread, harg11.read_unread, harg12.read_unread]
  simp only [View.ld_unit_zero (S := S1024x2048) zeros2, View.ld_unit_zero (S := S1x512) zeros2, View.ld_unit_zero (S := S256x2048) zeros2,
    View.canon_unit_zero (S := S1024x2048) zeros2]
  funext y
  conv_lhs => rw [eq_ix2 y]
  exact modBlock_apply _ q hq _ _ x0 x1 x2 (y 0) (y 1)

/-- The first point leaves the weight's first 1024 rows in the first scratch. -/
theorem sout_A_0 (c : Dev nD) (i : grid0.Coords) (arg1 : Memref sig .tc .vmem S1024x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S1088x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x256 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S256x2048 .bf16) (harg12 : arg12.IsWhole) (hc0 : cond0_0 i)
    (x0 : Vec Ideal S1024x2048 .f32) (x1 : Vec Ideal S8x2048 .f32) (x2 : Vec Ideal S8x2048 .f32) (x3 : Vec Ideal S1088x2048 .f32) (x4 : Vec Ideal S1x512 .f32) (x5 : Vec Ideal S1x512 .f32) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 = keyW x3 := by
  unfold sout0_A_0
  unfold kernelRun0_A
  dsimp only
  sl_unfold_words
  rw [View.read_writes_junk_eq_canon]
  simp only [View.readAt_eq_ld, harg1.read_unread, harg2.read_unread, harg3.read_unread, harg4.read_unread, harg5.read_unread, harg6.read_unread, harg11.read_unread, harg12.read_unread]
  simp only [View.canon_unit_zero (S := S1024x2048) zeros2]

/-- It leaves the rope rows in the second. -/
theorem sout_A_1 (c : Dev nD) (i : grid0.Coords) (arg1 : Memref sig .tc .vmem S1024x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S1088x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x256 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S256x2048 .bf16) (harg12 : arg12.IsWhole) (hc0 : cond0_0 i)
    (x0 : Vec Ideal S1024x2048 .f32) (x1 : Vec Ideal S8x2048 .f32) (x2 : Vec Ideal S8x2048 .f32) (x3 : Vec Ideal S1088x2048 .f32) (x4 : Vec Ideal S1x512 .f32) (x5 : Vec Ideal S1x512 .f32) :
    sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 = View.canon (ropeW x3) := by
  unfold sout0_A_1
  unfold kernelRun0_A
  dsimp only
  sl_unfold_words
  rw [View.read_writes_junk_eq_canon]
  simp only [View.readAt_eq_ld, harg1.read_unread, harg2.read_unread, harg3.read_unread, harg4.read_unread, harg5.read_unread, harg6.read_unread, harg11.read_unread, harg12.read_unread]

end Cert.Latent

end
-- ==== Proof.LatentValue.lean ====
/- The arrays of the latent projections' call after the run, in the arguments of the layer's step. -/
module

public import proofs.«01_k».proof.Proof.LatentOut
public import Idealize.ShloMosaic.Lib.Pipeline.ValueKit.Geometry
public import Idealize.ShloMosaic.Lib.StableHlo.ReadAt
public import Idealize.ShloMosaic.Lib.Pointwise

@[expose] public section

noncomputable section

namespace Cert.Latent

open Idealize.ShloMosaic Idealize.ShloMosaic.ValueIdx Idealize.ShloMosaic.TcCoe
open Cert.Kernel7Ideal Cert.Kernel7Ideal.Gen Cert.Attn Cert.Ffn

/-- A modulated row, of a row whose batch gives the shift and the scale. -/
def uRow (X M : ℕ → ℕ → EReal) (R k : ℕ) : EReal := X R k * (1 + M (R / 2048) (2048 + k)) + M (R / 2048) k

/-- A modulated row times a column of the weight. -/
def proj (X M W : ℕ → ℕ → EReal) (R j : ℕ) : EReal := ∑ l ∈ Finset.range 2048, uRow X M R l * W l j

/-- A modulated row times a rope row of the weight. -/
def ropeOut (X M W : ℕ → ℕ → EReal) (R n : ℕ) : EReal := ∑ l ∈ Finset.range 2048, uRow X M R l * ropeRow (fun r k => W k r) n l

variable (m : (ℓ : Loc nD τ sig) → Buf (Elt Ideal) ℓ) (c : Dev nD)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 1] :=
  (by decide +kernel : ∀ t : Fin grid0.N, win0_2.index t = ![0, 1])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])

/-- The row of the conditioning that a point's tile takes. -/
theorem off1_eq : ∀ t : Fin cfg0.N, k0_off1 (grid0.coords t) = ![t.val / 2, 0] :=
  (by decide +kernel : ∀ t : Fin grid0.N, k0_off1 (grid0.coords t) = ![t.val / 2, 0])

/-- The rows, their batches and positions joined. -/
abbrev argX (R C : ℕ) : EReal :=
  nat3 (a := 4) (b := 2048) (c := 2048) (m ((c : Thread nD τ).loc main_arg0)) (R / 2048) (R % 2048) C

/-- The conditioning, of a batch. -/
abbrev argM (B C : ℕ) : EReal := nat2 (a := 4) (b := 12288) (m ((c : Thread nD τ).loc main_arg1)) B C

/-- The input weight. -/
abbrev argW (R C : ℕ) : EReal := nat3 (a := 1) (b := 2048) (c := 11328) (m ((c : Thread nD τ).loc main_arg2)) 0 R C

/-- The two gains. -/
abbrev argQ (C : ℕ) : EReal := nat2 (a := 1) (b := 512) (m ((c : Thread nD τ).loc main_arg3)) 0 C
abbrev argK (C : ℕ) : EReal := nat2 (a := 1) (b := 512) (m ((c : Thread nD τ).loc main_arg4)) 0 C

/-- The rows as the host leaves them. -/
theorem hostX (R C : ℕ) (hR : R < 8192) (hC : C < 2048) : nat2 (a := 8192) (b := 2048) (V m c main_v1) R C = argX m c R C := by
  rw [nat2_of _ R C hR hC]
  unfold argX
  rw [nat3_of _ _ _ _ (by omega) (by omega) hC]
  unfold V
  after_reads_at
  rfl

/-- The weight as the host leaves it: transposed. -/
theorem hostW (R C : ℕ) (hR : R < 11328) (hC : C < 2048) : nat2 (a := 11328) (b := 2048) (V m c main_v3) R C = argW m c C R := by
  rw [nat2_of _ R C hR hC]
  unfold argW
  rw [nat3_of _ _ _ _ (by omega) (by omega) hR]
  unfold V
  after_reads_at
  rfl

/-- The conditioning rows, of which four are given. -/
theorem hostMod (R C : ℕ) (hR : R < 4) (hC : C < 12288) : nat2 (a := 8) (b := 12288) (V m c main_v0) R C = argM m c R C := by
  unfold argM
  rw [nat2_of _ R C (by omega) hC, nat2_of _ R C hR hC]
  unfold V
  after_reads_at
  split
  · rfl
  · rename_i h
    exact absurd ⟨hR, hC⟩ h

/-- The gains. -/
theorem hostQ (C : ℕ) (hC : C < 512) : nat2 (a := 1) (b := 512) (V m c main_v5) 0 C = argQ m c C := by
  unfold argQ
  rw [nat2_of _ 0 C (by omega) hC, nat2_of _ 0 C (by omega) hC]
  unfold V
  after_reads_at
  rfl

theorem hostK (C : ℕ) (hC : C < 512) : nat2 (a := 1) (b := 512) (V m c main_v7) 0 C = argK m c C := by
  unfold argK
  rw [nat2_of _ 0 C (by omega) hC, nat2_of _ 0 C (by omega) hC]
  unfold V
  after_reads_at
  rfl

theorem blk0 (t : Fin cfg0.N) (p w : ℕ) (hp : p < 1024) (hw : w < 2048) :
    nat2 (a := 1024) (b := 2048) (iblk m c 0 t) p w = argX m c (1024 * t.val + p) w := by
  have ht : t.val < 8 := t.isLt
  rw [← hostX m c (1024 * t.val + p) w (by omega) hw, nat2_of _ p w (by omega) hw, nat2_of _ _ _ (by omega) (by omega)]
  blk_simp [iblk]
  refine congrArg (V m c main_v1) ?_
  blk_ext [idx0]

theorem blk1 (t : Fin cfg0.N) (p w : ℕ) (hp : p < 4) (hw : w < 2048) :
    nat2 (a := 8) (b := 2048) (iblk m c 1 t) p w = argM m c p w := by
  rw [← hostMod m c p w hp (by omega), nat2_of _ p w (by omega) hw, nat2_of _ _ _ (by omega) (by omega)]
  blk_simp [iblk]
  refine congrArg (V m c main_v0) ?_
  blk_ext [idx1]

theorem blk2 (t : Fin cfg0.N) (p w : ℕ) (hp : p < 4) (hw : w < 2048) :
    nat2 (a := 8) (b := 2048) (iblk m c 2 t) p w = argM m c p (2048 + w) := by
  rw [← hostMod m c p (2048 + w) hp (by omega), nat2_of _ p w (by omega) hw, nat2_of _ _ _ (by omega) (by omega)]
  blk_simp [iblk]
  refine congrArg (V m c main_v0) ?_
  blk_ext [idx2]

theorem blk3 (t : Fin cfg0.N) (p w : ℕ) (hp : p < 1088) (hw : w < 2048) :
    nat2 (a := 1088) (b := 2048) (X0_3 m c t) p w = argW m c w p := by
  rw [← hostW m c p w (by omega) hw, nat2_of _ p w hp hw, nat2_of _ _ _ (by omega) (by omega)]
  unfold X0_3 Pipeline.Window.fill
  rw [dif_pos (moved0_3 t _)]
  blk_simp [iblk]
  refine congrArg (V m c main_v3) ?_
  blk_ext [idx3]

theorem blk4 (t : Fin cfg0.N) (w : ℕ) (hw : w < 512) : nat2 (a := 1) (b := 512) (iblk m c 4 t) 0 w = argQ m c w := by
  rw [← hostQ m c w hw, nat2_of _ 0 w (by omega) hw, nat2_of _ _ _ (by omega) (by omega)]
  blk_simp [iblk]
  refine congrArg (V m c main_v5) ?_
  blk_ext [idx4]

theorem blk5 (t : Fin cfg0.N) (w : ℕ) (hw : w < 512) : nat2 (a := 1) (b := 512) (iblk m c 5 t) 0 w = argK m c w := by
  rw [← hostK m c w hw, nat2_of _ 0 w (by omega) hw, nat2_of _ _ _ (by omega) (by omega)]
  blk_simp [iblk]
  refine congrArg (V m c main_v7) ?_
  blk_ext [idx5]

/-- A point's modulated rows. -/
theorem mod_rows (t : Fin cfg0.N) (r k : ℕ) (hr : r < 1024) (hk : k < 2048) :
    modB (t.val / 2) (iblk m c 0 t) (iblk m c 1 t) (iblk m c 2 t) r k = uRow (argX m c) (argM m c) (1024 * t.val + r) k := by
  have ht : t.val < 8 := t.isLt
  have hb : (1024 * t.val + r) / 2048 = t.val / 2 := by omega
  unfold modB uRow
  rw [hb]
  exact congrArg₂ (· + ·) (congrArg₂ (· * ·) (blk0 m c t r k hr hk) (congrArg (1 + ·) (blk2 m c t _ k (by omega) hk))) (blk1 m c t _ k (by omega) hk)

/-- A point's modulated rows times a row that is a given one. -/
theorem proj_rows (t : Fin cfg0.N) (w : ℕ → ℕ → EReal) (w' : ℕ → EReal) (r j : ℕ) (hr : r < 1024) (hw : ∀ k < 2048, w j k = w' k) :
    projB (t.val / 2) (iblk m c 0 t) (iblk m c 1 t) (iblk m c 2 t) w r j
      = ∑ l ∈ Finset.range 2048, uRow (argX m c) (argM m c) (1024 * t.val + r) l * w' l :=
  Finset.sum_congr rfl fun l hl => congrArg₂ (· * ·) (mod_rows m c t r l hr (Finset.mem_range.mp hl)) (hw l (Finset.mem_range.mp hl))

/-- What a point leaves: the two scratch blocks as the first point filled them, and its blocks of the four results. -/
structure PointHolds (t : Fin cfg0.N) : Prop where
  key : ∀ j < 1024, ∀ k < 2048, nat2 (a := 1024) (b := 2048) (outsAt0 m c t.val t.isLt).2.2.2.2.1 j k = argW m c k j
  rope : ∀ j < 256, ∀ k < 2048, nat2 (a := 256) (b := 2048) (outsAt0 m c t.val t.isLt).2.2.2.2.2 j k = ropeRow (fun r k => argW m c k r) j k
  qn : ∀ r < 1024, ∀ n < 512, nat2 (a := 1024) (b := 512) (outsAt0 m c t.val t.isLt).1 r n
    = rms (proj (argX m c) (argM m c) (argW m c) (1024 * t.val + r)) (argQ m c) n
  kvn : ∀ r < 1024, ∀ n < 512, nat2 (a := 1024) (b := 512) (outsAt0 m c t.val t.isLt).2.1 r n
    = rms (fun j => proj (argX m c) (argM m c) (argW m c) (1024 * t.val + r) (512 + j)) (argK m c) n
  kr : ∀ r < 1024, ∀ n < 256, nat2 (a := 1024) (b := 256) (outsAt0 m c t.val t.isLt).2.2.1 r n
    = ropeOut (argX m c) (argM m c) (argW m c) (1024 * t.val + r) n
  u : ∀ r < 1024, ∀ n < 2048, nat2 (a := 1024) (b := 2048) (outsAt0 m c t.val t.isLt).2.2.2.1 r n
    = uRow (argX m c) (argM m c) (1024 * t.val + r) n

/-- A point whose blocks are read off scratch blocks that hold the weight's rows. -/
theorem holds_of (t : Fin cfg0.N) (s0 : Vec Ideal S1024x2048 .bf16) (s1 : Vec Ideal S256x2048 .bf16)
    (h0 : ∀ j < 1024, ∀ k < 2048, nat2 (a := 1024) (b := 2048) s0 j k = argW m c k j)
    (h1 : ∀ j < 256, ∀ k < 2048, nat2 (a := 256) (b := 2048) s1 j k = ropeRow (fun r k => argW m c k r) j k)
    (e0 : (outsAt0 m c t.val t.isLt).2.2.2.2.1 = s0) (e1 : (outsAt0 m c t.val t.isLt).2.2.2.2.2 = s1)
    (e6 : (outsAt0 m c t.val t.isLt).1 = fun y : S1024x512.Idx => rms (fun j => projB (t.val / 2) (iblk m c 0 t) (iblk m c 1 t) (iblk m c 2 t) (nat2 (a := 1024) (b := 2048) s0) (y 0).val j) (nat2 (a := 1) (b := 512) (iblk m c 4 t) 0) (y 1).val)
    (e7 : (outsAt0 m c t.val t.isLt).2.1 = fun y : S1024x512.Idx => rms (fun j => projB (t.val / 2) (iblk m c 0 t) (iblk m c 1 t) (iblk m c 2 t) (nat2 (a := 1024) (b := 2048) s0) (y 0).val (512 + j)) (nat2 (a := 1) (b := 512) (iblk m c 5 t) 0) (y 1).val)
    (e8 : (outsAt0 m c t.val t.isLt).2.2.1 = fun y : S1024x256.Idx => projB (t.val / 2) (iblk m c 0 t) (iblk m c 1 t) (iblk m c 2 t) (nat2 (a := 256) (b := 2048) s1) (y 0).val (y 1).val)
    (e9 : (outsAt0 m c t.val t.isLt).2.2.2.1 = fun y : S1024x2048.Idx => modB (t.val / 2) (iblk m c 0 t) (iblk m c 1 t) (iblk m c 2 t) (y 0).val (y 1).val) :
    PointHolds m c t where
  key := by rw [e0]; exact h0
  rope := by rw [e1]; exact h1
  qn := fun r hr n hn => by
    rw [e6, nat2_of _ r n hr hn]
    exact rms_congr _ _ _ _ (fun k hk => proj_rows m c t _ (fun l => argW m c l k) r k hr (h0 k (by omega))) n hn (blk4 m c t n hn)
  kvn := fun r hr n hn => by
    rw [e7, nat2_of _ r n hr hn]
    exact rms_congr _ _ _ _ (fun k hk => proj_rows m c t _ (fun l => argW m c l (512 + k)) r (512 + k) hr (h0 (512 + k) (by omega))) n hn (blk5 m c t n hn)
  kr := fun r hr n hn => by
    rw [e8, nat2_of _ r n hr hn]
    exact proj_rows m c t _ _ r n hr (h1 n hn)
  u := fun r hr n hn => by
    rw [e9, nat2_of _ r n hr hn]
    exact mod_rows m c t r n hr hn

/-- The rope rows of the weight's block. -/
theorem rope_rows (t : Fin cfg0.N) (j k : ℕ) (hj : j < 256) (hk : k < 2048) :
    ropeRow (nat2 (a := 1088) (b := 2048) (X0_3 m c t)) j k = ropeRow (fun r k => argW m c k r) j k := by
  unfold ropeRow
  split_ifs
  · exact blk3 m c t _ k (by omega) hk
  · rfl
  · exact congrArg (0 - ·) (blk3 m c t _ k (by omega) hk)
  · exact blk3 m c t _ k (by omega) hk
  · rfl

/-! The blocks of a first point and of a later one. -/

theorem first_6 (t : Fin cfg0.N) (h0 : t.val % 8 = 0) : (outsAt0 m c t.val t.isLt).1 = fun y : S1024x512.Idx => rms (fun j => projB (t.val / 2) (iblk m c 0 t) (iblk m c 1 t) (iblk m c 2 t) (nat2 (a := 1024) (b := 2048) (keyW (X0_3 m c t))) (y 0).val j) (nat2 (a := 1) (b := 512) (iblk m c 4 t) 0) (y 1).val := by
  rw [outsAt0_A m c t h0]
  dsimp only
  exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (t.val / 2) (off1_eq t) ((hcond0_0 t).mpr h0) (iblk m c 0 t) (iblk m c 1 t) (iblk m c 2 t) (X0_3 m c t) (iblk m c 4 t) (iblk m c 5 t)

theorem first_7 (t : Fin cfg0.N) (h0 : t.val % 8 = 0) : (outsAt0 m c t.val t.isLt).2.1 = fun y : S1024x512.Idx => rms (fun j => projB (t.val / 2) (iblk m c 0 t) (iblk m c 1 t) (iblk m c 2 t) (nat2 (a := 1024) (b := 2048) (keyW (X0_3 m c t))) (y 0).val (512 + j)) (nat2 (a := 1) (b := 512) (iblk m c 5 t) 0) (y 1).val := by
  rw [outsAt0_A m c t h0]
  dsimp only
  exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (t.val / 2) (off1_eq t) ((hcond0_0 t).mpr h0) (iblk m c 0 t) (iblk m c 1 t) (iblk m c 2 t) (X0_3 m c t) (iblk m c 4 t) (iblk m c 5 t)

theorem first_8 (t : Fin cfg0.N) (h0 : t.val % 8 = 0) : (outsAt0 m c t.val t.isLt).2.2.1 = fun y : S1024x256.Idx => projB (t.val / 2) (iblk m c 0 t) (iblk m c 1 t) (iblk m c 2 t) (nat2 (a := 256) (b := 2048) (View.canon (ropeW (X0_3 m c t)))) (y 0).val (y 1).val := by
  rw [outsAt0_A m c t h0]
  dsimp only
  exact out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (t.val / 2) (off1_eq t) ((hcond0_0 t).mpr h0) (iblk m c 0 t) (iblk m c 1 t) (iblk m c 2 t) (X0_3 m c t) (iblk m c 4 t) (iblk m c 5 t)

theorem first_9 (t : Fin cfg0.N) (h0 : t.val % 8 = 0) : (outsAt0 m c t.val t.isLt).2.2.2.1 = fun y : S1024x2048.Idx => modB (t.val / 2) (iblk m c 0 t) (iblk m c 1 t) (iblk m c 2 t) (y 0).val (y 1).val := by
  rw [outsAt0_A m c t h0]
  dsimp only
  exact out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (t.val / 2) (off1_eq t) ((hcond0_0 t).mpr h0) (iblk m c 0 t) (iblk m c 1 t) (iblk m c 2 t) (X0_3 m c t) (iblk m c 4 t) (iblk m c 5 t)

theorem later_6 (t : Fin cfg0.N) (h0 : ¬t.val % 8 = 0) : (outsAt0 m c t.val t.isLt).1 = fun y : S1024x512.Idx => rms (fun j => projB (t.val / 2) (iblk m c 0 t) (iblk m c 1 t) (iblk m c 2 t) (nat2 (a := 1024) (b := 2048) (outsAt0 m c (t.val - 1) (Nat.lt_of_le_of_lt (Nat.sub_le _ _) t.isLt)).2.2.2.2.1) (y 0).val j) (nat2 (a := 1) (b := 512) (iblk m c 4 t) 0) (y 1).val := by
  rw [outsAt0_B m c t h0]
  dsimp only
  exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (t.val / 2) (off1_eq t) (fun h => h0 ((hcond0_0 t).mp h)) (iblk m c 0 t) (iblk m c 1 t) (iblk m c 2 t) (X0_3 m c t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem later_7 (t : Fin cfg0.N) (h0 : ¬t.val % 8 = 0) : (outsAt0 m c t.val t.isLt).2.1 = fun y : S1024x512.Idx => rms (fun j => projB (t.val / 2) (iblk m c 0 t) (iblk m c 1 t) (iblk m c 2 t) (nat2 (a := 1024) (b := 2048) (outsAt0 m c (t.val - 1) (Nat.lt_of_le_of_lt (Nat.sub_le _ _) t.isLt)).2.2.2.2.1) (y 0).val (512 + j)) (nat2 (a := 1) (b := 512) (iblk m c 5 t) 0) (y 1).val := by
  rw [outsAt0_B m c t h0]
  dsimp only
  exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (t.val / 2) (off1_eq t) (fun h => h0 ((hcond0_0 t).mp h)) (iblk m c 0 t) (iblk m c 1 t) (iblk m c 2 t) (X0_3 m c t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem later_8 (t : Fin cfg0.N) (h0 : ¬t.val % 8 = 0) : (outsAt0 m c t.val t.isLt).2.2.1 = fun y : S1024x256.Idx => projB (t.val / 2) (iblk m c 0 t) (iblk m c 1 t) (iblk m c 2 t) (nat2 (a := 256) (b := 2048) (outsAt0 m c (t.val - 1) (Nat.lt_of_le_of_lt (Nat.sub_le _ _) t.isLt)).2.2.2.2.2) (y 0).val (y 1).val := by
  rw [outsAt0_B m c t h0]
  dsimp only
  exact out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (t.val / 2) (off1_eq t) (fun h => h0 ((hcond0_0 t).mp h)) (iblk m c 0 t) (iblk m c 1 t) (iblk m c 2 t) (X0_3 m c t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem later_9 (t : Fin cfg0.N) (h0 : ¬t.val % 8 = 0) : (outsAt0 m c t.val t.isLt).2.2.2.1 = fun y : S1024x2048.Idx => modB (t.val / 2) (iblk m c 0 t) (iblk m c 1 t) (iblk m c 2 t) (y 0).val (y 1).val := by
  rw [outsAt0_B m c t h0]
  dsimp only
  exact out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (t.val / 2) (off1_eq t) (fun h => h0 ((hcond0_0 t).mp h)) (iblk m c 0 t) (iblk m c 1 t) (iblk m c 2 t) (X0_3 m c t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- The first point fills the scratch blocks. -/
theorem holds_first (t : Fin cfg0.N) (h0 : t.val % 8 = 0) : PointHolds m c t := by
  refine holds_of m c t (keyW (X0_3 m c t)) (View.canon (ropeW (X0_3 m c t)))
    (fun j hj k hk => (keyW_row _ j k hj hk).trans (blk3 m c t j k (by omega) hk))
    (fun j hj k hk => (ropeW_row _ j k hj hk).trans (rope_rows m c t j k hj hk)) ?_ ?_ ?_ ?_ ?_ ?_
  · rw [outsAt0_A m c t h0]
    dsimp only
    exact sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (X0_3 m c t) (iblk m c 4 t) (iblk m c 5 t)
  · rw [outsAt0_A m c t h0]
    dsimp only
    exact sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (X0_3 m c t) (iblk m c 4 t) (iblk m c 5 t)
  · exact first_6 m c t h0
  · exact first_7 m c t h0
  · exact first_8 m c t h0
  · exact first_9 m c t h0

/-- A later point keeps them. -/
theorem holds_next (t s : Fin cfg0.N) (hs : s.val = t.val - 1) (h0 : ¬t.val % 8 = 0) (hp : PointHolds m c s) : PointHolds m c t := by
  have ho : outsAt0 m c (t.val - 1) (Nat.lt_of_le_of_lt (Nat.sub_le _ _) t.isLt) = outsAt0 m c s.val s.isLt := by
    congr 1; exact hs.symm
  obtain ⟨k0, k1, -, -, -, -⟩ := hp
  rw [← ho] at k0 k1
  refine holds_of m c t (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 k0 k1 ?_ ?_ ?_ ?_ ?_ ?_
  · rw [outsAt0_B m c t h0]
    dsimp only
    rfl
  · rw [outsAt0_B m c t h0]
    dsimp only
    rfl
  · exact later_6 m c t h0
  · exact later_7 m c t h0
  · exact later_8 m c t h0
  · exact later_9 m c t h0

/-- Every point, one after another. -/
theorem holds_all : ∀ (n : ℕ) (hn : n < cfg0.N), PointHolds m c ⟨n, hn⟩
  | 0, hn => holds_first m c ⟨0, hn⟩ rfl
  | n + 1, hn => by
    by_cases h0 : (n + 1) % 8 = 0
    · exact holds_first m c ⟨n + 1, hn⟩ h0
    · exact holds_next m c ⟨n + 1, hn⟩ ⟨n, Nat.lt_of_succ_lt hn⟩ rfl h0 (holds_all n _)

/-- The first array the call leaves. -/
theorem result6 (y : S8192x512.Idx) : Cert.Kernel7Ideal.Value.G6 m c y = rms (proj (argX m c) (argM m c) (argW m c) (y 0).val) (argQ m c) (y 1).val := by
  have b0 : (y 0).val < 8192 := (y 0).isLt
  have b1 : (y 1).val < 512 := (y 1).isLt
  have hd : (y 1).val / 512 = 0 := Nat.div_eq_of_lt b1
  have hp : Cert.Kernel7Ideal.Value.pt6Of y = (y 0).val / 1024 := by
    show 1 * ((y 0).val / 1024 - 0) + 1 * ((y 1).val / 512 - 0) = _
    omega
  have hN : Cert.Kernel7Ideal.Value.pt6Of y < cfg0.N := by
    rw [hp]; exact lt_of_lt_of_eq (by omega : _ < 8) N_0.symm
  unfold Cert.Kernel7Ideal.Value.G6
  rw [dif_pos hN, ← Cert.Kernel7Ideal.Value.outsAt0_sweep m c _ hN]
  have h := (holds_all m c _ hN).qn ((y 0).val % 1024) (Nat.mod_lt _ (by norm_num)) (y 1).val b1
  rw [nat2_of _ _ _ (Nat.mod_lt _ (by norm_num)) b1] at h
  have er : 1024 * Cert.Kernel7Ideal.Value.pt6Of y + (y 0).val % 1024 = (y 0).val := by omega
  refine Eq.trans (congrArg _ ?_) (h.trans (congrArg (fun R => rms (proj (argX m c) (argM m c) (argW m c) R) (argQ m c) (y 1).val) er))
  exact funext fun a => by
    match a with
    | ⟨0, _⟩ => rfl
    | ⟨1, _⟩ => exact Fin.ext (Nat.mod_eq_of_lt b1)

/-- The second array the call leaves. -/
theorem result7 (y : S8192x512.Idx) : Cert.Kernel7Ideal.Value.G7 m c y = rms (fun j => proj (argX m c) (argM m c) (argW m c) (y 0).val (512 + j)) (argK m c) (y 1).val := by
  have b0 : (y 0).val < 8192 := (y 0).isLt
  have b1 : (y 1).val < 512 := (y 1).isLt
  have hd : (y 1).val / 512 = 0 := Nat.div_eq_of_lt b1
  have hp : Cert.Kernel7Ideal.Value.pt7Of y = (y 0).val / 1024 := by
    show 1 * ((y 0).val / 1024 - 0) + 1 * ((y 1).val / 512 - 0) = _
    omega
  have hN : Cert.Kernel7Ideal.Value.pt7Of y < cfg0.N := by
    rw [hp]; exact lt_of_lt_of_eq (by omega : _ < 8) N_0.symm
  unfold Cert.Kernel7Ideal.Value.G7
  rw [dif_pos hN, ← Cert.Kernel7Ideal.Value.outsAt0_sweep m c _ hN]
  have h := (holds_all m c _ hN).kvn ((y 0).val % 1024) (Nat.mod_lt _ (by norm_num)) (y 1).val b1
  rw [nat2_of _ _ _ (Nat.mod_lt _ (by norm_num)) b1] at h
  have er : 1024 * Cert.Kernel7Ideal.Value.pt7Of y + (y 0).val % 1024 = (y 0).val := by omega
  refine Eq.trans (congrArg _ ?_) (h.trans (congrArg (fun R => rms (fun j => proj (argX m c) (argM m c) (argW m c) R (512 + j)) (argK m c) (y 1).val) er))
  exact funext fun a => by
    match a with
    | ⟨0, _⟩ => rfl
    | ⟨1, _⟩ => exact Fin.ext (Nat.mod_eq_of_lt b1)

/-- The third array the call leaves. -/
theorem result8 (y : S8192x256.Idx) : Cert.Kernel7Ideal.Value.G8 m c y = ropeOut (argX m c) (argM m c) (argW m c) (y 0).val (y 1).val := by
  have b0 : (y 0).val < 8192 := (y 0).isLt
  have b1 : (y 1).val < 256 := (y 1).isLt
  have hd : (y 1).val / 256 = 0 := Nat.div_eq_of_lt b1
  have hp : Cert.Kernel7Ideal.Value.pt8Of y = (y 0).val / 1024 := by
    show 1 * ((y 0).val / 1024 - 0) + 1 * ((y 1).val / 256 - 0) = _
    omega
  have hN : Cert.Kernel7Ideal.Value.pt8Of y < cfg0.N := by
    rw [hp]; exact lt_of_lt_of_eq (by omega : _ < 8) N_0.symm
  unfold Cert.Kernel7Ideal.Value.G8
  rw [dif_pos hN, ← Cert.Kernel7Ideal.Value.outsAt0_sweep m c _ hN]
  have h := (holds_all m c _ hN).kr ((y 0).val % 1024) (Nat.mod_lt _ (by norm_num)) (y 1).val b1
  rw [nat2_of _ _ _ (Nat.mod_lt _ (by norm_num)) b1] at h
  have er : 1024 * Cert.Kernel7Ideal.Value.pt8Of y + (y 0).val % 1024 = (y 0).val := by omega
  refine Eq.trans (congrArg _ ?_) (h.trans (congrArg (fun R => ropeOut (argX m c) (argM m c) (argW m c) R (y 1).val) er))
  exact funext fun a => by
    match a with
    | ⟨0, _⟩ => rfl
    | ⟨1, _⟩ => exact Fin.ext (Nat.mod_eq_of_lt b1)

/-- The fourth array the call leaves. -/
theorem result9 (y : S8192x2048.Idx) : Cert.Kernel7Ideal.Value.G9 m c y = uRow (argX m c) (argM m c) (y 0).val (y 1).val := by
  have b0 : (y 0).val < 8192 := (y 0).isLt
  have b1 : (y 1).val < 2048 := (y 1).isLt
  have hd : (y 1).val / 2048 = 0 := Nat.div_eq_of_lt b1
  have hp : Cert.Kernel7Ideal.Value.pt9Of y = (y 0).val / 1024 := by
    show 1 * ((y 0).val / 1024 - 0) + 1 * ((y 1).val / 2048 - 0) = _
    omega
  have hN : Cert.Kernel7Ideal.Value.pt9Of y < cfg0.N := by
    rw [hp]; exact lt_of_lt_of_eq (by omega : _ < 8) N_0.symm
  unfold Cert.Kernel7Ideal.Value.G9
  rw [dif_pos hN, ← Cert.Kernel7Ideal.Value.outsAt0_sweep m c _ hN]
  have h := (holds_all m c _ hN).u ((y 0).val % 1024) (Nat.mod_lt _ (by norm_num)) (y 1).val b1
  rw [nat2_of _ _ _ (Nat.mod_lt _ (by norm_num)) b1] at h
  have er : 1024 * Cert.Kernel7Ideal.Value.pt9Of y + (y 0).val % 1024 = (y 0).val := by omega
  refine Eq.trans (congrArg _ ?_) (h.trans (congrArg (fun R => uRow (argX m c) (argM m c) R (y 1).val) er))
  exact funext fun a => by
    match a with
    | ⟨0, _⟩ => rfl
    | ⟨1, _⟩ => exact Fin.ext (Nat.mod_eq_of_lt b1)

end Cert.Latent

end
-- ==== Proof.LatentRef.lean ====
/- The reference of the latent projections read at an element: the modulated rows, their products with the input weight, the
   two root mean square norms, and the rope columns with their rotated halves. -/
module

public import proofs.«01_k».proof.Proof.Gen.Reference7Ideal.Read
public import proofs.«01_k».proof.Proof.LatentValue
public import proofs.«01_k».proof.Proof.KernelValue

@[expose] public section

noncomputable section

namespace Cert.Latent

open Idealize.ShloMosaic Cert.Attn Cert.Ffn
open Cert.Reference7Ideal Cert.Reference7Ideal.Gen Cert.Reference7Ideal.Read

variable (x0 : (⟨S4x2048x2048, .f32⟩ : BufTy).Contents (Elt Ideal)) (x1 : (⟨S4x12288, .f32⟩ : BufTy).Contents (Elt Ideal))
  (x2 : (⟨S1x2048x11328, .f32⟩ : BufTy).Contents (Elt Ideal)) (x3 x4 : (⟨S1x512, .f32⟩ : BufTy).Contents (Elt Ideal))

/-- The rows, their batches and positions joined. -/
abbrev joined (R C : ℕ) : EReal := nat3 (a := 4) (b := 2048) (c := 2048) x0 (R / 2048) (R % 2048) C

/-- The conditioning and the input weight. -/
abbrev cond : ℕ → ℕ → EReal := nat2 (a := 4) (b := 12288) x1
abbrev inW : ℕ → ℕ → EReal := nat3 (a := 1) (b := 2048) (c := 11328) x2 0

/-- The modulated rows. -/
theorem ref_u (i : S4x2048x2048.Idx) : val_main_v17 (F := Ideal) x0 x1 i
    = uRow (joined x0) (cond x1) (2048 * (i 0).val + (i 1).val) (i 2).val := by
  have b0 : (i 0).val < 4 := (i 0).isLt
  have b1 : (i 1).val < 2048 := (i 1).isLt
  have b2 : (i 2).val < 2048 := (i 2).isLt
  have e1 : (2048 * (i 0).val + (i 1).val) / 2048 = (i 0).val := by omega
  have e2 : (2048 * (i 0).val + (i 1).val) % 2048 = (i 1).val := by omega
  rw [val_main_v17_apply, val_main_v15_apply, val_main_v14_apply, val_main_v13_apply, val_main_v12_apply, val_main_cst_apply, val_main_v7_apply,
    val_main_v1_apply, val_main_v16_apply, val_main_v6_apply, val_main_v0_apply]
  show x0 i * (Ideal.ofBits .f32 0x3F800000#32 + x1 _) + x1 _ = _
  unfold uRow joined cond
  rw [ofBits_one, e1, e2, nat3_of x0 _ _ _ b0 b1 b2, nat2_of x1 _ _ b0 (by omega), nat2_of x1 _ _ b0 (by omega)]
  refine congrArg₂ (· + ·) (congrArg₂ (· * ·) (congrArg x0 ?_) (congrArg (1 + ·) (congrArg x1 ?_))) (congrArg x1 ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl | ⟨1, _⟩ => rfl

/-- The product with the input weight. -/
theorem ref_proj (i : S4x2048x11328.Idx) : val_main_v19 (F := Ideal) x0 x1 x2 i
    = proj (joined x0) (cond x1) (inW x2) (2048 * (i 0).val + (i 1).val) (i 2).val := by
  have b2 : (i 2).val < 11328 := (i 2).isLt
  unfold proj
  rw [val_main_v19_apply, ← Fin.sum_univ_eq_sum_range (fun k => uRow (joined x0) (cond x1) (2048 * (i 0).val + (i 1).val) k * inW x2 k (i 2).val) 2048]
  refine Finset.sum_congr rfl fun k _ => ?_
  unfold inW
  rw [val_main_v18_apply, nat3_of x2 _ _ _ (by norm_num) k.isLt b2]
  refine congrArg₂ (· * ·) (ref_u x0 x1 _) (congrArg x2 ?_)
  exact funext fun a => by
    match a with
    | ⟨0, _⟩ => rfl
    | ⟨1, _⟩ => exact Fin.ext (by have hk := k.isLt; show (k.val * 11328 + (i 2).val) / 11328 % 2048 = k.val; omega)
    | ⟨2, _⟩ => exact Fin.ext (by show (k.val * 11328 + (i 2).val) % 11328 = (i 2).val; omega)

/-- The first 512 columns of the product. -/
theorem ref_q (i : S4x2048x512.Idx) : val_main_v20 (F := Ideal) x0 x1 x2 i
    = proj (joined x0) (cond x1) (inW x2) (2048 * (i 0).val + (i 1).val) ((i 2).val) :=
  (val_main_v20_apply x0 x1 x2 i).trans (ref_proj x0 x1 x2 _)

/-- Their root mean square norm. -/
theorem ref_qn (y : S8192x512.Idx) : val_main_v42 (F := Ideal) x0 x1 x2 x3 y
    = rms (proj (joined x0) (cond x1) (inW x2) (y 0).val) (nat2 (a := 1) (b := 512) x3 0) (y 1).val := by
  have b0 : (y 0).val < 8192 := (y 0).isLt
  have b1 : (y 1).val < 512 := (y 1).isLt
  rw [val_main_v42_apply, val_main_v41_apply]
  generalize hi : idx_main_v41 y = i
  have i0 : (i 0).val = (y 0).val / 2048 := by
    rw [← hi]; show ((y 0).val * 512 + (y 1).val) / 1048576 = _; omega
  have i1 : (i 1).val = (y 0).val % 2048 := by
    rw [← hi]; show ((y 0).val * 512 + (y 1).val) / 512 % 2048 = _; omega
  have i2 : (i 2).val = (y 1).val := by
    rw [← hi]; show ((y 0).val * 512 + (y 1).val) % 512 = _; omega
  have hR : 2048 * (i 0).val + (i 1).val = (y 0).val := by omega
  rw [val_main_v40_apply, val_main_v37_apply, val_main_v36_apply, val_main_v35_apply, val_main_v34_apply, val_main_v32_apply, val_main_v30_apply, val_main_v29_apply, val_main_cst_1_apply, val_main_v31_apply, val_main_cst_2_apply, val_main_v33_apply, val_main_cst_3_apply, val_main_v39_apply, val_main_v38_apply, val_main_v27_apply, ref_q]
  show proj _ _ _ _ _ * Ideal.rsqrt (Ideal.div (Ideal.ofBits .f32 0x00000000#32 + _) (Ideal.ofBits .f32 0x44000000#32) + Ideal.ofBits .f32 0x358637BD#32) * x3 _ = _
  unfold rms
  rw [ofBits_zero, zero_add, hR, i2, nat2_of x3 0 _ (by norm_num) b1]
  refine congrArg₂ (· * ·) (congrArg (proj (joined x0) (cond x1) (inW x2) (y 0).val ((y 1).val) * ·)
    (congrArg (fun s => Ideal.rsqrt (Ideal.div s (Ideal.ofBits .f32 0x44000000#32) + Ideal.ofBits .f32 0x358637BD#32)) ?_)) (congrArg x3 ?_)
  · rw [← Fin.sum_univ_eq_sum_range (fun k => proj (joined x0) (cond x1) (inW x2) (y 0).val (k) * proj (joined x0) (cond x1) (inW x2) (y 0).val (k)) 512, ← hR]
    refine Finset.sum_congr rfl fun k _ => ?_
    rw [val_main_v28_apply, ref_q]
    rfl
  · exact funext fun a => by match a with | ⟨0, _⟩ => rfl | ⟨1, _⟩ => exact Fin.ext (by show (i 2).val % 512 = (y 1).val; omega)

/-- The second 512 columns of the product. -/
theorem ref_kv (i : S4x2048x512.Idx) : val_main_v21 (F := Ideal) x0 x1 x2 i
    = proj (joined x0) (cond x1) (inW x2) (2048 * (i 0).val + (i 1).val) (512 + (i 2).val) :=
  (val_main_v21_apply x0 x1 x2 i).trans (ref_proj x0 x1 x2 _)

/-- Their root mean square norm. -/
theorem ref_kvn (y : S8192x512.Idx) : val_main_v58 (F := Ideal) x0 x1 x2 x4 y
    = rms (fun j => proj (joined x0) (cond x1) (inW x2) (y 0).val (512 + j)) (nat2 (a := 1) (b := 512) x4 0) (y 1).val := by
  have b0 : (y 0).val < 8192 := (y 0).isLt
  have b1 : (y 1).val < 512 := (y 1).isLt
  rw [val_main_v58_apply, val_main_v57_apply]
  generalize hi : idx_main_v57 y = i
  have i0 : (i 0).val = (y 0).val / 2048 := by
    rw [← hi]; show ((y 0).val * 512 + (y 1).val) / 1048576 = _; omega
  have i1 : (i 1).val = (y 0).val % 2048 := by
    rw [← hi]; show ((y 0).val * 512 + (y 1).val) / 512 % 2048 = _; omega
  have i2 : (i 2).val = (y 1).val := by
    rw [← hi]; show ((y 0).val * 512 + (y 1).val) % 512 = _; omega
  have hR : 2048 * (i 0).val + (i 1).val = (y 0).val := by omega
  rw [val_main_v56_apply, val_main_v53_apply, val_main_v52_apply, val_main_v51_apply, val_main_v50_apply, val_main_v48_apply, val_main_v46_apply, val_main_v45_apply, val_main_cst_4_apply, val_main_v47_apply, val_main_cst_5_apply, val_main_v49_apply, val_main_cst_6_apply, val_main_v55_apply, val_main_v54_apply, val_main_v43_apply, ref_kv]
  show proj _ _ _ _ _ * Ideal.rsqrt (Ideal.div (Ideal.ofBits .f32 0x00000000#32 + _) (Ideal.ofBits .f32 0x44000000#32) + Ideal.ofBits .f32 0x358637BD#32) * x4 _ = _
  unfold rms
  rw [ofBits_zero, zero_add, hR, i2, nat2_of x4 0 _ (by norm_num) b1]
  refine congrArg₂ (· * ·) (congrArg (proj (joined x0) (cond x1) (inW x2) (y 0).val (512 + (y 1).val) * ·)
    (congrArg (fun s => Ideal.rsqrt (Ideal.div s (Ideal.ofBits .f32 0x44000000#32) + Ideal.ofBits .f32 0x358637BD#32)) ?_)) (congrArg x4 ?_)
  · rw [← Fin.sum_univ_eq_sum_range (fun k => proj (joined x0) (cond x1) (inW x2) (y 0).val (512 + k) * proj (joined x0) (cond x1) (inW x2) (y 0).val (512 + k)) 512, ← hR]
    refine Finset.sum_congr rfl fun k _ => ?_
    rw [val_main_v44_apply, ref_kv]
    rfl
  · exact funext fun a => by match a with | ⟨0, _⟩ => rfl | ⟨1, _⟩ => exact Fin.ext (by show (i 2).val % 512 = (y 1).val; omega)

/-- The modulated rows, joined. -/
theorem ref_rows (y : S8192x2048.Idx) : val_main_v63 (F := Ideal) x0 x1 y = uRow (joined x0) (cond x1) (y 0).val (y 1).val := by
  have b0 : (y 0).val < 8192 := (y 0).isLt
  have b1 : (y 1).val < 2048 := (y 1).isLt
  rw [val_main_v63_apply, val_main_v62_apply]
  refine (ref_u x0 x1 _).trans (congrArg₂ (uRow (joined x0) (cond x1)) ?_ ?_)
  · show 2048 * (((y 0).val * 2048 + (y 1).val) / 4194304) + ((y 0).val * 2048 + (y 1).val) / 2048 % 2048 = (y 0).val
    omega
  · show ((y 0).val * 2048 + (y 1).val) % 2048 = (y 1).val
    omega

/-- The rope columns as the reference joins them: the 64 columns, zeros, their second half negated, their first half, zeros. -/
def ropeRef (X M W : ℕ → ℕ → EReal) (R n : ℕ) : EReal :=
  if n < 64 then proj X M W R (1024 + n)
  else if n < 128 then 0
  else if n < 160 then -proj X M W R (1056 + (n - 128))
  else if n < 192 then proj X M W R (1024 + (n - 160))
  else 0

theorem ref_zero (i : S4x2048x64.Idx) : val_main_v26 (F := Ideal) i = 0 := by
  rw [val_main_v26_apply, val_main_cst_0_apply]
  exact ofBits_zero

theorem ref_rope (i : S4x2048x64.Idx) : val_main_v22 (F := Ideal) x0 x1 x2 i
    = proj (joined x0) (cond x1) (inW x2) (2048 * (i 0).val + (i 1).val) (1024 + (i 2).val) :=
  (val_main_v22_apply x0 x1 x2 i).trans (ref_proj x0 x1 x2 _)

theorem ref_half1 (i : S4x2048x32.Idx) : val_main_v24 (F := Ideal) x0 x1 x2 i
    = proj (joined x0) (cond x1) (inW x2) (2048 * (i 0).val + (i 1).val) (1024 + (i 2).val) :=
  (val_main_v24_apply x0 x1 x2 i).trans (ref_rope x0 x1 x2 _)

theorem ref_half2 (i : S4x2048x32.Idx) : val_main_v59 (F := Ideal) x0 x1 x2 i
    = -proj (joined x0) (cond x1) (inW x2) (2048 * (i 0).val + (i 1).val) (1056 + (i 2).val) := by
  rw [val_main_v59_apply]
  refine congrArg (fun z : EReal => -z) ((val_main_v25_apply x0 x1 x2 i).trans ((ref_rope x0 x1 x2 _).trans ?_))
  refine congrArg (proj (joined x0) (cond x1) (inW x2) (2048 * (i 0).val + (i 1).val)) ?_
  show 1024 + (32 + (i 2).val) = 1056 + (i 2).val
  omega

/-- The joined columns. -/
theorem ref_joined (j : S4x2048x256.Idx) : val_main_v60 (F := Ideal) x0 x1 x2 j
    = ropeRef (joined x0) (cond x1) (inW x2) (2048 * (j 0).val + (j 1).val) (j 2).val := by
  have b2 : (j 2).val < 256 := (j 2).isLt
  unfold ropeRef val_main_v60
  by_cases c0 : (j 2).val < 64
  · rw [if_pos c0]
    refine (concatenate_apply_piece (α := EReal) (t := S4x2048x256) 2 _ _ j 0 (by show 0 < 5; omega) S4x2048x64 (val_main_v22 (F := Ideal) x0 x1 x2) rfl rfl 0 rfl
      (fun a => match a with | ⟨0, _⟩ => ⟨(j 0).val, (j 0).isLt⟩ | ⟨1, _⟩ => ⟨(j 1).val, (j 1).isLt⟩ | ⟨2, _⟩ => ⟨(j 2).val - 0, by show (j 2).val - 0 < 64; omega⟩ : S4x2048x64.Idx)
      (fun b hb => match b, hb with | ⟨0, _⟩, _ => rfl | ⟨1, _⟩, _ => rfl | ⟨2, _⟩, hb => absurd rfl hb) (by show 0 + ((j 2).val - 0) = (j 2).val; omega)).trans ?_
    exact ref_rope x0 x1 x2 _
  rw [if_neg c0]
  by_cases c1 : (j 2).val < 128
  · rw [if_pos c1]
    refine (concatenate_apply_piece (α := EReal) (t := S4x2048x256) 2 _ _ j 1 (by show 1 < 5; omega) S4x2048x64 (val_main_v26 (F := Ideal)) rfl rfl 64 rfl
      (fun a => match a with | ⟨0, _⟩ => ⟨(j 0).val, (j 0).isLt⟩ | ⟨1, _⟩ => ⟨(j 1).val, (j 1).isLt⟩ | ⟨2, _⟩ => ⟨(j 2).val - 64, by show (j 2).val - 64 < 64; omega⟩ : S4x2048x64.Idx)
      (fun b hb => match b, hb with | ⟨0, _⟩, _ => rfl | ⟨1, _⟩, _ => rfl | ⟨2, _⟩, hb => absurd rfl hb) (by show 64 + ((j 2).val - 64) = (j 2).val; omega)).trans ?_
    exact ref_zero _
  rw [if_neg c1]
  by_cases c2 : (j 2).val < 160
  · rw [if_pos c2]
    refine (concatenate_apply_piece (α := EReal) (t := S4x2048x256) 2 _ _ j 2 (by show 2 < 5; omega) S4x2048x32 (val_main_v59 (F := Ideal) x0 x1 x2) rfl rfl 128 rfl
      (fun a => match a with | ⟨0, _⟩ => ⟨(j 0).val, (j 0).isLt⟩ | ⟨1, _⟩ => ⟨(j 1).val, (j 1).isLt⟩ | ⟨2, _⟩ => ⟨(j 2).val - 128, by show (j 2).val - 128 < 32; omega⟩ : S4x2048x32.Idx)
      (fun b hb => match b, hb with | ⟨0, _⟩, _ => rfl | ⟨1, _⟩, _ => rfl | ⟨2, _⟩, hb => absurd rfl hb) (by show 128 + ((j 2).val - 128) = (j 2).val; omega)).trans ?_
    exact ref_half2 x0 x1 x2 _
  rw [if_neg c2]
  by_cases c3 : (j 2).val < 192
  · rw [if_pos c3]
    refine (concatenate_apply_piece (α := EReal) (t := S4x2048x256) 2 _ _ j 3 (by show 3 < 5; omega) S4x2048x32 (val_main_v24 (F := Ideal) x0 x1 x2) rfl rfl 160 rfl
      (fun a => match a with | ⟨0, _⟩ => ⟨(j 0).val, (j 0).isLt⟩ | ⟨1, _⟩ => ⟨(j 1).val, (j 1).isLt⟩ | ⟨2, _⟩ => ⟨(j 2).val - 160, by show (j 2).val - 160 < 32; omega⟩ : S4x2048x32.Idx)
      (fun b hb => match b, hb with | ⟨0, _⟩, _ => rfl | ⟨1, _⟩, _ => rfl | ⟨2, _⟩, hb => absurd rfl hb) (by show 160 + ((j 2).val - 160) = (j 2).val; omega)).trans ?_
    exact ref_half1 x0 x1 x2 _
  rw [if_neg c3]
  refine (concatenate_apply_piece (α := EReal) (t := S4x2048x256) 2 _ _ j 4 (by show 4 < 5; omega) S4x2048x64 (val_main_v26 (F := Ideal)) rfl rfl 192 rfl
    (fun a => match a with | ⟨0, _⟩ => ⟨(j 0).val, (j 0).isLt⟩ | ⟨1, _⟩ => ⟨(j 1).val, (j 1).isLt⟩ | ⟨2, _⟩ => ⟨(j 2).val - 192, by show (j 2).val - 192 < 64; omega⟩ : S4x2048x64.Idx)
    (fun b hb => match b, hb with | ⟨0, _⟩, _ => rfl | ⟨1, _⟩, _ => rfl | ⟨2, _⟩, hb => absurd rfl hb) (by show 192 + ((j 2).val - 192) = (j 2).val; omega)).trans ?_
  exact ref_zero _

/-- The third result. -/
theorem ref_kr (y : S8192x256.Idx) : val_main_v61 (F := Ideal) x0 x1 x2 y
    = ropeRef (joined x0) (cond x1) (inW x2) (y 0).val (y 1).val := by
  have b0 : (y 0).val < 8192 := (y 0).isLt
  have b1 : (y 1).val < 256 := (y 1).isLt
  rw [val_main_v61_apply]
  refine (ref_joined x0 x1 x2 _).trans (congrArg₂ (ropeRef (joined x0) (cond x1) (inW x2)) ?_ ?_)
  · show 2048 * (((y 0).val * 256 + (y 1).val) / 524288) + ((y 0).val * 256 + (y 1).val) / 256 % 2048 = (y 0).val
    omega
  · show ((y 0).val * 256 + (y 1).val) % 256 = (y 1).val
    omega

/-- Between real numbers a sum of products with the negated factors is the negated sum. -/
theorem sum_neg_real (u w : ℕ → EReal) (hu : ∀ l, u l = ((u l).toReal : EReal)) (hw : ∀ l, w l = ((w l).toReal : EReal)) (n : ℕ) :
    ∑ l ∈ Finset.range n, u l * (0 - w l) = -∑ l ∈ Finset.range n, u l * w l := by
  have e1 : ∀ n, ∑ l ∈ Finset.range n, u l * w l = ((∑ l ∈ Finset.range n, (u l).toReal * (w l).toReal : ℝ) : EReal) := fun n => by
    induction n with
    | zero => simp
    | succ n ih => rw [Finset.sum_range_succ, Finset.sum_range_succ, ih, EReal.coe_add, EReal.coe_mul, ← hu, ← hw]
  have e2 : ∀ n, ∑ l ∈ Finset.range n, u l * (0 - w l) = ((-∑ l ∈ Finset.range n, (u l).toReal * (w l).toReal : ℝ) : EReal) := fun n => by
    induction n with
    | zero => simp
    | succ n ih =>
      rw [Finset.sum_range_succ, Finset.sum_range_succ, ih, neg_add, EReal.coe_add, ← mul_neg, EReal.coe_mul, EReal.coe_neg, EReal.coe_neg, ← hu, ← hw, zero_sub]
  rw [e1, e2, EReal.coe_neg]

/-- The modulated rows of real numbers are real numbers. -/
theorem uRow_real (X M : ℕ → ℕ → EReal) (hX : ∀ R k, X R k = ((X R k).toReal : EReal)) (hM : ∀ B k, M B k = ((M B k).toReal : EReal)) (R k : ℕ) :
    uRow X M R k = ((uRow X M R k).toReal : EReal) := by
  unfold uRow
  rw [hX R k, hM (R / 2048) (2048 + k), hM (R / 2048) k, ← EReal.coe_one, ← EReal.coe_add, ← EReal.coe_mul, ← EReal.coe_add, EReal.toReal_coe]

/-- The product with the rope rows is the joined columns. -/
theorem ropeOut_eq (X M W : ℕ → ℕ → EReal) (hX : ∀ R k, X R k = ((X R k).toReal : EReal)) (hM : ∀ B k, M B k = ((M B k).toReal : EReal))
    (hW : ∀ k j, W k j = ((W k j).toReal : EReal)) (R n : ℕ) : ropeOut X M W R n = ropeRef X M W R n := by
  unfold ropeOut ropeRow ropeRef proj
  split_ifs
  · rfl
  · exact Finset.sum_eq_zero fun l _ => mul_zero _
  · exact sum_neg_real (uRow X M R) (fun l => W l (1056 + (n - 128))) (uRow_real X M hX hM R) (fun l => hW l _) 2048
  · rfl
  · exact Finset.sum_eq_zero fun l _ => mul_zero _

end Cert.Latent

end
-- ==== Proof.LatentClaims.lean ====
/- The claims about the latent projections: the kernel's frames, the reference's, and the equality over the reals. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Pre_finite_u
public import proofs.«01_k».proof.Proof.Finite
public import proofs.«01_k».proof.Proof.LatentRef
public import Idealize.ShloMosaic.Adequacy
public import Idealize.ShloMosaic.Init
public import Idealize.ShloMosaic.Lib.Quiescent

@[expose] public section

noncomputable section

namespace Cert.Latent

open Idealize.ShloMosaic Idealize.ShloMosaic.TcCoe Idealize.SL.Sem Cert.Attn Cert.Ffn

/-- The kernel runs on bits, leaves its arguments and its semaphores as they were. -/
theorem frame_kernel : Cert.quiescent_Kernel7 (hKernel7 := Cert.Kernel7.Gen.facts) :=
  fun m ρ _ => Cert.Kernel7.Gen.frame m ρ

/-- The same over the extended reals. -/
theorem frame_ideal : Cert.quiescent_Kernel7Ideal (hKernel7Ideal := Cert.Kernel7Ideal.Gen.facts) :=
  fun m ρ _ => Cert.Kernel7Ideal.Gen.frame m ρ

/-- The same where rows, conditioning and weight are finite. -/
theorem frame_ideal_finite : Cert.quiescent_Kernel7Ideal_pre_finite_u (hKernel7Ideal := Cert.Kernel7Ideal.Gen.facts)
    (hPre_finite_u := Cert.Pre_finite_u.Gen.facts) :=
  fun m ρ _ => Cert.Kernel7Ideal.Gen.frame m ρ

/-- The reference runs, leaves its arguments and its semaphores as they were. -/
theorem frame_reference : Cert.quiescent_Reference7Ideal (hReference7Ideal := Cert.Reference7Ideal.Gen.facts) := fun m ρ _ =>
  (θ_run Cert.Reference7Ideal.defs _ _).mono
    (fun r h => ⟨fun c => (h c).2.2.2.2, Idealize.ShloMosaic.sem_eq_zero_of_no_sems (by decide) r.2⟩)
    (Cert.Reference7Ideal.Value.run (F := Ideal) m ρ)

/-- The same where rows, conditioning and weight are finite. -/
theorem frame_reference_finite : Cert.quiescent_Reference7Ideal_pre_finite_u (hReference7Ideal := Cert.Reference7Ideal.Gen.facts)
    (hPre_finite_u := Cert.Pre_finite_u.Gen.facts) := fun m ρ _ => frame_reference m ρ trivial

/-- No operation is rewritten. -/
theorem preserves_text : Cert.preserves_Kernel7_Kernel7Ideal := trivial

open Cert.Pre_finite_u in
/-- Rows, conditioning and weight hold real numbers where the precondition holds. -/
theorem real_of_finite (x0 : FVec Ideal S4x2048x2048 .f32) (x1 : FVec Ideal S4x12288 .f32) (x2 : FVec Ideal S1x2048x11328 .f32)
    (x3 x4 : FVec Ideal S1x512 .f32) (j : S_.Idx) (h : Cert.Pre_finite_u.fn (F := Ideal) x0 x1 x2 x3 x4 j = 1#1) :
    Real' x0 ∧ Real' x1 ∧ Real' x2 := by
  haveI : Subsingleton S_.Idx := ⟨fun a b => funext fun k => k.elim0⟩
  dsimp only [Cert.Pre_finite_u.fn] at h
  obtain ⟨h, h2⟩ := IntOp.andi_eq_one.1 h
  obtain ⟨h0, h1⟩ := IntOp.andi_eq_one.1 h
  exact ⟨fun i => real_of_abs_lt _ (Host.reduce_andi_all _ _ _ _ _ h0 i), fun i => real_of_abs_lt _ (Host.reduce_andi_all _ _ _ _ _ h1 i),
    fun i => real_of_abs_lt _ (Host.reduce_andi_all _ _ _ _ _ h2 i)⟩

/-- A matrix of real numbers read by its two numbers is a real number everywhere. -/
theorem nat2_real {a b : ℕ} {x : (⟨2, ![a, b]⟩ : Shape).Idx → EReal} (h : Real' x) (i j : ℕ) :
    nat2 x i j = ((nat2 x i j).toReal : EReal) := by
  unfold nat2; split
  · exact h _
  · simp

section Results

open Cert.Kernel7Ideal Cert.Kernel7Ideal.Gen

variable (m : (ℓ : Loc nD τ sig) → Buf (Elt Ideal) ℓ) (c : Dev nD)

/-- The normed query latents the kernel leaves are the reference's. -/
theorem normed_q : Cert.Reference7Ideal.Read.val_main_v42 (F := Ideal) (m ((c : Thread nD τ).loc main_arg0)) (m ((c : Thread nD τ).loc main_arg1))
    (m ((c : Thread nD τ).loc main_arg2)) (m ((c : Thread nD τ).loc main_arg3)) = (dats m 0 c).arrAt 6 cfg0.N :=
  (funext fun y => (ref_qn _ _ _ _ y).trans (result6 m c y).symm).trans (Cert.Kernel7Ideal.Value.final6 m c).symm

/-- The normed key and value latents the kernel leaves are the reference's. -/
theorem normed_kv : Cert.Reference7Ideal.Read.val_main_v58 (F := Ideal) (m ((c : Thread nD τ).loc main_arg0)) (m ((c : Thread nD τ).loc main_arg1))
    (m ((c : Thread nD τ).loc main_arg2)) (m ((c : Thread nD τ).loc main_arg4)) = (dats m 0 c).arrAt 7 cfg0.N :=
  (funext fun y => (ref_kvn _ _ _ _ y).trans (result7 m c y).symm).trans (Cert.Kernel7Ideal.Value.final7 m c).symm

/-- The rope columns the kernel leaves are the reference's where rows, conditioning and weight are real. -/
theorem rope_columns (h0 : Real' (m ((c : Thread nD τ).loc main_arg0))) (h1 : Real' (m ((c : Thread nD τ).loc main_arg1)))
    (h2 : Real' (m ((c : Thread nD τ).loc main_arg2))) :
    Cert.Reference7Ideal.Read.val_main_v61 (F := Ideal) (m ((c : Thread nD τ).loc main_arg0)) (m ((c : Thread nD τ).loc main_arg1))
      (m ((c : Thread nD τ).loc main_arg2)) = (dats m 0 c).arrAt 8 cfg0.N :=
  (funext fun y => (ref_kr _ _ _ y).trans ((ropeOut_eq _ _ _ (fun _ _ => nat3_real h0 _ _ _) (fun _ _ => nat2_real h1 _ _)
    (fun _ _ => nat3_real h2 _ _ _) _ _).symm.trans (result8 m c y).symm)).trans (Cert.Kernel7Ideal.Value.final8 m c).symm

/-- The modulated rows the kernel leaves are the reference's. -/
theorem modulated : Cert.Reference7Ideal.Read.val_main_v63 (F := Ideal) (m ((c : Thread nD τ).loc main_arg0)) (m ((c : Thread nD τ).loc main_arg1))
    = (dats m 0 c).arrAt 9 cfg0.N :=
  (funext fun y => (ref_rows _ _ y).trans (result9 m c y).symm).trans (Cert.Kernel7Ideal.Value.final9 m c).symm

end Results

/-- The four results agree, element by element, with the reference's. -/
theorem algebraic : Cert.algebraic_Kernel7Ideal_Reference7Ideal_pre_finite_u (hKernel7Ideal := Cert.Kernel7Ideal.Gen.facts)
    (hReference7Ideal := Cert.Reference7Ideal.Gen.facts) (hPre_finite_u := Cert.Pre_finite_u.Gen.facts) := by
  intro m g m' g' hpre hargs
  refine ⟨fun c => (Cert.Kernel7Ideal.Gen.dats m 0 c).arrAt 6 Cert.Kernel7Ideal.cfg0.N, fun c => (Cert.Kernel7Ideal.Gen.dats m 0 c).arrAt 7 Cert.Kernel7Ideal.cfg0.N,
    fun c => (Cert.Kernel7Ideal.Gen.dats m 0 c).arrAt 8 Cert.Kernel7Ideal.cfg0.N, fun c => (Cert.Kernel7Ideal.Gen.dats m 0 c).arrAt 9 Cert.Kernel7Ideal.cfg0.N,
    Cert.Kernel7Ideal.Value.run_blocks m g, ?_⟩
  refine (θ_run Cert.Reference7Ideal.defs _ _).mono (fun r h c => ?_) (Cert.Reference7Ideal.Value.run (F := Ideal) m' g')
  obtain ⟨r0, r1, r2, r3, rest⟩ := h c
  obtain ⟨a0, a1, a2, a3, a4⟩ := hargs c
  obtain ⟨h0, h1, h2⟩ := real_of_finite _ _ _ _ _ (fun k => k.elim0) (congrFun (hpre c) _)
  refine ⟨?_, ?_, ?_, ?_, rest⟩
  · refine (r0.trans (Cert.Reference7Ideal.Read.val_main_v42_eq _ _ _ _)).trans (Eq.trans ?_ (normed_q m c))
    rw [a0, a1, a2, a3]
  · refine (r1.trans (Cert.Reference7Ideal.Read.val_main_v58_eq _ _ _ _)).trans (Eq.trans ?_ (normed_kv m c))
    rw [a0, a1, a2, a4]
  · refine (r2.trans (Cert.Reference7Ideal.Read.val_main_v61_eq _ _ _)).trans (Eq.trans ?_ (rope_columns m c h0 h1 h2))
    rw [a0, a1, a2]
  · refine (r3.trans (Cert.Reference7Ideal.Read.val_main_v63_eq _ _)).trans (Eq.trans ?_ (modulated m c))
    rw [a0, a1]

end Cert.Latent

end
-- ==== Proof.AdaValue.lean ====
/- The conditioning call: a block of columns is the rows' SiLU times a block of the weight, plus the offsets; the array after the
   run and the reference, both at an element. -/
module

public import proofs.«01_k».proof.Proof.Gen.Kernel8Ideal.Value
public import proofs.«01_k».proof.Proof.Gen.Reference8Ideal.Read
public import proofs.«01_k».proof.Proof.FfnOutB
public import Idealize.ShloMosaic.Lib.Pipeline.ValueKit.Geometry
public import Idealize.ShloMosaic.Lib.StableHlo.ReadAt
public import Idealize.ShloMosaic.Lib.Pointwise

@[expose] public section

noncomputable section

namespace Cert.Ada

open Idealize.ShloMosaic Idealize.ShloMosaic.ValueIdx Idealize.ShloMosaic.TcCoe Cert.Attn Cert.Ffn

/-- The conditioning of row `r`, column `j`: the SiLU of the row times the weight's column, plus the column's offset. -/
def adaOut (X W : ℕ → ℕ → EReal) (B : ℕ → EReal) (r j : ℕ) : EReal :=
  (∑ l ∈ Finset.range 2048, X r l * Ideal.logistic (X r l) * W l j) + B j

theorem adaOut_congr (X X' W W' : ℕ → ℕ → EReal) (B B' : ℕ → EReal) (r j j' : ℕ) (hX : ∀ l < 2048, X r l = X' r l)
    (hW : ∀ l < 2048, W l j = W' l j') (hB : B j = B' j') : adaOut X W B r j = adaOut X' W' B' r j' := by
  unfold adaOut
  rw [hB]
  refine congrArg (· + B' j') (Finset.sum_congr rfl fun l hl => ?_)
  rw [hX l (Finset.mem_range.mp hl), hW l (Finset.mem_range.mp hl)]

section Kernel

open Cert.Kernel8Ideal Cert.Kernel8Ideal.Gen

/-- The block a point stores. -/
theorem pay_apply (x : Vec Ideal S8x2048 .f32) (w : Vec Ideal S2048x1024 .f32) (b : Vec Ideal S1x1024 .f32) (r : Fin 8) (n : Fin 1024) :
    k0_pay1 x w b (ValueIdx.ix2 r n) = adaOut (nat2 x) (nat2 w) (nat2 b 0) r.val n.val := by
  unfold k0_pay1
  rw [shapeCast_self w shapeCasts_S2048x1024_S2048x1024, shapeCast_self b shapeCasts_S1x1024_S1x1024]
  show FloatOps.matmul (F := Ideal) (φ₁ := .bf16) (φ₂ := .bf16) (DotDims.plain 8 2048 1024) none
      (mulf x (logistic x) : FVec Ideal (Sh 8 2048) .f32) w (constant (Sh 8 1024) .f32 0x00000000#32) (ValueIdx.ix2 r n)
    + broadcastTo (Sh 8 1024) b _ (ValueIdx.ix2 r n) = _
  rw [broadcastTo_1b_ab_apply]
  unfold adaOut
  rw [nat2_of b 0 n.val (by decide) n.isLt]
  refine congrArg₂ (· + ·) ((matmul_plain_zero (φ := .bf16) _ _ r n).trans (Finset.sum_congr rfl fun l hl => ?_)) rfl
  have hl' := Finset.mem_range.mp hl
  rw [nat2_of _ r.val l r.isLt hl', nat2_of x r.val l r.isLt hl']
  rfl

/-- What a point leaves in its block of the output. -/
theorem out_apply (x : Vec Ideal S8x2048 .f32) (w : Vec Ideal S2048x1024 .f32) (b : Vec Ideal S1x1024 .f32) (y : S8x1024.Idx) :
    out0_3 x w b y = adaOut (nat2 x) (nat2 w) (nat2 b 0) (y 0).val (y 1).val := by
  unfold out0_3
  have e0 : View.ld x r0_0 = x := View.ld_unit_zero (S := S8x2048) zeros2 _ _
  have e1 : View.ld w r0_1 = w := View.ld_unit_zero (S := S2048x1024) zeros2 _ _
  have e2 : View.ld b r0_2 = b := View.ld_unit_zero (S := S1x1024) zeros2 _ _
  rw [e0, e1, e2]
  refine View.canon_apply_of_pieces (Val := Elt Ideal) (e := .f32)
    (fun y : S8x1024.Idx => adaOut (nat2 x) (nat2 w) (nat2 b 0) (y 0).val (y 1).val) _ ?_ y (cover0_3 _ y)
  simp only [List.forall_mem_cons]
  refine ⟨fun z => piece_emb 0 0 _ (adaOut (nat2 x) (nat2 w) (nat2 b 0)) _ (fun r n => ?_) z, fun p hp => absurd hp (List.not_mem_nil)⟩
  rw [Nat.zero_add, Nat.zero_add]
  exact pay_apply x w b r n

variable (m : (ℓ : Loc nD τ sig) → Buf (Elt Ideal) ℓ) (c : Dev nD)

theorem idx0 : ∀ t : Fin cfg0.N, win0_0.index t = ![0, 0] :=
  (by decide +kernel : ∀ t : Fin grid0.N, win0_0.index t = ![0, 0])
theorem idx1 : ∀ t : Fin cfg0.N, win0_1.index t = ![0, t.val] :=
  (by decide +kernel : ∀ t : Fin grid0.N, win0_1.index t = ![0, t.val])
theorem idx2 : ∀ t : Fin cfg0.N, win0_2.index t = ![0, t.val] :=
  (by decide +kernel : ∀ t : Fin grid0.N, win0_2.index t = ![0, t.val])
theorem idx3 : ∀ t : Fin cfg0.N, win0_3.index t = ![0, t.val] :=
  (by decide +kernel : ∀ t : Fin grid0.N, win0_3.index t = ![0, t.val])

/-- The rows, the weight and the offsets of the layer. -/
abbrev argC (R C : ℕ) : EReal := nat2 (a := 8) (b := 2048) (m ((c : Thread nD τ).loc main_arg0)) R C
abbrev argW (R C : ℕ) : EReal := nat3 (a := 1) (b := 2048) (c := 12288) (m ((c : Thread nD τ).loc main_arg1)) 0 R C
abbrev argB (C : ℕ) : EReal := nat2 (a := 1) (b := 12288) (m ((c : Thread nD τ).loc main_arg2)) 0 C

/-- The rows as the host leaves them. -/
theorem hostC (R C : ℕ) (hR : R < 8) (hC : C < 2048) : nat2 (a := 8) (b := 2048) (V m c main_arg0) R C = argC m c R C := by
  unfold argC
  rw [nat2_of _ R C hR hC, nat2_of _ R C hR hC]
  unfold V
  after_reads_at

/-- The weight as the host leaves it. -/
theorem hostW (R C : ℕ) (hR : R < 2048) (hC : C < 12288) : nat2 (a := 2048) (b := 12288) (V m c main_v0) R C = argW m c R C := by
  rw [nat2_of _ R C hR hC]
  unfold argW
  rw [nat3_of _ _ _ _ (by omega) hR hC]
  unfold V
  after_reads_at
  rfl

/-- The offsets as the host leaves them. -/
theorem hostB (C : ℕ) (hC : C < 12288) : nat2 (a := 1) (b := 12288) (V m c main_v2) 0 C = argB m c C := by
  unfold argB
  rw [nat2_of _ 0 C (by omega) hC, nat2_of _ 0 C (by omega) hC]
  unfold V
  after_reads_at
  rfl

/-- The rows of a point: all of them. -/
theorem blk0 (t : Fin cfg0.N) (p w : ℕ) (hp : p < 8) (hw : w < 2048) : nat2 (a := 8) (b := 2048) (iblk m c 0 t) p w = argC m c p w := by
  rw [← hostC m c p w hp hw, nat2_of _ p w hp hw, nat2_of _ _ _ hp hw]
  blk_simp [iblk]
  refine congrArg (V m c main_arg0) ?_
  blk_ext [idx0]

/-- The weight's columns of a point. -/
theorem blk1 (t : Fin cfg0.N) (p w : ℕ) (hp : p < 2048) (hw : w < 1024) :
    nat2 (a := 2048) (b := 1024) (iblk m c 1 t) p w = argW m c p (1024 * t.val + w) := by
  have ht : t.val < 12 := t.isLt
  rw [← hostW m c p (1024 * t.val + w) hp (by omega), nat2_of _ p w hp hw, nat2_of _ _ _ hp (by omega)]
  blk_simp [iblk]
  refine congrArg (V m c main_v0) ?_
  blk_ext [idx1]

/-- The offsets of a point. -/
theorem blk2 (t : Fin cfg0.N) (w : ℕ) (hw : w < 1024) :
    nat2 (a := 1) (b := 1024) (iblk m c 2 t) 0 w = argB m c (1024 * t.val + w) := by
  have ht : t.val < 12 := t.isLt
  rw [← hostB m c (1024 * t.val + w) (by omega), nat2_of _ 0 w (by omega) hw, nat2_of _ _ _ (by omega) (by omega)]
  blk_simp [iblk]
  refine congrArg (V m c main_v2) ?_
  blk_ext [idx2]

/-- The array after the run. -/
theorem final3 : (dats m 0 c).arrAt 3 cfg0.N = fun y : S8x12288.Idx => adaOut (argC m c) (argW m c) (argB m c) (y 0).val (y 1).val := by
  refine (dats m 0 c).arrAt_eq_of_covers 3 _ (by decide +kernel) fun t hf y => ?_
  blk_simp
  rw [after0_3]
  refine (out_apply _ _ _ _).trans ?_
  refine (adaOut_congr _ (argC m c) _ (argW m c) _ (argB m c) _ _ (1024 * t.val + (y 1).val) (fun l hl => blk0 m c t _ l (y 0).isLt hl)
    (fun l hl => blk1 m c t l _ hl (y 1).isLt) (blk2 m c t _ (y 1).isLt)).trans ?_
  blk_simp [idx3]
  refine congrArg₂ (adaOut (argC m c) (argW m c) (argB m c)) ?_ ?_
  · rfl
  · exact congrArg (· + (y 1).val) (Nat.mul_comm _ _)

end Kernel

section Reference

open Cert.Reference8Ideal Cert.Reference8Ideal.Gen Cert.Reference8Ideal.Read

variable (x0 : (⟨S8x2048, .f32⟩ : BufTy).Contents (Elt Ideal)) (x1 : (⟨S1x2048x12288, .f32⟩ : BufTy).Contents (Elt Ideal))
  (x2 : (⟨S1x12288, .f32⟩ : BufTy).Contents (Elt Ideal))

/-- The SiLU of the rows. -/
theorem ref_silu (i : S8x2048.Idx) : val_main_v0 (F := Ideal) x0 i = x0 i * Ideal.logistic (x0 i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  unfold Ideal.logistic
  rw [← ofBits_one]
  rfl

/-- The reference at an element. -/
theorem ref_ada (y : S8x12288.Idx) : val_main_v6 (F := Ideal) x0 x1 x2 y
    = adaOut (nat2 (a := 8) (b := 2048) x0) (nat3 (a := 1) (b := 2048) (c := 12288) x1 0) (nat2 (a := 1) (b := 12288) x2 0) (y 0).val (y 1).val := by
  have b0 : (y 0).val < 8 := (y 0).isLt
  have b1 : (y 1).val < 12288 := (y 1).isLt
  rw [val_main_v6_apply, val_main_v5_apply, val_main_v4_apply, val_main_v3_apply, val_main_v2_apply]
  unfold adaOut
  rw [← Fin.sum_univ_eq_sum_range (fun l => nat2 (a := 8) (b := 2048) x0 (y 0).val l * Ideal.logistic (nat2 (a := 8) (b := 2048) x0 (y 0).val l)
    * nat3 (a := 1) (b := 2048) (c := 12288) x1 0 l (y 1).val) 2048, nat2_of x2 0 _ (by norm_num) b1]
  refine congrArg₂ (· + ·) (Finset.sum_congr rfl fun k _ => ?_) (congrArg x2 ?_)
  · rw [ref_silu, val_main_v1_apply, nat2_of x0 _ _ b0 k.isLt, nat3_of x1 _ _ _ (by norm_num) k.isLt b1]
    have e : lidx_main_v2 y k = ValueIdx.ix2 ⟨(y 0).val, b0⟩ k := funext fun a => by match a with | ⟨0, _⟩ => rfl | ⟨1, _⟩ => rfl
    rw [e]
    refine congrArg _ (congrArg x1 (funext fun a => ?_))
    match a with
    | ⟨0, _⟩ => rfl
    | ⟨1, _⟩ => exact Fin.ext (by have hk := k.isLt; show (k.val * 12288 + (y 1).val) / 12288 % 2048 = k.val; omega)
    | ⟨2, _⟩ => exact Fin.ext (by show (k.val * 12288 + (y 1).val) % 12288 = (y 1).val; omega)
  · exact funext fun a => by
      match a with
      | ⟨0, _⟩ => rfl
      | ⟨1, _⟩ => exact Fin.ext (by show (y 1).val % 12288 = (y 1).val; omega)

end Reference

end Cert.Ada

end
-- ==== Proof.AdaClaims.lean ====
/- The claims about the conditioning call: its frames, its reference's, and the equality over the extended reals. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.AdaValue
public import Idealize.ShloMosaic.Adequacy
public import Idealize.ShloMosaic.Init
public import Idealize.ShloMosaic.Lib.Quiescent

@[expose] public section

noncomputable section

namespace Cert.Ada

open Idealize.ShloMosaic Idealize.ShloMosaic.TcCoe Idealize.SL.Sem

/-- The kernel runs on bits, leaves its arguments and its semaphores as they were. -/
theorem frame_kernel : Cert.quiescent_Kernel8 (hKernel8 := Cert.Kernel8.Gen.facts) :=
  fun m ρ _ => Cert.Kernel8.Gen.frame m ρ

/-- The same over the extended reals. -/
theorem frame_ideal : Cert.quiescent_Kernel8Ideal (hKernel8Ideal := Cert.Kernel8Ideal.Gen.facts) :=
  fun m ρ _ => Cert.Kernel8Ideal.Gen.frame m ρ

/-- The reference runs, leaves its arguments and its semaphores as they were. -/
theorem frame_reference : Cert.quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- No operation is rewritten. -/
theorem preserves_text : Cert.preserves_Kernel8_Kernel8Ideal := trivial

/-- The array the kernel leaves is the reference's. -/
theorem result (m : (ℓ : Loc Cert.Kernel8Ideal.nD Cert.Kernel8Ideal.τ Cert.Kernel8Ideal.sig) → Buf (Elt Ideal) ℓ) (c : Dev Cert.Kernel8Ideal.nD) :
    Cert.Reference8Ideal.Read.val_main_v6 (F := Ideal) (m ((c : Thread Cert.Kernel8Ideal.nD Cert.Kernel8Ideal.τ).loc Cert.Kernel8Ideal.main_arg0))
      (m ((c : Thread Cert.Kernel8Ideal.nD Cert.Kernel8Ideal.τ).loc Cert.Kernel8Ideal.main_arg1))
      (m ((c : Thread Cert.Kernel8Ideal.nD Cert.Kernel8Ideal.τ).loc Cert.Kernel8Ideal.main_arg2))
      = (Cert.Kernel8Ideal.Gen.dats m 0 c).arrAt 3 Cert.Kernel8Ideal.cfg0.N :=
  (funext fun y => ref_ada _ _ _ y).trans (final3 m c).symm

/-- The result agrees, element by element, with the reference's. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => (Cert.Kernel8Ideal.Gen.dats m 0 c).arrAt 3 Cert.Kernel8Ideal.cfg0.N, Cert.Kernel8Ideal.Value.run_blocks m g, ?_⟩
  refine (θ_run Cert.Reference8Ideal.defs _ _).mono (fun r h c => ?_) (Cert.Reference8Ideal.Value.run (F := Ideal) m' g')
  obtain ⟨r0, rest⟩ := h c
  obtain ⟨a0, a1, a2⟩ := hargs c
  refine ⟨?_, rest⟩
  refine (r0.trans (Cert.Reference8Ideal.Read.val_main_v6_eq _ _ _)).trans (Eq.trans ?_ (result m c))
  rw [a0, a1, a2]

end Cert.Ada

end
-- ==== Proof.lean ====
/- The certificate: the claims about the attention call (Proof/AttnClaims.lean), the feed-forward call (Proof/FfnClaims.lean), the
   branch merge (Proof/MergeClaims.lean), the merge gates (Proof/GatesClaims.lean), the mixing output (Proof/MixClaims.lean),
   the convolution branch (Proof/ConvClaims.lean), the latent projections (Proof/LatentClaims.lean) and the conditioning
   (Proof/AdaClaims.lean), put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Pre_finite_qk
public import proofs.«01_k».proof.Proof.Gen.Pre_finite_u
public import proofs.«01_k».proof.Proof.AttnClaims
public import proofs.«01_k».proof.Proof.FfnClaims
public import proofs.«01_k».proof.Proof.MergeClaims
public import proofs.«01_k».proof.Proof.GatesClaims
public import proofs.«01_k».proof.Proof.MixClaims
public import proofs.«01_k».proof.Proof.ConvClaims
public import proofs.«01_k».proof.Proof.LatentClaims
public import proofs.«01_k».proof.Proof.AdaClaims

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Pre_finite_qk.Gen.facts, Cert.Pre_finite_u.Gen.facts, Cert.Attn.frame_kernel, Cert.Attn.frame_ideal,
  Cert.Attn.frame_ideal_finite, Cert.Attn.frame_reference, Cert.Attn.frame_reference_finite, Cert.Ffn.frame_kernel,
  Cert.Ffn.frame_ideal, Cert.Ffn.frame_reference, Cert.Merge.frame_kernel, Cert.Merge.frame_ideal,
  Cert.Merge.frame_reference, Cert.Gates.frame_kernel, Cert.Gates.frame_ideal, Cert.Gates.frame_reference,
  Cert.Mix.frame_kernel, Cert.Mix.frame_ideal, Cert.Mix.frame_reference, Cert.Conv.frame_kernel,
  Cert.Conv.frame_ideal, Cert.Conv.frame_reference, Cert.Latent.frame_kernel, Cert.Latent.frame_ideal,
  Cert.Latent.frame_ideal_finite, Cert.Latent.frame_reference, Cert.Latent.frame_reference_finite,
  Cert.Ada.frame_kernel, Cert.Ada.frame_ideal, Cert.Ada.frame_reference, Cert.Attn.preserves_mask,
  Cert.Attn.algebraic, Cert.Ffn.preserves_constants, Cert.Ffn.algebraic, Cert.Merge.preserves, Cert.Merge.algebraic,
  Cert.Gates.preserves, Cert.Gates.algebraic, Cert.Mix.preserves_constants, Cert.Mix.algebraic,
  Cert.Conv.preserves_text, Cert.Conv.algebraic, Cert.Latent.preserves_text, Cert.Latent.algebraic,
  Cert.Ada.preserves_text, Cert.Ada.algebraic⟩

end Cert.Proof

end
